-- ==== Defs.lean ====
def Pre_Hops (m : (ℓ : Loc Cert.Hops.nD Cert.Hops.τ Cert.Hops.sig) → Buf (Elt Bits) ℓ) : Prop :=
  True

def Pre_HopsIdeal (m : (ℓ : Loc Cert.HopsIdeal.nD Cert.HopsIdeal.τ Cert.HopsIdeal.sig) → Buf (Elt Ideal) ℓ) : Prop :=
  True

def Pre_ProductIdeal (m : (ℓ : Loc Cert.ProductIdeal.nD Cert.ProductIdeal.τ Cert.ProductIdeal.sig) → Buf (Elt Ideal) ℓ) : Prop :=
  True

def Pre_Credits (m : (ℓ : Loc Cert.Credits.nD Cert.Credits.τ Cert.Credits.sig) → Buf (Elt Bits) ℓ) : Prop :=
  True

def Pre_CreditsIdeal (m : (ℓ : Loc Cert.CreditsIdeal.nD Cert.CreditsIdeal.τ Cert.CreditsIdeal.sig) → Buf (Elt Ideal) ℓ) : Prop :=
  True

def Pre_QuantisedIdeal (m : (ℓ : Loc Cert.QuantisedIdeal.nD Cert.QuantisedIdeal.τ Cert.QuantisedIdeal.sig) → Buf (Elt Ideal) ℓ) : Prop :=
  True

def quiescent_Hops [hHops : Cert.Hops.Facts] : Prop :=
  ∀ (m : (ℓ : Loc Cert.Hops.nD Cert.Hops.τ Cert.Hops.sig) → Buf (Elt Bits) ℓ) (g : Dev Cert.Hops.nD → PrngReg), Pre_Hops m →
    θ_run (Cert.Hops.defs (F := Bits)) (onTc (τ := Cert.Hops.τ) (Cert.Hops.main (F := Bits))) ⟨m, fun _ => 0, g⟩ (fun r => (∀ c : Dev Cert.Hops.nD,
      r.2.mem ((c.tc : Thread Cert.Hops.nD Cert.Hops.τ).loc Cert.Hops.main_arg0) = m ((c.tc : Thread Cert.Hops.nD Cert.Hops.τ).loc Cert.Hops.main_arg0)
      ∧ r.2.mem ((c.tc : Thread Cert.Hops.nD Cert.Hops.τ).loc Cert.Hops.main_arg1) = m ((c.tc : Thread Cert.Hops.nD Cert.Hops.τ).loc Cert.Hops.main_arg1))
      ∧ r.2.sem = fun _ => 0)

def quiescent_HopsIdeal [hHopsIdeal : Cert.HopsIdeal.Facts] : Prop :=
  ∀ (m : (ℓ : Loc Cert.HopsIdeal.nD Cert.HopsIdeal.τ Cert.HopsIdeal.sig) → Buf (Elt Ideal) ℓ) (g : Dev Cert.HopsIdeal.nD → PrngReg), Pre_HopsIdeal m →
    θ_run (Cert.HopsIdeal.defs (F := Ideal)) (onTc (τ := Cert.HopsIdeal.τ) (Cert.HopsIdeal.main (F := Ideal))) ⟨m, fun _ => 0, g⟩ (fun r => (∀ c : Dev Cert.HopsIdeal.nD,
      r.2.mem ((c.tc : Thread Cert.HopsIdeal.nD Cert.HopsIdeal.τ).loc Cert.HopsIdeal.main_arg0) = m ((c.tc : Thread Cert.HopsIdeal.nD Cert.HopsIdeal.τ).loc Cert.HopsIdeal.main_arg0)
      ∧ r.2.mem ((c.tc : Thread Cert.HopsIdeal.nD Cert.HopsIdeal.τ).loc Cert.HopsIdeal.main_arg1) = m ((c.tc : Thread Cert.HopsIdeal.nD Cert.HopsIdeal.τ).loc Cert.HopsIdeal.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_Credits [hCredits : Cert.Credits.Facts] : Prop :=
  ∀ (m : (ℓ : Loc Cert.Credits.nD Cert.Credits.τ Cert.Credits.sig) → Buf (Elt Bits) ℓ) (g : Dev Cert.Credits.nD → PrngReg), Pre_Credits m →
    θ_run (Cert.Credits.defs (F := Bits)) (onTc (τ := Cert.Credits.τ) (Cert.Credits.main (F := Bits))) ⟨m, fun _ => 0, g⟩ (fun r => (∀ c : Dev Cert.Credits.nD,
      r.2.mem ((c.tc : Thread Cert.Credits.nD Cert.Credits.τ).loc Cert.Credits.main_arg0) = m ((c.tc : Thread Cert.Credits.nD Cert.Credits.τ).loc Cert.Credits.main_arg0)
      ∧ r.2.mem ((c.tc : Thread Cert.Credits.nD Cert.Credits.τ).loc Cert.Credits.main_arg1) = m ((c.tc : Thread Cert.Credits.nD Cert.Credits.τ).loc Cert.Credits.main_arg1))
      ∧ r.2.sem = fun _ => 0)

def quiescent_CreditsIdeal [hCreditsIdeal : Cert.CreditsIdeal.Facts] : Prop :=
  ∀ (m : (ℓ : Loc Cert.CreditsIdeal.nD Cert.CreditsIdeal.τ Cert.CreditsIdeal.sig) → Buf (Elt Ideal) ℓ) (g : Dev Cert.CreditsIdeal.nD → PrngReg), Pre_CreditsIdeal m →
    θ_run (Cert.CreditsIdeal.defs (F := Ideal)) (onTc (τ := Cert.CreditsIdeal.τ) (Cert.CreditsIdeal.main (F := Ideal))) ⟨m, fun _ => 0, g⟩ (fun r => (∀ c : Dev Cert.CreditsIdeal.nD,
      r.2.mem ((c.tc : Thread Cert.CreditsIdeal.nD Cert.CreditsIdeal.τ).loc Cert.CreditsIdeal.main_arg0) = m ((c.tc : Thread Cert.CreditsIdeal.nD Cert.CreditsIdeal.τ).loc Cert.CreditsIdeal.main_arg0)
      ∧ r.2.mem ((c.tc : Thread Cert.CreditsIdeal.nD Cert.CreditsIdeal.τ).loc Cert.CreditsIdeal.main_arg1) = m ((c.tc : Thread Cert.CreditsIdeal.nD Cert.CreditsIdeal.τ).loc Cert.CreditsIdeal.main_arg1))
      ∧ r.2.sem = fun _ => 0)

def quiescent_QuantisedIdeal [hQuantisedIdeal : Cert.QuantisedIdeal.Facts] : Prop :=
  ∀ (m : (ℓ : Loc Cert.QuantisedIdeal.nD Cert.QuantisedIdeal.τ Cert.QuantisedIdeal.sig) → Buf (Elt Ideal) ℓ) (g : Dev Cert.QuantisedIdeal.nD → PrngReg), Pre_QuantisedIdeal m →
    θ_run (Cert.QuantisedIdeal.defs (F := Ideal)) (onTc (τ := Cert.QuantisedIdeal.τ) (Cert.QuantisedIdeal.main (F := Ideal))) ⟨m, fun _ => 0, g⟩ (fun r => (∀ c : Dev Cert.QuantisedIdeal.nD,
      r.2.mem ((c.tc : Thread Cert.QuantisedIdeal.nD Cert.QuantisedIdeal.τ).loc Cert.QuantisedIdeal.main_arg0) = m ((c.tc : Thread Cert.QuantisedIdeal.nD Cert.QuantisedIdeal.τ).loc Cert.QuantisedIdeal.main_arg0)
      ∧ r.2.mem ((c.tc : Thread Cert.QuantisedIdeal.nD Cert.QuantisedIdeal.τ).loc Cert.QuantisedIdeal.main_arg1) = m ((c.tc : Thread Cert.QuantisedIdeal.nD Cert.QuantisedIdeal.τ).loc Cert.QuantisedIdeal.main_arg1))
      ∧ r.2.sem = fun _ => 0)

def preserves_Hops_HopsIdeal : Prop :=
  True

def algebraic_HopsIdeal_ProductIdeal_on_rows_written [hHopsIdeal : Cert.HopsIdeal.Facts] [hProductIdeal : Cert.ProductIdeal.Facts] [hOn_rows_written : Cert.On_rows_written.Facts] : Prop :=
  ∀ (m : (ℓ : Loc Cert.HopsIdeal.nD Cert.HopsIdeal.τ Cert.HopsIdeal.sig) → Buf (Elt Ideal) ℓ) (g : Dev Cert.HopsIdeal.nD → PrngReg)
    (m' : (ℓ : Loc Cert.ProductIdeal.nD Cert.ProductIdeal.τ Cert.ProductIdeal.sig) → Buf (Elt Ideal) ℓ) (g' : Dev Cert.ProductIdeal.nD → PrngReg), Pre_HopsIdeal m →
    (∀ c : Dev Cert.HopsIdeal.nD,
      m ((c.tc : Thread Cert.HopsIdeal.nD Cert.HopsIdeal.τ).loc Cert.HopsIdeal.main_arg0) = Layout.block ⟨2, ![512, 4096]⟩ ⟨2, ![4096, 4096]⟩ 0 8 c (m' (((0 : Dev Cert.ProductIdeal.nD).tc : Thread Cert.ProductIdeal.nD Cert.ProductIdeal.τ).loc Cert.ProductIdeal.main_arg0))
      ∧ m ((c.tc : Thread Cert.HopsIdeal.nD Cert.HopsIdeal.τ).loc Cert.HopsIdeal.main_arg1) = Layout.block ⟨2, ![4096, 1024]⟩ ⟨2, ![4096, 8192]⟩ 1 8 c (m' (((0 : Dev Cert.ProductIdeal.nD).tc : Thread Cert.ProductIdeal.nD Cert.ProductIdeal.τ).loc Cert.ProductIdeal.main_arg1))) →
    ∃ (v0 : Buf (Elt Ideal) (((0 : Dev Cert.ProductIdeal.nD).tc : Thread Cert.ProductIdeal.nD Cert.ProductIdeal.τ).loc Cert.ProductIdeal.main_v0)),
      θ_run (Cert.HopsIdeal.defs (F := Ideal)) (onTc (τ := Cert.HopsIdeal.τ) (Cert.HopsIdeal.main (F := Ideal))) ⟨m, fun _ => 0, g⟩ (fun r => ∀ c : Dev Cert.HopsIdeal.nD,
          (∀ i : (⟨2, ![4096, 1024]⟩ : Shape).Idx, (Layout.block ⟨2, ![4096, 1024]⟩ ⟨2, ![4096, 8192]⟩ 1 8 c ((Cert.On_rows_written.fn (F := Ideal) (m' (((0 : Dev Cert.ProductIdeal.nD).tc : Thread Cert.ProductIdeal.nD Cert.ProductIdeal.τ).loc Cert.ProductIdeal.main_arg0)) (m' (((0 : Dev Cert.ProductIdeal.nD).tc : Thread Cert.ProductIdeal.nD Cert.ProductIdeal.τ).loc Cert.ProductIdeal.main_arg1)))) : (⟨2, ![4096, 1024]⟩ : Shape).Idx → _) i = 1#1 → r.2.mem ((c.tc : Thread Cert.HopsIdeal.nD Cert.HopsIdeal.τ).loc Cert.HopsIdeal.main_v1) i = (Layout.block ⟨2, ![4096, 1024]⟩ ⟨2, ![4096, 8192]⟩ 1 8 c v0 : (⟨2, ![4096, 1024]⟩ : Shape).Idx → _) i)
          ∧ r.2.mem ((c.tc : Thread Cert.HopsIdeal.nD Cert.HopsIdeal.τ).loc Cert.HopsIdeal.main_arg0) = m ((c.tc : Thread Cert.HopsIdeal.nD Cert.HopsIdeal.τ).loc Cert.HopsIdeal.main_arg0)
          ∧ r.2.mem ((c.tc : Thread Cert.HopsIdeal.nD Cert.HopsIdeal.τ).loc Cert.HopsIdeal.main_arg1) = m ((c.tc : Thread Cert.HopsIdeal.nD Cert.HopsIdeal.τ).loc Cert.HopsIdeal.main_arg1))
      ∧ θ_run (Cert.ProductIdeal.defs (F := Ideal)) (onTc (τ := Cert.ProductIdeal.τ) (Cert.ProductIdeal.main (F := Ideal))) ⟨m', fun _ => 0, g'⟩ (fun r =>
          (∀ i : (⟨2, ![4096, 8192]⟩ : Shape).Idx, (Cert.On_rows_written.fn (F := Ideal) (m' (((0 : Dev Cert.ProductIdeal.nD).tc : Thread Cert.ProductIdeal.nD Cert.ProductIdeal.τ).loc Cert.ProductIdeal.main_arg0)) (m' (((0 : Dev Cert.ProductIdeal.nD).tc : Thread Cert.ProductIdeal.nD Cert.ProductIdeal.τ).loc Cert.ProductIdeal.main_arg1))) i = 1#1 → r.2.mem (((0 : Dev Cert.ProductIdeal.nD).tc : Thread Cert.ProductIdeal.nD Cert.ProductIdeal.τ).loc Cert.ProductIdeal.main_v0) i = v0 i)
          ∧ r.2.mem (((0 : Dev Cert.ProductIdeal.nD).tc : Thread Cert.ProductIdeal.nD Cert.ProductIdeal.τ).loc Cert.ProductIdeal.main_arg0) = m' (((0 : Dev Cert.ProductIdeal.nD).tc : Thread Cert.ProductIdeal.nD Cert.ProductIdeal.τ).loc Cert.ProductIdeal.main_arg0)
          ∧ r.2.mem (((0 : Dev Cert.ProductIdeal.nD).tc : Thread Cert.ProductIdeal.nD Cert.ProductIdeal.τ).loc Cert.ProductIdeal.main_arg1) = m' (((0 : Dev Cert.ProductIdeal.nD).tc : Thread Cert.ProductIdeal.nD Cert.ProductIdeal.τ).loc Cert.ProductIdeal.main_arg1))

def preserves_Credits_CreditsIdeal : Prop :=
  IdealRules.named_const.Statement Cert.CreditsIdeal.κ "inv448" .f32 0x3B124925#32 ((448⁻¹ : ℝ) : EReal)

def algebraic_CreditsIdeal_QuantisedIdeal [hCreditsIdeal : Cert.CreditsIdeal.Facts] [hQuantisedIdeal : Cert.QuantisedIdeal.Facts] : Prop :=
  ∀ (m : (ℓ : Loc Cert.CreditsIdeal.nD Cert.CreditsIdeal.τ Cert.CreditsIdeal.sig) → Buf (Elt Ideal) ℓ) (g : Dev Cert.CreditsIdeal.nD → PrngReg)
    (m' : (ℓ : Loc Cert.QuantisedIdeal.nD Cert.QuantisedIdeal.τ Cert.QuantisedIdeal.sig) → Buf (Elt Ideal) ℓ) (g' : Dev Cert.QuantisedIdeal.nD → PrngReg), Pre_CreditsIdeal m →
    (∀ c : Dev Cert.CreditsIdeal.nD,
      m ((c.tc : Thread Cert.CreditsIdeal.nD Cert.CreditsIdeal.τ).loc Cert.CreditsIdeal.main_arg0) = Layout.block ⟨2, ![512, 4096]⟩ ⟨2, ![4096, 4096]⟩ 0 8 c (m' (((0 : Dev Cert.QuantisedIdeal.nD).tc : Thread Cert.QuantisedIdeal.nD Cert.QuantisedIdeal.τ).loc Cert.QuantisedIdeal.main_arg0))
      ∧ m ((c.tc : Thread Cert.CreditsIdeal.nD Cert.CreditsIdeal.τ).loc Cert.CreditsIdeal.main_arg1) = Layout.block ⟨2, ![4096, 1024]⟩ ⟨2, ![4096, 8192]⟩ 1 8 c (m' (((0 : Dev Cert.QuantisedIdeal.nD).tc : Thread Cert.QuantisedIdeal.nD Cert.QuantisedIdeal.τ).loc Cert.QuantisedIdeal.main_arg1))) →
    ∃ (v0 : Buf (Elt Ideal) (((0 : Dev Cert.QuantisedIdeal.nD).tc : Thread Cert.QuantisedIdeal.nD Cert.QuantisedIdeal.τ).loc Cert.QuantisedIdeal.main_v1)),
      θ_run (Cert.CreditsIdeal.defs (F := Ideal)) (onTc (τ := Cert.CreditsIdeal.τ) (Cert.CreditsIdeal.main (F := Ideal))) ⟨m, fun _ => 0, g⟩ (fun r => ∀ c : Dev Cert.CreditsIdeal.nD,
          r.2.mem ((c.tc : Thread Cert.CreditsIdeal.nD Cert.CreditsIdeal.τ).loc Cert.CreditsIdeal.main_v1) = Layout.block ⟨2, ![4096, 1024]⟩ ⟨2, ![4096, 8192]⟩ 1 8 c v0
          ∧ r.2.mem ((c.tc : Thread Cert.CreditsIdeal.nD Cert.CreditsIdeal.τ).loc Cert.CreditsIdeal.main_arg0) = m ((c.tc : Thread Cert.CreditsIdeal.nD Cert.CreditsIdeal.τ).loc Cert.CreditsIdeal.main_arg0)
          ∧ r.2.mem ((c.tc : Thread Cert.CreditsIdeal.nD Cert.CreditsIdeal.τ).loc Cert.CreditsIdeal.main_arg1) = m ((c.tc : Thread Cert.CreditsIdeal.nD Cert.CreditsIdeal.τ).loc Cert.CreditsIdeal.main_arg1))
      ∧ θ_run (Cert.QuantisedIdeal.defs (F := Ideal)) (onTc (τ := Cert.QuantisedIdeal.τ) (Cert.QuantisedIdeal.main (F := Ideal))) ⟨m', fun _ => 0, g'⟩ (fun r =>
          r.2.mem (((0 : Dev Cert.QuantisedIdeal.nD).tc : Thread Cert.QuantisedIdeal.nD Cert.QuantisedIdeal.τ).loc Cert.QuantisedIdeal.main_v1) = v0
          ∧ r.2.mem (((0 : Dev Cert.QuantisedIdeal.nD).tc : Thread Cert.QuantisedIdeal.nD Cert.QuantisedIdeal.τ).loc Cert.QuantisedIdeal.main_arg0) = m' (((0 : Dev Cert.QuantisedIdeal.nD).tc : Thread Cert.QuantisedIdeal.nD Cert.QuantisedIdeal.τ).loc Cert.QuantisedIdeal.main_arg0)
          ∧ r.2.mem (((0 : Dev Cert.QuantisedIdeal.nD).tc : Thread Cert.QuantisedIdeal.nD Cert.QuantisedIdeal.τ).loc Cert.QuantisedIdeal.main_arg1) = m' (((0 : Dev Cert.QuantisedIdeal.nD).tc : Thread Cert.QuantisedIdeal.nD Cert.QuantisedIdeal.τ).loc Cert.QuantisedIdeal.main_arg1))

def Claim : Prop :=
  ∃ (hHops : Cert.Hops.Facts) (hHopsIdeal : Cert.HopsIdeal.Facts) (hProductIdeal : Cert.ProductIdeal.Facts) (hCredits : Cert.Credits.Facts) (hCreditsIdeal : Cert.CreditsIdeal.Facts) (hQuantisedIdeal : Cert.QuantisedIdeal.Facts) (hOn_rows_written : Cert.On_rows_written.Facts),
    quiescent_Hops (hHops := hHops)
    ∧ quiescent_HopsIdeal (hHopsIdeal := hHopsIdeal)
    ∧ quiescent_ProductIdeal (hProductIdeal := hProductIdeal)
    ∧ quiescent_Credits (hCredits := hCredits)
    ∧ quiescent_CreditsIdeal (hCreditsIdeal := hCreditsIdeal)
    ∧ quiescent_QuantisedIdeal (hQuantisedIdeal := hQuantisedIdeal)
    ∧ preserves_Hops_HopsIdeal
    ∧ algebraic_HopsIdeal_ProductIdeal_on_rows_written (hHopsIdeal := hHopsIdeal) (hProductIdeal := hProductIdeal) (hOn_rows_written := hOn_rows_written)
    ∧ preserves_Credits_CreditsIdeal
    ∧ algebraic_CreditsIdeal_QuantisedIdeal (hCreditsIdeal := hCreditsIdeal) (hQuantisedIdeal := hQuantisedIdeal)
-- ==== On_rows_written.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)

variable [Facts]

def fn_part1 {F : FTy → Type} [FloatOps F] (main_v10 : IVec S4096x8192 32) (main_v14 : IVec S4096x8192 32) (main_v16 : IVec S4096x8192 1) : IVec S4096x8192 1 :=
  let main_c_6 : IVec S_ 32 := constantI S_ 32 0#32
  let main_v17 : IVec S4096x8192 32 := broadcastInDim S4096x8192 ![] bcast_S_S4096x8192 main_c_6
  let main_v18 : IVec S4096x8192 1 := cmpi .eq main_v14 main_v17
  let main_c_7 : IVec S_ 32 := constantI S_ 32 6#32
  let main_v19 : IVec S4096x8192 32 := broadcastInDim S4096x8192 ![] bcast_S_S4096x8192 main_c_7
  let main_v20 : IVec S4096x8192 1 := cmpi .uge main_v10 main_v19
  let main_v21 : IVec S4096x8192 1 := andi main_v18 main_v20
  let main_v22 : IVec S4096x8192 1 := ori main_v16 main_v21
  let main_c_8 : IVec S_ 32 := constantI S_ 32 1#32
  let main_v23 : IVec S4096x8192 32 := broadcastInDim S4096x8192 ![] bcast_S_S4096x8192 main_c_8
  let main_v24 : IVec S4096x8192 1 := cmpi .eq main_v14 main_v23
  let main_c_9 : IVec S_ 32 := constantI S_ 32 1#32
  let main_v25 : IVec S4096x8192 32 := broadcastInDim S4096x8192 ![] bcast_S_S4096x8192 main_c_9
  let main_v26 : IVec S4096x8192 1 := cmpi .uge main_v10 main_v25
  let main_v27 : IVec S4096x8192 1 := andi main_v24 main_v26
  let main_c_10 : IVec S_ 32 := constantI S_ 32 2#32
  let main_v28 : IVec S4096x8192 32 := broadcastInDim S4096x8192 ![] bcast_S_S4096x8192 main_c_10
  let main_v29 : IVec S4096x8192 1 := cmpi .ule main_v10 main_v28
  let main_v30 : IVec S4096x8192 1 := andi main_v27 main_v29
  let main_v31 : IVec S4096x8192 1 := ori main_v22 main_v30
  main_v31

def fn {F : FTy → Type} [FloatOps F] (main_arg0 : FVec F S4096x4096 .f32) (main_arg1 : FVec F S4096x8192 .f32) : IVec S4096x8192 1 :=
  let main_v0 : IVec S4096x8192 32 := iotaInDim S4096x8192 32 0
  let main_v1 : IVec S4096x8192 32 := iotaInDim S4096x8192 32 1
  let main_c : IVec S_ 32 := constantI S_ 32 9#32
  let main_v2 : IVec S4096x8192 32 := broadcastInDim S4096x8192 ![] bcast_S_S4096x8192 main_c
  let main_v3 : IVec S4096x8192 32 := Host.shrui main_v0 main_v2
  let main_c_0 : IVec S_ 32 := constantI S_ 32 8#32
  let main_v4 : IVec S4096x8192 32 := broadcastInDim S4096x8192 ![] bcast_S_S4096x8192 main_c_0
  let main_v5 : IVec S4096x8192 32 := addi main_v3 main_v4
  let main_c_1 : IVec S_ 32 := constantI S_ 32 10#32
  let main_v6 : IVec S4096x8192 32 := broadcastInDim S4096x8192 ![] bcast_S_S4096x8192 main_c_1
  let main_v7 : IVec S4096x8192 32 := Host.shrui main_v1 main_v6
  let main_v8 : IVec S4096x8192 32 := subi main_v5 main_v7
  let main_c_2 : IVec S_ 32 := constantI S_ 32 7#32
  let main_v9 : IVec S4096x8192 32 := broadcastInDim S4096x8192 ![] bcast_S_S4096x8192 main_c_2
  let main_v10 : IVec S4096x8192 32 := andi main_v8 main_v9
  let main_c_3 : IVec S_ 32 := constantI S_ 32 8#32
  let main_v11 : IVec S4096x8192 32 := broadcastInDim S4096x8192 ![] bcast_S_S4096x8192 main_c_3
  let main_v12 : IVec S4096x8192 32 := Host.shrui main_v0 main_v11
  let main_c_4 : IVec S_ 32 := constantI S_ 32 1#32
  let main_v13 : IVec S4096x8192 32 := broadcastInDim S4096x8192 ![] bcast_S_S4096x8192 main_c_4
  let main_v14 : IVec S4096x8192 32 := andi main_v12 main_v13
  let main_c_5 : IVec S_ 32 := constantI S_ 32 0#32
  let main_v15 : IVec S4096x8192 32 := broadcastInDim S4096x8192 ![] bcast_S_S4096x8192 main_c_5
  let main_v16 : IVec S4096x8192 1 := cmpi .eq main_v10 main_v15
  fn_part1 (F := F) main_v10 main_v14 main_v16
-- ==== Hops.lean ====
abbrev S512x4096 : Shape := ⟨2, ![512, 4096]⟩
abbrev S4096x1024 : Shape := ⟨2, ![4096, 1024]⟩
abbrev S2x256x4096 : Shape := ⟨3, ![2, 256, 4096]⟩
abbrev S8x8x128 : Shape := ⟨3, ![8, 8, 128]⟩
abbrev S2 : Shape := ⟨1, ![2]⟩
abbrev S8 : Shape := ⟨1, ![8]⟩
abbrev S_ : Shape := ⟨0, ![]⟩
abbrev S128x4096 : Shape := ⟨2, ![128, 4096]⟩
abbrev S1 : Shape := ⟨1, ![1]⟩
abbrev S1x256x4096 : Shape := ⟨3, ![1, 256, 4096]⟩
abbrev S256x4096 : Shape := ⟨2, ![256, 4096]⟩
abbrev S512x1024 : Shape := ⟨2, ![512, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .f32⟩
  | .local _ .vmem, ⟨3, _⟩ => ⟨S512x4096, .bf16⟩
  | .local _ .vmem, ⟨4, _⟩ => ⟨S2x256x4096, .bf16⟩
  | .local _ .vmem, ⟨5, _⟩ => ⟨S2x256x4096, .bf16⟩
  | .local _ .vmem, ⟨6, _⟩ => ⟨S8x8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 3 27 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
@[reducible] def k0_t1_loop : Scf.Loop 32 :=
  let c0_i32_8 : BitVec 32 := 0#32
  let c4_i32 : BitVec 32 := 4#32
  let v12 : BitVec 32 := Scalar.addi c0_i32_8 c4_i32
  let c1_i32_9 : BitVec 32 := 1#32
  ⟨c0_i32_8, v12, c1_i32_9⟩
def k0_off1 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v152 : BitVec 32 := Scalar.muli arg15 c128_i32
  let v153 : Index := Scalar.indexCast v152
  let c0_164 : Index := 0#32
  ![v153.toNat, 0]
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_14 : BitVec 32 := 1#32
  let v13 : BitVec 32 := Scalar.muli v6 c1_i32_14
  let v14 : BitVec 32 := Scalar.addi c0_i32_15 v13
  v14.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_23 : BitVec 32 := 1#32
  let v22 : BitVec 32 := Scalar.muli v4 c1_i32_23
  let v23 : BitVec 32 := Scalar.addi c0_i32_24 v22
  v23.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v31 : BitVec 32 := Scalar.muli v2 c512_i32
  let v36 : Index := Scalar.indexCast v31
  let c0_31 : Index := 0#32
  ![v36.toNat, 0]
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_70 : BitVec 32 := 1#32
  let v62 : BitVec 32 := Scalar.muli v6 c1_i32_70
  let v63 : BitVec 32 := Scalar.addi c0_i32_71 v62
  v63.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_80 : BitVec 32 := 1#32
  let v72 : BitVec 32 := Scalar.muli v4 c1_i32_80
  let v73 : BitVec 32 := Scalar.addi c0_i32_81 v72
  v73.toNat
def k0_off3 (d0 : Dev nD) (c7_i32_86 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v82 : BitVec 32 := Scalar.addi v2 c7_i32_86
  let c8_i32_87 : BitVec 32 := 8#32
  let v83 : BitVec 32 := Scalar.remsi v82 c8_i32_87
  let c512_i32_90 : BitVec 32 := 512#32
  let v86 : BitVec 32 := Scalar.muli v83 c512_i32_90
  let v92 : Index := Scalar.indexCast v86
  let c0_97 : Index := 0#32
  ![v92.toNat, 0]
def k0_off4 (d0 : Dev nD) (c1_i32_88 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v84 : BitVec 32 := Scalar.addi v2 c1_i32_88
  let c8_i32_89 : BitVec 32 := 8#32
  let v85 : BitVec 32 := Scalar.remsi v84 c8_i32_89
  let c512_i32_98 : BitVec 32 := 512#32
  let v94 : BitVec 32 := Scalar.muli v85 c512_i32_98
  let c256_i32_99 : BitVec 32 := 256#32
  let v95 : BitVec 32 := Scalar.addi v94 c256_i32_99
  let v101 : Index := Scalar.indexCast v95
  let c0_106 : Index := 0#32
  ![v101.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ProductIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Credits.lean ====
abbrev S512x4096 : Shape := ⟨2, ![512, 4096]⟩
abbrev S4096x1024 : Shape := ⟨2, ![4096, 1024]⟩
abbrev S2x256x4096 : Shape := ⟨3, ![2, 256, 4096]⟩
abbrev S8x8x128 : Shape := ⟨3, ![8, 8, 128]⟩
abbrev S2 : Shape := ⟨1, ![2]⟩
abbrev S8 : Shape := ⟨1, ![8]⟩
abbrev S_ : Shape := ⟨0, ![]⟩
abbrev S128x4096 : Shape := ⟨2, ![128, 4096]⟩
abbrev S1 : Shape := ⟨1, ![1]⟩
abbrev S1x256x4096 : Shape := ⟨3, ![1, 256, 4096]⟩
abbrev S256x4096 : Shape := ⟨2, ![256, 4096]⟩
abbrev S512x1024 : Shape := ⟨2, ![512, 1024]⟩
abbrev S256x1024 : Shape := ⟨2, ![256, 1024]⟩
abbrev S1x256x1024 : Shape := ⟨3, ![1, 256, 1024]⟩
abbrev S1x1x1 : Shape := ⟨3, ![1, 1, 1]⟩
abbrev S8x128 : Shape := ⟨2, ![8, 128]⟩
abbrev S1x8x128 : Shape := ⟨3, ![1, 8, 128]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .f32⟩
  | .local _ .vmem, ⟨3, _⟩ => ⟨S512x4096, .bf16⟩
  | .local _ .vmem, ⟨4, _⟩ => ⟨S2x256x4096, .bf16⟩
  | .local _ .vmem, ⟨5, _⟩ => ⟨S2x256x4096, .bf16⟩
  | .local _ .vmem, ⟨6, _⟩ => ⟨S8x8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 3 27 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
@[reducible] def k0_t1_loop : Scf.Loop 32 :=
  let c0_i32_8 : BitVec 32 := 0#32
  let c4_i32 : BitVec 32 := 4#32
  let v12 : BitVec 32 := Scalar.addi c0_i32_8 c4_i32
  let c1_i32_9 : BitVec 32 := 1#32
  ⟨c0_i32_8, v12, c1_i32_9⟩
def k0_off1 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v729 : BitVec 32 := Scalar.muli arg15 c128_i32
  let v730 : Index := Scalar.indexCast v729
  let c0_851 : Index := 0#32
  ![v730.toNat, 0]
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_14 : BitVec 32 := 1#32
  let v13 : BitVec 32 := Scalar.muli v6 c1_i32_14
  let v14 : BitVec 32 := Scalar.addi c0_i32_15 v13
  v14.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_23 : BitVec 32 := 1#32
  let v22 : BitVec 32 := Scalar.muli v4 c1_i32_23
  let v23 : BitVec 32 := Scalar.addi c0_i32_24 v22
  v23.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v31 : BitVec 32 := Scalar.muli v2 c512_i32
  let v36 : Index := Scalar.indexCast v31
  let c0_31 : Index := 0#32
  ![v36.toNat, 0]
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_70 : BitVec 32 := 1#32
  let v62 : BitVec 32 := Scalar.muli v6 c1_i32_70
  let v63 : BitVec 32 := Scalar.addi c0_i32_71 v62
  v63.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_80 : BitVec 32 := 1#32
  let v72 : BitVec 32 := Scalar.muli v4 c1_i32_80
  let v73 : BitVec 32 := Scalar.addi c0_i32_81 v72
  v73.toNat
def k0_off3 (d0 : Dev nD) (c7_i32_86 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v82 : BitVec 32 := Scalar.addi v2 c7_i32_86
  let c8_i32_87 : BitVec 32 := 8#32
  let v83 : BitVec 32 := Scalar.remsi v82 c8_i32_87
  let c512_i32_90 : BitVec 32 := 512#32
  let v86 : BitVec 32 := Scalar.muli v83 c512_i32_90
  let v92 : Index := Scalar.indexCast v86
  let c0_97 : Index := 0#32
  ![v92.toNat, 0]
def k0_off4 (d0 : Dev nD) (c1_i32_88 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v84 : BitVec 32 := Scalar.addi v2 c1_i32_88
  let c8_i32_89 : BitVec 32 := 8#32
  let v85 : BitVec 32 := Scalar.remsi v84 c8_i32_89
  let c512_i32_98 : BitVec 32 := 512#32
  let v94 : BitVec 32 := Scalar.muli v85 c512_i32_98
  let c256_i32_99 : BitVec 32 := 256#32
  let v95 : BitVec 32 := Scalar.addi v94 c256_i32_99
  let v101 : Index := Scalar.indexCast v95
  let c0_106 : Index := 0#32
  ![v101.toNat, 0]
def k0_dev7 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_146 : BitVec 32 := 1#32
  let v131 : BitVec 32 := Scalar.muli v4 c1_i32_146
  let v132 : BitVec 32 := Scalar.addi c0_i32_147 v131
  v132.toNat
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_149 : BitVec 32 := 1#32
  let v133 : BitVec 32 := Scalar.muli v6 c1_i32_149
  let v134 : BitVec 32 := Scalar.addi c0_i32_150 v133
  v134.toNat
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_159 : BitVec 32 := 1#32
  let v135 : BitVec 32 := Scalar.muli v6 c1_i32_159
  let v136 : BitVec 32 := Scalar.addi c0_i32_160 v135
  v136.toNat
def k0_dev10 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_169 : BitVec 32 := 1#32
  let v145 : BitVec 32 := Scalar.muli v4 c1_i32_169
  let v146 : BitVec 32 := Scalar.addi c0_i32_170 v145
  v146.toNat
def k0_dev11 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_233 : BitVec 32 := 1#32
  let v204 : BitVec 32 := Scalar.muli v4 c1_i32_233
  let v205 : BitVec 32 := Scalar.addi c0_i32_234 v204
  v205.toNat
def k0_dev12 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_236 : BitVec 32 := 1#32
  let v206 : BitVec 32 := Scalar.muli v6 c1_i32_236
  let v207 : BitVec 32 := Scalar.addi c0_i32_237 v206
  v207.toNat
def k0_dev13 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_246 : BitVec 32 := 1#32
  let v208 : BitVec 32 := Scalar.muli v6 c1_i32_246
  let v209 : BitVec 32 := Scalar.addi c0_i32_247 v208
  v209.toNat
def k0_dev14 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_256 : BitVec 32 := 1#32
  let v218 : BitVec 32 := Scalar.muli v4 c1_i32_256
  let v219 : BitVec 32 := Scalar.addi c0_i32_257 v218
  v219.toNat
def k0_dev15 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_320 : BitVec 32 := 1#32
  let v277 : BitVec 32 := Scalar.muli v4 c1_i32_320
  let v278 : BitVec 32 := Scalar.addi c0_i32_321 v277
  v278.toNat
def k0_dev16 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_323 : BitVec 32 := 1#32
  let v279 : BitVec 32 := Scalar.muli v6 c1_i32_323
  let v280 : BitVec 32 := Scalar.addi c0_i32_324 v279
  v280.toNat
def k0_dev17 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_333 : BitVec 32 := 1#32
  let v281 : BitVec 32 := Scalar.muli v6 c1_i32_333
  let v282 : BitVec 32 := Scalar.addi c0_i32_334 v281
  v282.toNat
def k0_dev18 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_343 : BitVec 32 := 1#32
  let v291 : BitVec 32 := Scalar.muli v4 c1_i32_343
  let v292 : BitVec 32 := Scalar.addi c0_i32_344 v291
  v292.toNat
def k0_dev19 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_409 : BitVec 32 := 1#32
  let v350 : BitVec 32 := Scalar.muli v4 c1_i32_409
  let v351 : BitVec 32 := Scalar.addi c0_i32_410 v350
  v351.toNat
def k0_dev20 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_412 : BitVec 32 := 1#32
  let v352 : BitVec 32 := Scalar.muli v6 c1_i32_412
  let v353 : BitVec 32 := Scalar.addi c0_i32_413 v352
  v353.toNat
def k0_dev21 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_422 : BitVec 32 := 1#32
  let v354 : BitVec 32 := Scalar.muli v6 c1_i32_422
  let v355 : BitVec 32 := Scalar.addi c0_i32_423 v354
  v355.toNat
def k0_dev22 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_432 : BitVec 32 := 1#32
  let v364 : BitVec 32 := Scalar.muli v4 c1_i32_432
  let v365 : BitVec 32 := Scalar.addi c0_i32_433 v364
  v365.toNat
def k0_dev23 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_498 : BitVec 32 := 1#32
  let v423 : BitVec 32 := Scalar.muli v4 c1_i32_498
  let v424 : BitVec 32 := Scalar.addi c0_i32_499 v423
  v424.toNat
def k0_dev24 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_501 : BitVec 32 := 1#32
  let v425 : BitVec 32 := Scalar.muli v6 c1_i32_501
  let v426 : BitVec 32 := Scalar.addi c0_i32_502 v425
  v426.toNat
def k0_dev25 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_511 : BitVec 32 := 1#32
  let v427 : BitVec 32 := Scalar.muli v6 c1_i32_511
  let v428 : BitVec 32 := Scalar.addi c0_i32_512 v427
  v428.toNat
def k0_dev26 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_521 : BitVec 32 := 1#32
  let v437 : BitVec 32 := Scalar.muli v4 c1_i32_521
  let v438 : BitVec 32 := Scalar.addi c0_i32_522 v437
  v438.toNat
@[reducible] def k0_t2_loop : Scf.Loop 32 :=
  let c0_i32_608 : BitVec 32 := 0#32
  let c16_i32 : BitVec 32 := 16#32
  let v517 : BitVec 32 := Scalar.addi c0_i32_608 c16_i32
  let c1_i32_609 : BitVec 32 := 1#32
  ⟨c0_i32_608, v517, c1_i32_609⟩
def k0_off5 (k0_t2 : Fin k0_t2_loop.trips) : Fin 2 → Nat :=
  let c0_i32_608 : BitVec 32 := 0#32
  let c1_i32_609 : BitVec 32 := 1#32
  let arg15 : BitVec 32 := Scf.iv c0_i32_608 c1_i32_609 k0_t2
  let c256_i32_851 : BitVec 32 := 256#32
  let v729 : BitVec 32 := Scalar.muli arg15 c256_i32_851
  let v730 : Index := Scalar.indexCast v729
  let c0_852 : Index := 0#32
  ![v730.toNat, 0]
def k0_dev27 (d0 : Dev nD) : Nat :=
  let c0_i32_621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_614 : BitVec 32 := 1#32
  let v523 : BitVec 32 := Scalar.addi v2 c1_i32_614
  let c8_i32_615 : BitVec 32 := 8#32
  let v524 : BitVec 32 := Scalar.remsi v523 c8_i32_615
  let c1_i32_620 : BitVec 32 := 1#32
  let v525 : BitVec 32 := Scalar.muli v524 c1_i32_620
  let v526 : BitVec 32 := Scalar.addi c0_i32_621 v525
  v526.toNat
def k0_dev28 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_626 : BitVec 32 := 2#32
  let v535 : BitVec 32 := Scalar.addi v2 c2_i32_626
  let c8_i32_627 : BitVec 32 := 8#32
  let v536 : BitVec 32 := Scalar.remsi v535 c8_i32_627
  let c1_i32_632 : BitVec 32 := 1#32
  let v537 : BitVec 32 := Scalar.muli v536 c1_i32_632
  let v538 : BitVec 32 := Scalar.addi c0_i32_633 v537
  v538.toNat
def k0_dev29 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_638 : BitVec 32 := 3#32
  let v547 : BitVec 32 := Scalar.addi v2 c3_i32_638
  let c8_i32_639 : BitVec 32 := 8#32
  let v548 : BitVec 32 := Scalar.remsi v547 c8_i32_639
  let c1_i32_644 : BitVec 32 := 1#32
  let v549 : BitVec 32 := Scalar.muli v548 c1_i32_644
  let v550 : BitVec 32 := Scalar.addi c0_i32_645 v549
  v550.toNat
def k0_dev30 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_650 : BitVec 32 := 4#32
  let v559 : BitVec 32 := Scalar.addi v2 c4_i32_650
  let c8_i32_651 : BitVec 32 := 8#32
  let v560 : BitVec 32 := Scalar.remsi v559 c8_i32_651
  let c1_i32_656 : BitVec 32 := 1#32
  let v561 : BitVec 32 := Scalar.muli v560 c1_i32_656
  let v562 : BitVec 32 := Scalar.addi c0_i32_657 v561
  v562.toNat
def k0_dev31 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_662 : BitVec 32 := 5#32
  let v571 : BitVec 32 := Scalar.addi v2 c5_i32_662
  let c8_i32_663 : BitVec 32 := 8#32
  let v572 : BitVec 32 := Scalar.remsi v571 c8_i32_663
  let c1_i32_668 : BitVec 32 := 1#32
  let v573 : BitVec 32 := Scalar.muli v572 c1_i32_668
  let v574 : BitVec 32 := Scalar.addi c0_i32_669 v573
  v574.toNat
def k0_dev32 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_674 : BitVec 32 := 6#32
  let v583 : BitVec 32 := Scalar.addi v2 c6_i32_674
  let c8_i32_675 : BitVec 32 := 8#32
  let v584 : BitVec 32 := Scalar.remsi v583 c8_i32_675
  let c1_i32_680 : BitVec 32 := 1#32
  let v585 : BitVec 32 := Scalar.muli v584 c1_i32_680
  let v586 : BitVec 32 := Scalar.addi c0_i32_681 v585
  v586.toNat
def k0_dev33 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_686 : BitVec 32 := 7#32
  let v595 : BitVec 32 := Scalar.addi v2 c7_i32_686
  let c8_i32_687 : BitVec 32 := 8#32
  let v596 : BitVec 32 := Scalar.remsi v595 c8_i32_687
  let c1_i32_692 : BitVec 32 := 1#32
  let v597 : BitVec 32 := Scalar.muli v596 c1_i32_692
  let v598 : BitVec 32 := Scalar.addi c0_i32_693 v597
  v598.toNat
@[reducible] def k0_t3_loop : Scf.Loop 32 :=
  let c0_i32_848 : BitVec 32 := 0#32
  let c32_i32 : BitVec 32 := 32#32
  let v728 : BitVec 32 := Scalar.addi c0_i32_848 c32_i32
  let c1_i32_849 : BitVec 32 := 1#32
  ⟨c0_i32_848, v728, c1_i32_849⟩
def k0_off6 (k0_t3 : Fin k0_t3_loop.trips) : Fin 2 → Nat :=
  let c0_i32_848 : BitVec 32 := 0#32
  let c1_i32_849 : BitVec 32 := 1#32
  let arg15 : BitVec 32 := Scf.iv c0_i32_848 c1_i32_849 k0_t3
  let c128_i32 : BitVec 32 := 128#32
  let v729 : BitVec 32 := Scalar.muli arg15 c128_i32
  let v730 : Index := Scalar.indexCast v729
  let c0_851 : Index := 0#32
  ![v730.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CreditsIdeal.lean ====
variable {F : FTy → Type} [FloatOps F] [Named F]
def κ : String → Option EReal := fun
  | "inv448" => some ((448⁻¹ : ℝ) : EReal)
  | _ => none
-- ==== QuantisedIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Ring.lean ====
/-
# The two rings of the kernel: cells, schedule, levels and debts

Every device sends the upper half of its block to the device on its right and the lower half to the
device on its left, and passes on in the next hop what arrived. A direction is a `Bool`: `false` is
rightwards, `true` is leftwards. Each direction has two slots on every device, and per slot one
semaphore counting what was sent out of it and one counting what arrived in it. At entry the two
neighbours of a device signal its barrier semaphore, and with the signal of the neighbour in direction
`b` come the two slots of that neighbour which the device is about to fill.

Everything here is over any float values `F`.
-/
module

public import proofs.«01_k».proof.Proof.Gen.HopsIdeal
public import proofs.«01_k».proof.Proof.Gen.HopsIdeal.Skeleton
public import proofs.«01_k».proof.Proof.Gen.HopsIdeal.Launch
public import Idealize.ShloMosaic.Lib.Pipeline.Launch
public import Idealize.ShloMosaic.Lib.Pipeline.Kit
public import Idealize.ShloMosaic.Lib.Tactic

@[expose] public section

noncomputable section

namespace Cert.HopsRun

open Cert.HopsIdeal Cert.HopsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the staging pipeline's rounds and the rings' -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Neighbours -/

set_option backward.proofsInPublic true in
/-- The neighbour of `c` in direction `b`. -/
def nb (b : Bool) (c : Dev nD) : Dev nD := ⟨(c.val + if b then 7 else 1) % 8, Nat.mod_lt _ (by decide)⟩

theorem nb_not (b : Bool) (c : Dev nD) : nb (!b) (nb b c) = c := by revert b c; decide
theorem nb_not' (b : Bool) (c : Dev nD) : nb b (nb (!b) c) = c := by revert b c; decide

theorem dev1_eq (c : Dev nD) : (⟨k0_dev1 c, k0_dev1_lt c⟩ : Dev nD) = nb true c := Fin.ext (k0_dev1_eq c)
theorem dev2_eq (c : Dev nD) : (⟨k0_dev2 c, k0_dev2_lt c⟩ : Dev nD) = nb false c := Fin.ext (k0_dev2_eq c)
theorem dev3_eq (c : Dev nD) : (⟨k0_dev3 c, k0_dev3_lt c⟩ : Dev nD) = nb false c := Fin.ext (k0_dev3_eq c)
theorem dev4_eq (c : Dev nD) : (⟨k0_dev4 c, k0_dev4_lt c⟩ : Dev nD) = nb true c := Fin.ext (k0_dev4_eq c)
theorem dev5_eq (c : Dev nD) : (⟨k0_dev5 c, k0_dev5_lt c⟩ : Dev nD) = nb false c := Fin.ext (k0_dev5_eq c)
theorem dev6_eq (c : Dev nD) : (⟨k0_dev6 c, k0_dev6_lt c⟩ : Dev nD) = nb true c := Fin.ext (k0_dev6_eq c)

/-! ## Memrefs -/

abbrev xM : Memref sig .tc .vmem S512x4096 .f32 := Memref.whole cc0_stg0_0
abbrev wM : Memref sig .tc .vmem S4096x1024 .f32 := Memref.whole cc0_stg1_0
abbrev oM : Memref sig .tc .vmem S4096x1024 .f32 := Memref.whole cc0_stg2_0
abbrev bM : Memref sig .tc .vmem S512x4096 .bf16 := Memref.whole cc0_scratch0

/-- The two-slot buffer of a direction. -/
abbrev ringM : Bool → Memref sig .tc .vmem S2x256x4096 .bf16
  | false => Memref.whole cc0_scratch1
  | true => Memref.whole cc0_scratch2

abbrev slotR : Fin 2 → Rect S2x256x4096
  | 0 => Rect.unit (s := S2x256x4096) ![0, 0, 0] S1x256x4096.size inb_S2x256x4096_S1x256x4096_0_0_0
  | 1 => Rect.unit (s := S2x256x4096) ![1, 0, 0] S1x256x4096.size inb_S2x256x4096_S1x256x4096_1_0_0

/-- Slot `s` of direction `b`. -/
abbrev slotM : Bool → Fin 2 → Memref sig .tc .vmem S256x4096 .bf16
  | b, 0 => ((ringM b).slice (Rect.unit (s := S2x256x4096) ![0, 0, 0] S1x256x4096.size inb_S2x256x4096_S1x256x4096_0_0_0) (fun _ => rfl)).squeeze S256x4096 squeezes_S1x256x4096_S256x4096
  | b, 1 => ((ringM b).slice (Rect.unit (s := S2x256x4096) ![1, 0, 0] S1x256x4096.size inb_S2x256x4096_S1x256x4096_1_0_0) (fun _ => rfl)).squeeze S256x4096 squeezes_S1x256x4096_S256x4096

abbrev halfR : Bool → Rect S512x4096
  | false => Rect.unit (s := S512x4096) ![0, 0] S256x4096.size inb_S512x4096_S256x4096_0_0
  | true => Rect.unit (s := S512x4096) ![256, 0] S256x4096.size inb_S512x4096_S256x4096_256_0

/-- The half of the device's own block that goes in direction `b`. -/
abbrev halfM : Bool → Memref sig .tc .vmem S256x4096 .bf16
  | false => bM.slice (Rect.unit (s := S512x4096) ![0, 0] S256x4096.size inb_S512x4096_S256x4096_0_0) (fun _ => rfl)
  | true => bM.slice (Rect.unit (s := S512x4096) ![256, 0] S256x4096.size inb_S512x4096_S256x4096_256_0) (fun _ => rfl)

abbrev N : ℕ := (slotM false 0).view.dmaCredit
theorem N_pos : 0 < N := View.dmaCredit_pos _ (by decide)
theorem credit_slot (b : Bool) (s : Fin 2) : (slotM b s).view.dmaCredit = N := by
  cases b <;> match s with
    | 0 => rfl
    | 1 => rfl
theorem credit_half (b : Bool) : (halfM b).view.dmaCredit = N := by cases b <;> rfl

/-! ## Cells -/

/-- The kinds of cell on a device: its barrier, and per direction and slot what was sent and what arrived. -/
inductive CK where
  | bar
  | snd (b : Bool) (s : Fin 2)
  | rcv (b : Bool) (s : Fin 2)
deriving DecidableEq

abbrev CK.all : List CK :=
  [.bar, .snd false 0, .snd false 1, .snd true 0, .snd true 1, .rcv false 0, .rcv false 1, .rcv true 0, .rcv true 1]
instance : Fintype CK := ⟨⟨CK.all, by decide⟩, fun k => by
  rcases k with _ | ⟨_ | _, s⟩ | ⟨_ | _, s⟩ <;> first | decide | (revert s; decide)⟩

abbrev barS : Sem sig := (SemArray.scalar (sig.barrier 0 rfl) : Sems sig S_).sem
abbrev at0 (a : DmaSems sig S2) : DmaSem sig := ((a.slice (Rect.unit (s := S2) ![0] S1.size inb_S2_S1_0)).squeeze S_ squeezes_S1_S_).sem
abbrev at1 (a : DmaSems sig S2) : DmaSem sig := ((a.slice (Rect.unit (s := S2) ![1] S1.size inb_S2_S1_1)).squeeze S_ squeezes_S1_S_).sem

abbrev csem : CK → SemLoc sig
  | .bar => .reg barS
  | .snd false 0 => .dma (at0 cc0_scratch4) | .snd false 1 => .dma (at1 cc0_scratch4)
  | .rcv false 0 => .dma (at0 cc0_scratch5) | .rcv false 1 => .dma (at1 cc0_scratch5)
  | .snd true 0 => .dma (at0 cc0_scratch6) | .snd true 1 => .dma (at1 cc0_scratch6)
  | .rcv true 0 => .dma (at0 cc0_scratch7) | .rcv true 1 => .dma (at1 cc0_scratch7)

theorem csem_injective : Function.Injective csem := by
  have h : ∀ k k' : CK, csem k = csem k' → k = k' := by decide
  exact fun k k' => h k k'

abbrev cell (c : Dev nD) (k : CK) : GSem nD τ sig := ((c : Thread nD τ), csem k)
abbrev kcell (ck : Dev nD × CK) : GSem nD τ sig := cell ck.1 ck.2

open Classical in
/-- The kind of a semaphore, if it is one of the rings'. -/
def kof (s : SemLoc sig) : Option CK := if h : ∃ k, csem k = s then some h.choose else none

theorem kof_csem (k : CK) : kof (csem k) = some k := by
  unfold kof
  have h : ∃ k', csem k' = csem k := ⟨k, rfl⟩
  rw [dif_pos h]; exact congrArg some (csem_injective h.choose_spec)

/-! ## Contents -/

/-- Device `c`'s block of `x`, -/
def xs (c : Dev nD) : (cc0_stg0_0 : Ref sig .tc).ty.Contents (Elt F) := (win0_0.blk (0 : Fin 1)).view.read (Elt F) (m ((c : Thread nD τ).loc main_arg0))
/-- its block of `w`, -/
def ws (c : Dev nD) : (cc0_stg1_0 : Ref sig .tc).ty.Contents (Elt F) := (win0_1.blk (0 : Fin 1)).view.read (Elt F) (m ((c : Thread nD τ).loc main_arg1))
/-- its block of `x` rounded, -/
def xb (c : Dev nD) : (cc0_scratch0 : Ref sig .tc).ty.Contents (Elt F) := truncf .bf16 (xs m c : FVec F S512x4096 .f32) bitsLt_bf16_f32
/-- and the half of that which goes in direction `b`. -/
def half : Bool → Dev nD → FVec F S256x4096 .bf16
  | false, c => (halfM false).view.read (Elt F) (xb m c)
  | true, c => (halfM true).view.read (Elt F) (xb m c)

/-- The device whose half arrives at `c` in slot `s`: `s + 1` devices against direction `b`. -/
def orig (b : Bool) : Fin 2 → Dev nD → Dev nD
  | 0, c => nb (!b) c
  | 1, c => nb (!b) (nb (!b) c)

theorem orig_zero (b : Bool) (c : Dev nD) : orig b 0 (nb b c) = c := nb_not b c
theorem orig_one (b : Bool) (c : Dev nD) : orig b 1 (nb b c) = orig b 0 c := congrArg (nb (!b)) (nb_not b c)

/-! ## The schedule -/

/-- What the unit of duty `d` of a cell of kind `k` on `c` hands over. -/
def pay (c : Dev nD) : CK → Bool → sProp 𝕄
  | .bar, d => iprop((∃ X, owns (nb d c : Thread nD τ) (slotM d 0) fullShare X) ∗ (∃ X, owns (nb d c : Thread nD τ) (slotM d 1) fullShare X))
  | .rcv b s, _ => owns (c : Thread nD τ) (slotM b s) fullShare (half m b (orig b s c))
  | .snd b 0, _ => owns (c : Thread nD τ) (halfM b) fullShare.right (half m b c)
  | .snd b 1, _ => owns (c : Thread nD τ) (slotM b 0) fullShare.right (half m b (orig b 0 c))

abbrev dut : CK → Finset Bool
  | .bar => Finset.univ
  | _ => {false}

abbrev amt : CK → ℕ
  | .bar => 1
  | _ => N

theorem amt_pos (k : CK) : 0 < amt k := by cases k <;> first | exact Nat.one_pos | exact N_pos

def ringRd : Rounds.Schedule (GSem nD τ sig) Bool 𝕄 where
  duties g r := if r = 0 ∧ g.1.2 = .tc then (kof g.2).elim ∅ dut else ∅
  unitless _ := False
  amount g _ _ := (kof g.2).elim 1 amt
  payload g _ d := (kof g.2).elim iprop(emp) fun k => pay m g.1.1 k d
  amount_pos g _ _ _ := by cases kof g.2 with
    | none => exact Nat.one_pos
    | some k => exact amt_pos k

instance pay_storable (c : Dev nD) (k : CK) (d : Bool) : BI.Storable (upEmb : UEmb _ 𝕄) (pay m c k d) := by
  unfold pay; split <;> infer_instance

instance ringRd_storable (g : GSem nD τ sig) (r : ℕ) (d : Bool) : BI.Storable (upEmb : UEmb _ 𝕄) ((ringRd m).payload g r d) := by
  show BI.Storable upEmb ((kof g.2).elim iprop(emp) fun k => pay m g.1.1 k d)
  cases kof g.2 with
  | none => exact inferInstanceAs (BI.Storable upEmb iprop(emp))
  | some k => exact pay_storable m g.1.1 k d

section Sched
variable (c : Dev nD) (k : CK)

theorem duties_cell : (ringRd m).duties (cell c k) 0 = dut k := by
  dsimp only [ringRd]; rw [if_pos ⟨rfl, rfl⟩, kof_csem]; rfl
theorem duties_later (g : GSem nD τ sig) : ∀ r, 1 ≤ r → (ringRd m).duties g r = ∅ :=
  fun r hr => by dsimp only [ringRd]; rw [if_neg fun h => by omega]
theorem amount_cell (d : Bool) : (ringRd m).amount (cell c k) 0 d = amt k := by
  dsimp only [ringRd]; rw [kof_csem]; rfl
theorem payload_cell (d : Bool) : (ringRd m).payload (cell c k) 0 d = pay m c k d := by
  dsimp only [ringRd]; rw [kof_csem]; rfl
theorem expect_cell : (ringRd m).expect (cell c k) 0 = (dut k).card * amt k := by
  unfold Schedule.expect Schedule.amountOf
  rw [duties_cell, Finset.sum_congr rfl fun d _ => amount_cell m c k d, Finset.sum_const, smul_eq_mul]
theorem rest_cell : bigSep ((ringRd m).duties (cell c k) 0 \ ∅) (fun d => (ringRd m).payload (cell c k) 0 d) = bigSep (dut k) fun d => pay m c k d := by
  rw [Finset.sdiff_empty, duties_cell]; exact bigSep_congr fun d _ => payload_cell m c k d

end Sched

/-! ## The payments a device makes, and its debts -/

/-- The payments of a device: its unit into the barrier whose duty is `b`, its transfers into and out of slot `s` in
    direction `b`. -/
inductive Tk where
  | bar (b : Bool)
  | rcv (b : Bool) (s : Fin 2)
  | snd (b : Bool) (s : Fin 2)
deriving DecidableEq

abbrev Tk.all : List Tk :=
  [.bar false, .bar true, .rcv false 0, .rcv true 0, .rcv false 1, .rcv true 1, .snd false 0, .snd true 0, .snd false 1, .snd true 1]
instance : Fintype Tk := ⟨⟨Tk.all, by decide⟩, fun k => by
  rcases k with (_ | _) | ⟨_ | _, s⟩ | ⟨_ | _, s⟩ <;> first | decide | (revert s; decide)⟩

abbrev Tk.kind : Tk → CK
  | .bar _ => .bar
  | .rcv b s => .rcv b s
  | .snd b s => .snd b s

abbrev Tk.duty : Tk → Bool
  | .bar b => b
  | _ => false

/-- Whose cell the payment of `c` goes to. -/
abbrev payee : Tk → Dev nD → Dev nD
  | .bar b => nb (!b)
  | .rcv b _ => nb b
  | .snd _ _ => id

/-- Who makes the payment into `c`'s cell. -/
abbrev payer : Tk → Dev nD → Dev nD
  | .bar b => nb b
  | .rcv b _ => nb (!b)
  | .snd _ _ => id

def payEquiv (t : Tk) : Dev nD ≃ Dev nD where
  toFun := payee t
  invFun := payer t
  left_inv c := by cases t <;> first | rfl | exact nb_not' _ c | exact nb_not _ c
  right_inv c := by cases t <;> first | rfl | exact nb_not _ c | exact nb_not' _ c

abbrev paid (c : Dev nD) (t : Tk) : GSem nD τ sig := cell (payee t c) t.kind

/-- What `c` owes while the payments `l` are still to be made, the head next. -/
def debt (c : Dev nD) : List Tk → CellTallies nD τ sig ℕ
  | [] => 0
  | t :: l => debt c l + tallyAt (paid c t) 0 (amt t.kind)

/-- The payments a device makes that another waits for, in program order. -/
abbrev dues : List Tk := [.bar false, .bar true, .rcv false 0, .rcv true 0, .rcv false 1, .rcv true 1]

theorem debt_apply (c : Dev nD) (l : List Tk) (g : GSem nD τ sig) (u : ℕ) :
    debt c l g u = (l.map fun t => if g = paid c t ∧ u = 0 then amt t.kind else 0).sum := by
  induction l with
  | nil => rfl
  | cons t l ih =>
    show (debt c l + tallyAt (paid c t) 0 (amt t.kind) : CellTallies nD τ sig ℕ) g u = _
    rw [Pi.add_apply, Finsupp.add_apply, ih, tallyAt_apply, List.map_cons, List.sum_cons, Nat.add_comm]

theorem debt_pos {c : Dev nD} {l : List Tk} {g : GSem nD τ sig} {u : ℕ} (h : 0 < debt c l g u) : ∃ t ∈ l, g = paid c t ∧ u = 0 := by
  induction l with
  | nil => exact absurd h (Nat.lt_irrefl 0)
  | cons t l ih =>
    rw [debt_apply, List.map_cons, List.sum_cons] at h
    by_cases ht : g = paid c t ∧ u = 0
    · exact ⟨t, List.mem_cons_self, ht⟩
    · rw [if_neg ht, Nat.zero_add, ← debt_apply] at h
      obtain ⟨t', h1, h2⟩ := ih h
      exact ⟨t', List.mem_cons_of_mem _ h1, h2⟩

/-! ## Levels -/

abbrev lvK : CK → ℕ
  | .bar => 1
  | .rcv _ s => 2 + s.val
  | .snd _ _ => 0

def L (g : GSem nD τ sig) : Finset ℕ := if g.1.2 = .tc then {0} else ∅
def lv (g : GSem nD τ sig) (_ : ℕ) : ℕ := (kof g.2).elim 0 lvK

theorem L_of_ne (g : GSem nD τ sig) (h : g.1.2 ≠ .tc) : L g = ∅ := if_neg h
theorem L_tc (c : Dev nD) (sm : SemLoc sig) : L ((c : Thread nD τ), sm) = {0} := if_pos rfl
theorem lv_cell (c : Dev nD) (k : CK) (u : ℕ) : lv (cell c k) u = lvK k := by dsimp only [lv]; rw [kof_csem]; rfl

omit [FloatOps F] in
/-- A device may wait at a cell below everything it owes. -/
theorem mayWait (c : Dev nD) (sm : SemLoc sig) (l : List Tk) (h : ∀ t ∈ l, (kof sm).elim 0 lvK < lvK t.kind) :
    (levAts L lv : sProp 𝕄) ⊢ MayWait (c : Thread nD τ) sm 0 (debt c l) :=
  MayOwe.of_cut (L := L) (lev := lv) ((kof sm).elim 0 lvK)
    (fun p hp => by rw [Finset.mem_singleton.mp hp, L_tc]; exact Finset.mem_singleton_self _)
    (fun g u hg => by obtain ⟨t, -, rfl, rfl⟩ := debt_pos hg; exact Finset.mem_singleton_self _)
    (fun p hp => by rw [Finset.mem_singleton.mp hp]; exact le_rfl)
    (fun g u hg => by obtain ⟨t, ht, rfl, rfl⟩ := debt_pos hg; rw [lv_cell]; exact h t ht)

omit [FloatOps F] in
theorem mayWait_cell (c : Dev nD) (k : CK) (l : List Tk) (h : ∀ t ∈ l, lvK k < lvK t.kind) :
    (levAts L lv : sProp 𝕄) ⊢ MayWait (c : Thread nD τ) (csem k) 0 (debt c l) :=
  mayWait c (csem k) l (by rw [kof_csem]; exact h)

end Cert.HopsRun

end
-- ==== Proof.Step.lean ====
/-
# One step of the protocol each: a wait, a transfer, a load of a slot
-/
module

public import proofs.«01_k».proof.Proof.Ring

@[expose] public section

noncomputable section

namespace Cert.HopsRun

open Cert.HopsIdeal Cert.HopsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (m : (ℓ : Loc nD τ sig) → Buf (Elt F) ℓ) (K : Dev nD × CK → ℕ) (c : Dev nD)

/-- Every cell's invariant and that every cell has reached its round. -/
def records : sProp 𝕄 :=
  iprop((bigSep Finset.univ fun ck : Dev nD × CK => cellInv ER (ringRd m) (K ck) (kcell ck))
    ∗ bigSep Finset.univ fun ck : Dev nD × CK => reached ER (kcell ck) 0)

instance records_persistent : BI.Persistent (records m K) := by unfold records; infer_instance

theorem inv_at (k : CK) : records m K ⊢ cellInv ER (ringRd m) (K (c, k)) (cell c k) := by
  unfold records
  iintro ⟨H, -⟩
  iapply (show (bigSep Finset.univ fun ck : Dev nD × CK => (cellInv ER (ringRd m) (K ck) (kcell ck) : sProp 𝕄)) ⊢ cellInv ER (ringRd m) (K (c, k)) (cell c k) from
    bigSep_elim (Finset.mem_univ (c, k)))
  iexact H

theorem reached_at (k : CK) : records m K ⊢ reached ER (cell c k) 0 := by
  unfold records
  iintro ⟨-, H⟩
  iapply (show (bigSep Finset.univ fun ck : Dev nD × CK => (reached ER (kcell ck) 0 : sProp 𝕄)) ⊢ reached ER (cell c k) 0 from
    bigSep_elim (Finset.mem_univ (c, k)))
  iexact H

/-- The device still owes the payments `l`. -/
def owing (l : List Tk) : sProp 𝕄 := iprop(∃ W, owes (c : Thread nD τ) (debt c l) W)

/-- A wait at one of the device's own cells: what the round hands over. -/
theorem step_wait (k : CK) (l : List Tk) (hl : ∀ t ∈ l, lvK k < lvK t.kind)
    {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem k) k' Q)
    (hk' : k' = (dut k).card * amt k)
    {α : Type} {Q : α → sProp 𝕄} {kk : PUnit → Prog (TpuEff nD τ sig (Elt F) Λ₀ .tc) α} :
    iprop(records m K ∗ levAts L lv ∗ cred (tallyAt (cell c k) 0 k') ∗ owing c l ∗ atPos ER (cell c k) 0 ∅ 0)
      ⊢ iprop(((owing c l ∗ atPos ER (cell c k) 1 ∅ 0 ∗ bigSep (dut k) fun d => pay m c k d)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold owing
  iintro ⟨#HR, #Hlev, Hc, ⟨%W, HO⟩, Hat⟩ Hk
  iapply (Rounds.wp_wait_rest_token 𝒱₀ ER (ringRd m) (c : Thread nD τ) none (κ := K (c, k)) hw (Set.mem_univ _) 0
      (O := debt c l) (W := W) (R := 0) (m := 0) (T := ∅) (by rw [expect_cell, hk', Nat.zero_add])) $$ [Hc HO Hat]
  · isplitr; · iapply (inv_at m K c k); iexact HR
    isplitl [Hc]; · iexact Hc
    isplitl [HO]; · iexact HO
    isplitr; · iapply (mayWait_cell c k l hl); iexact Hlev
    iexact Hat
  iintro ⟨HO, Hat, -, Hpay⟩
  ihave Hp := (Entails.of_eq (rest_cell m c k)) $$ Hpay
  iapply Hk
  isplitl [HO]; · iexists _; iexact HO
  isplitl [Hat]; · iexact Hat
  iexact Hp

/-- A wait for one transfer. -/
theorem step_waitDma (k : CK) (hd : dut k = {false}) (ha : amt k = N) (l : List Tk) (hl : ∀ t ∈ l, lvK k < lvK t.kind)
    {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem k) k' Q)
    (hk' : k' = N)
    {α : Type} {Q : α → sProp 𝕄} {kk : PUnit → Prog (TpuEff nD τ sig (Elt F) Λ₀ .tc) α} :
    iprop(records m K ∗ levAts L lv ∗ cred (tallyAt (cell c k) 0 N) ∗ owing c l ∗ atPos ER (cell c k) 0 ∅ 0)
      ⊢ iprop(((owing c l ∗ atPos ER (cell c k) 1 ∅ 0 ∗ pay m c k false)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  have h := step_wait m K c k l hl hw (by rw [hd, ha, hk', Finset.card_singleton, Nat.one_mul]) (Q := Q) (kk := kk)
  rw [hd, bigSep_singleton, hk'] at h
  exact h

theorem amount_slot (b : Bool) (s : Fin 2) : (slotM b s).view.amount (csem (.rcv b s)) = N := by
  cases b <;> match s with
    | 0 => rfl
    | 1 => rfl

/-- A transfer out of `src` into slot `s` of the neighbour in direction `b`. -/
theorem step_send (b : Bool) (s : Fin 2) (n : Dev nD) (hn : n = nb b c) (l : List Tk)
    (src : Memref sig .tc .vmem S256x4096 .bf16) (q : PosShare TreeShare) (X : FVec F S256x4096 .bf16)
    (hsnd : pay m c (.snd b s) false = owns (c : Thread nD τ) src q X) (hX : X = half m b (orig b s (nb b c)))
    {hsc : (slotM b s : Memref sig (Dev.tc n : Thread nD τ).2.kind .vmem S256x4096 .bf16).view.ref.isScScratch = false}
    {hsrc : src.view.WordExact} {hdst : (slotM b s).view.WordExact}
    {hsem : DmaTarget.Typed .vmem (csem (.rcv b s)) (.remote (Dev.tc n : Thread nD τ) (slotM b s) (csem (.snd b s)) hsc)}
    {α : Type} {Q : α → sProp 𝕄} {kk : PUnit → Prog (TpuEff nD τ sig (Elt F) Λ₀ .tc) α} :
    iprop(records m K ∗ owns (c : Thread nD τ) src q X ∗ (∃ Y, owns (nb b c : Thread nD τ) (slotM b s) fullShare Y) ∗ owing c (.rcv b s :: l)
        ∗ dutyTok ER (cell c (.snd b s)) 0 false ∗ dutyTok ER (paid c (.rcv b s)) 0 false)
      ⊢ iprop(((cred (tallyAt (cell c (.snd b s)) 0 N) ∗ owing c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) (slotM b s) (csem (.snd b s)) hsc) (csem (.rcv b s)) hsrc hdst hsem) kk) Q) := by
  subst hn
  unfold owing
  iintro ⟨#HR, Hs, ⟨%Y, Hd⟩, ⟨%W, HO⟩, Ht1, Ht2⟩ Hk
  ihave Hs := (show owns (c : Thread nD τ) src q X ⊢ iprop(∃ f, ⌜src.view.read (Elt F) f = X⌝ ∗ src.view.loc (c : Thread nD τ) ↦[src.view.set]{q} f) from .rfl) $$ Hs
  icases Hs with ⟨%fs, %hfs, Hs⟩
  ihave Hd := (show owns (nb b c : Thread nD τ) (slotM b s) fullShare Y ⊢ iprop(∃ f, ⌜(slotM b s).view.read (Elt F) f = Y⌝ ∗ (slotM b s).view.loc (nb b c : Thread nD τ) ↦[(slotM b s).view.set]{fullShare} f) from .rfl) $$ Hd
  icases Hd with ⟨%fd, %hfd, Hd⟩
  iapply (Rounds.wp_send_pointsTo 𝒱₀ ER (ringRd m) (c : Thread nD τ) none (κ₁ := K (c, .snd b s)) (κ₂ := K (nb b c, .rcv b s))
      (r₁ := 0) (r₂ := 0) (d₁ := false) (d₂ := false) (fs := fs) (fd := fd) (W := W)
      (by rw [duties_cell]; exact Finset.mem_singleton_self _) (by rw [duties_cell]; exact Finset.mem_singleton_self _)
      0 0 N (amount_slot b s) (amount_cell m c (.snd b s) false) (amount_cell m (nb b c) (.rcv b s) false) (debt c l) rfl
      (by rw [payload_cell, hsnd, ← hfs]; exact owns_intro _ _ _ _)
      (by
        rw [payload_cell]
        refine (owns_intro _ _ _ _).trans (Entails.of_eq ?_)
        rw [View.read_write_univ, hfs, hX]; rfl)) $$ [Hs Hd HO Ht1 Ht2]
  · isplitr; · iapply (inv_at m K c (.snd b s)); iexact HR
    isplitr; · iapply (inv_at m K (nb b c) (.rcv b s)); iexact HR
    isplitl [Hs]; · iexact Hs
    isplitl [Hd]; · iexact Hd
    isplitl [HO]; · iexact HO
    isplitl [Ht1]; · iexact Ht1
    isplitr; · iapply (reached_at m K c (.snd b s)); iexact HR
    isplitl [Ht2]; · iexact Ht2
    iapply (reached_at m K (nb b c) (.rcv b s)); iexact HR
  iintro ⟨Hc, HO⟩
  iapply Hk
  isplitl [Hc]; · iexact Hc
  iexists W; iexact HO

/-- A load of a whole slot: the slot's contents, at the loaded shape. -/
theorem step_load_slot (b : Bool) (s : Fin 2) (q : PosShare TreeShare) (X : FVec F S256x4096 .bf16)
    {hl : (ringM b).view.LoadsAt (slotR s).toLoadRect}
    {α : Type} {Q : α → sProp 𝕄} {kk : ((slotR s).shape.Idx → Elt F .bf16) → Prog (TpuEff nD τ sig (Elt F) Λ₀ .tc) α} :
    owns (c : Thread nD τ) (slotM b s) q X
      ⊢ iprop((∀ v, ⌜∀ v' : Vec F S1x256x4096 .bf16, HEq v' v → shapeCast S256x4096 v' shapeCasts_S1x256x4096_S256x4096 = X⌝ -∗ owns (c : Thread nD τ) (slotM b s) q X
            -∗ wp frame (wpE (defs₀ (F := F)) 𝒱₀ (c : Thread nD τ) none) Set.univ (kk v) Q)
          -∗ wp frame (wpE (defs₀ (F := F)) 𝒱₀ (c : Thread nD τ) none) Set.univ (.op (.load (ringM b) (slotR s).toLoadRect hl) kk) Q) := by
  iintro Hs Hk
  ihave Hs := (show owns (c : Thread nD τ) (slotM b s) q X ⊢ iprop(∃ f, ⌜(slotM b s).view.read (Elt F) f = X⌝ ∗ (slotM b s).view.loc (c : Thread nD τ) ↦[(slotM b s).view.set]{q} f) from .rfl) $$ Hs
  icases Hs with ⟨%f, %hf, Hs⟩
  match s, hl, f, hf with
  | 0, hl, f, hf =>
    iapply (wp_load_rect 𝒱₀ (c : Thread nD τ) none Set.univ (m := ringM b) (r := slotR 0) (S := (slotM b 0).view.set) (q := q) (f := f) (by rw [View.set_reshape])) $$ Hs
    iintro Hs
    iapply Hk $$ %_ %(by rintro v' h; cases h; rw [← hf]; rfl)
    rw [← hf]
    iapply (owns_intro (c : Thread nD τ) (slotM b 0) q f)
    iexact Hs
  | 1, hl, f, hf =>
    iapply (wp_load_rect 𝒱₀ (c : Thread nD τ) none Set.univ (m := ringM b) (r := slotR 1) (S := (slotM b 1).view.set) (q := q) (f := f) (by rw [View.set_reshape])) $$ Hs
    iintro Hs
    iapply Hk $$ %_ %(by rintro v' h; cases h; rw [← hf]; rfl)
    rw [← hf]
    iapply (owns_intro (c : Thread nD τ) (slotM b 1) q f)
    iexact Hs

end Cert.HopsRun

end
-- ==== Proof.Share.lean ====
/-
# Buffers in parts: a buffer read while a copy of it is in flight, and the slots of a ring buffer

A copy in flight keeps the right half of the share of what it reads; the left half stays with the
device, which may go on reading.
-/
module

public import proofs.«01_k».proof.Proof.Step

@[expose] public section

noncomputable section

namespace Cert.HopsRun

open Cert.HopsIdeal Cert.HopsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-! ## Shares -/

theorem owns_open (t : Thread nD τ) {sp : Space} {s : Shape} {e : EltTy} (M : Memref sig t.2.kind sp s e) (q : PosShare TreeShare) (X : s.Idx → Elt F e) :
    (owns t M q X : sProp 𝕄) ⊢ iprop(∃ f, ⌜M.view.read (Elt F) f = X⌝ ∗ M.view.loc t ↦[M.view.set]{q} f) := .rfl

/-- A memref's share in two halves, at the same contents. -/
theorem owns_halve (t : Thread nD τ) {sp : Space} {s : Shape} {e : EltTy} (M : Memref sig t.2.kind sp s e) (X : s.Idx → Elt F e) :
    (owns t M fullShare X : sProp 𝕄) ⊢ iprop(owns t M fullShare.left X ∗ owns t M fullShare.right X) := by
  refine (owns_open t M fullShare X).trans ?_
  iintro ⟨%f, %hf, H⟩
  ihave H := (pointsTo_share (PosShare.mem_left_op_right fullShare)).1 $$ H
  icases H with ⟨H1, H2⟩
  rw [← hf]
  isplitl [H1]
  · iapply (owns_intro t M); iexact H1
  · iapply (owns_intro t M); iexact H2

theorem owns_rejoin (t : Thread nD τ) {sp : Space} {s : Shape} {e : EltTy} (M : Memref sig t.2.kind sp s e) (X : s.Idx → Elt F e) :
    iprop(owns t M fullShare.left X ∗ owns t M fullShare.right X) ⊢ (owns t M fullShare X : sProp 𝕄) := by
  refine (BIClass.sep_mono (owns_open t M _ X) (owns_open t M _ X)).trans ?_
  iintro ⟨⟨%f, %hf, H1⟩, %g, %hg, H2⟩
  have e : (M.view.loc t ↦[M.view.set]{fullShare.right} g : sProp 𝕄) = M.view.loc t ↦[M.view.set]{fullShare.right} f :=
    pointsTo_congr fun i hi => by
      obtain ⟨x, -, rfl⟩ := Finset.mem_map.mp hi
      have := (congrFun hg x).trans (congrFun hf x).symm
      simp only [View.read] at this
      exact (cast_inj _).mp this
  ihave H2 := (Entails.of_eq e) $$ H2
  rw [← hf]
  iapply (owns_intro t M)
  iapply (pointsTo_share (PosShare.mem_left_op_right fullShare)).2
  isplitl [H1] <;> iassumption

/-! ## The two halves of the device's own block -/

theorem half_disjoint : Disjoint (halfM false).view.set (halfM true).view.set := by
  rw [View.set_slice, View.set_slice]
  refine (Finset.disjoint_map _).mpr (Finset.disjoint_left.mpr fun i h1 h2 => ?_)
  have h1 := (Rect.mem_set_unit.mp h1) 0
  have h2 := (Rect.mem_set_unit.mp h2) 0
  exact absurd h1.2 (Nat.not_lt.mpr h2.1)

theorem half_union : (halfM false).view.set ∪ (halfM true).view.set = Finset.univ := by
  refine Finset.eq_univ_iff_forall.mpr fun i => ?_
  rw [View.set_slice, View.set_slice, Finset.mem_union]
  have hcol : (i 1).val < 4096 := (i 1).isLt
  have hrow : (i 0).val < 512 := (i 0).isLt
  by_cases h : (i 0).val < 256
  · refine Or.inl (Finset.mem_map.mpr ⟨i, Rect.mem_set_unit.mpr fun a => ?_, rfl⟩)
    match a with
    | ⟨0, _⟩ => exact ⟨Nat.zero_le _, h⟩
    | ⟨1, _⟩ => exact ⟨Nat.zero_le _, hcol⟩
  · refine Or.inr (Finset.mem_map.mpr ⟨i, Rect.mem_set_unit.mpr fun a => ?_, rfl⟩)
    match a with
    | ⟨0, _⟩ => exact ⟨Nat.not_lt.mp h, hrow⟩
    | ⟨1, _⟩ => exact ⟨Nat.zero_le _, hcol⟩

abbrev bPts (q : PosShare TreeShare) (f : Buf (Elt F) ((c : Thread nD τ).loc cc0_scratch0)) : sProp 𝕄 :=
  ((c : Thread nD τ).loc cc0_scratch0) ↦{q} f

/-- The rounded block: its left share whole, its right share by halves. -/
theorem block_split : bPts c fullShare (xb m c)
    ⊢ iprop(bPts c fullShare.left (xb m c) ∗ owns (c : Thread nD τ) (halfM false) fullShare.right (half m false c) ∗ owns (c : Thread nD τ) (halfM true) fullShare.right (half m true c)) := by
  iintro H
  ihave H := (pointsTo_share (PosShare.mem_left_op_right fullShare)).1 $$ H
  icases H with ⟨H1, H2⟩
  isplitl [H1]; · iexact H1
  rw [← half_union]
  ihave H2 := (pointsTo_union half_disjoint).1 $$ H2
  icases H2 with ⟨Ha, Hb⟩
  isplitl [Ha]
  · iapply (owns_intro (c : Thread nD τ) (halfM false) fullShare.right (xb m c)); iexact Ha
  · iapply (owns_intro (c : Thread nD τ) (halfM true) fullShare.right (xb m c)); iexact Hb

theorem owns_half_eq (b : Bool) :
    (owns (c : Thread nD τ) (halfM b) fullShare.right (half m b c) : sProp 𝕄)
      ⊢ ((c : Thread nD τ).loc cc0_scratch0) ↦[match b with | false => (halfM false).view.set | true => (halfM true).view.set]{fullShare.right} xb m c := by
  refine (owns_open _ _ _ _).trans ?_
  iintro ⟨%f, %hf, H⟩
  cases b with
  | false =>
    iapply (Entails.of_eq (pointsTo_congr (f := f) (g := xb m c) fun i hi => by
      obtain ⟨x, -, rfl⟩ := Finset.mem_map.mp hi
      have := congrFun hf x
      simp only [View.read, half] at this
      exact (cast_inj _).mp this))
    iexact H
  | true =>
    iapply (Entails.of_eq (pointsTo_congr (f := f) (g := xb m c) fun i hi => by
      obtain ⟨x, -, rfl⟩ := Finset.mem_map.mp hi
      have := congrFun hf x
      simp only [View.read, half] at this
      exact (cast_inj _).mp this))
    iexact H

theorem block_join :
    iprop(bPts c fullShare.left (xb m c) ∗ owns (c : Thread nD τ) (halfM false) fullShare.right (half m false c) ∗ owns (c : Thread nD τ) (halfM true) fullShare.right (half m true c))
      ⊢ bPts c fullShare (xb m c) := by
  iintro ⟨H1, Ha, Hb⟩
  ihave Ha := (owns_half_eq m c false) $$ Ha
  ihave Hb := (owns_half_eq m c true) $$ Hb
  iapply (pointsTo_share (PosShare.mem_left_op_right fullShare)).2
  isplitl [H1]; · iexact H1
  rw [← half_union]
  iapply (pointsTo_union half_disjoint).2
  isplitl [Ha] <;> iassumption

/-! ## The slots of a ring buffer -/

theorem slot_disjoint (b : Bool) : Disjoint (slotM b 0).view.set (slotM b 1).view.set := by
  rw [View.set_reshape, View.set_reshape, View.set_slice, View.set_slice]
  refine (Finset.disjoint_map _).mpr (Finset.disjoint_left.mpr fun i h1 h2 => ?_)
  have h1 := (Rect.mem_set_unit.mp h1) 0
  have h2 := (Rect.mem_set_unit.mp h2) 0
  exact absurd h1.2 (Nat.not_lt.mpr h2.1)

theorem slot_cover : (slotR 0).set ∪ (slotR 1).set = Finset.univ := by
  refine Finset.eq_univ_iff_forall.mpr fun i => Finset.mem_union.mpr ?_
  have h0 : (i 0).val < 2 := (i 0).isLt
  have h1 : (i 1).val < 256 := (i 1).isLt
  have h2 : (i 2).val < 4096 := (i 2).isLt
  by_cases h : (i 0).val < 1
  · refine Or.inl (Rect.mem_set_unit.mpr fun a => ?_)
    match a with
    | ⟨0, _⟩ => exact ⟨Nat.zero_le _, h⟩
    | ⟨1, _⟩ => exact ⟨Nat.zero_le _, h1⟩
    | ⟨2, _⟩ => exact ⟨Nat.zero_le _, h2⟩
  · refine Or.inr (Rect.mem_set_unit.mpr fun a => ?_)
    match a with
    | ⟨0, _⟩ => exact ⟨Nat.not_lt.mp h, h0⟩
    | ⟨1, _⟩ => exact ⟨Nat.zero_le _, h1⟩
    | ⟨2, _⟩ => exact ⟨Nat.zero_le _, h2⟩

theorem slot_union (b : Bool) : (slotM b 0).view.set ∪ (slotM b 1).view.set = (ringM b).view.set := by
  rw [View.set_reshape, View.set_reshape, View.set_slice, View.set_slice]
  exact (Finset.map_union _ _).symm.trans (congrArg (Finset.map _) slot_cover)

/-- A ring buffer at some contents, whole. -/
abbrev ringAny (b : Bool) : sProp 𝕄 := iprop(∃ f, (ringM b).view.loc (c : Thread nD τ) ↦[(ringM b).view.set]{fullShare} f)

theorem slots_split (b : Bool) : (ringAny c b : sProp 𝕄)
    ⊢ iprop((∃ X, owns (c : Thread nD τ) (slotM b 0) fullShare X) ∗ (∃ X, owns (c : Thread nD τ) (slotM b 1) fullShare X)) := by
  iintro ⟨%f, H⟩
  rw [← slot_union]
  ihave H := (pointsTo_union (slot_disjoint b)).1 $$ H
  icases H with ⟨H1, H2⟩
  isplitl [H1]
  · iexists _; iapply (owns_intro (c : Thread nD τ) (slotM b 0) fullShare f); iexact H1
  · iexists _; iapply (owns_intro (c : Thread nD τ) (slotM b 1) fullShare f); iexact H2

theorem slots_join (b : Bool) (X Y : FVec F S256x4096 .bf16) :
    iprop(owns (c : Thread nD τ) (slotM b 0) fullShare X ∗ owns (c : Thread nD τ) (slotM b 1) fullShare Y) ⊢ (ringAny c b : sProp 𝕄) := by
  refine (BIClass.sep_mono (owns_open _ _ _ _) (owns_open _ _ _ _)).trans ?_
  iintro ⟨⟨%f, -, H1⟩, %g, -, H2⟩
  have j : iprop(((ringM b).view.loc (c : Thread nD τ) ↦[(slotM b 0).view.set]{fullShare} f) ∗ ((ringM b).view.loc (c : Thread nD τ) ↦[(slotM b 1).view.set]{fullShare} g))
      ⊢ ((ringM b).view.loc (c : Thread nD τ) ↦[(slotM b 0).view.set ∪ (slotM b 1).view.set]{fullShare} (slotM b 1).view.set.piecewise g f : sProp 𝕄) :=
    pointsTo_join (slot_disjoint b)
  ihave H := j $$ [H1 H2]
  · isplitl [H1]; · iexact H1
    iexact H2
  rw [slot_union]
  unfold ringAny
  iexists _
  iexact H

theorem ringAny_false : (ringAny c false : sProp 𝕄) = iprop(∃ f : Buf (Elt F) ((c : Thread nD τ).loc cc0_scratch1), ((c : Thread nD τ).loc cc0_scratch1) ↦{fullShare} f) := by
  unfold ringAny; rw [View.set_whole]
theorem ringAny_true : (ringAny c true : sProp 𝕄) = iprop(∃ f : Buf (Elt F) ((c : Thread nD τ).loc cc0_scratch2), ((c : Thread nD τ).loc cc0_scratch2) ↦{fullShare} f) := by
  unfold ringAny; rw [View.set_whole]

end Cert.HopsRun

end
-- ==== Proof.Loop.lean ====
/-
# The loop that rounds the device's block of `x`
-/
module

public import proofs.«01_k».proof.Proof.Share
public import Idealize.ShloMosaic.Lib.Pipeline.Value

@[expose] public section

noncomputable section

namespace Cert.HopsRun

open Cert.HopsIdeal Cert.HopsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-! ## Whole buffers -/

abbrev xPts (f : Buf (Elt F) ((c : Thread nD τ).loc cc0_stg0_0)) : sProp 𝕄 := xM.view.loc (c : Thread nD τ) ↦[xM.view.set]{fullShare} f
abbrev wPts (f : Buf (Elt F) ((c : Thread nD τ).loc cc0_stg1_0)) : sProp 𝕄 := wM.view.loc (c : Thread nD τ) ↦[wM.view.set]{fullShare} f
abbrev oPts (f : Buf (Elt F) ((c : Thread nD τ).loc cc0_stg2_0)) : sProp 𝕄 := oM.view.loc (c : Thread nD τ) ↦[oM.view.set]{fullShare} f
abbrev bPts' (q : PosShare TreeShare) (f : Buf (Elt F) ((c : Thread nD τ).loc cc0_scratch0)) : sProp 𝕄 := bM.view.loc (c : Thread nD τ) ↦[bM.view.set]{q} f

/-- A store into a buffer held whole. -/
theorem step_store {s : Shape} {e : EltTy} (M : Memref sig .tc .vmem s e) (r : Rect s) (w : r.shape.Idx → Elt F e) (f : M.view.ty.Contents (Elt F))
    {hx : (M.access r).Stores Finset.univ} {hm : (Finset.univ : Finset r.shape.Idx) = Finset.univ ∨ ∀ a, r.stride a = 1}
    {α : Type} {Q : α → sProp 𝕄} {kk : PUnit → Prog (TpuEff nD τ sig (Elt F) Λ₀ .tc) α} :
    (M.view.loc (c : Thread nD τ) ↦[M.view.set]{fullShare} f)
      ⊢ iprop(((M.view.loc (c : Thread nD τ) ↦[M.view.set]{fullShare} (M.access r).write (Elt F) f w Finset.univ)
            -∗ wp frame (wpE (defs₀ (F := F)) 𝒱₀ (c : Thread nD τ) none) Set.univ (kk ⟨⟩) Q)
          -∗ wp frame (wpE (defs₀ (F := F)) 𝒱₀ (c : Thread nD τ) none) Set.univ (.op (.store M r w Finset.univ hx hm) kk) Q) :=
  wp_store 𝒱₀ (c : Thread nD τ) none Set.univ (m := M) (r := r) (w := w) (Mk := Finset.univ) (S := M.view.set) (f := f) (hx := hx) (hm := hm) (k := kk) (Q := Q) (View.setOn_slice_subset_set M.view r Finset.univ)

/-- A load from a buffer held whole, at any share. -/
theorem step_load {s : Shape} {e : EltTy} (M : Memref sig .tc .vmem s e) (r : LoadRect s) (q : PosShare TreeShare) (f : M.view.ty.Contents (Elt F))
    {hl : M.view.LoadsAt r}
    {α : Type} {Q : α → sProp 𝕄} {kk : (r.shape.Idx → Elt F e) → Prog (TpuEff nD τ sig (Elt F) Λ₀ .tc) α} :
    (M.view.loc (c : Thread nD τ) ↦[M.view.set]{q} f)
      ⊢ iprop(((M.view.loc (c : Thread nD τ) ↦[M.view.set]{q} f)
            -∗ wp frame (wpE (defs₀ (F := F)) 𝒱₀ (c : Thread nD τ) none) Set.univ (kk (M.view.readAt (Elt F) r f)) Q)
          -∗ wp frame (wpE (defs₀ (F := F)) 𝒱₀ (c : Thread nD τ) none) Set.univ (.op (.load M r hl) kk) Q) :=
  wp_load 𝒱₀ (c : Thread nD τ) none Set.univ (m := M) (r := r) (S := M.view.set) (q := q) (f := f) (hl := hl) (k := kk) (Q := Q) (View.setOn_subset_set M.view r.set)

/-- Before trip `k`: the first `128 k` rows are rounded. -/
def convInv (k : ℕ) : sProp 𝕄 :=
  iprop(xPts c (xs m c) ∗ ∃ f : (cc0_scratch0 : Ref sig .tc).ty.Contents (Elt F), ⌜∀ i : S512x4096.Idx, (i 0).val < 128 * k → f i = xb m c i⌝ ∗ bPts' c fullShare f)

omit [FloatOps F] in
theorem read_bM (f : (cc0_scratch0 : Ref sig .tc).ty.Contents (Elt F)) (i : S512x4096.Idx) : bM.view.read (Elt F) f i = f i := rfl

/-- What one trip adds. -/
theorem conv_val (k : Fin k0_t1_loop.trips) (f : (cc0_scratch0 : Ref sig .tc).ty.Contents (Elt F))
    (hf : ∀ i : S512x4096.Idx, (i 0).val < 128 * k.val → f i = xb m c i) (i : S512x4096.Idx) (hi : (i 0).val < 128 * (k.val + 1)) :
    ((bM.access (Rect.unit (s := S512x4096) (k0_off1 k) S128x4096.size (k0_off1_inb k))).write (Elt F) f
      (k0_pay3 (xM.view.readAt (Elt F) (Rect.unit (s := S512x4096) (k0_off1 k) S128x4096.size (k0_off1_inb k)).toLoadRect (xs m c))) Finset.univ) i = xb m c i := by
  by_cases h : i ∈ Finset.univ.map (Rect.unit (s := S512x4096) (k0_off1 k) S128x4096.size (k0_off1_inb k)).emb
  · obtain ⟨j, -, rfl⟩ := Finset.mem_map.mp h
    refine (read_bM _ _).symm.trans ((View.read_slice_write_emb (v := bM.view) (Val := Elt F) (Rect.unit (s := S512x4096) (k0_off1 k) S128x4096.size (k0_off1_inb k)) f _ (Finset.mem_univ j)).trans ?_)
    unfold k0_pay3
    show shapeCast S128x4096 (truncf .bf16 (shapeCast S128x4096 _ shapeCasts_S128x4096_S128x4096) bitsLt_bf16_f32) shapeCasts_S128x4096_S128x4096 j = _
    rw [shapeCast_self, shapeCast_self]
    rfl
  · refine (read_bM _ _).symm.trans ((View.read_slice_write_of_not_mem (v := bM.view) (Val := Elt F) (Rect.unit (s := S512x4096) (k0_off1 k) S128x4096.size (k0_off1_inb k)) f _ Finset.univ h).trans ((read_bM _ _).trans (hf i ?_)))
    by_contra hlt
    refine h ?_
    rw [Rect.map_emb_univ]
    refine Rect.mem_set_unit.mpr fun a => ?_
    rw [k0_off1_eq]
    match a with
    | ⟨0, _⟩ => exact ⟨Nat.not_lt.mp hlt, by show (i 0).val < 128 * k.val + 128; omega⟩
    | ⟨1, _⟩ => exact ⟨Nat.zero_le _, by have : (i 1).val < 4096 := (i 1).isLt; show (i 1).val < 0 + 4096; omega⟩

theorem conv_step (arg4 : Memref sig .tc .vmem S2x256x4096 .bf16) (harg4 : arg4.IsWhole) (arg5 : Memref sig .tc .vmem S2x256x4096 .bf16) (harg5 : arg5.IsWhole) (arg6 : Memref sig .tc .vmem S8x8x128 .f32) (harg6 : arg6.IsWhole) (arg7 : DmaSems sig S2) (arg8 : DmaSems sig S2) (arg9 : DmaSems sig S2) (arg10 : DmaSems sig S2) (arg11 : DmaSems sig S8) (arg12 : DmaSems sig S8) (arg13 : Sems sig S_) (arg14 : Sems sig S_)
    (k : Fin k0_t1_loop.trips) (acc : Unit) :
    convInv m c k.val ⊢ wp frame (wpE (defs₀ (F := F)) 𝒱₀ (c : Thread nD τ) none) Set.univ
      (k0_t1_body xM (Memref.isWhole_whole _) wM (Memref.isWhole_whole _) oM (Memref.isWhole_whole _) bM (Memref.isWhole_whole _) arg4 harg4 arg5 harg5 arg6 harg6 arg7 arg8 arg9 arg10 arg11 arg12 arg13 arg14 k acc)
      (fun _ => convInv m c (k.val + 1)) := by
  unfold convInv k0_t1_body
  simp only [Prog.lift, Prog.bind_op, Prog.bind_ret, Prog.pure_eq_ret]
  iintro ⟨Hx, %f, %hf, Hb⟩
  iapply (step_load c xM _ fullShare (xs m c)) $$ Hx
  iintro Hx
  iapply (step_load c bM _ fullShare f) $$ Hb
  iintro Hb
  iapply (step_store c bM _ _ f) $$ Hb
  iintro Hb
  rw [wp_ret]
  imodintro
  isplitl [Hx]; · iexact Hx
  iexists _
  isplitr
  rotate_left
  · iexact Hb
  ipureintro
  intro i hi
  exact conv_val m c k f hf i hi

theorem trips_eq : k0_t1_loop.trips = 4 := by decide

/-- The loop: the block rounded. -/
theorem conv_loop (arg4 : Memref sig .tc .vmem S2x256x4096 .bf16) (harg4 : arg4.IsWhole) (arg5 : Memref sig .tc .vmem S2x256x4096 .bf16) (harg5 : arg5.IsWhole) (arg6 : Memref sig .tc .vmem S8x8x128 .f32) (harg6 : arg6.IsWhole) (arg7 : DmaSems sig S2) (arg8 : DmaSems sig S2) (arg9 : DmaSems sig S2) (arg10 : DmaSems sig S2) (arg11 : DmaSems sig S8) (arg12 : DmaSems sig S8) (arg13 : Sems sig S_) (arg14 : Sems sig S_)
    {α : Type} {Q : α → sProp 𝕄} {kk : Unit → Prog (TpuEff nD τ sig (Elt F) Λ₀ .tc) α} :
    iprop(xPts c (xs m c) ∗ ∃ f, bPts' c fullShare f)
      ⊢ iprop(((xPts c (xs m c) ∗ bPts c fullShare (xb m c)) -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t1_loop k0_t1_ok ⟨⟩ (k0_t1_body xM (Memref.isWhole_whole _) wM (Memref.isWhole_whole _) oM (Memref.isWhole_whole _) bM (Memref.isWhole_whole _) arg4 harg4 arg5 harg5 arg6 harg6 arg7 arg8 arg9 arg10 arg11 arg12 arg13 arg14) >>= kk) Q) := by
  iintro ⟨Hx, %f, Hb⟩ Hk
  iapply (Scf.wp_for_bind frame (wpE (defs₀ (F := F)) 𝒱₀ (c : Thread nD τ) none) Set.univ k0_t1_loop.lb k0_t1_loop.ub k0_t1_loop.st k0_t1_ok () _
      (fun k _ => convInv m c k) (conv_step m c arg4 harg4 arg5 harg5 arg6 harg6 arg7 arg8 arg9 arg10 arg11 arg12 arg13 arg14)) $$ [Hx Hb]
  · unfold convInv
    isplitl [Hx]; · iexact Hx
    iexists f
    isplitr; · ipureintro; intro i hi; exact absurd hi (Nat.not_lt_zero _)
    iexact Hb
  iintro %_ H
  rw [show Scf.trips k0_t1_loop.lb k0_t1_loop.ub k0_t1_loop.st = 4 from trips_eq]
  unfold convInv
  icases H with ⟨Hx, %g, %hg, Hb⟩
  obtain rfl : g = xb m c := funext fun i => hg i (show _ < 512 from (i 0).isLt)
  iapply Hk
  isplitl [Hx]; · iexact Hx
  iapply (Entails.of_eq (show (bPts' c fullShare (xb m c) : sProp 𝕄) = bPts c fullShare (xb m c) by unfold bPts bPts'; rw [View.set_whole]))
  iexact Hb

end Cert.HopsRun

end
-- ==== Proof.Out.lean ====
/-
# The five row bands of the result that a device computes
-/
module

public import proofs.«01_k».proof.Proof.Loop
public import Idealize.ShloMosaic.Lib.ViewIndex

@[expose] public section

noncomputable section

namespace Cert.HopsRun

open Cert.HopsIdeal Cert.HopsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-- The product of a half block with the device's columns of `w`. -/
def mm (X : FVec F S256x4096 .bf16) (W : Vec F S4096x1024 .f32) : FVec F S256x1024 .f32 :=
  matmul dot_S256x4096_S4096x1024_S256x1024_1_0_0_1_n_n none X (shapeCast S4096x1024 W shapeCasts_S4096x1024_S4096x1024) (constant S256x1024 .f32 0x00000000#32)

/-! ## The bands -/

abbrev own : Rect S4096x1024 := Rect.unit (s := S4096x1024) (k0_off2 c) S512x1024.size (k0_off2_inb c)
abbrev band : Bool → Fin 2 → Rect S4096x1024
  | false, 0 => Rect.unit (s := S4096x1024) (k0_off3 c 7#32) S256x1024.size (k0_off3_inb c 1)
  | false, 1 => Rect.unit (s := S4096x1024) (k0_off3 c 6#32) S256x1024.size (k0_off3_inb c 0)
  | true, 0 => Rect.unit (s := S4096x1024) (k0_off4 c 1#32) S256x1024.size (k0_off4_inb c 0)
  | true, 1 => Rect.unit (s := S4096x1024) (k0_off4 c 2#32) S256x1024.size (k0_off4_inb c 1)

theorem own_off : k0_off2 c = ![512 * c.val, 0] := k0_off2_eq c
theorem off_f0 : k0_off3 c 7#32 = ![512 * ((c.val + 7) % 8), 0] := (k0_off3_eq c 1).trans (by rfl)
theorem off_f1 : k0_off3 c 6#32 = ![512 * ((c.val + 6) % 8), 0] := (k0_off3_eq c 0).trans (by rfl)
theorem off_t0 : k0_off4 c 1#32 = ![512 * ((c.val + 1) % 8) + 256, 0] := (k0_off4_eq c 0).trans (by rfl)
theorem off_t1 : k0_off4 c 2#32 = ![512 * ((c.val + 2) % 8) + 256, 0] := (k0_off4_eq c 1).trans (by rfl)

/-- What the result's staging buffer holds in the five bands. -/
structure OutRel (f : (cc0_stg2_0 : Ref sig .tc).ty.Contents (Elt F)) : Prop where
  own : (oM.access (own c)).read (Elt F) f = k0_pay4 (xb m c) (ws m c)
  f0 : (oM.access (band c false 0)).read (Elt F) f = mm (half m false (orig false 0 c)) (ws m c)
  t0 : (oM.access (band c true 0)).read (Elt F) f = mm (half m true (orig true 0 c)) (ws m c)
  f1 : (oM.access (band c false 1)).read (Elt F) f = mm (half m false (orig false 1 c)) (ws m c)
  t1 : (oM.access (band c true 1)).read (Elt F) f = mm (half m true (orig true 1 c)) (ws m c)

omit [FloatOps F] in
/-- Bands apart in rows do not touch each other. -/
theorem read_other {off off' : Fin S4096x1024.rank → ℕ} {sz sz' : Fin S4096x1024.rank → ℕ} {inb inb'}
    (h : off 0 + sz 0 ≤ off' 0 ∨ off' 0 + sz' 0 ≤ off 0) (f : (cc0_stg2_0 : Ref sig .tc).ty.Contents (Elt F)) (w) :
    (oM.access (Rect.unit (s := S4096x1024) off sz inb)).read (Elt F) ((oM.access (Rect.unit (s := S4096x1024) off' sz' inb')).write (Elt F) f w Finset.univ)
      = (oM.access (Rect.unit (s := S4096x1024) off sz inb)).read (Elt F) f :=
  View.read_slice_write_slice_of_disjoint (v := oM.view) (Val := Elt F) _ _ f w Finset.univ (View.disjoint_slice (Rect.unit_disjoint 0 h))

/-- The buffer after the five stores. -/
def outF (g : (cc0_stg2_0 : Ref sig .tc).ty.Contents (Elt F)) : (cc0_stg2_0 : Ref sig .tc).ty.Contents (Elt F) :=
  (oM.access (band c true 1)).write (Elt F) ((oM.access (band c false 1)).write (Elt F) ((oM.access (band c true 0)).write (Elt F)
    ((oM.access (band c false 0)).write (Elt F) ((oM.access (own c)).write (Elt F) g (k0_pay4 (xb m c) (ws m c)) Finset.univ)
      (mm (half m false (orig false 0 c)) (ws m c)) Finset.univ) (mm (half m true (orig true 0 c)) (ws m c)) Finset.univ)
      (mm (half m false (orig false 1 c)) (ws m c)) Finset.univ) (mm (half m true (orig true 1 c)) (ws m c)) Finset.univ

theorem outF_rel (g : (cc0_stg2_0 : Ref sig .tc).ty.Contents (Elt F)) : OutRel m c (outF m c g) := by
  have hc : c.val < 8 := c.isLt
  have e := own_off c; have e1 := off_f0 c; have e2 := off_f1 c; have e3 := off_t0 c; have e4 := off_t1 c
  have z : k0_off2 c 0 = 512 * c.val := congrFun e 0
  have z1 : k0_off3 c 7#32 0 = 512 * ((c.val + 7) % 8) := congrFun e1 0
  have z2 : k0_off3 c 6#32 0 = 512 * ((c.val + 6) % 8) := congrFun e2 0
  have z3 : k0_off4 c 1#32 0 = 512 * ((c.val + 1) % 8) + 256 := congrFun e3 0
  have z4 : k0_off4 c 2#32 0 = 512 * ((c.val + 2) % 8) + 256 := congrFun e4 0
  have s5 : S512x1024.size 0 = 512 := rfl
  have s2 : S256x1024.size 0 = 256 := rfl
  unfold outF
  constructor
  · rw [read_other (by omega), read_other (by omega), read_other (by omega), read_other (by omega), View.read_write_univ]
  · rw [read_other (by omega), read_other (by omega), read_other (by omega), View.read_write_univ]
  · rw [read_other (by omega), read_other (by omega), View.read_write_univ]
  · rw [read_other (by omega), View.read_write_univ]
  · rw [View.read_write_univ]

end Cert.HopsRun

end
-- ==== Proof.Body.lean ====
/-
# One device's run of the kernel body
-/
module

public import proofs.«01_k».proof.Proof.Out

@[expose] public section

noncomputable section

namespace Cert.HopsRun

open Cert.HopsIdeal Cert.HopsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ) (c : Dev nD)

theorem pay_bar (d : Bool) : pay m c .bar d
    = iprop((∃ X, owns (nb d c : Thread nD τ) (slotM d 0) fullShare X) ∗ (∃ X, owns (nb d c : Thread nD τ) (slotM d 1) fullShare X)) := rfl

theorem pay_rcv (b : Bool) (s : Fin 2) (d : Bool) : pay m c (.rcv b s) d = owns (c : Thread nD τ) (slotM b s) fullShare (half m b (orig b s c)) := rfl
theorem pay_snd0 (b d : Bool) : pay m c (.snd b 0) d = owns (c : Thread nD τ) (halfM b) fullShare.right (half m b c) := rfl
theorem pay_snd1 (b d : Bool) : pay m c (.snd b 1) d = owns (c : Thread nD τ) (slotM b 0) fullShare.right (half m b (orig b 0 c)) := rfl

/-- A signal to a neighbour at entry, with the device's own two slots that this neighbour fills. -/
theorem step_signal (b : Bool) (n : Dev nD) (hn : n = nb (!b) c) (l : List Tk) {k' : ℕ} (hk' : k' = 1)
    {α : Type} {Q : α → sProp 𝕄} {kk : PUnit → Prog (TpuEff nD τ sig (Elt F) Λ₀ .tc) α} :
    iprop(records m K ∗ owing c (.bar b :: l) ∗ dutyTok ER (paid c (.bar b)) 0 b ∗ ringAny c b)
      ⊢ iprop((owing c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS k') kk) Q) := by
  subst hn hk'
  unfold owing
  iintro ⟨#HR, ⟨%W, HO⟩, Ht, Hs⟩ Hk
  iapply (Rounds.wp_signal 𝒱₀ ER (ringRd m) (c : Thread nD τ) none (dst := (nb (!b) c : Thread nD τ)) (κ := K (nb (!b) c, .bar)) (r := 0)
      (d := b) (by rw [show (((nb (!b) c : Dev nD) : Thread nD τ), SemLoc.reg barS) = cell (nb (!b) c) .bar from rfl, duties_cell]; exact Finset.mem_univ _)
      (amount_cell m (nb (!b) c) .bar b) 0 (debt c l) rfl) $$ [HO Ht Hs]
  · isplitr; · iapply (inv_at m K (nb (!b) c) .bar); iexact HR
    isplitl [HO]; · iexact HO
    isplitl [Ht]; · iexact Ht
    isplitl [Hs]
    · rw [show (((nb (!b) c : Dev nD) : Thread nD τ), SemLoc.reg barS) = cell (nb (!b) c) .bar from rfl, payload_cell]
      rw [pay_bar, nb_not']
      iapply (slots_split c b); iexact Hs
    iapply (reached_at m K (nb (!b) c) .bar); iexact HR
  iintro HO
  iapply Hk
  iexists W; iexact HO

/-- What the device starts with, apart from its buffers: its positions, the tokens of the payments it makes, the credits
    others pay it. -/
def ats (r : ℕ) : sProp 𝕄 := bigSep Finset.univ fun k : CK => atPos ER (cell c k) r ∅ 0
def payToks : sProp 𝕄 := bigSep Finset.univ fun t : Tk => dutyTok ER (paid c t) 0 t.duty
def creds : sProp 𝕄 :=
  iprop(cred (tallyAt (cell c .bar) 0 2) ∗ cred (tallyAt (cell c (.rcv false 0)) 0 N) ∗ cred (tallyAt (cell c (.rcv false 1)) 0 N)
    ∗ cred (tallyAt (cell c (.rcv true 0)) 0 N) ∗ cred (tallyAt (cell c (.rcv true 1)) 0 N))

theorem bigSep_CK (Φ : CK → sProp 𝕄) : bigSep Finset.univ Φ = iprop(Φ .bar ∗ Φ (.snd false 0) ∗ Φ (.snd false 1) ∗ Φ (.snd true 0) ∗ Φ (.snd true 1)
    ∗ Φ (.rcv false 0) ∗ Φ (.rcv false 1) ∗ Φ (.rcv true 0) ∗ Φ (.rcv true 1)) :=
  bigSep_univ_eq_bigSepL CK.all (by decide) (by decide) Φ
theorem bigSep_Tk (Φ : Tk → sProp 𝕄) : bigSep Finset.univ Φ = iprop(Φ (.bar false) ∗ Φ (.bar true) ∗ Φ (.rcv false 0) ∗ Φ (.rcv true 0) ∗ Φ (.rcv false 1) ∗ Φ (.rcv true 1)
    ∗ Φ (.snd false 0) ∗ Φ (.snd true 0) ∗ Φ (.snd false 1) ∗ Φ (.snd true 1)) :=
  bigSep_univ_eq_bigSepL Tk.all (by decide) (by decide) Φ

theorem bPts_eq (q : PosShare TreeShare) (f) : (bPts c q f : sProp 𝕄) = bPts' c q f := by
  unfold bPts bPts'; rw [View.set_whole]

theorem read_w : wM.view.readAt (Elt F) (Rect.unit (s := S4096x1024) ![0, 0] S4096x1024.size inb_S4096x1024_S4096x1024_0_0).toLoadRect (ws m c) = ws m c :=
  Memref.readAt_unit_zero (Elt F) cc0_stg1_0 (by decide) _ _
theorem read_b : bM.view.readAt (Elt F) (Rect.unit (s := S512x4096) ![0, 0] S512x4096.size inb_S512x4096_S512x4096_0_0).toLoadRect (xb m c) = xb m c :=
  Memref.readAt_unit_zero (Elt F) cc0_scratch0 (by decide) _ _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The device's cells, each past its one round, close: their counters are at zero. -/
theorem close_cells : iprop(records m K ∗ ats c 1) ⊢ |={Set.univ}=> bigSep Finset.univ fun k : CK => semVal (cell c k) 0 := by
  unfold ats
  refine (with_persistent (R := records m K) (Ψ := fun k : CK => iprop(|={Set.univ}=> semVal (cell c k) 0)) fun k _ => ?_).trans (bigSep_fupd _ _)
  iintro ⟨#HR, Hat⟩
  iapply (Rounds.cell_close ER (ringRd m) (Set.mem_univ (K (c, k))) (fun h => h) (R := 0 + 1) (duties_later m (cell c k)))
  isplitr; · iapply (inv_at m K c k); iexact HR
  iexact Hat

def bodyPre (g : (cc0_stg2_0 : Ref sig .tc).ty.Contents (Elt F)) : sProp 𝕄 :=
  iprop(records m K ∗ levAts L lv ∗ ats c 0 ∗ payToks c ∗ creds c ∗ owing c dues
    ∗ xPts c (xs m c) ∗ wPts c (ws m c) ∗ oPts c g ∗ (∃ f, bPts' c fullShare f) ∗ ringAny c false ∗ ringAny c true)

def bodyPost (g : (cc0_stg2_0 : Ref sig .tc).ty.Contents (Elt F)) : sProp 𝕄 :=
  iprop((bigSep Finset.univ fun k : CK => semVal (cell c k) 0) ∗ owing c [] ∗ xPts c (xs m c) ∗ wPts c (ws m c) ∗ oPts c (outF m c g) ∗ bPts c fullShare (xb m c) ∗ ringAny c false ∗ ringAny c true)

theorem bigSep_Bool (Φ : Bool → sProp 𝕄) : bigSep Finset.univ Φ = iprop(Φ false ∗ Φ true) :=
  bigSep_univ_eq_bigSepL [false, true] (by decide) (by decide) Φ

theorem bar_pays : bigSep (dut .bar) (fun d => pay m c .bar d)
    ⊢ iprop(((∃ X, owns (nb false c : Thread nD τ) (slotM false 0) fullShare X) ∗ (∃ X, owns (nb false c : Thread nD τ) (slotM false 1) fullShare X))
      ∗ (∃ X, owns (nb true c : Thread nD τ) (slotM true 0) fullShare X) ∗ (∃ X, owns (nb true c : Thread nD τ) (slotM true 1) fullShare X)) :=
  Entails.of_eq (bigSep_Bool (F := F) fun d => pay m c .bar d)

/-! ## The payloads of the four later stores -/

section Pay
variable {X : FVec F S256x4096 .bf16} (v : Vec F S1x256x4096 .bf16) (W : Vec F S4096x1024 .f32) (h : shapeCast S256x4096 v shapeCasts_S1x256x4096_S256x4096 = X)
include h
theorem pay1_eq : k0_pay1 v W = mm X W := by subst h; rfl
theorem pay2_eq : k0_pay2 v W = mm X W := by subst h; rfl
theorem pay5_eq : k0_pay5 v W = mm X W := by subst h; rfl
theorem pay6_eq : k0_pay6 v W = mm X W := by subst h; rfl
end Pay

set_option maxRecDepth 8000 in
set_option maxHeartbeats 4000000 in
theorem sound_body (g : (cc0_stg2_0 : Ref sig .tc).ty.Contents (Elt F)) (Kt : PUnit → sProp 𝕄) :
    iprop(bodyPre m K c g ∗ (bodyPost m c g -∗ Kt ⟨⟩))
      ⊢ wp frame (wpE (defs₀ (F := F)) 𝒱₀ (c : Thread nD τ) none) Set.univ
          (cc0_body xM (Memref.isWhole_whole _) wM (Memref.isWhole_whole _) oM (Memref.isWhole_whole _) bM (Memref.isWhole_whole _)
            (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 cc0_scratch11) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ats payToks creds
  rw [bigSep_CK, bigSep_Tk]
  iintro ⟨⟨#HR, #Hlev, ⟨AtB, AtSf0, AtSf1, AtSt0, AtSt1, AtRf0, AtRf1, AtRt0, AtRt1⟩, ⟨TkBf, TkBt, TkRf0, TkRt0, TkRf1, TkRt1, TkSf0, TkSt0, TkSf1, TkSt1⟩,
    ⟨CrB, CrRf0, CrRf1, CrRt0, CrRt1⟩, HO, Hx, Hw, Ho, Hb, Hcw, Hccw⟩, Hk⟩
  iapply (step_signal m K c false _ (dev1_eq c) [.bar true, .rcv false 0, .rcv true 0, .rcv false 1, .rcv true 1] (by decide)) $$ [HO TkBf Hcw]
  · isplitr; · iexact HR
    isplitl [HO]; · iexact HO
    isplitl [TkBf]; · iexact TkBf
    iexact Hcw
  iintro HO
  iapply (step_signal m K c true _ (dev2_eq c) [.rcv false 0, .rcv true 0, .rcv false 1, .rcv true 1] (by decide)) $$ [HO TkBt Hccw]
  · isplitr; · iexact HR
    isplitl [HO]; · iexact HO
    isplitl [TkBt]; · iexact TkBt
    iexact Hccw
  iintro HO
  iapply (step_wait m K c .bar [.rcv false 0, .rcv true 0, .rcv false 1, .rcv true 1] (by decide) (wpE_semWait_eq 𝒱₀ (c : Thread nD τ) none Set.univ) (by decide)) $$ [CrB HO AtB]
  · isplitr; · iexact HR
    isplitr; · iexact Hlev
    isplitl [CrB]; · iexact CrB
    isplitl [HO]; · iexact HO
    iexact AtB
  iintro ⟨HO, AtB, Hp⟩
  ihave Hp := (bar_pays m c) $$ Hp
  icases Hp with ⟨⟨Df0, Df1⟩, Dt0, Dt1⟩
  simp only [Prog.bind_assoc]
  iapply (conv_loop m c _ _ _ _ _ _ _ _ _ _ _ _ _ _) $$ [Hx Hb]
  · isplitl [Hx]; · iexact Hx
    iexact Hb
  iintro ⟨Hx, Hb⟩
  simp only [semSignalWord, semWaitWord, Prog.lift, Prog.bind_op, Prog.bind_ret, Prog.pure_eq_ret, wp_deviceId]
  ihave Hb := (block_split m c) $$ Hb
  icases Hb with ⟨Hb, Hh0, Hh1⟩
  ihave Hb := (Entails.of_eq (bPts_eq c fullShare.left (xb m c))) $$ Hb
  iapply (step_send m K c false 0 _ (dev3_eq c) [.rcv true 0, .rcv false 1, .rcv true 1] (halfM false) fullShare.right (half m false c) rfl (by rw [orig_zero])) $$ [Hh0 Df0 HO TkSf0 TkRf0]
  · isplitr; · iexact HR
    isplitl [Hh0]; · iexact Hh0
    isplitl [Df0]; · iexact Df0
    isplitl [HO]; · iexact HO
    isplitl [TkSf0]; · iexact TkSf0
    iexact TkRf0
  iintro ⟨CrSf0, HO⟩
  simp only [k0_part2_eq_skeleton]; unfold k0_part2_skel
  simp only [semSignalWord, semWaitWord, Prog.lift, Prog.bind_op, Prog.bind_ret, Prog.pure_eq_ret, wp_deviceId]
  iapply (step_send m K c true 0 _ (dev4_eq c) [.rcv false 1, .rcv true 1] (halfM true) fullShare.right (half m true c) rfl (by rw [orig_zero])) $$ [Hh1 Dt0 HO TkSt0 TkRt0]
  · isplitr; · iexact HR
    isplitl [Hh1]; · iexact Hh1
    isplitl [Dt0]; · iexact Dt0
    isplitl [HO]; · iexact HO
    isplitl [TkSt0]; · iexact TkSt0
    iexact TkRt0
  iintro ⟨CrSt0, HO⟩
  iapply (step_load c bM _ fullShare.left (xb m c)) $$ Hb
  iintro Hb
  rw [read_b]
  iapply (step_load c wM _ fullShare (ws m c)) $$ Hw
  iintro Hw
  rw [read_w]
  iapply (step_load c oM _ fullShare (_)) $$ Ho
  iintro Ho
  iapply (step_store c oM _ _ _) $$ Ho
  iintro Ho
  iapply (step_waitDma m K c (.rcv false 0) rfl rfl [.rcv false 1, .rcv true 1] (by decide) (wpE_waitDma2_eq 𝒱₀ (c : Thread nD τ) none Set.univ) (credit_slot false 0)) $$ [CrRf0 HO AtRf0]
  · isplitr; · iexact HR
    isplitr; · iexact Hlev
    isplitl [CrRf0]; · iexact CrRf0
    isplitl [HO]; · iexact HO
    iexact AtRf0
  iintro ⟨HO, AtRf0, Sf0⟩
  ihave Sf0 := (Entails.of_eq (pay_rcv m c false 0 false)) $$ Sf0
  simp only [k0_part3_eq_skeleton]; unfold k0_part3_skel
  simp only [semSignalWord, semWaitWord, Prog.lift, Prog.bind_op, Prog.bind_ret, Prog.pure_eq_ret, wp_deviceId]
  iapply (step_waitDma m K c (.rcv true 0) rfl rfl [.rcv false 1, .rcv true 1] (by decide) (wpE_waitDma2_eq 𝒱₀ (c : Thread nD τ) none Set.univ) (credit_slot true 0)) $$ [CrRt0 HO AtRt0]
  · isplitr; · iexact HR
    isplitr; · iexact Hlev
    isplitl [CrRt0]; · iexact CrRt0
    isplitl [HO]; · iexact HO
    iexact AtRt0
  iintro ⟨HO, AtRt0, St0⟩
  ihave St0 := (Entails.of_eq (pay_rcv m c true 0 false)) $$ St0
  iapply (step_waitDma m K c (.snd false 0) rfl rfl [.rcv false 1, .rcv true 1] (by decide) (wpE_waitDma2_eq 𝒱₀ (c : Thread nD τ) none Set.univ) (credit_half false)) $$ [CrSf0 HO AtSf0]
  · isplitr; · iexact HR
    isplitr; · iexact Hlev
    isplitl [CrSf0]; · iexact CrSf0
    isplitl [HO]; · iexact HO
    iexact AtSf0
  iintro ⟨HO, AtSf0, Hh0⟩
  ihave Hh0 := (Entails.of_eq (pay_snd0 m c false false)) $$ Hh0
  iapply (step_waitDma m K c (.snd true 0) rfl rfl [.rcv false 1, .rcv true 1] (by decide) (wpE_waitDma2_eq 𝒱₀ (c : Thread nD τ) none Set.univ) (credit_half true)) $$ [CrSt0 HO AtSt0]
  · isplitr; · iexact HR
    isplitr; · iexact Hlev
    isplitl [CrSt0]; · iexact CrSt0
    isplitl [HO]; · iexact HO
    iexact AtSt0
  iintro ⟨HO, AtSt0, Hh1⟩
  ihave Hh1 := (Entails.of_eq (pay_snd0 m c true false)) $$ Hh1
  ihave Hb := (Entails.of_eq (bPts_eq c fullShare.left (xb m c)).symm) $$ Hb
  ihave Hb := (block_join m c) $$ [Hb Hh0 Hh1]
  · isplitl [Hb]; · iexact Hb
    isplitl [Hh0]; · iexact Hh0
    iexact Hh1
  ihave Sf0 := (owns_halve (c : Thread nD τ) (slotM false 0) (half m false (orig false 0 c))) $$ Sf0
  icases Sf0 with ⟨Sf0, Sf0'⟩
  ihave St0 := (owns_halve (c : Thread nD τ) (slotM true 0) (half m true (orig true 0 c))) $$ St0
  icases St0 with ⟨St0, St0'⟩
  iapply (step_send m K c false 1 _ (dev5_eq c) [.rcv true 1] (slotM false 0) fullShare.right (half m false (orig false 0 c)) rfl (by rw [orig_one])) $$ [Sf0' Df1 HO TkSf1 TkRf1]
  · isplitr; · iexact HR
    isplitl [Sf0']; · iexact Sf0'
    isplitl [Df1]; · iexact Df1
    isplitl [HO]; · iexact HO
    isplitl [TkSf1]; · iexact TkSf1
    iexact TkRf1
  iintro ⟨CrSf1, HO⟩
  simp only [k0_part4_eq_skeleton]; unfold k0_part4_skel
  simp only [semSignalWord, semWaitWord, Prog.lift, Prog.bind_op, Prog.bind_ret, Prog.pure_eq_ret, wp_deviceId]
  iapply (step_send m K c true 1 _ (dev6_eq c) [] (slotM true 0) fullShare.right (half m true (orig true 0 c)) rfl (by rw [orig_one])) $$ [St0' Dt1 HO TkSt1 TkRt1]
  · isplitr; · iexact HR
    isplitl [St0']; · iexact St0'
    isplitl [Dt1]; · iexact Dt1
    isplitl [HO]; · iexact HO
    isplitl [TkSt1]; · iexact TkSt1
    iexact TkRt1
  iintro ⟨CrSt1, HO⟩
  iapply (step_load_slot c false 0 fullShare.left (half m false (orig false 0 c))) $$ Sf0
  iintro %v %hv Sf0
  iapply (step_load c wM _ fullShare (ws m c)) $$ Hw
  iintro Hw
  rw [read_w]
  iapply (step_load c oM _ fullShare (_)) $$ Ho
  iintro Ho
  rw [pay5_eq v _ (hv _ HEq.rfl)]
  iapply (step_store c oM _ _ _) $$ Ho
  iintro Ho
  iapply (step_load_slot c true 0 fullShare.left (half m true (orig true 0 c))) $$ St0
  iintro %v %hv St0
  iapply (step_load c wM _ fullShare (ws m c)) $$ Hw
  iintro Hw
  rw [read_w]
  iapply (step_load c oM _ fullShare (_)) $$ Ho
  iintro Ho
  rw [pay6_eq v _ (hv _ HEq.rfl)]
  iapply (step_store c oM _ _ _) $$ Ho
  iintro Ho
  simp only [k0_part5_eq_skeleton]; unfold k0_part5_skel
  simp only [semSignalWord, semWaitWord, Prog.lift, Prog.bind_op, Prog.bind_ret, Prog.pure_eq_ret, wp_deviceId]
  iapply (step_waitDma m K c (.rcv false 1) rfl rfl [] (by decide) (wpE_waitDma2_eq 𝒱₀ (c : Thread nD τ) none Set.univ) (credit_slot false 1)) $$ [CrRf1 HO AtRf1]
  · isplitr; · iexact HR
    isplitr; · iexact Hlev
    isplitl [CrRf1]; · iexact CrRf1
    isplitl [HO]; · iexact HO
    iexact AtRf1
  iintro ⟨HO, AtRf1, Sf1⟩
  ihave Sf1 := (Entails.of_eq (pay_rcv m c false 1 false)) $$ Sf1
  iapply (step_waitDma m K c (.rcv true 1) rfl rfl [] (by decide) (wpE_waitDma2_eq 𝒱₀ (c : Thread nD τ) none Set.univ) (credit_slot true 1)) $$ [CrRt1 HO AtRt1]
  · isplitr; · iexact HR
    isplitr; · iexact Hlev
    isplitl [CrRt1]; · iexact CrRt1
    isplitl [HO]; · iexact HO
    iexact AtRt1
  iintro ⟨HO, AtRt1, St1⟩
  ihave St1 := (Entails.of_eq (pay_rcv m c true 1 false)) $$ St1
  iapply (step_waitDma m K c (.snd false 1) rfl rfl [] (by decide) (wpE_waitDma2_eq 𝒱₀ (c : Thread nD τ) none Set.univ) (credit_slot false 0)) $$ [CrSf1 HO AtSf1]
  · isplitr; · iexact HR
    isplitr; · iexact Hlev
    isplitl [CrSf1]; · iexact CrSf1
    isplitl [HO]; · iexact HO
    iexact AtSf1
  iintro ⟨HO, AtSf1, Sf0'⟩
  ihave Sf0' := (Entails.of_eq (pay_snd1 m c false false)) $$ Sf0'
  iapply (step_waitDma m K c (.snd true 1) rfl rfl [] (by decide) (wpE_waitDma2_eq 𝒱₀ (c : Thread nD τ) none Set.univ) (credit_slot true 0)) $$ [CrSt1 HO AtSt1]
  · isplitr; · iexact HR
    isplitr; · iexact Hlev
    isplitl [CrSt1]; · iexact CrSt1
    isplitl [HO]; · iexact HO
    iexact AtSt1
  iintro ⟨HO, AtSt1, St0'⟩
  ihave St0' := (Entails.of_eq (pay_snd1 m c true false)) $$ St0'
  iapply (step_load_slot c false 1 fullShare (half m false (orig false 1 c))) $$ Sf1
  iintro %v %hv Sf1
  iapply (step_load c wM _ fullShare (ws m c)) $$ Hw
  iintro Hw
  rw [read_w]
  iapply (step_load c oM _ fullShare (_)) $$ Ho
  iintro Ho
  rw [pay1_eq v _ (hv _ HEq.rfl)]
  iapply (step_store c oM _ _ _) $$ Ho
  iintro Ho
  iapply (step_load_slot c true 1 fullShare (half m true (orig true 1 c))) $$ St1
  iintro %v %hv St1
  iapply (step_load c wM _ fullShare (ws m c)) $$ Hw
  iintro Hw
  rw [read_w]
  iapply (step_load c oM _ fullShare (_)) $$ Ho
  iintro Ho
  rw [pay2_eq v _ (hv _ HEq.rfl)]
  iapply (step_store c oM _ _ _) $$ Ho
  iintro Ho
  imod (close_cells m K c) $$ [AtB AtSf0 AtSf1 AtSt0 AtSt1 AtRf0 AtRf1 AtRt0 AtRt1] with Hz
  · isplitr; · iexact HR
    unfold ats
    rw [bigSep_CK]
    isplitl [AtB]; · iexact AtB
    isplitl [AtSf0]; · iexact AtSf0
    isplitl [AtSf1]; · iexact AtSf1
    isplitl [AtSt0]; · iexact AtSt0
    isplitl [AtSt1]; · iexact AtSt1
    isplitl [AtRf0]; · iexact AtRf0
    isplitl [AtRf1]; · iexact AtRf1
    isplitl [AtRt0]; · iexact AtRt0
    iexact AtRt1
  rw [wp_ret]; imodintro
  iapply Hk
  unfold bodyPost
  isplitl [Hz]; · iexact Hz
  isplitl [HO]; · iexact HO
  isplitl [Hx]; · iexact Hx
  isplitl [Hw]; · iexact Hw
  isplitl [Ho]; · iexact Ho
  isplitl [Hb]; · iexact Hb
  isplitl [Sf0 Sf0' Sf1]
  · iapply (slots_join c false (half m false (orig false 0 c)) (half m false (orig false 1 c)))
    isplitl [Sf0 Sf0']
    · iapply (owns_rejoin (c : Thread nD τ) (slotM false 0) (half m false (orig false 0 c)))
      isplitl [Sf0]; · iexact Sf0
      iexact Sf0'
    iexact Sf1
  · iapply (slots_join c true (half m true (orig true 0 c)) (half m true (orig true 1 c)))
    isplitl [St0 St0']
    · iapply (owns_rejoin (c : Thread nD τ) (slotM true 0) (half m true (orig true 0 c)))
      isplitl [St0]; · iexact St0
      iexact St0'
    iexact St1

end Cert.HopsRun

end
-- ==== Proof.Ghost.lean ====
/-
# What the launch deals each device: cells, tokens and credits
-/
module

public import proofs.«01_k».proof.Proof.Body

@[expose] public section

noncomputable section

namespace Cert.HopsRun

open Cert.HopsIdeal Cert.HopsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-! ## The kernel's own semaphores -/

abbrev ownK : Fin 8 → CK
  | 0 => .snd false 0 | 1 => .snd false 1 | 2 => .snd true 0 | 3 => .snd true 1
  | 4 => .rcv false 0 | 5 => .rcv false 1 | 6 => .rcv true 0 | 7 => .rcv true 1
abbrev osem (i : Fin 8) : SemLoc sig := csem (ownK i)

theorem ownSemFacts : Pipeline.OwnSemFacts cfg0.spec osem := by decide

/-- At zero, the barrier's counter and the other eight are all the rings' cells. -/
theorem sems_eq : iprop(unscopedSems0 c ∗ Pipeline.ownSems0 (Ix := ℕ) (Name := ℕ) (U := UU) (Lvl := ℕ) (Val := Elt F) (τ := τ) osem c)
    = (bigSep Finset.univ fun k : CK => semVal (cell c k) 0 : sProp 𝕄) := by
  rw [Pipeline.ownSems0_eq_of_list c osem [0, 1, 2, 3, 4, 5, 6, 7] (by decide) (by decide), bigSep_CK]
  unfold unscopedSems0; rw [bigSep_eq_bigSepL_of_eq [SemLoc.reg barS] (by decide) (by decide)]; rfl

/-! ## Cells and tokens at launch -/

theorem kcell_injective : Function.Injective (kcell : Dev nD × CK → GSem nD τ sig) := by
  rintro ⟨c, k⟩ ⟨c', k'⟩ h
  have h1 : c = c' := congrArg (fun g : GSem nD τ sig => g.1.1) h
  subst h1
  exact congrArg (Prod.mk c) (csem_injective (congrArg Prod.snd h : csem k = csem k'))

def ringCells : Finset (GSem nD τ sig) := Finset.univ.map ⟨kcell, kcell_injective⟩

/-- The token of the payment `t` at the device it is paid to. -/
abbrev tokOf (ct : Dev nD × Tk) : GSem nD τ sig × ℕ × Bool := (cell ct.1 ct.2.kind, 0, ct.2.duty)

theorem tokOf_injective : Function.Injective (tokOf : Dev nD × Tk → GSem nD τ sig × ℕ × Bool) := by
  rintro ⟨c, t⟩ ⟨c', t'⟩ h
  have hk := kcell_injective (a₁ := (c, t.kind)) (a₂ := (c', t'.kind)) (congrArg (fun x : GSem nD τ sig × ℕ × Bool => x.1) h)
  have hd : t.duty = t'.duty := congrArg (fun x : GSem nD τ sig × ℕ × Bool => x.2.2) h
  have ht : ∀ t t' : Tk, t.kind = t'.kind → t.duty = t'.duty → t = t' := by decide
  exact Prod.ext (congrArg (Prod.fst : Dev nD × CK → Dev nD) hk) (ht t t' (congrArg (Prod.snd : Dev nD × CK → CK) hk) hd)

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of the payments into device `c`'s own cells. -/
def toks : sProp 𝕄 := bigSep Finset.univ fun t : Tk => dutyTok ER (cell c t.kind) 0 t.duty

/-- What the launch element deals device `c`. -/
def G : sProp 𝕄 :=
  iprop((bigSep Finset.univ fun k : CK => roundState ER (ringRd m) (cell c k) 0)
    ∗ (bigSep Finset.univ fun k : CK => reached ER (cell c k) 0) ∗ ats c 0 ∗ toks c)

/-- What the global step makes of it. -/
def G' : sProp 𝕄 := iprop(∃ K, records m K ∗ ats c 0 ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hr']; · iexact Hr'
  isplitl [Hat']; · iexact Hat'
  iexact Htok'

theorem core_alloc :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (cell c k)))
          ∗ (bigSep Finset.univ fun k : CK => reached ER (cell c k) 0) ∗ ats c 0 ∗ toks c) := by
  unfold G
  iintro ⟨Hos, Hus, Hst, Hr, Hat, Htok⟩
  ihave Hv := (Entails.of_eq (sems_eq (F := F) c)) $$ [Hos Hus]
  · isplitl [Hus] <;> iassumption
  imod (show iprop((bigSep Finset.univ fun k : CK => semVal (cell c k) 0) ∗ bigSep Finset.univ fun k : CK => roundState ER (ringRd m) (cell c k) 0)
      ⊢ (|={Set.univ}=> bigSep Finset.univ fun k : CK => iprop(∃ κ : ℕ, cellInv ER (ringRd m) κ (cell c k)) : sProp 𝕄) from by
        rw [← bigSep_sep']
        exact (bigSep_mono fun k _ => (Rounds.body_intro ER (ringRd m) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The tokens go to the devices that make the payments. -/
theorem toks_around : (bigSep Finset.univ fun c : Dev nD => (toks c : sProp 𝕄)) ⊢ bigSep Finset.univ fun c : Dev nD => payToks c := by
  have h (Φ : Dev nD → Tk → sProp 𝕄) : (bigSep Finset.univ fun c : Dev nD => bigSep Finset.univ fun t : Tk => Φ c t)
      = bigSep Finset.univ fun t : Tk => bigSep Finset.univ fun c : Dev nD => Φ c t := by
    rw [← bigSep_univ_prod (fun ct : Dev nD × Tk => Φ ct.1 ct.2), ← bigSep_univ_prod (fun tc : Tk × Dev nD => Φ tc.2 tc.1),
      bigSep_univ_equiv (Equiv.prodComm Tk (Dev nD)) (fun ct : Dev nD × Tk => Φ ct.1 ct.2)]; rfl
  unfold toks payToks
  rw [h, h]
  refine Entails.of_eq (bigSep_congr fun t _ => ?_)
  exact bigSep_univ_equiv (payEquiv t) (fun c : Dev nD => (dutyTok ER (cell c t.kind) 0 t.duty : sProp 𝕄))

theorem regroup :
    (bigSep Finset.univ fun c : Dev nD => iprop((bigSep Finset.univ fun k : CK => iprop(∃ κ : ℕ, cellInv ER (ringRd m) κ (cell c k)))
          ∗ (bigSep Finset.univ fun k : CK => reached ER (cell c k) 0) ∗ ats c 0 ∗ toks c) : sProp 𝕄)
      ⊢ bigSep Finset.univ (G' m) := by
  rw [bigSep_sep', bigSep_sep', bigSep_sep', ← bigSep_univ_prod (fun ck : Dev nD × CK => iprop(∃ κ : ℕ, cellInv ER (ringRd m) κ (kcell ck))),
    ← bigSep_univ_prod (fun ck : Dev nD × CK => (reached ER (kcell ck) 0 : sProp 𝕄))]
  iintro ⟨HI, #HR, Hat, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (with_persistent (R := records m K) (Φ := fun c => iprop(ats c 0 ∗ payToks c)) fun c _ => show iprop(records m K ∗ ats c 0 ∗ payToks c) ⊢ G' m c from by
    unfold G'; iintro H; iexists K; iexact H)
  isplitr
  · unfold records; isplitl; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

omit [FloatOps F] in
theorem cell_paid (k : CK) (d : Dev nD) (t : Tk) : cell c k = paid d t ↔ k = t.kind ∧ d = payer t c := by
  constructor
  · intro h
    have := kcell_injective (a₁ := (c, k)) (a₂ := (payee t d, t.kind)) h
    exact ⟨congrArg Prod.snd this, ((payEquiv t).left_inv d).symm.trans (congrArg (payEquiv t).symm (congrArg Prod.fst this).symm)⟩
  · rintro ⟨rfl, rfl⟩
    exact congrArg (fun x => cell x t.kind) ((payEquiv t).right_inv c).symm

/-- What all devices together owe a cell of `c`. -/
theorem sum_debt (k : CK) (l : List Tk) (u : ℕ) :
    ∑ d : Dev nD, debt d l (cell c k) u = (l.map fun t => if k = t.kind ∧ u = 0 then amt t.kind else 0).sum := by
  simp only [debt_apply]
  induction l with
  | nil => simp
  | cons t l ih =>
    simp only [List.map_cons, List.sum_cons, Finset.sum_add_distrib, ih]
    congr 1
    simp only [cell_paid]
    by_cases h : k = t.kind ∧ u = 0
    · rw [if_pos h, Finset.sum_eq_single (payer t c) (fun d _ hd => if_neg fun h' => hd h'.1.2) (fun h' => absurd (Finset.mem_univ _) h'),
        if_pos ⟨⟨h.1, rfl⟩, h.2⟩]
    · rw [if_neg h]
      exact Finset.sum_eq_zero fun d _ => if_neg fun h' => h ⟨h'.1.1, h'.2⟩

abbrev due : CK → ℕ
  | .bar => 2
  | .rcv _ _ => N
  | .snd _ _ => 0

theorem launch_cell (k : CK) :
    tallyOn (cell c k) (launchCredit (Pipeline.owing fun d => debt d dues) 0 (cell c k)) = (tallyAt (cell c k) 0 (due k) : CellTallies nD τ sig ℕ) := by
  unfold tallyAt; refine congrArg _ (Finsupp.ext fun u => ?_)
  rw [Pipeline.launchCredit_owing, sum_debt, Finsupp.single_apply]
  by_cases hu : u = 0
  · subst hu
    rcases k with _ | ⟨b, s⟩ | ⟨b, s⟩
    · simp only [List.map_cons, List.map_nil, List.sum_cons, List.sum_nil]; simp [due]; rfl
    · simp [due]
    · cases b <;> fin_cases s <;> simp [due]
  · rw [if_neg (fun h => hu h.symm)]; simp [hu]

theorem creds_intro : (Pipeline.launchCred (fun d => debt d dues) c : sProp 𝕄) ⊢ creds c := by
  unfold Pipeline.launchCred creds
  refine (BI.bigSep_subset (Finset.subset_univ (Finset.univ.map ⟨csem, csem_injective⟩))).trans ?_
  rw [bigSep_map]
  refine (bigSep_mono fun k _ => Entails.of_eq (congrArg cred (launch_cell c k))).trans ?_
  refine (Entails.of_eq (bigSep_CK (F := F) fun k => cred (tallyAt (cell c k) 0 (due k)))).trans ?_
  iintro ⟨H0, -, -, -, -, H1, H2, H3, H4⟩
  isplitl [H0]; · iexact H0
  isplitl [H1]; · iexact H1
  isplitl [H2]; · iexact H2
  isplitl [H3]; · iexact H3
  iexact H4

end Cert.HopsRun

end
-- ==== Proof.Launch.lean ====
/-
# The launch: every device runs its body, and what the arrays hold at the end
-/
module

public import proofs.«01_k».proof.Proof.Ghost
public import Idealize.ShloMosaic.Lib.Quiescent
public import Idealize.ShloMosaic.Lib.Pipeline.CollectiveSegs

@[expose] public section

noncomputable section

namespace Cert.HopsRun

open Cert.HopsIdeal Cert.HopsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The proof data -/

def start : sProp 𝕄 := iprop(G' m c ∗ creds c ∗ levAts L lv)

/-- The buffer no hop uses. -/
abbrev spare : sProp 𝕄 := iprop(∃ f : Buf (Elt F) ((c : Thread nD τ).loc cc0_scratch3), ((c : Thread nD τ).loc cc0_scratch3) ↦{fullShare} f)

abbrev scratch : sProp 𝕄 := iprop((∃ f, bPts c fullShare f) ∗ ringAny c false ∗ ringAny c true ∗ spare c)

def Φ₀ : sProp 𝕄 := iprop(start m c ∗ scratch c)
def Φ₁ : sProp 𝕄 := iprop((bigSep Finset.univ fun k : CK => semVal (cell c k) 0) ∗ scratch c)

def dats (_ : Fin 1) (c : Dev nD) : Pipeline.RDat τ (Elt F) ℕ ℕ UU ℕ cfg0 c where
  A w := m ((cfg0.win w).arr.view.loc (c : Thread nD τ))
  after w _ := match w with
    | ⟨0, _⟩ => fun Y X => X = Y
    | ⟨1, _⟩ => fun Y X => X = Y
    | ⟨2, _⟩ => fun _ X => OutRel m c X
  Φ t := match t with
    | ⟨0, _⟩ => Φ₀ m c
    | ⟨_ + 1, _⟩ => Φ₁ c
  q _ := fullShare
  owed t := match t with
    | ⟨0, _⟩ => debt c dues
    | ⟨_ + 1, _⟩ => 0

theorem fetch_0 : (cfg0.win (0 : Fin 3)).fetch t0_0 = true := rfl
theorem fetch_1 : (cfg0.win (1 : Fin 3)).fetch t0_0 = true := rfl

theorem finds_x {X} (h : (dats m 0 c).Finds (0 : Fin 3) t0_0 X) : X = xs m c := by
  obtain ⟨d, rfl⟩ := ((dats m 0 c).finds_of_fetch fetch_0 X).mp h; rfl
theorem finds_w {X} (h : (dats m 0 c).Finds (1 : Fin 3) t0_0 X) : X = ws m c := by
  obtain ⟨d, rfl⟩ := ((dats m 0 c).finds_of_fetch fetch_1 X).mp h; rfl

/-- A buffer held whole, at contents `X`. -/
theorem owns_stg (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((Memref.whole b).view.loc (c : Thread nD τ) ↦[(Memref.whole b).view.set]{fullShare} f)) := by
  unfold owns; simp only [Memref.view_whole, View.read_whole]

def stgX (X : (cc0_stg0_0 : Ref sig .tc).ty.Contents (Elt F)) : sProp 𝕄 := iprop(∃ f, ⌜f = X⌝ ∗ xPts c f)
def stgW (X : (cc0_stg1_0 : Ref sig .tc).ty.Contents (Elt F)) : sProp 𝕄 := iprop(∃ f, ⌜f = X⌝ ∗ wPts c f)
def stgO (X : (cc0_stg2_0 : Ref sig .tc).ty.Contents (Elt F)) : sProp 𝕄 := iprop(∃ f, ⌜f = X⌝ ∗ oPts c f)

/-- What the body is handed, -/
def obPre (X : (cc0_stg0_0 : Ref sig .tc).ty.Contents (Elt F)) (W : (cc0_stg1_0 : Ref sig .tc).ty.Contents (Elt F)) (g : (cc0_stg2_0 : Ref sig .tc).ty.Contents (Elt F)) : sProp 𝕄 :=
  iprop(Φ₀ m c ∗ (dats m 0 c).owesAt 0 t0_0.castSucc ∗ stgX c X ∗ stgW c W ∗ stgO c g)
/-- and what it hands back. -/
def obPost (X : (cc0_stg0_0 : Ref sig .tc).ty.Contents (Elt F)) (W : (cc0_stg1_0 : Ref sig .tc).ty.Contents (Elt F)) : sProp 𝕄 :=
  iprop(Φ₁ c ∗ (dats m 0 c).owesAt 0 t0_0.succ ∗ (∃ Z, ⌜Z = X⌝ ∗ stgX c Z) ∗ (∃ Z, ⌜Z = W⌝ ∗ stgW c Z) ∗ (∃ Z, ⌜OutRel m c Z⌝ ∗ stgO c Z))

theorem obligation (g : (cc0_stg2_0 : Ref sig .tc).ty.Contents (Elt F)) :
    obPre m c (xs m c) (ws m c) g
      ⊢ wp frame (wpE (defs₀ (F := F)) 𝒱₀ (c : Thread nD τ) none) Set.univ
          (cc0_body xM (Memref.isWhole_whole _) wM (Memref.isWhole_whole _) oM (Memref.isWhole_whole _) bM (Memref.isWhole_whole _)
            (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 cc0_scratch11)
          (fun _ => obPost m c (xs m c) (ws m c)) := by
  unfold obPre Φ₀ start G' stgX stgW stgO
  iintro ⟨⟨⟨⟨%K, #HR, Hat, Htk⟩, Hcr, #Hlev⟩, ⟨%f, Hb⟩, Hf, Ht, Hsp⟩, Ho, ⟨%fx, %hx, Hx⟩, ⟨%fw, %hw, Hw⟩, ⟨%fo, %ho, Hout⟩⟩
  subst hx hw ho
  unfold Pipeline.RDat.owesAt Pipeline.owesWithin
  icases Ho with ⟨%W, -, HO⟩
  iapply (sound_body m K c fo fun _ => obPost m c (xs m c) (ws m c))
  isplitr [Hsp]
  · unfold bodyPre
    isplitr; · iexact HR
    isplitr; · iexact Hlev
    isplitl [Hat]; · iexact Hat
    isplitl [Htk]; · iexact Htk
    isplitl [Hcr]; · iexact Hcr
    isplitl [HO]; · unfold owing; iexists W; iexact HO
    isplitl [Hx]; · iexact Hx
    isplitl [Hw]; · iexact Hw
    isplitl [Hout]; · iexact Hout
    isplitl [Hb]; · iexists f; iapply (Entails.of_eq (bPts_eq c fullShare f)); iexact Hb
    isplitl [Hf]; · iexact Hf
    iexact Ht
  · unfold bodyPost obPost Φ₁ owing
    iintro ⟨Hz, ⟨%W', HO⟩, Hx, Hw, Hout, Hb, Hf, Ht⟩
    isplitl [Hz Hb Hf Ht Hsp]
    · isplitl [Hz]; · iexact Hz
      isplitl [Hb]; · iexists (xb m c); iexact Hb
      isplitl [Hf]; · iexact Hf
      isplitl [Ht]; · iexact Ht
      iexact Hsp
    isplitl [HO]
    · unfold Pipeline.RDat.owesAt Pipeline.owesWithin
      iexists W'
      isplitr; · ipureintro; exact fun _ _ => Or.inl trivial
      iexact HO
    unfold stgX stgW stgO
    isplitl [Hx]
    · iexists (xs m c); isplitr; · (ipureintro; rfl)
      iexists (xs m c); isplitr; · (ipureintro; rfl)
      iexact Hx
    isplitl [Hw]
    · iexists (ws m c); isplitr; · (ipureintro; rfl)
      iexists (ws m c); isplitr; · (ipureintro; rfl)
      iexact Hw
    iexists (outF m c fo); isplitr; · (ipureintro; exact outF_rel m c fo)
    iexists (outF m c fo); isplitr; · (ipureintro; rfl)
    iexact Hout

set_option maxRecDepth 8000 in
set_option maxHeartbeats 1000000 in
theorem body_obligation : (dats m 0 c).BodyObligation (defs₀ (F := F)) 𝒱₀ 0 Set.univ := fun t Y hY => by
  obtain rfl := fin_N0 t
  have h0 := finds_x m c (hY (0 : Fin 3))
  have h1 := finds_w m c (hY (1 : Fin 3))
  rw [bigSep_W0, bigSep_W0]
  simp only [owns_stg]
  have h := obligation m c (Y (2 : Fin 3))
  rw [← h0, ← h1] at h
  exact h

/-! ## The launch theorem's side conditions -/

theorem share_eq (w : Fin cfg0.W) : (dats m 0 c).share w = fullShare := by unfold Pipeline.RDat.share; split <;> rfl

theorem start_intro :
    iprop(Pipeline.unscopedRestP Pipeline.Prefetch.none cfg0.spec c (fun b => m ((c : Thread nD τ).loc b)) ∗ levAts L lv
        ∗ Pipeline.launchCred (fun d => debt d dues) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem scratch_eq : (Pipeline.scopedRest cfg0.spec c : sProp 𝕄) = scratch c := by
  rw [scopedRest0_eq, ← ringAny_false, ← ringAny_true]

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  unfold Φ₁
  rw [← sems_eq]
  iintro ⟨⟨Hu, Hz⟩, Hr⟩
  isplitl [Hu]; · iexact Hu
  isplitl [Hz]; · iexact Hz
  iexact Hr

theorem mayWait_stage (q : DmaSem sig) (hq : ∀ k, csem k ≠ .dma q) : (levAts L lv : sProp 𝕄) ⊢ MayWait (c : Thread nD τ) (.dma q) 0 (debt c dues) :=
  mayWait c (.dma q) dues fun t ht => by
    have h : kof (.dma q) = none := by unfold kof; rw [dif_neg (fun ⟨k, hk⟩ => hq k hk)]
    rw [h]; revert t; decide

theorem waits : (levAts L lv : sProp 𝕄) ⊢ Pipeline.RDat.cellsWaits cfgs (dats m) 0 0 c :=
  Pipeline.RDat.cellsWaits_intro cfgs (dats m) 0 0 c fun w s t => by
    rcases t with ⟨_ | _, ht⟩
    · exact mayWait_stage c _ (by fin_cases w <;> fin_cases s <;> decide)
    · rw [show (dats m 0 c).owed ⟨_ + 1, ht⟩ = 0 from rfl, MayWait_zero]; iintro -; iempintro

/-! ## The run -/

/-- The final memory: the arguments as they were, the result's array holding the five bands. -/
def Final (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ OutRel m c ((win0_2.blk (0 : Fin 1)).view.read (Elt F) (r.2.mem ((c : Thread nD τ).loc main_v1)))

theorem final_of (s : MemSt nD τ sig (Elt F))
    (h : ∀ c : Dev nD, ∀ w, (dats m 0 c).ArrAt w cfg0.N (s.mem ((cfg0.win w).arr.view.loc (c : Thread nD τ)))) : Final m (⟨⟩, s) := fun c => by
  refine ⟨?_, ?_, ?_⟩
  · have h0 := h c (0 : Fin 3); rw [(dats m 0 c).ArrAt_in (0 : Fin 3) rfl] at h0; exact h0
  · have h0 := h c (1 : Fin 3); rw [(dats m 0 c).ArrAt_in (1 : Fin 3) rfl] at h0; exact h0
  · have h0 := h c (2 : Fin 3)
    rw [show cfg0.N = (t0_0 : Fin cfg0.N).val + 1 from N_0, (dats m 0 c).ArrAt_succ (2 : Fin 3) t0_0, if_pos (by rfl)] at h0
    obtain ⟨G₀, X, -, ⟨Y, -, hX⟩, hG⟩ := h0
    have e : (win0_2.blk (0 : Fin 1)).view.read (Elt F) (s.mem ((c : Thread nD τ).loc main_v1)) = X :=
      (congrArg _ hG).trans (View.read_write_univ _ _)
    rw [e]; exact hX

set_option maxRecDepth 8000 in
set_option maxHeartbeats 800000 in
/-- From any memory with zero counters every fair execution terminates, with the five bands in the result's array, the
    arguments unchanged and every counter at zero. -/
theorem run_main : θ_run defs (onTc (τ := τ) (main (F := F))) ⟨m, fun _ => 0, ρ⟩ (fun r => Final m r ∧ r.2.sem = fun _ => 0) :=
  Pipeline.RDat.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => debt d dues) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨final_of m s fun c w => (h c).1 w, sem_eq_zero hs fun c => (h c).2.2⟩)

end Cert.HopsRun

end
-- ==== Proof.Product.lean ====
/-
# The reference's run: one product of whole matrices
-/
module

public import proofs.«01_k».proof.Proof.Gen.ProductIdeal
public import Idealize.ShloMosaic.PureOps.Ideal
public import Idealize.ShloMosaic.Lib.Claim
public import Idealize.ShloMosaic.Lib.Quiescent
public import Idealize.ShloMosaic.Lib.Pointwise

@[expose] public section

noncomputable section

namespace Cert.ProductRun

open Cert.ProductIdeal Cert.ProductIdeal.Gen

open Idealize.ShloMosaic
open Idealize.ShloMosaic.TcCoe
open Idealize.SL.Sem

variable (m : (ℓ : Loc nD τ sig) → Buf (Elt Ideal) ℓ) (ρ : Dev nD → PrngReg)

/-- The two argument matrices, -/
def left : FVec Ideal S4096x4096 .f32 := m (((0 : Dev nD).tc : Thread nD τ).loc main_arg0)
def right : FVec Ideal S4096x8192 .f32 := m (((0 : Dev nD).tc : Thread nD τ).loc main_arg1)

/-- and their product. -/
def product : FVec Ideal S4096x8192 .f32 :=
  Host.dotGeneral dot_S4096x4096_S4096x8192_S4096x8192_1_0_0_1_n_n none (left m) (right m)

theorem product_apply (r : Fin 4096) (j : Fin 8192) : product m (ix2 r j) = ∑ k : Fin 4096, left m (ix2 r k) * right m (ix2 k j) := by
  unfold product
  pointwise

/-- Every run ends with the product in the result, both arguments as they were and every counter at zero. -/
theorem run : θ_run (defs (F := Ideal)) (onTc (τ := τ) (main (F := Ideal))) ⟨m, fun _ => 0, ρ⟩ (fun r =>
    (r.2.mem (((0 : Dev nD).tc : Thread nD τ).loc main_v0) = product m
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1))
      ∧ r.2.sem = fun _ => 0) := by
  refine θ_run_mono (StableHlo.run_hlo _ _ (by hlo_seq) (by decide) (by decide) (by simp)
    (by intro _ h; (repeat (cases h with | head => rfl | tail _ h => ?_)); exact nomatch h) _ _) fun r hr => ?_
  refine ⟨⟨?_, ?_, ?_⟩, sem_eq_zero_of_no_sems (by decide) _⟩
  · rw [hr 0 main_v0]; after_results; rfl
  · rw [hr 0 main_arg0]; after_results
  · rw [hr 0 main_arg1]; after_results

end Cert.ProductRun

end
-- ==== Proof.Values.lean ====
/-
# The bands as sums over whole matrices
-/
module

public import proofs.«01_k».proof.Proof.Out
public import proofs.«01_k».proof.Proof.Product
public import Idealize.ShloMosaic.Lib.Pointwise
public import Idealize.ShloMosaic.Lib.Layout
public import Idealize.ShloMosaic.Lib.Pipeline.Value
public import Idealize.ShloMosaic.Lib.Pipeline.ValueKit.Geometry

@[expose] public section

noncomputable section

namespace Cert.HopsRun

open Cert.HopsIdeal Cert.HopsIdeal.Gen

open Idealize.ShloMosaic
open Idealize.ShloMosaic.TcCoe
open Idealize.SL.Sem

/-! ## Reads of whole arrays and of bands -/

theorem pt_ext {p q : ℕ} {x y : (⟨2, ![p, q]⟩ : Shape).Idx} (h0 : (x 0).val = (y 0).val) (h1 : (x 1).val = (y 1).val) : x = y :=
  funext fun a => by
    match a with
    | ⟨0, _⟩ => exact Fin.ext h0
    | ⟨1, _⟩ => exact Fin.ext h1

variable (m : (ℓ : Loc nD τ sig) → Buf (Elt Ideal) ℓ) (c : Dev nD)

theorem xs_eq : xs m c = m ((c : Thread nD τ).loc main_arg0) := by
  funext i
  exact congrArg (m ((c : Thread nD τ).loc main_arg0)) (pt_ext (p := 512) (q := 4096)
    (win0_0.rect_emb_val_of_index_zero (0 : Fin 1) 0 rfl i) (win0_0.rect_emb_val_of_index_zero (0 : Fin 1) 1 rfl i))

theorem ws_eq : ws m c = m ((c : Thread nD τ).loc main_arg1) := by
  funext i
  exact congrArg (m ((c : Thread nD τ).loc main_arg1)) (pt_ext (p := 4096) (q := 1024)
    (win0_1.rect_emb_val_of_index_zero (0 : Fin 1) 0 rfl i) (win0_1.rect_emb_val_of_index_zero (0 : Fin 1) 1 rfl i))

theorem out_eq (f : Buf (Elt Ideal) ((c : Thread nD τ).loc main_v1)) : (win0_2.blk (0 : Fin 1)).view.read (Elt Ideal) f = f := by
  funext i
  exact congrArg f (pt_ext (p := 4096) (q := 1024)
    (win0_2.rect_emb_val_of_index_zero (0 : Fin 1) 0 rfl i) (win0_2.rect_emb_val_of_index_zero (0 : Fin 1) 1 rfl i))

theorem xb_eq : xb m c = m ((c : Thread nD τ).loc main_arg0) :=
  (show xb m c = xs m c from rfl).trans (xs_eq m c)

/-- An element of a rectangle of rows, in the whole. -/
theorem read_rows {off : Fin S4096x1024.rank → ℕ} {sz : Fin S4096x1024.rank → ℕ} {inb} (f : (cc0_stg2_0 : Ref sig .tc).ty.Contents (Elt Ideal))
    (y : (Rect.unit (s := S4096x1024) off sz inb).shape.Idx) (i : S4096x1024.Idx) (h0 : (i 0).val = off 0 + (y 0).val) (h1 : (i 1).val = off 1 + (y 1).val) :
    (oM.access (Rect.unit (s := S4096x1024) off sz inb)).read (Elt Ideal) f y = f i :=
  congrArg f (pt_ext (p := 4096) (q := 1024) ((ValueKit.rect_emb_unit_val off sz inb y 0).trans h0.symm) ((ValueKit.rect_emb_unit_val off sz inb y 1).trans h1.symm))

theorem half_apply (b : Bool) (r : Fin 256) (k : Fin 4096) (i : S512x4096.Idx) (h0 : (i 0).val = (if b then 256 else 0) + r.val) (h1 : (i 1).val = k.val) :
    half m b c (ix2 r k) = m ((c : Thread nD τ).loc main_arg0) i := by
  rw [← xb_eq m c]
  cases b
  · exact congrArg (xb m c) (pt_ext (p := 512) (q := 4096) ((ValueKit.rect_emb_unit_val _ _ _ _ 0).trans h0.symm)
      ((ValueKit.rect_emb_unit_val _ _ _ _ 1).trans ((Nat.zero_add _).trans h1.symm)))
  · exact congrArg (xb m c) (pt_ext (p := 512) (q := 4096) ((ValueKit.rect_emb_unit_val _ _ _ _ 0).trans h0.symm)
      ((ValueKit.rect_emb_unit_val _ _ _ _ 1).trans ((Nat.zero_add _).trans h1.symm)))

/-! ## Products at an index -/

theorem pay4_apply (X : Vec Ideal S512x4096 .bf16) (W : Vec Ideal S4096x1024 .f32) (r : Fin 512) (j : Fin 1024) :
    k0_pay4 X W (ix2 r j) = ∑ k : Fin 4096, X (ix2 r k) * W (ix2 k j) := by
  unfold k0_pay4
  pointwise

theorem mm_apply (X : FVec Ideal S256x4096 .bf16) (W : Vec Ideal S4096x1024 .f32) (r : Fin 256) (j : Fin 1024) :
    mm X W (ix2 r j) = ∑ k : Fin 4096, X (ix2 r k) * W (ix2 k j) := by
  unfold mm
  pointwise

/-! ## The bands -/

variable (m' : (ℓ : Loc Cert.ProductIdeal.nD Cert.ProductIdeal.τ Cert.ProductIdeal.sig) → Buf (Elt Ideal) ℓ)

/-- Every device's arguments are its blocks of the reference's. -/
def Blocks : Prop := ∀ c : Dev nD,
  m ((c : Thread nD τ).loc main_arg0) = Layout.block ⟨2, ![512, 4096]⟩ ⟨2, ![4096, 4096]⟩ 0 8 c (ProductRun.left m')
    ∧ m ((c : Thread nD τ).loc main_arg1) = Layout.block ⟨2, ![4096, 1024]⟩ ⟨2, ![4096, 8192]⟩ 1 8 c (ProductRun.right m')

variable {m m'} (hm : Blocks m m')
include hm

theorem arg0_apply (i : S512x4096.Idx) (j : Cert.ProductIdeal.S4096x4096.Idx) (h0 : (j 0).val = c.val * 512 + (i 0).val) (h1 : (j 1).val = (i 1).val) :
    m ((c : Thread nD τ).loc main_arg0) i = ProductRun.left m' j := by
  rw [(hm c).1]
  have t : Layout.Tiles ⟨2, ![512, 4096]⟩ ⟨2, ![4096, 4096]⟩ 0 8 := by decide
  exact congrArg (ProductRun.left m') (pt_ext (p := 4096) (q := 4096) ((Layout.idx_rows_val t c i).1.trans h0.symm) ((Layout.idx_rows_val t c i).2.trans h1.symm))

theorem arg1_apply (i : S4096x1024.Idx) (j : Cert.ProductIdeal.S4096x8192.Idx) (h0 : (j 0).val = (i 0).val) (h1 : (j 1).val = c.val * 1024 + (i 1).val) :
    m ((c : Thread nD τ).loc main_arg1) i = ProductRun.right m' j := by
  rw [(hm c).2]
  have t : Layout.Tiles ⟨2, ![4096, 1024]⟩ ⟨2, ![4096, 8192]⟩ 1 8 := by decide
  exact congrArg (ProductRun.right m') (pt_ext (p := 4096) (q := 8192) ((Layout.idx_cols_val t c i).1.trans h0.symm) ((Layout.idx_cols_val t c i).2.trans h1.symm))

/-- A row of sums over rows of the whole `x` is a row of the device's block of the product. -/
theorem block_product (i : S4096x1024.Idx) (A : Fin 4096 → Ideal .f32) (hA : ∀ k, A k = ProductRun.left m' (ix2 (i 0) k)) :
    ∑ k : Fin 4096, A k * ws m c (ix2 k (i 1))
      = (Layout.block ⟨2, ![4096, 1024]⟩ ⟨2, ![4096, 8192]⟩ 1 8 c (ProductRun.product m') : (⟨2, ![4096, 1024]⟩ : Shape).Idx → _) i := by
  have t : Layout.Tiles ⟨2, ![4096, 1024]⟩ ⟨2, ![4096, 8192]⟩ 1 8 := by decide
  have e : t.idx c i = ix2 (i 0) (t.idx c i 1) := pt_ext (p := 4096) (q := 8192) rfl rfl
  rw [Layout.block_apply, e]
  refine (Finset.sum_congr rfl fun k _ => ?_).trans (ProductRun.product_apply m' (i 0) (t.idx c i 1)).symm
  rw [hA k, ws_eq, arg1_apply c hm (ix2 k (i 1)) (ix2 k (t.idx c i 1)) rfl rfl]

theorem own_value {f} (h : OutRel m c f) (i : S4096x1024.Idx) (hi : (i 0).val / 256 / 2 = c.val) :
    f i = (Layout.block ⟨2, ![4096, 1024]⟩ ⟨2, ![4096, 8192]⟩ 1 8 c (ProductRun.product m') : (⟨2, ![4096, 1024]⟩ : Shape).Idx → _) i := by
  have l : (i 0).val - 512 * c.val < 512 := by omega
  have z0 : k0_off2 c 0 = 512 * c.val := congrFun (own_off c) 0
  have z1 : k0_off2 c 1 = 0 := congrFun (own_off c) 1
  rw [← read_rows (inb := k0_off2_inb c) f (ix2 ⟨(i 0).val - 512 * c.val, l⟩ (i 1)) i
    ((show (i 0).val = 512 * c.val + ((i 0).val - 512 * c.val) by omega).trans (congrArg (fun t => t + ((i 0).val - 512 * c.val)) z0.symm)) ((Nat.zero_add _).symm.trans (congrArg (fun t => t + (i 1).val) z1.symm)), h.own]
  refine (pay4_apply _ _ _ _).trans (block_product c hm i _ fun k => ?_)
  rw [xb_eq, arg0_apply c hm _ (ix2 (i 0) k) (by show (i 0).val = c.val * 512 + ((i 0).val - 512 * c.val); omega) rfl]

theorem band_value {off inb} {f : (cc0_stg2_0 : Ref sig .tc).ty.Contents (Elt Ideal)} (b : Bool) (d : Dev nD)
    (hoff : off = ![512 * d.val + (if b then 256 else 0), 0])
    (h : (oM.access (Rect.unit (s := S4096x1024) off S256x1024.size inb)).read (Elt Ideal) f = mm (half m b d) (ws m c))
    (i : S4096x1024.Idx) (hi : (i 0).val / 256 = 2 * d.val + (if b then 1 else 0)) :
    f i = (Layout.block ⟨2, ![4096, 1024]⟩ ⟨2, ![4096, 8192]⟩ 1 8 c (ProductRun.product m') : (⟨2, ![4096, 1024]⟩ : Shape).Idx → _) i := by
  subst hoff
  have l : (i 0).val - (512 * d.val + (if b then 256 else 0)) < 256 := by cases b <;> simp at hi ⊢ <;> omega
  have e : (i 0).val = (512 * d.val + (if b then 256 else 0)) + ((i 0).val - (512 * d.val + (if b then 256 else 0))) := by
    cases b <;> simp at hi ⊢ <;> omega
  have hd : d.val < 8 := d.isLt
  rw [← read_rows (inb := inb) f (ix2 ⟨(i 0).val - (512 * d.val + (if b then 256 else 0)), l⟩ (i 1)) i
    e (Nat.zero_add _).symm, h]
  refine (mm_apply _ _ _ _).trans (block_product c hm i _ fun k => ?_)
  rw [half_apply m d b _ k (ix2 ⟨(if b then 256 else 0) + ((i 0).val - (512 * d.val + (if b then 256 else 0))), by cases b <;> simp at l ⊢ <;> omega⟩ k) rfl rfl]
  exact arg0_apply d hm _ (ix2 (i 0) k) (by show (i 0).val = d.val * 512 + (_ + _); omega) rfl

/-- What a device's result holds in the five bands is its block of the product. -/
theorem value {f} (h : OutRel m c f) (i : S4096x1024.Idx)
    (hi : (i 0).val / 256 / 2 = c.val ∨ (i 0).val / 256 = 2 * ((c.val + 7) % 8) ∨ (i 0).val / 256 = 2 * ((c.val + 6) % 8)
      ∨ (i 0).val / 256 = 2 * ((c.val + 1) % 8) + 1 ∨ (i 0).val / 256 = 2 * ((c.val + 2) % 8) + 1) :
    f i = (Layout.block ⟨2, ![4096, 1024]⟩ ⟨2, ![4096, 8192]⟩ 1 8 c (ProductRun.product m') : (⟨2, ![4096, 1024]⟩ : Shape).Idx → _) i := by
  have v0 : ∀ c : Dev nD, (orig false 0 c).val = (c.val + 7) % 8 := by decide
  have v1 : ∀ c : Dev nD, (orig false 1 c).val = (c.val + 6) % 8 := by decide
  have v2 : ∀ c : Dev nD, (orig true 0 c).val = (c.val + 1) % 8 := by decide
  have v3 : ∀ c : Dev nD, (orig true 1 c).val = (c.val + 2) % 8 := by decide
  rcases hi with hi | hi | hi | hi | hi
  · exact own_value c hm h i hi
  · exact band_value c hm false (orig false 0 c) (by rw [v0]; exact off_f0 c) h.f0 i (by rw [v0]; exact hi)
  · exact band_value c hm false (orig false 1 c) (by rw [v1]; exact off_f1 c) h.f1 i (by rw [v1]; exact hi)
  · exact band_value c hm true (orig true 0 c) (by rw [v2]; exact off_t0 c) h.t0 i (by rw [v2]; exact hi)
  · exact band_value c hm true (orig true 1 c) (by rw [v3]; exact off_t1 c) h.t1 i (by rw [v3]; exact hi)

end Cert.HopsRun

end
-- ==== Proof.Mask.lean ====
/-
# The rows of the mask
-/
module

public import proofs.«01_k».proof.Proof.Gen.On_rows_written
public import Idealize.ShloMosaic.PureOps.Ideal
public import Idealize.ShloMosaic.Lib.Pointwise
public import Idealize.ShloMosaic.Lib.Layout

@[expose] public section

noncomputable section

namespace Cert.Mask

open Cert.On_rows_written Cert.On_rows_written.Gen

open Idealize.ShloMosaic

/-- How many blocks of 512 rows the block `u` is after the block `v`, in the ring of eight. -/
def dist (u v : BitVec 32) : BitVec 32 := IntOp.andi (IntOp.subi (IntOp.addi u 8#32) v) 7#32

/-- The mask's bit, from the block of 512 rows, the half of it, and the device of the column. -/
def bit (u l v : BitVec 32) : BitVec 1 :=
  IntOp.ori (IntOp.ori (IntOp.cmpi .eq (dist u v) 0#32) (IntOp.andi (IntOp.cmpi .eq l 0#32) (IntOp.cmpi .uge (dist u v) 6#32)))
    (IntOp.andi (IntOp.andi (IntOp.cmpi .eq l 1#32) (IntOp.cmpi .uge (dist u v) 1#32)) (IntOp.cmpi .ule (dist u v) 2#32))

theorem shift (n k : ℕ) (hn : n < 2 ^ 32) (hk : k < 32) :
    IntOp.shrui .host (BitVec.ofNat 32 n) (BitVec.ofNat 32 k) = BitVec.ofNat 32 (n / 2 ^ k) := by
  have h : (BitVec.ofNat 32 k).toNat = k := by rw [BitVec.toNat_ofNat]; exact Nat.mod_eq_of_lt (hk.trans (by decide))
  rw [IntOp.shrui, if_pos (by rw [h]; exact hk)]
  apply BitVec.eq_of_toNat_eq
  have hd : n / 2 ^ k < 2 ^ 32 := (Nat.div_le_self _ _).trans_lt hn
  show ((BitVec.ofNat 32 n) >>> (BitVec.ofNat 32 k).toNat).toNat = _
  rw [h, BitVec.toNat_ushiftRight, BitVec.toNat_ofNat, BitVec.toNat_ofNat, Nat.mod_eq_of_lt hn, Nat.mod_eq_of_lt hd, Nat.shiftRight_eq_div_pow]

theorem fn_apply (X : FVec Ideal S4096x4096 .f32) (W : FVec Ideal S4096x8192 .f32) (j : S4096x8192.Idx) :
    fn (F := Ideal) X W j = bit (BitVec.ofNat 32 ((j 0).val / 512)) (IntOp.andi (BitVec.ofNat 32 ((j 0).val / 256)) 1#32)
      (BitVec.ofNat 32 ((j 1).val / 1024)) := by
  have h0 : (j 0).val < 2 ^ 32 := (j 0).isLt.trans (by decide)
  have h1 : (j 1).val < 2 ^ 32 := (j 1).isLt.trans (by decide)
  have e1 := shift (j 0).val 9 h0 (by decide)
  have e2 := shift (j 0).val 8 h0 (by decide)
  have e3 := shift (j 1).val 10 h1 (by decide)
  unfold fn fn_part1
  dsimp only
  pointwise
  rw [e1, e2, e3]
  rfl

/-- The half blocks of rows that the mask takes of device `c`'s columns. -/
theorem bands : ∀ (c : Fin 8) (q : Fin 16), bit (BitVec.ofNat 32 (q.val / 2)) (IntOp.andi (BitVec.ofNat 32 q.val) 1#32) (BitVec.ofNat 32 c.val) = 1#1 →
    q.val / 2 = c.val ∨ q.val = 2 * ((c.val + 7) % 8) ∨ q.val = 2 * ((c.val + 6) % 8)
      ∨ q.val = 2 * ((c.val + 1) % 8) + 1 ∨ q.val = 2 * ((c.val + 2) % 8) + 1 := by
  decide

/-- A row of device `c`'s block of the result that the mask takes is in one of five bands. -/
theorem rows (c : Fin 8) (X : FVec Ideal S4096x4096 .f32) (W : FVec Ideal S4096x8192 .f32) (i : (⟨2, ![4096, 1024]⟩ : Shape).Idx)
    (h : (Layout.block ⟨2, ![4096, 1024]⟩ ⟨2, ![4096, 8192]⟩ 1 8 c (fn (F := Ideal) X W) : (⟨2, ![4096, 1024]⟩ : Shape).Idx → _) i = 1#1) :
    (i 0).val / 256 / 2 = c.val ∨ (i 0).val / 256 = 2 * ((c.val + 7) % 8) ∨ (i 0).val / 256 = 2 * ((c.val + 6) % 8)
      ∨ (i 0).val / 256 = 2 * ((c.val + 1) % 8) + 1 ∨ (i 0).val / 256 = 2 * ((c.val + 2) % 8) + 1 := by
  have hi : (i 0).val < 4096 := (i 0).isLt
  have hj : (i 1).val < 1024 := (i 1).isLt
  have t : Layout.Tiles ⟨2, ![4096, 1024]⟩ ⟨2, ![4096, 8192]⟩ 1 8 := by decide
  obtain ⟨e0, e1⟩ := Layout.idx_cols_val t c i
  rw [Layout.block_apply, fn_apply] at h
  have d0 : ((t.idx c i) 0).val / 512 = (i 0).val / 256 / 2 := by rw [e0, Nat.div_div_eq_div_mul]
  have d1 : ((t.idx c i) 1).val / 1024 = c.val := by rw [e1]; show (c.val * 1024 + (i 1).val) / 1024 = c.val; omega
  exact bands c ⟨(i 0).val / 256, by omega⟩ (by rw [← d0]; rw [d1, e0] at h; rw [d0]; rw [← Nat.div_div_eq_div_mul (i 0).val 256 2] at h; exact h)

end Cert.Mask

end
-- ==== Proof.WholeData.lean ====
/-
# The whole kernel: what its buffers hold

Every device sends the upper half of its block of `x` to the device on its right and the lower half to the device on its
left, and passes on in the next of seven hops what arrived. A direction is a `Bool`: `false` is rightwards, `true` is
leftwards. This module names the memrefs and states what is in them: the halves that travel, the fifteen row bands of the
result, its largest magnitude, and the result quantised.

Everything here is over any float values `F`.
-/
module

public import proofs.«01_k».proof.Proof.Gen.CreditsIdeal
public import proofs.«01_k».proof.Proof.Gen.CreditsIdeal.Skeleton
public import proofs.«01_k».proof.Proof.Gen.CreditsIdeal.Launch
public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ)

/-! ## Neighbours -/

set_option backward.proofsInPublic true in
/-- The neighbour of `c` in direction `b`. -/
def nb (b : Bool) (c : Dev nD) : Dev nD := ⟨(c.val + if b then 7 else 1) % 8, Nat.mod_lt _ (by decide)⟩

set_option backward.proofsInPublic true in
/-- The device `d` places to the right of `c`, -/
def ahead (d : Fin 8) (c : Dev nD) : Dev nD := ⟨(c.val + d.val) % 8, Nat.mod_lt _ (by decide)⟩
set_option backward.proofsInPublic true in
/-- and `d` places to the left. -/
def behind (d : Fin 8) (c : Dev nD) : Dev nD := ⟨(c.val + (8 - d.val)) % 8, Nat.mod_lt _ (by decide)⟩

theorem nb_not (b : Bool) (c : Dev nD) : nb (!b) (nb b c) = c := by revert b c; decide
theorem nb_not' (b : Bool) (c : Dev nD) : nb b (nb (!b) c) = c := by revert b c; decide
theorem behind_ahead (d : Fin 8) (c : Dev nD) : behind d (ahead d c) = c := by revert d c; decide
theorem ahead_behind (d : Fin 8) (c : Dev nD) : ahead d (behind d c) = c := by revert d c; decide

/-- The device `n` places from `c` in direction `b`. -/
def far (b : Bool) : ℕ → Dev nD → Dev nD
  | 0, c => c
  | n + 1, c => nb b (far b n c)

theorem far_nb (b : Bool) (n : ℕ) (c : Dev nD) : far b n (nb b c) = far b (n + 1) c := by
  induction n with
  | zero => rfl
  | succ n ih => exact congrArg (nb b) ih

/-- The device whose half is at `c` after hop `h`: `h + 1` devices against direction `b`. -/
def orig (b : Bool) (h : ℕ) (c : Dev nD) : Dev nD := far (!b) (h + 1) c

theorem orig_zero (b : Bool) (c : Dev nD) : orig b 0 (nb b c) = c := nb_not b c
theorem orig_succ (b : Bool) (h : ℕ) (c : Dev nD) : orig b (h + 1) (nb b c) = orig b h c := by
  unfold orig
  rw [← far_nb (!b) (h + 1) (nb b c), nb_not]

/-! ## Memrefs -/

abbrev xM : Memref sig .tc .vmem S512x4096 .f32 := Memref.whole cc0_stg0_0
abbrev wM : Memref sig .tc .vmem S4096x1024 .f32 := Memref.whole cc0_stg1_0
abbrev oM : Memref sig .tc .vmem S4096x1024 .f32 := Memref.whole cc0_stg2_0
abbrev bM : Memref sig .tc .vmem S512x4096 .bf16 := Memref.whole cc0_scratch0
abbrev aM : Memref sig .tc .vmem S8x8x128 .f32 := Memref.whole cc0_scratch3

/-- The two-slot buffer of a direction. -/
abbrev ringM : Bool → Memref sig .tc .vmem S2x256x4096 .bf16
  | false => Memref.whole cc0_scratch1
  | true => Memref.whole cc0_scratch2

abbrev slotR : Fin 2 → Rect S2x256x4096
  | 0 => Rect.unit (s := S2x256x4096) ![0, 0, 0] S1x256x4096.size inb_S2x256x4096_S1x256x4096_0_0_0
  | 1 => Rect.unit (s := S2x256x4096) ![1, 0, 0] S1x256x4096.size inb_S2x256x4096_S1x256x4096_1_0_0

/-- Slot `s` of direction `b`. -/
abbrev slotM : Bool → Fin 2 → Memref sig .tc .vmem S256x4096 .bf16
  | b, 0 => ((ringM b).slice (Rect.unit (s := S2x256x4096) ![0, 0, 0] S1x256x4096.size inb_S2x256x4096_S1x256x4096_0_0_0) (fun _ => rfl)).squeeze S256x4096 squeezes_S1x256x4096_S256x4096
  | b, 1 => ((ringM b).slice (Rect.unit (s := S2x256x4096) ![1, 0, 0] S1x256x4096.size inb_S2x256x4096_S1x256x4096_1_0_0) (fun _ => rfl)).squeeze S256x4096 squeezes_S1x256x4096_S256x4096

/-- The half of the device's own block that goes in direction `b`. -/
abbrev halfM : Bool → Memref sig .tc .vmem S256x4096 .bf16
  | false => bM.slice (Rect.unit (s := S512x4096) ![0, 0] S256x4096.size inb_S512x4096_S256x4096_0_0) (fun _ => rfl)
  | true => bM.slice (Rect.unit (s := S512x4096) ![256, 0] S256x4096.size inb_S512x4096_S256x4096_256_0) (fun _ => rfl)

theorem inbT (d : Fin 8) (a : Fin S8x8x128.rank) : (![d.val, 0, 0] : Fin 3 → ℕ) a + S1x8x128.size a ≤ S8x8x128.size a := by
  revert a; revert d; decide

abbrev tileR (d : Fin 8) : Rect S8x8x128 := Rect.unit (s := S8x8x128) ![d.val, 0, 0] S1x8x128.size (inbT d)

/-- Tile `d` of the buffer of largest magnitudes. -/
abbrev tileM (d : Fin 8) : Memref sig .tc .vmem S8x128 .f32 := (aM.slice (tileR d) (fun _ => rfl)).squeeze S8x128 squeezes_S1x8x128_S8x128

abbrev N : ℕ := (slotM false 0).view.dmaCredit
theorem N_pos : 0 < N := View.dmaCredit_pos _ (by decide)
theorem credit_slot (b : Bool) (s : Fin 2) : (slotM b s).view.dmaCredit = N := by
  cases b <;> match s with
    | 0 => rfl
    | 1 => rfl
theorem credit_half (b : Bool) : (halfM b).view.dmaCredit = N := by cases b <;> rfl
abbrev NT : ℕ := (tileM 0).view.dmaCredit
theorem NT_pos : 0 < NT := View.dmaCredit_pos _ (by decide)
theorem credit_tile (d : Fin 8) : (tileM d).view.dmaCredit = NT := rfl

/-! ## What travels -/

/-- Device `c`'s block of `x`, -/
def xs (c : Dev nD) : (cc0_stg0_0 : Ref sig .tc).ty.Contents (Elt F) := (win0_0.blk (0 : Fin 1)).view.read (Elt F) (m ((c : Thread nD τ).loc main_arg0))
/-- its block of `w`, -/
def ws (c : Dev nD) : (cc0_stg1_0 : Ref sig .tc).ty.Contents (Elt F) := (win0_1.blk (0 : Fin 1)).view.read (Elt F) (m ((c : Thread nD τ).loc main_arg1))
/-- its block of `x` rounded, -/
def xb (c : Dev nD) : (cc0_scratch0 : Ref sig .tc).ty.Contents (Elt F) := truncf .bf16 (xs m c : FVec F S512x4096 .f32) bitsLt_bf16_f32
/-- and the half of that which goes in direction `b`. -/
def half : Bool → Dev nD → FVec F S256x4096 .bf16
  | false, c => (halfM false).view.read (Elt F) (xb m c)
  | true, c => (halfM true).view.read (Elt F) (xb m c)

/-! ## The bands of the result -/

/-- The product of a half block with the device's columns of `w`. -/
def mm (X : FVec F S256x4096 .bf16) (W : Vec F S4096x1024 .f32) : FVec F S256x1024 .f32 :=
  matmul dot_S256x4096_S4096x1024_S256x1024_1_0_0_1_n_n none X (shapeCast S4096x1024 W shapeCasts_S4096x1024_S4096x1024) (constant S256x1024 .f32 0x00000000#32)

abbrev own (c : Dev nD) : Rect S4096x1024 := Rect.unit (s := S4096x1024) (k0_off2 c) S512x1024.size (k0_off2_inb c)
/-- The rows of what came rightwards in hop `6 - r`, -/
abbrev bandF (c : Dev nD) (r : Fin 7) : Rect S4096x1024 := Rect.unit (s := S4096x1024) (k0_off3 c (BitVec.ofNat 32 (1 + r.val))) S256x1024.size (k0_off3_inb c r)
/-- and of what came leftwards in hop `r`. -/
abbrev bandT (c : Dev nD) (r : Fin 7) : Rect S4096x1024 := Rect.unit (s := S4096x1024) (k0_off4 c (BitVec.ofNat 32 (1 + r.val))) S256x1024.size (k0_off4_inb c r)

abbrev OBuf : Type := (cc0_stg2_0 : Ref sig .tc).ty.Contents (Elt F)

/-- The result's buffer after the device's own rows are stored, -/
def put0 (c : Dev nD) (g : OBuf (F := F)) : OBuf (F := F) := (oM.access (own c)).write (Elt F) g (k0_pay3 (xb m c) (ws m c)) Finset.univ
/-- and after the two bands of a hop are, the hop's bands being number `r` rightwards and `r'` leftwards. -/
def put (c : Dev nD) (r r' : Fin 7) (h : ℕ) (f : OBuf (F := F)) : OBuf (F := F) :=
  (oM.access (bandT c r')).write (Elt F) ((oM.access (bandF c r)).write (Elt F) f (mm (half m false (orig false h c)) (ws m c)) Finset.univ)
    (mm (half m true (orig true h c)) (ws m c)) Finset.univ

/-- The buffer after all seven hops. -/
def putAll (c : Dev nD) (g : OBuf (F := F)) : OBuf (F := F) :=
  put m c 0 6 6 (put m c 1 5 5 (put m c 2 4 4 (put m c 3 3 3 (put m c 4 2 2 (put m c 5 1 1 (put m c 6 0 0 (put0 m c g)))))))

/-- The product's columns on device `c`, before they are quantised. -/
def yF (c : Dev nD) : OBuf (F := F) := putAll m c (fun _ => Scalar.ofBits .f32 0x00000000#32)

/-! ## Largest magnitudes -/

abbrev blkA (k : Fin k0_t2_loop.trips) : Rect S4096x1024 := Rect.unit (s := S4096x1024) (k0_off5 k) S256x1024.size (k0_off5_inb k)

/-- The largest magnitude of the first `k` blocks of rows. -/
def amaxTo (f : OBuf (F := F)) : ℕ → F .f32
  | 0 => Scalar.ofBits .f32 0x00000000#32
  | k + 1 => if h : k < k0_t2_loop.trips then k0_pay19 (amaxTo f k) (oM.view.readAt (Elt F) (blkA ⟨k, h⟩).toLoadRect f) else amaxTo f k

/-- The largest magnitude on device `c`. -/
def amaxL (c : Dev nD) : F .f32 := amaxTo (yF m c) k0_t2_loop.trips

/-- A tile of one value. -/
def tileV (a : F .f32) : FVec F S8x128 .f32 := broadcast S8x128 a

/-- The largest magnitude of all devices, as device `c` collects it. -/
def amaxG (c : Dev nD) : F .f32 :=
  Scalar.maximumf (Scalar.maximumf (Scalar.maximumf (Scalar.maximumf (Scalar.maximumf (Scalar.maximumf (Scalar.maximumf (amaxL m c)
    (amaxL m (behind 1 c))) (amaxL m (behind 2 c))) (amaxL m (behind 3 c))) (amaxL m (behind 4 c))) (amaxL m (behind 5 c))) (amaxL m (behind 6 c))) (amaxL m (behind 7 c))

/-! ## The result -/

abbrev blkQ (k : Fin k0_t3_loop.trips) : Rect S4096x1024 := Rect.unit (s := S4096x1024) (k0_off6 k) S128x1024.size (k0_off6_inb k)

theorem trips3_eq : k0_t3_loop.trips = 32 := by decide
theorem trips2_eq : k0_t2_loop.trips = 16 := by decide
theorem trips1_eq : k0_t1_loop.trips = 4 := by decide

/-- The number of the block of rows an element is in, -/
def blkOf (i : S4096x1024.Idx) : Fin k0_t3_loop.trips := ⟨(i 0).val / 128, by rw [trips3_eq]; have h : (i 0).val < 4096 := (i 0).isLt; omega⟩
/-- and where it is in the block. -/
def inBlk (i : S4096x1024.Idx) : S128x1024.Idx := fun a => match a with
  | ⟨0, _⟩ => ⟨(i 0).val % 128, Nat.mod_lt _ (by decide)⟩
  | ⟨1, _⟩ => i 1

/-- A buffer quantised with the largest magnitude `a`. -/
def quant (a : F .f32) (f : OBuf (F := F)) : OBuf (F := F) := fun i =>
  k0_pay1 a (oM.view.readAt (Elt F) (blkQ (blkOf i)).toLoadRect f) (inBlk i)

/-- What the result holds on device `c` at the end. -/
def qF (c : Dev nD) : OBuf (F := F) := quant (amaxG m c) (yF m c)

end Cert.WholeRun

end
-- ==== Proof.WholeRing.lean ====
/-
# The whole kernel: cells, schedule, levels and debts

Each direction has two slots on every device, and per slot one semaphore counting what was sent out of it and one counting
what arrived in it. At entry the two neighbours of a device signal its barrier semaphore, and with the signal of the
neighbour in direction `b` come the two slots of that neighbour which the device is about to fill. From hop 2 on a slot is
filled again, and with the credit of hop `j + 2` comes the slot that hop `j` had filled, now read and passed on.

With the same signals the tiles of largest magnitudes travel to the device that will fill them: tile `d` of a device is
filled from `d` places to its left, so tiles 1 to 4 travel leftwards and tiles 5 to 7 rightwards.

Everything here is over any float values `F`.
-/
module

public import proofs.«01_k».proof.Proof.WholeData

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Resources: the staging pipeline's rounds and the rings' -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Cells -/

/-- The kinds of cell on a device: its barrier; per direction and slot what was sent and what arrived; per direction the
    credits; and per exchanged tile what was sent and what arrived. -/
inductive CK where
  | bar
  | snd (b : Bool) (s : Fin 2)
  | rcv (b : Bool) (s : Fin 2)
  | crd (b : Bool)
  | axs (i : Fin 7)
  | axr (i : Fin 7)
deriving DecidableEq

abbrev CK.all : List CK :=
  [.bar, .snd false 0, .snd true 0, .snd false 1, .snd true 1, .rcv false 0, .rcv true 0, .rcv false 1, .rcv true 1, .crd false, .crd true,
    .axs 0, .axs 1, .axs 2, .axs 3, .axs 4, .axs 5, .axs 6, .axr 0, .axr 1, .axr 2, .axr 3, .axr 4, .axr 5, .axr 6]
instance : Fintype CK := ⟨⟨CK.all, by decide⟩, fun k => by
  rcases k with _ | ⟨_ | _, s⟩ | ⟨_ | _, s⟩ | ⟨_ | _⟩ | s | s <;> first | decide | (revert s; decide)⟩

abbrev barS : Sem sig := (SemArray.scalar (sig.barrier 0 rfl) : Sems sig S_).sem
abbrev at0 (a : DmaSems sig S2) : DmaSem sig := ((a.slice (Rect.unit (s := S2) ![0] S1.size inb_S2_S1_0)).squeeze S_ squeezes_S1_S_).sem
abbrev at1 (a : DmaSems sig S2) : DmaSem sig := ((a.slice (Rect.unit (s := S2) ![1] S1.size inb_S2_S1_1)).squeeze S_ squeezes_S1_S_).sem
abbrev ax (a : DmaSems sig S8) : Fin 7 → DmaSem sig
  | 0 => ((a.slice (Rect.unit (s := S8) ![1] S1.size inb_S8_S1_1)).squeeze S_ squeezes_S1_S_).sem
  | 1 => ((a.slice (Rect.unit (s := S8) ![2] S1.size inb_S8_S1_2)).squeeze S_ squeezes_S1_S_).sem
  | 2 => ((a.slice (Rect.unit (s := S8) ![3] S1.size inb_S8_S1_3)).squeeze S_ squeezes_S1_S_).sem
  | 3 => ((a.slice (Rect.unit (s := S8) ![4] S1.size inb_S8_S1_4)).squeeze S_ squeezes_S1_S_).sem
  | 4 => ((a.slice (Rect.unit (s := S8) ![5] S1.size inb_S8_S1_5)).squeeze S_ squeezes_S1_S_).sem
  | 5 => ((a.slice (Rect.unit (s := S8) ![6] S1.size inb_S8_S1_6)).squeeze S_ squeezes_S1_S_).sem
  | 6 => ((a.slice (Rect.unit (s := S8) ![7] S1.size inb_S8_S1_7)).squeeze S_ squeezes_S1_S_).sem

abbrev csem : CK → SemLoc sig
  | .bar => .reg barS
  | .snd false 0 => .dma (at0 cc0_scratch4) | .snd false 1 => .dma (at1 cc0_scratch4)
  | .rcv false 0 => .dma (at0 cc0_scratch5) | .rcv false 1 => .dma (at1 cc0_scratch5)
  | .snd true 0 => .dma (at0 cc0_scratch6) | .snd true 1 => .dma (at1 cc0_scratch6)
  | .rcv true 0 => .dma (at0 cc0_scratch7) | .rcv true 1 => .dma (at1 cc0_scratch7)
  | .crd false => .reg cc0_scratch10.sem | .crd true => .reg cc0_scratch11.sem
  | .axs i => .dma (ax cc0_scratch8 i)
  | .axr i => .dma (ax cc0_scratch9 i)

set_option maxRecDepth 20000 in
theorem csem_injective : Function.Injective csem := by
  have h : ∀ k k' : CK, csem k = csem k' → k = k' := by decide
  exact fun k k' => h k k'

abbrev cell (c : Dev nD) (k : CK) : GSem nD τ sig := ((c : Thread nD τ), csem k)
abbrev kcell (ck : Dev nD × CK) : GSem nD τ sig := cell ck.1 ck.2

open Classical in
/-- The kind of a semaphore, if it is one of the rings'. -/
def kof (s : SemLoc sig) : Option CK := if h : ∃ k, csem k = s then some h.choose else none

theorem kof_csem (k : CK) : kof (csem k) = some k := by
  unfold kof
  have h : ∃ k', csem k' = csem k := ⟨k, rfl⟩
  rw [dif_pos h]; exact congrArg some (csem_injective h.choose_spec)

/-! ## The tiles that travel, and the shares of the tile sent -/

/-- The tiles that have still to travel after `i` steps. -/
def tset : Bool → ℕ → Finset (Fin 8)
  | false, i => Finset.univ.filter fun d => i + 1 ≤ d.val ∧ d.val ≤ 4
  | true, i => Finset.univ.filter fun d => 5 ≤ d.val ∧ d.val + i ≤ 7

/-- The tiles among `S` of the device `i + 1` places from `c` in direction `b`. -/
def tiles (b : Bool) (i : ℕ) (c : Dev nD) (S : Finset (Fin 8)) : sProp 𝕄 :=
  bigSep S fun d => iprop(∃ X, owns (far b (i + 1) c : Thread nD τ) (tileM d) fullShare X)

/-- What of tile 0 is left after `n` shares were given, -/
def rem : ℕ → PosShare TreeShare
  | 0 => fullShare
  | n + 1 => (rem n).right
/-- and the share given next. -/
def giv (n : ℕ) : PosShare TreeShare := (rem n).left

/-! ## The schedule -/

/-- The slot that hop `h` uses. -/
abbrev sl (h : ℕ) : Fin 2 := ⟨h % 2, Nat.mod_lt _ (by decide)⟩

/-- What hop `h` sends from: the device's own half, or the slot filled by the hop before. -/
def sent (c : Dev nD) (b : Bool) : ℕ → sProp 𝕄
  | 0 => owns (c : Thread nD τ) (halfM b) fullShare.right (half m b c)
  | h + 1 => owns (c : Thread nD τ) (slotM b (sl h)) fullShare.right (half m b (orig b h c))

/-- What duty `d` of round `r` of a cell of kind `k` on `c` hands over. -/
def pay (c : Dev nD) : CK → ℕ → Bool → sProp 𝕄
  | .bar, _, d => iprop((∃ X, owns (nb d c : Thread nD τ) (slotM d 0) fullShare X) ∗ (∃ X, owns (nb d c : Thread nD τ) (slotM d 1) fullShare X)
      ∗ tiles d 0 c (tset d 0))
  | .rcv b s, r, _ => iprop(owns (c : Thread nD τ) (slotM b s) fullShare (half m b (orig b (2 * r + s.val) c))
      ∗ reached ER (cell (nb (!b) c) (.crd b)) (2 * r + s.val - 1))
  | .snd b s, r, _ => sent m c b (2 * r + s.val)
  | .crd b, j, _ => iprop((∃ X, owns (nb b c : Thread nD τ) (slotM b (sl j)) fullShare X) ∗ reached ER (cell (nb b c) (.rcv b (sl j))) (j / 2 + 1)
      ∗ tiles b (j + 1) c (tset b (j + 1)))
  | .axr i, _, _ => owns (c : Thread nD τ) (tileM i.succ) fullShare (tileV (amaxL m (behind i.succ c)))
  | .axs i, _, _ => owns (c : Thread nD τ) (tileM 0) (giv i.val) (tileV (amaxL m c))

/-- How many rounds a cell goes through, -/
abbrev nr : CK → ℕ
  | .snd _ 0 => 4
  | .snd _ 1 => 3
  | .rcv _ 0 => 4
  | .rcv _ 1 => 3
  | .crd _ => 5
  | _ => 1

/-- and its duties in each. -/
abbrev dut : CK → Finset Bool
  | .bar => Finset.univ
  | _ => {false}

abbrev amt : CK → ℕ
  | .bar => 1
  | .crd _ => 1
  | .axs _ => NT
  | .axr _ => NT
  | _ => N

theorem amt_pos (k : CK) : 0 < amt k := by cases k <;> first | exact Nat.one_pos | exact N_pos | exact NT_pos

def ringRd : Rounds.Schedule (GSem nD τ sig) Bool 𝕄 where
  duties g r := if g.1.2 = .tc then (kof g.2).elim ∅ fun k => if r < nr k then dut k else ∅ else ∅
  unitless _ := False
  amount g _ _ := (kof g.2).elim 1 amt
  payload g r d := (kof g.2).elim iprop(emp) fun k => pay m g.1.1 k r d
  amount_pos g _ _ _ := by cases kof g.2 with
    | none => exact Nat.one_pos
    | some k => exact amt_pos k

instance tiles_storable (b : Bool) (i : ℕ) (c : Dev nD) (S : Finset (Fin 8)) : BI.Storable (upEmb : UEmb _ 𝕄) (tiles b i c S) := by
  unfold tiles; infer_instance

instance sent_storable (c : Dev nD) (b : Bool) (h : ℕ) : BI.Storable (upEmb : UEmb _ 𝕄) (sent m c b h) := by
  unfold sent; split <;> infer_instance

instance pay_storable (c : Dev nD) (k : CK) (r : ℕ) (d : Bool) : BI.Storable (upEmb : UEmb _ 𝕄) (pay m c k r d) := by
  unfold pay; split <;> infer_instance

instance ringRd_storable (g : GSem nD τ sig) (r : ℕ) (d : Bool) : BI.Storable (upEmb : UEmb _ 𝕄) ((ringRd m).payload g r d) := by
  show BI.Storable upEmb ((kof g.2).elim iprop(emp) fun k => pay m g.1.1 k r d)
  cases kof g.2 with
  | none => exact inferInstanceAs (BI.Storable upEmb iprop(emp))
  | some k => exact pay_storable m g.1.1 k r d

section Sched
variable (c : Dev nD) (k : CK) (r : ℕ)

theorem duties_cell (h : r < nr k) : (ringRd m).duties (cell c k) r = dut k := by
  dsimp only [ringRd]; rw [if_pos rfl, kof_csem]; exact if_pos h
theorem duties_done (h : nr k ≤ r) : (ringRd m).duties (cell c k) r = ∅ := by
  dsimp only [ringRd]; rw [if_pos rfl, kof_csem]; exact if_neg (by omega)
theorem amount_cell (d : Bool) : (ringRd m).amount (cell c k) r d = amt k := by
  dsimp only [ringRd]; rw [kof_csem]; rfl
theorem payload_cell (d : Bool) : (ringRd m).payload (cell c k) r d = pay m c k r d := by
  dsimp only [ringRd]; rw [kof_csem]; rfl
theorem expect_cell (h : r < nr k) : (ringRd m).expect (cell c k) r = (dut k).card * amt k := by
  unfold Schedule.expect Schedule.amountOf
  rw [duties_cell m c k r h, Finset.sum_congr rfl fun d _ => amount_cell m c k r d, Finset.sum_const, smul_eq_mul]
theorem rest_cell (h : r < nr k) :
    bigSep ((ringRd m).duties (cell c k) r \ ∅) (fun d => (ringRd m).payload (cell c k) r d) = bigSep (dut k) fun d => pay m c k r d := by
  rw [Finset.sdiff_empty, duties_cell m c k r h]; exact bigSep_congr fun d _ => payload_cell m c k r d

end Sched

/-! ## The payments a device makes, and its debts -/

/-- The payments of a device: its unit into the barrier whose duty is `b`, its transfers in hop `h`, its `j`-th credit and
    its tiles. -/
inductive Tk where
  | bar (b : Bool)
  | rcv (b : Bool) (h : Fin 7)
  | snd (b : Bool) (h : Fin 7)
  | crd (b : Bool) (j : Fin 5)
  | axr (i : Fin 7)
  | axs (i : Fin 7)
deriving DecidableEq

abbrev Tk.hop (h : Fin 7) : List Tk := [.snd false h, .rcv false h, .snd true h, .rcv true h]
abbrev Tk.all : List Tk :=
  [.bar false, .bar true,
    .snd false 0, .rcv false 0, .snd true 0, .rcv true 0, .snd false 1, .rcv false 1, .snd true 1, .rcv true 1,
    .snd false 2, .rcv false 2, .snd true 2, .rcv true 2, .snd false 3, .rcv false 3, .snd true 3, .rcv true 3,
    .snd false 4, .rcv false 4, .snd true 4, .rcv true 4, .snd false 5, .rcv false 5, .snd true 5, .rcv true 5,
    .snd false 6, .rcv false 6, .snd true 6, .rcv true 6,
    .crd false 0, .crd true 0, .crd false 1, .crd true 1, .crd false 2, .crd true 2, .crd false 3, .crd true 3, .crd false 4, .crd true 4,
    .axs 0, .axr 0, .axs 1, .axr 1, .axs 2, .axr 2, .axs 3, .axr 3, .axs 4, .axr 4, .axs 5, .axr 5, .axs 6, .axr 6]
set_option maxRecDepth 20000 in
instance : Fintype Tk := ⟨⟨Tk.all, by decide⟩, fun k => by
  rcases k with (_ | _) | ⟨_ | _, s⟩ | ⟨_ | _, s⟩ | ⟨_ | _, s⟩ | s | s <;> first | decide | (revert s; decide)⟩

abbrev Tk.kind : Tk → CK
  | .bar _ => .bar
  | .rcv b h => .rcv b (sl h.val)
  | .snd b h => .snd b (sl h.val)
  | .crd b _ => .crd b
  | .axr i => .axr i
  | .axs i => .axs i

abbrev Tk.rnd : Tk → ℕ
  | .rcv _ h => h.val / 2
  | .snd _ h => h.val / 2
  | .crd _ j => j.val
  | _ => 0

abbrev Tk.duty : Tk → Bool
  | .bar b => b
  | _ => false

/-- Whose cell the payment of `c` goes to. -/
abbrev payee : Tk → Dev nD → Dev nD
  | .bar b => nb (!b)
  | .rcv b _ => nb b
  | .snd _ _ => id
  | .crd b _ => nb (!b)
  | .axr i => ahead i.succ
  | .axs _ => id

/-- Who makes the payment into `c`'s cell. -/
abbrev payer : Tk → Dev nD → Dev nD
  | .bar b => nb b
  | .rcv b _ => nb (!b)
  | .snd _ _ => id
  | .crd b _ => nb b
  | .axr i => behind i.succ
  | .axs _ => id

def payEquiv (t : Tk) : Dev nD ≃ Dev nD where
  toFun := payee t
  invFun := payer t
  left_inv c := by cases t <;> first | rfl | exact nb_not' _ c | exact nb_not _ c | exact behind_ahead _ c
  right_inv c := by cases t <;> first | rfl | exact nb_not _ c | exact nb_not' _ c | exact ahead_behind _ c

abbrev paid (c : Dev nD) (t : Tk) : GSem nD τ sig := cell (payee t c) t.kind

/-- What `c` owes while the payments `l` are still to be made, the head next. -/
def debt (c : Dev nD) : List Tk → CellTallies nD τ sig ℕ
  | [] => 0
  | t :: l => debt c l + tallyAt (paid c t) t.rnd (amt t.kind)

/-- The payments a device makes that another waits for, in program order. -/
abbrev dues : List Tk :=
  [.bar false, .bar true, .rcv false 0, .rcv true 0, .rcv false 1, .rcv true 1, .crd false 0, .crd true 0, .rcv false 2, .rcv true 2,
    .crd false 1, .crd true 1, .rcv false 3, .rcv true 3, .crd false 2, .crd true 2, .rcv false 4, .rcv true 4,
    .crd false 3, .crd true 3, .rcv false 5, .rcv true 5, .crd false 4, .crd true 4, .rcv false 6, .rcv true 6,
    .axr 0, .axr 1, .axr 2, .axr 3, .axr 4, .axr 5, .axr 6]

theorem debt_apply (c : Dev nD) (l : List Tk) (g : GSem nD τ sig) (u : ℕ) :
    debt c l g u = (l.map fun t => if g = paid c t ∧ u = t.rnd then amt t.kind else 0).sum := by
  induction l with
  | nil => rfl
  | cons t l ih =>
    show (debt c l + tallyAt (paid c t) t.rnd (amt t.kind) : CellTallies nD τ sig ℕ) g u = _
    rw [Pi.add_apply, Finsupp.add_apply, ih, tallyAt_apply, List.map_cons, List.sum_cons, Nat.add_comm]

theorem debt_pos {c : Dev nD} {l : List Tk} {g : GSem nD τ sig} {u : ℕ} (h : 0 < debt c l g u) : ∃ t ∈ l, g = paid c t ∧ u = t.rnd := by
  induction l with
  | nil => exact absurd h (Nat.lt_irrefl 0)
  | cons t l ih =>
    rw [debt_apply, List.map_cons, List.sum_cons] at h
    by_cases ht : g = paid c t ∧ u = t.rnd
    · exact ⟨t, List.mem_cons_self, ht⟩
    · rw [if_neg ht, Nat.zero_add, ← debt_apply] at h
      obtain ⟨t', h1, h2⟩ := ih h
      exact ⟨t', List.mem_cons_of_mem _ h1, h2⟩

/-! ## Levels -/

abbrev lvK : CK → ℕ → ℕ
  | .bar, _ => 1
  | .rcv _ s, r => 2 * (2 * r + s.val) + 2
  | .snd _ _, _ => 0
  | .crd _, r => 2 * r + 5
  | .axr _, _ => 20
  | .axs _, _ => 0

def L (g : GSem nD τ sig) : Finset ℕ := if g.1.2 = .tc then Finset.range 5 else ∅
def lv (g : GSem nD τ sig) (u : ℕ) : ℕ := (kof g.2).elim 0 fun k => lvK k u

theorem L_of_ne (g : GSem nD τ sig) (h : g.1.2 ≠ .tc) : L g = ∅ := if_neg h
theorem L_tc (c : Dev nD) (sm : SemLoc sig) : L ((c : Thread nD τ), sm) = Finset.range 5 := if_pos rfl
theorem lv_cell (c : Dev nD) (k : CK) (u : ℕ) : lv (cell c k) u = lvK k u := by dsimp only [lv]; rw [kof_csem]; rfl

theorem nr_le (k : CK) : nr k ≤ 5 := by revert k; decide
theorem rnd_lt (t : Tk) : t.rnd < 5 := by
  rcases t with b | ⟨b, h⟩ | ⟨b, h⟩ | ⟨b, h⟩ | h | h <;> dsimp only [Tk.rnd] <;> omega
theorem rnd_lt_nr (t : Tk) : t.rnd < nr t.kind := by revert t; decide

omit [FloatOps F] [Named F] in
/-- A device may wait at a cell below everything it owes. -/
theorem mayWait (c : Dev nD) (sm : SemLoc sig) (u : ℕ) (hu : u < 5) (l : List Tk) (h : ∀ t ∈ l, ((kof sm).elim 0 fun k => lvK k u) < lvK t.kind t.rnd) :
    (levAts L lv : sProp 𝕄) ⊢ MayWait (c : Thread nD τ) sm u (debt c l) :=
  MayOwe.of_cut (L := L) (lev := lv) ((kof sm).elim 0 fun k => lvK k u)
    (fun p hp => by rw [Finset.mem_singleton.mp hp, L_tc]; exact Finset.mem_range.mpr hu)
    (fun g u hg => by obtain ⟨t, -, rfl, rfl⟩ := debt_pos hg; exact Finset.mem_range.mpr (rnd_lt t))
    (fun p hp => by rw [Finset.mem_singleton.mp hp]; exact le_rfl)
    (fun g u hg => by obtain ⟨t, ht, rfl, rfl⟩ := debt_pos hg; rw [lv_cell]; exact h t ht)

omit [FloatOps F] [Named F] in
theorem mayWait_cell (c : Dev nD) (k : CK) (r : ℕ) (hr : r < nr k) (l : List Tk) (h : ∀ t ∈ l, lvK k r < lvK t.kind t.rnd) :
    (levAts L lv : sProp 𝕄) ⊢ MayWait (c : Thread nD τ) (csem k) r (debt c l) :=
  mayWait c (csem k) r (lt_of_lt_of_le hr (nr_le k)) l (by rw [kof_csem]; exact h)

end Cert.WholeRun

end
-- ==== Proof.WholeStep.lean ====
/-
# The whole kernel: one step of the protocol each
-/
module

public import proofs.«01_k».proof.Proof.WholeRing

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

abbrev 𝒱₀ : Variants := Variants.none

variable (m : (ℓ : Loc nD τ sig) → Buf (Elt F) ℓ) (K : Dev nD × CK → ℕ) (c : Dev nD)

/-- Every cell's invariant and that every cell has reached its first round. -/
def records : sProp 𝕄 :=
  iprop((bigSep Finset.univ fun ck : Dev nD × CK => cellInv ER (ringRd m) (K ck) (kcell ck))
    ∗ bigSep Finset.univ fun ck : Dev nD × CK => reached ER (kcell ck) 0)

instance records_persistent : BI.Persistent (records m K) := by unfold records; infer_instance

theorem inv_at (k : CK) : records m K ⊢ cellInv ER (ringRd m) (K (c, k)) (cell c k) := by
  unfold records
  iintro ⟨H, -⟩
  iapply (show (bigSep Finset.univ fun ck : Dev nD × CK => (cellInv ER (ringRd m) (K ck) (kcell ck) : sProp 𝕄)) ⊢ cellInv ER (ringRd m) (K (c, k)) (cell c k) from
    bigSep_elim (Finset.mem_univ (c, k)))
  iexact H

theorem reached_at (k : CK) : records m K ⊢ reached ER (cell c k) 0 := by
  unfold records
  iintro ⟨-, H⟩
  iapply (show (bigSep Finset.univ fun ck : Dev nD × CK => (reached ER (kcell ck) 0 : sProp 𝕄)) ⊢ reached ER (cell c k) 0 from
    bigSep_elim (Finset.mem_univ (c, k)))
  iexact H

/-- The device still owes the payments `l`. -/
def owing (l : List Tk) : sProp 𝕄 := iprop(∃ W, owes (c : Thread nD τ) (debt c l) W)

/-- A cell of the device is at the start of round `r`, and that it got there. -/
def posn (k : CK) (r : ℕ) : sProp 𝕄 := iprop(atPos ER (cell c k) r ∅ 0 ∗ reached ER (cell c k) r)

/-- A wait at one of the device's own cells: what the round hands over. -/
theorem step_wait (k : CK) (r : ℕ) (hr : r < nr k) (l : List Tk) (hl : ∀ t ∈ l, lvK k r < lvK t.kind t.rnd)
    {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem k) k' Q)
    (hk' : k' = (dut k).card * amt k)
    {α : Type} {Q : α → sProp 𝕄} {kk : PUnit → Prog (TpuEff nD τ sig (Elt F) Λ₀ .tc) α} :
    iprop(records m K ∗ levAts L lv ∗ cred (tallyAt (cell c k) r k') ∗ owing c l ∗ posn c k r)
      ⊢ iprop(((owing c l ∗ posn c k (r + 1) ∗ bigSep (dut k) fun d => pay m c k r d)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold owing posn
  iintro ⟨#HR, #Hlev, Hc, ⟨%W, HO⟩, Hat, -⟩ Hk
  iapply (Rounds.wp_wait_rest_token 𝒱₀ ER (ringRd m) (c : Thread nD τ) none (κ := K (c, k)) hw (Set.mem_univ _) r
      (O := debt c l) (W := W) (R := r) (m := 0) (T := ∅) (by rw [expect_cell m c k r hr, hk', Nat.zero_add])) $$ [Hc HO Hat]
  · isplitr; · iapply (inv_at m K c k); iexact HR
    isplitl [Hc]; · iexact Hc
    isplitl [HO]; · iexact HO
    isplitr; · iapply (mayWait_cell c k r hr l hl); iexact Hlev
    iexact Hat
  iintro ⟨HO, Hat, Hre, Hpay⟩
  ihave Hp := (Entails.of_eq (rest_cell m c k r hr)) $$ Hpay
  iapply Hk
  isplitl [HO]; · iexists _; iexact HO
  isplitl [Hat Hre]
  · isplitl [Hat]; · iexact Hat
    iexact Hre
  iexact Hp

/-- A wait for one payment. -/
theorem step_waitOne (k : CK) (r : ℕ) (hr : r < nr k) (hd : dut k = {false}) (l : List Tk) (hl : ∀ t ∈ l, lvK k r < lvK t.kind t.rnd)
    {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem k) k' Q)
    (hk' : k' = amt k)
    {α : Type} {Q : α → sProp 𝕄} {kk : PUnit → Prog (TpuEff nD τ sig (Elt F) Λ₀ .tc) α} :
    iprop(records m K ∗ levAts L lv ∗ cred (tallyAt (cell c k) r (amt k)) ∗ owing c l ∗ posn c k r)
      ⊢ iprop(((owing c l ∗ posn c k (r + 1) ∗ pay m c k r false)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  have h := step_wait m K c k r hr l hl hw (by rw [hd, hk', Finset.card_singleton, Nat.one_mul]) (Q := Q) (kk := kk)
  rw [hd, bigSep_singleton, hk'] at h
  exact h

theorem amount_slot (b : Bool) (s : Fin 2) : (slotM b s).view.amount (csem (.rcv b s)) = N := by
  cases b <;> match s with
    | 0 => rfl
    | 1 => rfl

/-- A transfer to another device, with `G` for its receiver besides. -/
theorem step_copy (t : Tk) (ks kr : CK) (r : ℕ) (n : Dev nD) {sh : Shape} {e : EltTy} (hkr : t.kind = kr) (hr : t.rnd = r) (hn : n = payee t c) (hd : t.duty = false)
    (hrs : r < nr ks) (hrr : r < nr kr) (hds : dut ks = {false}) (hdr : dut kr = {false}) (A : ℕ) (has : amt ks = A) (har : amt kr = A) (l : List Tk)
    (src dst : Memref sig .tc .vmem sh e) (hA : dst.view.amount (csem kr) = A) (q : PosShare TreeShare) (X : sh.Idx → Elt F e) (G : sProp 𝕄)
    (hpay₁ : owns (c : Thread nD τ) src q X ⊢ pay m c ks r false)
    (hpay₂ : iprop(owns (payee t c : Thread nD τ) dst fullShare X ∗ G) ⊢ pay m (payee t c) kr r false)
    {hsc : (dst : Memref sig (Dev.tc n : Thread nD τ).2.kind .vmem sh e).view.ref.isScScratch = false}
    {hsrc : src.view.WordExact} {hdst : dst.view.WordExact}
    {hsem : DmaTarget.Typed .vmem (csem kr) (.remote (Dev.tc n : Thread nD τ) dst (csem ks) hsc)}
    {α : Type} {Q : α → sProp 𝕄} {kk : PUnit → Prog (TpuEff nD τ sig (Elt F) Λ₀ .tc) α} :
    iprop(records m K ∗ owns (c : Thread nD τ) src q X ∗ ((∃ Y, owns (payee t c : Thread nD τ) dst fullShare Y) ∗ G) ∗ owing c (t :: l)
        ∗ dutyTok ER (cell c ks) r false ∗ reached ER (cell c ks) r ∗ dutyTok ER (cell (payee t c) kr) r false ∗ reached ER (cell (payee t c) kr) r)
      ⊢ iprop(((cred (tallyAt (cell c ks) r A) ∗ owing c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (csem ks) hsc) (csem kr) hsrc hdst hsem) kk) Q) := by
  subst hn hkr hr
  unfold owing
  iintro ⟨#HR, Hs, ⟨⟨%Y, Hd⟩, HG⟩, ⟨%W, HO⟩, Ht1, Hr1, Ht2, Hr2⟩ Hk
  ihave Hs := (show owns (c : Thread nD τ) src q X ⊢ iprop(∃ f, ⌜src.view.read (Elt F) f = X⌝ ∗ src.view.loc (c : Thread nD τ) ↦[src.view.set]{q} f) from .rfl) $$ Hs
  icases Hs with ⟨%fs, %hfs, Hs⟩
  ihave Hd := (show owns (payee t c : Thread nD τ) dst fullShare Y ⊢ iprop(∃ f, ⌜dst.view.read (Elt F) f = Y⌝ ∗ dst.view.loc (payee t c : Thread nD τ) ↦[dst.view.set]{fullShare} f) from .rfl) $$ Hd
  icases Hd with ⟨%fd, %hfd, Hd⟩
  iapply (Rounds.wp_send_pointsTo_with 𝒱₀ ER (ringRd m) (c : Thread nD τ) none (κ₁ := K (c, ks)) (κ₂ := K (payee t c, t.kind))
      (r₁ := t.rnd) (r₂ := t.rnd) (d₁ := false) (d₂ := false) (fs := fs) (fd := fd) (F := G) (W := W)
      (by rw [duties_cell m c ks _ hrs, hds]; exact Finset.mem_singleton_self _) (by rw [duties_cell m _ _ _ hrr, hdr]; exact Finset.mem_singleton_self _)
      t.rnd t.rnd A hA ((amount_cell m c ks _ false).trans has) ((amount_cell m (payee t c) t.kind _ false).trans har) (debt c l) (by rw [← har])
      (by rw [payload_cell]; refine BIBase.Entails.trans ?_ hpay₁; rw [← hfs]; exact owns_intro _ _ _ _)
      (by
        rw [payload_cell]
        refine BIBase.Entails.trans (sep_mono_left ?_) hpay₂
        refine (owns_intro _ _ _ _).trans (Entails.of_eq ?_)
        rw [View.read_write_univ, hfs])) $$ [Hs Hd HG HO Ht1 Hr1 Ht2 Hr2]
  · isplitr; · iapply (inv_at m K c ks); iexact HR
    isplitr; · iapply (inv_at m K (payee t c) t.kind); iexact HR
    isplitl [Hs]; · iexact Hs
    isplitl [Hd HG]
    · isplitl [Hd]; · iexact Hd
      iexact HG
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- A signal to another device, with the payload of its duty. -/
theorem step_signal (t : Tk) (k : CK) (sem : Sem sig) (hk : t.kind = k) (hs : csem k = .reg sem) (ha : amt k = 1) (hd : t.duty ∈ dut k) (hr : t.rnd < nr k)
    (n : Dev nD) (hn : n = payee t c) (l : List Tk) {k' : ℕ} (hk' : k' = 1)
    {α : Type} {Q : α → sProp 𝕄} {kk : PUnit → Prog (TpuEff nD τ sig (Elt F) Λ₀ .tc) α} :
    iprop(records m K ∗ owing c (t :: l) ∗ dutyTok ER (paid c t) t.rnd t.duty ∗ pay m (payee t c) k t.rnd t.duty ∗ reached ER (paid c t) t.rnd)
      ⊢ iprop((owing c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) sem k') kk) Q) := by
  subst hn hk' hk
  have hg : ((payee t c : Thread nD τ), SemLoc.reg sem) = cell (payee t c) t.kind := by rw [← hs]
  unfold owing
  iintro ⟨#HR, ⟨%W, HO⟩, Ht, Hp, Hr⟩ Hk
  iapply (Rounds.wp_signal 𝒱₀ ER (ringRd m) (c : Thread nD τ) none (dst := (payee t c : Thread nD τ)) (κ := K (payee t c, t.kind)) (r := t.rnd)
      (d := t.duty) (W := W) (by rw [hg, duties_cell m _ _ _ hr]; exact hd)
      (by rw [hg, amount_cell, ha]) t.rnd (debt c l) (by rw [hg, ← ha])) $$ [HO Ht Hp Hr]
  · rw [hg, payload_cell]
    isplitr; · iapply (inv_at m K (payee t c) t.kind); iexact HR
    isplitl [HO]; · iexact HO
    isplitl [Ht]; · iexact Ht
    isplitl [Hp]; · iexact Hp
    iexact Hr
  iintro HO
  iapply Hk
  iexists W; iexact HO

/-- A load of a whole slot: the slot's contents, at the loaded shape. -/
theorem step_load_slot (b : Bool) (s : Fin 2) (q : PosShare TreeShare) (X : FVec F S256x4096 .bf16)
    {hl : (ringM b).view.LoadsAt (slotR s).toLoadRect}
    {α : Type} {Q : α → sProp 𝕄} {kk : ((slotR s).shape.Idx → Elt F .bf16) → Prog (TpuEff nD τ sig (Elt F) Λ₀ .tc) α} :
    owns (c : Thread nD τ) (slotM b s) q X
      ⊢ iprop((∀ v, ⌜∀ v' : Vec F S1x256x4096 .bf16, HEq v' v → shapeCast S256x4096 v' shapeCasts_S1x256x4096_S256x4096 = X⌝ -∗ owns (c : Thread nD τ) (slotM b s) q X
            -∗ wp frame (wpE (defs₀ (F := F)) 𝒱₀ (c : Thread nD τ) none) Set.univ (kk v) Q)
          -∗ wp frame (wpE (defs₀ (F := F)) 𝒱₀ (c : Thread nD τ) none) Set.univ (.op (.load (ringM b) (slotR s).toLoadRect hl) kk) Q) := by
  iintro Hs Hk
  ihave Hs := (show owns (c : Thread nD τ) (slotM b s) q X ⊢ iprop(∃ f, ⌜(slotM b s).view.read (Elt F) f = X⌝ ∗ (slotM b s).view.loc (c : Thread nD τ) ↦[(slotM b s).view.set]{q} f) from .rfl) $$ Hs
  icases Hs with ⟨%f, %hf, Hs⟩
  match s, hl, f, hf with
  | 0, hl, f, hf =>
    iapply (wp_load_rect 𝒱₀ (c : Thread nD τ) none Set.univ (m := ringM b) (r := slotR 0) (S := (slotM b 0).view.set) (q := q) (f := f) (by rw [View.set_reshape])) $$ Hs
    iintro Hs
    iapply Hk $$ %_ %(by rintro v' h; cases h; rw [← hf]; rfl)
    rw [← hf]
    iapply (owns_intro (c : Thread nD τ) (slotM b 0) q f)
    iexact Hs
  | 1, hl, f, hf =>
    iapply (wp_load_rect 𝒱₀ (c : Thread nD τ) none Set.univ (m := ringM b) (r := slotR 1) (S := (slotM b 1).view.set) (q := q) (f := f) (by rw [View.set_reshape])) $$ Hs
    iintro Hs
    iapply Hk $$ %_ %(by rintro v' h; cases h; rw [← hf]; rfl)
    rw [← hf]
    iapply (owns_intro (c : Thread nD τ) (slotM b 1) q f)
    iexact Hs

/-! ## Whole buffers -/

abbrev xPts (f : Buf (Elt F) ((c : Thread nD τ).loc cc0_stg0_0)) : sProp 𝕄 := xM.view.loc (c : Thread nD τ) ↦[xM.view.set]{fullShare} f
abbrev wPts (f : Buf (Elt F) ((c : Thread nD τ).loc cc0_stg1_0)) : sProp 𝕄 := wM.view.loc (c : Thread nD τ) ↦[wM.view.set]{fullShare} f
abbrev oPts (f : Buf (Elt F) ((c : Thread nD τ).loc cc0_stg2_0)) : sProp 𝕄 := oM.view.loc (c : Thread nD τ) ↦[oM.view.set]{fullShare} f
abbrev bPts' (q : PosShare TreeShare) (f : Buf (Elt F) ((c : Thread nD τ).loc cc0_scratch0)) : sProp 𝕄 := bM.view.loc (c : Thread nD τ) ↦[bM.view.set]{q} f

/-- A store into a buffer held whole. -/
theorem step_store {s : Shape} {e : EltTy} (M : Memref sig .tc .vmem s e) (r : Rect s) (w : r.shape.Idx → Elt F e) (f : M.view.ty.Contents (Elt F))
    {hx : (M.access r).Stores Finset.univ} {hm : (Finset.univ : Finset r.shape.Idx) = Finset.univ ∨ ∀ a, r.stride a = 1}
    {α : Type} {Q : α → sProp 𝕄} {kk : PUnit → Prog (TpuEff nD τ sig (Elt F) Λ₀ .tc) α} :
    (M.view.loc (c : Thread nD τ) ↦[M.view.set]{fullShare} f)
      ⊢ iprop(((M.view.loc (c : Thread nD τ) ↦[M.view.set]{fullShare} (M.access r).write (Elt F) f w Finset.univ)
            -∗ wp frame (wpE (defs₀ (F := F)) 𝒱₀ (c : Thread nD τ) none) Set.univ (kk ⟨⟩) Q)
          -∗ wp frame (wpE (defs₀ (F := F)) 𝒱₀ (c : Thread nD τ) none) Set.univ (.op (.store M r w Finset.univ hx hm) kk) Q) :=
  wp_store 𝒱₀ (c : Thread nD τ) none Set.univ (m := M) (r := r) (w := w) (Mk := Finset.univ) (S := M.view.set) (f := f) (hx := hx) (hm := hm) (k := kk) (Q := Q) (View.setOn_slice_subset_set M.view r Finset.univ)

/-- A load from a buffer held whole, at any share. -/
theorem step_load {s : Shape} {e : EltTy} (M : Memref sig .tc .vmem s e) (r : LoadRect s) (q : PosShare TreeShare) (f : M.view.ty.Contents (Elt F))
    {hl : M.view.LoadsAt r}
    {α : Type} {Q : α → sProp 𝕄} {kk : (r.shape.Idx → Elt F e) → Prog (TpuEff nD τ sig (Elt F) Λ₀ .tc) α} :
    (M.view.loc (c : Thread nD τ) ↦[M.view.set]{q} f)
      ⊢ iprop(((M.view.loc (c : Thread nD τ) ↦[M.view.set]{q} f)
            -∗ wp frame (wpE (defs₀ (F := F)) 𝒱₀ (c : Thread nD τ) none) Set.univ (kk (M.view.readAt (Elt F) r f)) Q)
          -∗ wp frame (wpE (defs₀ (F := F)) 𝒱₀ (c : Thread nD τ) none) Set.univ (.op (.load M r hl) kk) Q) :=
  wp_load 𝒱₀ (c : Thread nD τ) none Set.univ (m := M) (r := r) (S := M.view.set) (q := q) (f := f) (hl := hl) (k := kk) (Q := Q) (View.setOn_subset_set M.view r.set)

end Cert.WholeRun

end
-- ==== Proof.WholeShare.lean ====
/-
# The whole kernel: shares of its buffers, and buffers in parts
-/
module

public import proofs.«01_k».proof.Proof.WholeStep

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (c : Dev nD)

/-! ## Shares -/

theorem owns_open (t : Thread nD τ) {sp : Space} {s : Shape} {e : EltTy} (M : Memref sig t.2.kind sp s e) (q : PosShare TreeShare) (X : s.Idx → Elt F e) :
    (owns t M q X : sProp 𝕄) ⊢ iprop(∃ f, ⌜M.view.read (Elt F) f = X⌝ ∗ M.view.loc t ↦[M.view.set]{q} f) := .rfl

/-- A memref's share in two halves, at the same contents. -/
theorem owns_halve (t : Thread nD τ) {sp : Space} {s : Shape} {e : EltTy} (M : Memref sig t.2.kind sp s e) (X : s.Idx → Elt F e) (q : PosShare TreeShare) :
    (owns t M q X : sProp 𝕄) ⊢ iprop(owns t M q.left X ∗ owns t M q.right X) := by
  refine (owns_open t M q X).trans ?_
  iintro ⟨%f, %hf, H⟩
  ihave H := (pointsTo_share (PosShare.mem_left_op_right q)).1 $$ H
  icases H with ⟨H1, H2⟩
  rw [← hf]
  isplitl [H1]
  · iapply (owns_intro t M); iexact H1
  · iapply (owns_intro t M); iexact H2

theorem owns_rejoin (t : Thread nD τ) {sp : Space} {s : Shape} {e : EltTy} (M : Memref sig t.2.kind sp s e) (X : s.Idx → Elt F e) (q : PosShare TreeShare) :
    iprop(owns t M q.left X ∗ owns t M q.right X) ⊢ (owns t M q X : sProp 𝕄) := by
  refine (BIClass.sep_mono (owns_open t M _ X) (owns_open t M _ X)).trans ?_
  iintro ⟨⟨%f, %hf, H1⟩, %g, %hg, H2⟩
  have e : (M.view.loc t ↦[M.view.set]{q.right} g : sProp 𝕄) = M.view.loc t ↦[M.view.set]{q.right} f :=
    pointsTo_congr fun i hi => by
      obtain ⟨x, -, rfl⟩ := Finset.mem_map.mp hi
      have := (congrFun hg x).trans (congrFun hf x).symm
      simp only [View.read] at this
      exact (cast_inj _).mp this
  ihave H2 := (Entails.of_eq e) $$ H2
  rw [← hf]
  iapply (owns_intro t M)
  iapply (pointsTo_share (PosShare.mem_left_op_right q)).2
  isplitl [H1] <;> iassumption

/-! ## The two halves of the device's own block -/

theorem half_disjoint : Disjoint (halfM false).view.set (halfM true).view.set := by
  rw [View.set_slice, View.set_slice]
  refine (Finset.disjoint_map _).mpr (Finset.disjoint_left.mpr fun i h1 h2 => ?_)
  have h1 := (Rect.mem_set_unit.mp h1) 0
  have h2 := (Rect.mem_set_unit.mp h2) 0
  exact absurd h1.2 (Nat.not_lt.mpr h2.1)

theorem half_union : (halfM false).view.set ∪ (halfM true).view.set = Finset.univ := by
  refine Finset.eq_univ_iff_forall.mpr fun i => ?_
  rw [View.set_slice, View.set_slice, Finset.mem_union]
  have hcol : (i 1).val < 4096 := (i 1).isLt
  have hrow : (i 0).val < 512 := (i 0).isLt
  by_cases h : (i 0).val < 256
  · refine Or.inl (Finset.mem_map.mpr ⟨i, Rect.mem_set_unit.mpr fun a => ?_, rfl⟩)
    match a with
    | ⟨0, _⟩ => exact ⟨Nat.zero_le _, h⟩
    | ⟨1, _⟩ => exact ⟨Nat.zero_le _, hcol⟩
  · refine Or.inr (Finset.mem_map.mpr ⟨i, Rect.mem_set_unit.mpr fun a => ?_, rfl⟩)
    match a with
    | ⟨0, _⟩ => exact ⟨Nat.not_lt.mp h, hrow⟩
    | ⟨1, _⟩ => exact ⟨Nat.zero_le _, hcol⟩

abbrev bPts (q : PosShare TreeShare) (f : Buf (Elt F) ((c : Thread nD τ).loc cc0_scratch0)) : sProp 𝕄 :=
  ((c : Thread nD τ).loc cc0_scratch0) ↦{q} f

/-- The rounded block: its left share whole, its right share by halves. -/
theorem block_split : bPts c fullShare (xb m c)
    ⊢ iprop(bPts c fullShare.left (xb m c) ∗ owns (c : Thread nD τ) (halfM false) fullShare.right (half m false c) ∗ owns (c : Thread nD τ) (halfM true) fullShare.right (half m true c)) := by
  iintro H
  ihave H := (pointsTo_share (PosShare.mem_left_op_right fullShare)).1 $$ H
  icases H with ⟨H1, H2⟩
  isplitl [H1]; · iexact H1
  rw [← half_union]
  ihave H2 := (pointsTo_union half_disjoint).1 $$ H2
  icases H2 with ⟨Ha, Hb⟩
  isplitl [Ha]
  · iapply (owns_intro (c : Thread nD τ) (halfM false) fullShare.right (xb m c)); iexact Ha
  · iapply (owns_intro (c : Thread nD τ) (halfM true) fullShare.right (xb m c)); iexact Hb

theorem owns_half_eq (b : Bool) :
    (owns (c : Thread nD τ) (halfM b) fullShare.right (half m b c) : sProp 𝕄)
      ⊢ ((c : Thread nD τ).loc cc0_scratch0) ↦[match b with | false => (halfM false).view.set | true => (halfM true).view.set]{fullShare.right} xb m c := by
  refine (owns_open _ _ _ _).trans ?_
  iintro ⟨%f, %hf, H⟩
  cases b with
  | false =>
    iapply (Entails.of_eq (pointsTo_congr (f := f) (g := xb m c) fun i hi => by
      obtain ⟨x, -, rfl⟩ := Finset.mem_map.mp hi
      have := congrFun hf x
      simp only [View.read, half] at this
      exact (cast_inj _).mp this))
    iexact H
  | true =>
    iapply (Entails.of_eq (pointsTo_congr (f := f) (g := xb m c) fun i hi => by
      obtain ⟨x, -, rfl⟩ := Finset.mem_map.mp hi
      have := congrFun hf x
      simp only [View.read, half] at this
      exact (cast_inj _).mp this))
    iexact H

theorem block_join :
    iprop(bPts c fullShare.left (xb m c) ∗ owns (c : Thread nD τ) (halfM false) fullShare.right (half m false c) ∗ owns (c : Thread nD τ) (halfM true) fullShare.right (half m true c))
      ⊢ bPts c fullShare (xb m c) := by
  iintro ⟨H1, Ha, Hb⟩
  ihave Ha := (owns_half_eq m c false) $$ Ha
  ihave Hb := (owns_half_eq m c true) $$ Hb
  iapply (pointsTo_share (PosShare.mem_left_op_right fullShare)).2
  isplitl [H1]; · iexact H1
  rw [← half_union]
  iapply (pointsTo_union half_disjoint).2
  isplitl [Ha] <;> iassumption

/-! ## The slots of a ring buffer -/

theorem slot_disjoint (b : Bool) : Disjoint (slotM b 0).view.set (slotM b 1).view.set := by
  rw [View.set_reshape, View.set_reshape, View.set_slice, View.set_slice]
  refine (Finset.disjoint_map _).mpr (Finset.disjoint_left.mpr fun i h1 h2 => ?_)
  have h1 := (Rect.mem_set_unit.mp h1) 0
  have h2 := (Rect.mem_set_unit.mp h2) 0
  exact absurd h1.2 (Nat.not_lt.mpr h2.1)

theorem slot_cover : (slotR 0).set ∪ (slotR 1).set = Finset.univ := by
  refine Finset.eq_univ_iff_forall.mpr fun i => Finset.mem_union.mpr ?_
  have h0 : (i 0).val < 2 := (i 0).isLt
  have h1 : (i 1).val < 256 := (i 1).isLt
  have h2 : (i 2).val < 4096 := (i 2).isLt
  by_cases h : (i 0).val < 1
  · refine Or.inl (Rect.mem_set_unit.mpr fun a => ?_)
    match a with
    | ⟨0, _⟩ => exact ⟨Nat.zero_le _, h⟩
    | ⟨1, _⟩ => exact ⟨Nat.zero_le _, h1⟩
    | ⟨2, _⟩ => exact ⟨Nat.zero_le _, h2⟩
  · refine Or.inr (Rect.mem_set_unit.mpr fun a => ?_)
    match a with
    | ⟨0, _⟩ => exact ⟨Nat.not_lt.mp h, h0⟩
    | ⟨1, _⟩ => exact ⟨Nat.zero_le _, h1⟩
    | ⟨2, _⟩ => exact ⟨Nat.zero_le _, h2⟩

theorem slot_union (b : Bool) : (slotM b 0).view.set ∪ (slotM b 1).view.set = (ringM b).view.set := by
  rw [View.set_reshape, View.set_reshape, View.set_slice, View.set_slice]
  exact (Finset.map_union _ _).symm.trans (congrArg (Finset.map _) slot_cover)

/-- A ring buffer at some contents, whole. -/
abbrev ringAny (b : Bool) : sProp 𝕄 := iprop(∃ f, (ringM b).view.loc (c : Thread nD τ) ↦[(ringM b).view.set]{fullShare} f)

theorem slots_split (b : Bool) : (ringAny c b : sProp 𝕄)
    ⊢ iprop((∃ X, owns (c : Thread nD τ) (slotM b 0) fullShare X) ∗ (∃ X, owns (c : Thread nD τ) (slotM b 1) fullShare X)) := by
  iintro ⟨%f, H⟩
  rw [← slot_union]
  ihave H := (pointsTo_union (slot_disjoint b)).1 $$ H
  icases H with ⟨H1, H2⟩
  isplitl [H1]
  · iexists _; iapply (owns_intro (c : Thread nD τ) (slotM b 0) fullShare f); iexact H1
  · iexists _; iapply (owns_intro (c : Thread nD τ) (slotM b 1) fullShare f); iexact H2

theorem slots_join (b : Bool) (X Y : FVec F S256x4096 .bf16) :
    iprop(owns (c : Thread nD τ) (slotM b 0) fullShare X ∗ owns (c : Thread nD τ) (slotM b 1) fullShare Y) ⊢ (ringAny c b : sProp 𝕄) := by
  refine (BIClass.sep_mono (owns_open _ _ _ _) (owns_open _ _ _ _)).trans ?_
  iintro ⟨⟨%f, -, H1⟩, %g, -, H2⟩
  have j : iprop(((ringM b).view.loc (c : Thread nD τ) ↦[(slotM b 0).view.set]{fullShare} f) ∗ ((ringM b).view.loc (c : Thread nD τ) ↦[(slotM b 1).view.set]{fullShare} g))
      ⊢ ((ringM b).view.loc (c : Thread nD τ) ↦[(slotM b 0).view.set ∪ (slotM b 1).view.set]{fullShare} (slotM b 1).view.set.piecewise g f : sProp 𝕄) :=
    pointsTo_join (slot_disjoint b)
  ihave H := j $$ [H1 H2]
  · isplitl [H1]; · iexact H1
    iexact H2
  rw [slot_union]
  unfold ringAny
  iexists _
  iexact H

theorem ringAny_false : (ringAny c false : sProp 𝕄) = iprop(∃ f : Buf (Elt F) ((c : Thread nD τ).loc cc0_scratch1), ((c : Thread nD τ).loc cc0_scratch1) ↦{fullShare} f) := by
  unfold ringAny; rw [View.set_whole]
theorem ringAny_true : (ringAny c true : sProp 𝕄) = iprop(∃ f : Buf (Elt F) ((c : Thread nD τ).loc cc0_scratch2), ((c : Thread nD τ).loc cc0_scratch2) ↦{fullShare} f) := by
  unfold ringAny; rw [View.set_whole]

end Cert.WholeRun

end
-- ==== Proof.WholeTile.lean ====
/-
# The whole kernel: the tiles of largest magnitudes
-/
module

public import proofs.«01_k».proof.Proof.WholeShare
public import Idealize.ShloMosaic.Lib.Ring

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (c : Dev nD)

omit [FloatOps F] [Named F] in
theorem mem_slab {n : ℕ} {inb} (i : S8x8x128.Idx) : i ∈ (Rect.unit (s := S8x8x128) ![n, 0, 0] S1x8x128.size inb).set ↔ (i 0).val = n := by
  have h1 : (i 1).val < 8 := (i 1).isLt
  have h2 : (i 2).val < 128 := (i 2).isLt
  rw [Rect.mem_set_unit]
  constructor
  · intro h
    have h : n ≤ (i 0).val ∧ (i 0).val < n + 1 := h 0
    omega
  · intro h a
    match a with
    | ⟨0, _⟩ => exact ⟨h.ge, by show (i 0).val < n + 1; omega⟩
    | ⟨1, _⟩ => exact ⟨Nat.zero_le _, by show (i 1).val < 0 + 8; omega⟩
    | ⟨2, _⟩ => exact ⟨Nat.zero_le _, by show (i 2).val < 0 + 128; omega⟩

omit [FloatOps F] [Named F] in
theorem tile_set (d : Fin 8) : (tileM d).view.set = (tileR d).set.map aM.view.emb := by
  rw [View.set_reshape, View.set_slice]

omit [FloatOps F] [Named F] in
theorem mem_tileR (d : Fin 8) (i : S8x8x128.Idx) : i ∈ (tileR d).set ↔ (i 0).val = d.val := mem_slab i

omit [FloatOps F] [Named F] in
theorem tile_disjoint (d d' : Fin 8) (h : d ≠ d') : Disjoint (tileM d).view.set (tileM d').view.set := by
  rw [tile_set, tile_set]
  exact (Finset.disjoint_map _).mpr (Finset.disjoint_left.mpr fun i h1 h2 =>
    h (Fin.ext (((mem_tileR d i).mp h1).symm.trans ((mem_tileR d' i).mp h2))))

omit [FloatOps F] [Named F] in
theorem mem_tiles (x : Idx (aM.view.loc (c : Thread nD τ))) : (∃ d : Fin 8, d ∈ (Finset.univ : Finset (Fin 8)) ∧ x ∈ (tileM d).view.set) ↔ x ∈ aM.view.set := by
  constructor
  · rintro ⟨d, -, h⟩
    rw [tile_set] at h
    obtain ⟨i, -, rfl⟩ := Finset.mem_map.mp h
    exact Finset.mem_map_of_mem _ (Finset.mem_univ i)
  · intro h
    obtain ⟨i, -, rfl⟩ := Finset.mem_map.mp h
    refine ⟨⟨(i 0).val, (i 0).isLt⟩, Finset.mem_univ _, ?_⟩
    rw [tile_set]
    exact Finset.mem_map_of_mem _ ((mem_tileR _ i).mpr rfl)

/-- The elements of tile `d`, in the whole buffer. -/
def tset' (d : Fin 8) : Finset (Idx (aM.view.loc (c : Thread nD τ))) := (tileM d).view.set

omit [FloatOps F] [Named F] in
theorem tset_disj (d d' : Fin 8) (h : d ≠ d') : Disjoint (tset' c d) (tset' c d') := tile_disjoint d d' h

omit [FloatOps F] [Named F] in
theorem tset_cover : Finset.univ.biUnion (tset' c) = aM.view.set := by
  ext x
  rw [Finset.mem_biUnion]
  exact mem_tiles c x

/-- The buffer of largest magnitudes at some contents, whole. -/
abbrev axAny : sProp 𝕄 := iprop(∃ f, aM.view.loc (c : Thread nD τ) ↦[aM.view.set]{fullShare} f)

theorem tile_intro (d : Fin 8) (f : Buf (Elt F) (aM.view.loc (c : Thread nD τ))) :
    (aM.view.loc (c : Thread nD τ) ↦[(tileM d).view.set]{fullShare} f : sProp 𝕄) ⊢ iprop(∃ X, owns (c : Thread nD τ) (tileM d) fullShare X) := by
  iintro H
  iexists _
  iapply (owns_intro (c : Thread nD τ) (tileM d) fullShare f); iexact H

theorem tile_elim (d : Fin 8) (q : PosShare TreeShare) (X : FVec F S8x128 .f32) :
    (owns (c : Thread nD τ) (tileM d) q X : sProp 𝕄)
      ⊢ iprop(∃ f : Buf (Elt F) (aM.view.loc (c : Thread nD τ)), ⌜(tileM d).view.read (Elt F) f = X⌝ ∗ aM.view.loc (c : Thread nD τ) ↦[(tileM d).view.set]{q} f) := owns_open _ _ _ _

theorem tiles_split : (axAny c : sProp 𝕄) ⊢ bigSep Finset.univ fun d : Fin 8 => iprop(∃ X, owns (c : Thread nD τ) (tileM d) fullShare X) := by
  iintro ⟨%f, H⟩
  have e : (aM.view.loc (c : Thread nD τ) ↦[aM.view.set]{fullShare} f : sProp 𝕄)
      = bigSep Finset.univ fun d : Fin 8 => (aM.view.loc (c : Thread nD τ) ↦[tset' c d]{fullShare} f : sProp 𝕄) :=
    Ring.pointsTo_sub_blocks (tset' c) (tset_disj c) _ (tset_cover c) f
  ihave H := (Entails.of_eq e) $$ H
  iapply (show (bigSep Finset.univ fun d : Fin 8 => (aM.view.loc (c : Thread nD τ) ↦[(tileM d).view.set]{fullShare} f : sProp 𝕄)) ⊢ _ from
    bigSep_mono fun d _ => tile_intro c d f)
  iexact H

theorem tiles_join (X : Fin 8 → FVec F S8x128 .f32) : (bigSep Finset.univ fun d : Fin 8 => owns (c : Thread nD τ) (tileM d) fullShare (X d)) ⊢ (axAny c : sProp 𝕄) := by
  refine BIBase.Entails.trans (show (bigSep Finset.univ fun d : Fin 8 => owns (c : Thread nD τ) (tileM d) fullShare (X d))
      ⊢ (bigSep Finset.univ fun d : Fin 8 => iprop(∃ f, aM.view.loc (c : Thread nD τ) ↦[tset' c d]{fullShare} f) : sProp 𝕄) from
    bigSep_mono fun d _ => (tile_elim c d fullShare (X d)).trans (show _ ⊢ iprop(∃ f : Buf (Elt F) (aM.view.loc (c : Thread nD τ)), aM.view.loc (c : Thread nD τ) ↦[tset' c d]{fullShare} f) from by
      iintro ⟨%f, -, H⟩; iexists f; iexact H)) ?_
  iintro H
  ihave H := (Ring.pointsTo_sub_blocks_join_exists (tset' c) (tset_disj c) _ (tset_cover c) (fun _ => Scalar.ofBits .f32 0x00000000#32)) $$ H
  unfold axAny
  iexact H

/-! ## Storing tile 0, loading the first element of a tile -/

theorem step_load_tile (q : PosShare TreeShare) (X : FVec F S8x128 .f32) {hl : aM.view.LoadsAt (tileR 0).toLoadRect}
    {α : Type} {Q : α → sProp 𝕄} {kk : ((tileR 0).shape.Idx → Elt F .f32) → Prog (TpuEff nD τ sig (Elt F) Λ₀ .tc) α} :
    owns (c : Thread nD τ) (tileM 0) q X
      ⊢ iprop((∀ v, owns (c : Thread nD τ) (tileM 0) q X -∗ wp frame (wpE (defs₀ (F := F)) 𝒱₀ (c : Thread nD τ) none) Set.univ (kk v) Q)
          -∗ wp frame (wpE (defs₀ (F := F)) 𝒱₀ (c : Thread nD τ) none) Set.univ (.op (.load aM (tileR 0).toLoadRect hl) kk) Q) := by
  iintro Hs Hk
  ihave Hs := (owns_open (c : Thread nD τ) (tileM 0) q X) $$ Hs
  icases Hs with ⟨%f, %hf, Hs⟩
  iapply (wp_load_rect 𝒱₀ (c : Thread nD τ) none Set.univ (m := aM) (r := tileR 0) (S := (tileM 0).view.set) (q := q) (f := f) (by rw [View.set_reshape])) $$ Hs
  iintro Hs
  iapply Hk $$ %_
  rw [← hf]
  iapply (owns_intro (c : Thread nD τ) (tileM 0) q f)
  iexact Hs

theorem step_store_tile (X : FVec F S8x128 .f32) (a : F .f32) {hx : (aM.access (tileR 0)).Stores Finset.univ} {hm : (Finset.univ : Finset (tileR 0).shape.Idx) = Finset.univ ∨ ∀ a, (tileR 0).stride a = 1}
    {α : Type} {Q : α → sProp 𝕄} {kk : PUnit → Prog (TpuEff nD τ sig (Elt F) Λ₀ .tc) α} :
    owns (c : Thread nD τ) (tileM 0) fullShare X
      ⊢ iprop((owns (c : Thread nD τ) (tileM 0) fullShare (tileV a) -∗ wp frame (wpE (defs₀ (F := F)) 𝒱₀ (c : Thread nD τ) none) Set.univ (kk ⟨⟩) Q)
          -∗ wp frame (wpE (defs₀ (F := F)) 𝒱₀ (c : Thread nD τ) none) Set.univ (.op (.store aM (tileR 0) (k0_pay20 a) Finset.univ hx hm) kk) Q) := by
  iintro Hs Hk
  ihave Hs := (owns_open (c : Thread nD τ) (tileM 0) fullShare X) $$ Hs
  icases Hs with ⟨%f, %hf, Hs⟩
  iapply (wp_store 𝒱₀ (c : Thread nD τ) none Set.univ (m := aM) (r := tileR 0) (w := k0_pay20 a) (Mk := Finset.univ) (S := (tileM 0).view.set) (f := f) (by rw [View.set_reshape, View.setOn_univ])) $$ Hs
  iintro Hs
  iapply Hk
  have e : (tileM 0).view.read (Elt F) ((aM.access (tileR 0)).write (Elt F) f (k0_pay20 a) Finset.univ) = tileV a := by
    show shapeCast S8x128 ((aM.access (tileR 0)).read (Elt F) ((aM.access (tileR 0)).write (Elt F) f (k0_pay20 a) Finset.univ)) shapeCasts_S1x8x128_S8x128 = _
    rw [View.read_write_univ]; rfl
  rw [← e]
  iapply (owns_intro (c : Thread nD τ) (tileM 0) fullShare _)
  iexact Hs

theorem inbE (d : Fin 8) (a : Fin S8x8x128.rank) : (![d.val, 0, 0] : Fin 3 → ℕ) a + S1x1x1.size a ≤ S8x8x128.size a := by
  revert a; revert d; decide

/-- The first element of tile `d`. -/
abbrev elR (d : Fin 8) : Rect S8x8x128 := Rect.unit (s := S8x8x128) ![d.val, 0, 0] S1x1x1.size (inbE d)

omit [FloatOps F] [Named F] in
theorem elR_emb (d : Fin 8) (j : (elR d).shape.Idx) : (elR d).emb j ∈ (tileR d).set := by
  rw [mem_tileR]
  have h0 : (j 0).val < 1 := (j 0).isLt
  rw [Rect.emb_apply]
  show d.val + 1 * (j 0).val = d.val
  omega

theorem step_load_el (d : Fin 8) (q : PosShare TreeShare) (a : F .f32) {hl : aM.view.LoadsAt (elR d).toLoadRect}
    {α : Type} {Q : α → sProp 𝕄} {kk : ((elR d).shape.Idx → Elt F .f32) → Prog (TpuEff nD τ sig (Elt F) Λ₀ .tc) α} :
    owns (c : Thread nD τ) (tileM d) q (tileV a)
      ⊢ iprop((owns (c : Thread nD τ) (tileM d) q (tileV a) -∗ wp frame (wpE (defs₀ (F := F)) 𝒱₀ (c : Thread nD τ) none) Set.univ (kk fun _ => a) Q)
          -∗ wp frame (wpE (defs₀ (F := F)) 𝒱₀ (c : Thread nD τ) none) Set.univ (.op (.load aM (elR d).toLoadRect hl) kk) Q) := by
  iintro Hs Hk
  ihave Hs := (owns_open (c : Thread nD τ) (tileM d) q (tileV a)) $$ Hs
  icases Hs with ⟨%f, %hf, Hs⟩
  iapply (wp_load_rect 𝒱₀ (c : Thread nD τ) none Set.univ (m := aM) (r := elR d) (S := (tileM d).view.set) (q := q) (f := f) (by
    rw [tile_set, View.set_slice]
    refine Finset.map_subset_map.mpr fun x hx => ?_
    rw [Rect.mem_set_unit] at hx
    have hx : d.val ≤ (x 0).val ∧ (x 0).val < d.val + 1 := hx 0
    rw [mem_tileR]
    omega)) $$ Hs
  iintro Hs
  have e : (aM.access (elR d)).read (Elt F) f = fun _ => a := by
    funext j
    have hm : (elR d).emb j ∈ (tileR d).set := elR_emb d j
    have hm2 : aM.view.emb ((elR d).emb j) ∈ (tileM d).view.set := by rw [tile_set]; exact Finset.mem_map_of_mem _ hm
    obtain ⟨x, -, hx⟩ := Finset.mem_map.mp hm2
    have := congrFun hf x
    simp only [View.read] at this ⊢
    rw [hx] at this
    exact this
  rw [e]
  iapply Hk
  rw [← hf]
  iapply (owns_intro (c : Thread nD τ) (tileM d) q f)
  iexact Hs

end Cert.WholeRun

end
-- ==== Proof.WholeLoop.lean ====
/-
# The whole kernel: its three loops
-/
module

public import proofs.«01_k».proof.Proof.WholeTile
public import Idealize.ShloMosaic.Lib.Pipeline.Value

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (c : Dev nD)

/-! ## Rounding the block -/

/-- Before trip `k`: the first `128 k` rows are rounded. -/
def convInv (k : ℕ) : sProp 𝕄 :=
  iprop(xPts c (xs m c) ∗ ∃ f : (cc0_scratch0 : Ref sig .tc).ty.Contents (Elt F), ⌜∀ i : S512x4096.Idx, (i 0).val < 128 * k → f i = xb m c i⌝ ∗ bPts' c fullShare f)

omit [FloatOps F] [Named F] in
theorem read_bM (f : (cc0_scratch0 : Ref sig .tc).ty.Contents (Elt F)) (i : S512x4096.Idx) : bM.view.read (Elt F) f i = f i := rfl

/-- What one trip adds. -/
theorem conv_val (k : Fin k0_t1_loop.trips) (f : (cc0_scratch0 : Ref sig .tc).ty.Contents (Elt F))
    (hf : ∀ i : S512x4096.Idx, (i 0).val < 128 * k.val → f i = xb m c i) (i : S512x4096.Idx) (hi : (i 0).val < 128 * (k.val + 1)) :
    ((bM.access (Rect.unit (s := S512x4096) (k0_off1 k) S128x4096.size (k0_off1_inb k))).write (Elt F) f
      (k0_pay2 (xM.view.readAt (Elt F) (Rect.unit (s := S512x4096) (k0_off1 k) S128x4096.size (k0_off1_inb k)).toLoadRect (xs m c))) Finset.univ) i = xb m c i := by
  by_cases h : i ∈ Finset.univ.map (Rect.unit (s := S512x4096) (k0_off1 k) S128x4096.size (k0_off1_inb k)).emb
  · obtain ⟨j, -, rfl⟩ := Finset.mem_map.mp h
    refine (read_bM _ _).symm.trans ((View.read_slice_write_emb (v := bM.view) (Val := Elt F) (Rect.unit (s := S512x4096) (k0_off1 k) S128x4096.size (k0_off1_inb k)) f _ (Finset.mem_univ j)).trans ?_)
    unfold k0_pay2
    show shapeCast S128x4096 (truncf .bf16 (shapeCast S128x4096 _ shapeCasts_S128x4096_S128x4096) bitsLt_bf16_f32) shapeCasts_S128x4096_S128x4096 j = _
    rw [shapeCast_self, shapeCast_self]
    rfl
  · refine (read_bM _ _).symm.trans ((View.read_slice_write_of_not_mem (v := bM.view) (Val := Elt F) (Rect.unit (s := S512x4096) (k0_off1 k) S128x4096.size (k0_off1_inb k)) f _ Finset.univ h).trans ((read_bM _ _).trans (hf i ?_)))
    by_contra hlt
    refine h ?_
    rw [Rect.map_emb_univ]
    refine Rect.mem_set_unit.mpr fun a => ?_
    rw [k0_off1_eq]
    match a with
    | ⟨0, _⟩ => exact ⟨Nat.not_lt.mp hlt, by show (i 0).val < 128 * k.val + 128; omega⟩
    | ⟨1, _⟩ => exact ⟨Nat.zero_le _, by have : (i 1).val < 4096 := (i 1).isLt; show (i 1).val < 0 + 4096; omega⟩

theorem conv_step (arg4 : Memref sig .tc .vmem S2x256x4096 .bf16) (harg4 : arg4.IsWhole) (arg5 : Memref sig .tc .vmem S2x256x4096 .bf16) (harg5 : arg5.IsWhole) (arg6 : Memref sig .tc .vmem S8x8x128 .f32) (harg6 : arg6.IsWhole) (arg7 : DmaSems sig S2) (arg8 : DmaSems sig S2) (arg9 : DmaSems sig S2) (arg10 : DmaSems sig S2) (arg11 : DmaSems sig S8) (arg12 : DmaSems sig S8) (arg13 : Sems sig S_) (arg14 : Sems sig S_)
    (k : Fin k0_t1_loop.trips) (acc : Unit) :
    convInv m c k.val ⊢ wp frame (wpE (defs₀ (F := F)) 𝒱₀ (c : Thread nD τ) none) Set.univ
      (k0_t1_body xM (Memref.isWhole_whole _) wM (Memref.isWhole_whole _) oM (Memref.isWhole_whole _) bM (Memref.isWhole_whole _) arg4 harg4 arg5 harg5 arg6 harg6 arg7 arg8 arg9 arg10 arg11 arg12 arg13 arg14 k acc)
      (fun _ => convInv m c (k.val + 1)) := by
  unfold convInv k0_t1_body
  simp only [Prog.lift, Prog.bind_op, Prog.bind_ret, Prog.pure_eq_ret]
  iintro ⟨Hx, %f, %hf, Hb⟩
  iapply (step_load c xM _ fullShare (xs m c)) $$ Hx
  iintro Hx
  iapply (step_load c bM _ fullShare f) $$ Hb
  iintro Hb
  iapply (step_store c bM _ _ f) $$ Hb
  iintro Hb
  rw [wp_ret]
  imodintro
  isplitl [Hx]; · iexact Hx
  iexists _
  isplitr
  rotate_left
  · iexact Hb
  ipureintro
  intro i hi
  exact conv_val m c k f hf i hi

/-- The loop: the block rounded. -/
theorem conv_loop (arg4 : Memref sig .tc .vmem S2x256x4096 .bf16) (harg4 : arg4.IsWhole) (arg5 : Memref sig .tc .vmem S2x256x4096 .bf16) (harg5 : arg5.IsWhole) (arg6 : Memref sig .tc .vmem S8x8x128 .f32) (harg6 : arg6.IsWhole) (arg7 : DmaSems sig S2) (arg8 : DmaSems sig S2) (arg9 : DmaSems sig S2) (arg10 : DmaSems sig S2) (arg11 : DmaSems sig S8) (arg12 : DmaSems sig S8) (arg13 : Sems sig S_) (arg14 : Sems sig S_)
    {α : Type} {Q : α → sProp 𝕄} {kk : Unit → Prog (TpuEff nD τ sig (Elt F) Λ₀ .tc) α} :
    iprop(xPts c (xs m c) ∗ ∃ f, bPts' c fullShare f)
      ⊢ iprop(((xPts c (xs m c) ∗ bPts c fullShare (xb m c)) -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t1_loop k0_t1_ok ⟨⟩ (k0_t1_body xM (Memref.isWhole_whole _) wM (Memref.isWhole_whole _) oM (Memref.isWhole_whole _) bM (Memref.isWhole_whole _) arg4 harg4 arg5 harg5 arg6 harg6 arg7 arg8 arg9 arg10 arg11 arg12 arg13 arg14) >>= kk) Q) := by
  iintro ⟨Hx, %f, Hb⟩ Hk
  iapply (Scf.wp_for_bind frame (wpE (defs₀ (F := F)) 𝒱₀ (c : Thread nD τ) none) Set.univ k0_t1_loop.lb k0_t1_loop.ub k0_t1_loop.st k0_t1_ok () _
      (fun k _ => convInv m c k) (conv_step m c arg4 harg4 arg5 harg5 arg6 harg6 arg7 arg8 arg9 arg10 arg11 arg12 arg13 arg14)) $$ [Hx Hb]
  · unfold convInv
    isplitl [Hx]; · iexact Hx
    iexists f
    isplitr; · ipureintro; intro i hi; exact absurd hi (Nat.not_lt_zero _)
    iexact Hb
  iintro %_ H
  rw [show Scf.trips k0_t1_loop.lb k0_t1_loop.ub k0_t1_loop.st = 4 from trips1_eq]
  unfold convInv
  icases H with ⟨Hx, %g, %hg, Hb⟩
  obtain rfl : g = xb m c := funext fun i => hg i (show _ < 512 from (i 0).isLt)
  iapply Hk
  isplitl [Hx]; · iexact Hx
  iapply (Entails.of_eq (show (bPts' c fullShare (xb m c) : sProp 𝕄) = bPts c fullShare (xb m c) by unfold bPts bPts'; rw [View.set_whole]))
  iexact Hb

/-! ## The largest magnitude -/

theorem amax_step (f : OBuf (F := F)) (d0 : Dev nD) (v2 v499 : BitVec 32) (v505 : FVec F S256x1024 .f32) (k : Fin k0_t2_loop.trips) (acc : F .f32) :
    iprop(⌜acc = amaxTo f k.val⌝ ∗ oPts c f) ⊢ wp frame (wpE (defs₀ (F := F)) 𝒱₀ (c : Thread nD τ) none) Set.univ
      (k0_t2_body xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 d0 v2 v499 v505 k acc)
      (fun acc' => iprop(⌜acc' = amaxTo f (k.val + 1)⌝ ∗ oPts c f)) := by
  unfold k0_t2_body
  simp only [Prog.lift, Prog.bind_op, Prog.bind_ret, Prog.pure_eq_ret]
  iintro ⟨%he, Ho⟩
  iapply (step_load c oM _ fullShare f) $$ Ho
  iintro Ho
  rw [wp_ret]
  imodintro
  isplitr
  · ipureintro
    rw [he, amaxTo, dif_pos k.isLt]
  iexact Ho

/-- The loop: the largest magnitude of the buffer. -/
theorem amax_loop (f : OBuf (F := F)) (d0 : Dev nD) (v2 v499 : BitVec 32) (v505 : FVec F S256x1024 .f32)
    {α : Type} {Q : α → sProp 𝕄} {kk : F .f32 → Prog (TpuEff nD τ sig (Elt F) Λ₀ .tc) α} :
    (oPts c f : sProp 𝕄)
      ⊢ iprop((oPts c f -∗ wp frame (wpE (defs₀ (F := F)) 𝒱₀ (c : Thread nD τ) none) Set.univ (kk (amaxTo f k0_t2_loop.trips)) Q)
          -∗ wp frame (wpE (defs₀ (F := F)) 𝒱₀ (c : Thread nD τ) none) Set.univ
              (Scf.Loop.for k0_t2_loop k0_t2_ok (Scalar.ofBits .f32 0x00000000#32) (k0_t2_body xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 d0 v2 v499 v505) >>= kk) Q) := by
  iintro Ho Hk
  iapply (Scf.wp_for_bind frame (wpE (defs₀ (F := F)) 𝒱₀ (c : Thread nD τ) none) Set.univ k0_t2_loop.lb k0_t2_loop.ub k0_t2_loop.st k0_t2_ok _ _
      (fun k acc => iprop(⌜acc = amaxTo f k⌝ ∗ oPts c f)) (amax_step c f d0 v2 v499 v505)) $$ [Ho]
  · isplitr; · ipureintro; rfl
    iexact Ho
  iintro %acc ⟨%he, Ho⟩
  rw [he]
  iapply Hk
  iexact Ho

/-! ## Quantising -/

omit [FloatOps F] [Named F] in
theorem mem_blkQ (k : Fin k0_t3_loop.trips) (i : S4096x1024.Idx) : i ∈ (blkQ k).set ↔ 128 * k.val ≤ (i 0).val ∧ (i 0).val < 128 * k.val + 128 := by
  rw [Rect.mem_set_unit, k0_off6_eq]
  constructor
  · intro h; exact h 0
  · intro h a
    match a with
    | ⟨0, _⟩ => exact h
    | ⟨1, _⟩ => exact ⟨Nat.zero_le _, by have : (i 1).val < 1024 := (i 1).isLt; show (i 1).val < 0 + 1024; omega⟩

omit [FloatOps F] [Named F] in
theorem blkQ_emb0 (k : Fin k0_t3_loop.trips) (j : S128x1024.Idx) : ((blkQ k).emb j 0).val = 128 * k.val + (j 0).val := by
  have h : (k0_off6 k) 0 = 128 * k.val := by rw [k0_off6_eq]; rfl
  rw [Rect.emb_apply]
  show (k0_off6 k) 0 + 1 * (j 0).val = _
  omega
omit [FloatOps F] [Named F] in
theorem blkQ_emb1 (k : Fin k0_t3_loop.trips) (j : S128x1024.Idx) : ((blkQ k).emb j 1).val = (j 1).val := by
  have h : (k0_off6 k) 1 = 0 := by rw [k0_off6_eq]; rfl
  rw [Rect.emb_apply]
  show (k0_off6 k) 1 + 1 * (j 1).val = _
  omega

theorem blkOf_emb (k : Fin k0_t3_loop.trips) (j : S128x1024.Idx) : blkOf ((blkQ k).emb j) = k := by
  refine Fin.ext ?_
  show ((blkQ k).emb j 0).val / 128 = k.val
  have : (j 0).val < 128 := (j 0).isLt
  rw [blkQ_emb0]; omega
theorem inBlk_emb (k : Fin k0_t3_loop.trips) (j : S128x1024.Idx) : inBlk ((blkQ k).emb j) = j := by
  have hj : (j 0).val < 128 := (j 0).isLt
  funext a
  match a with
  | ⟨0, _⟩ =>
    refine Fin.ext ?_
    show ((blkQ k).emb j 0).val % 128 = (j 0).val
    rw [blkQ_emb0]; omega
  | ⟨1, _⟩ => exact Fin.ext (blkQ_emb1 k j)

omit [FloatOps F] [Named F] in
theorem read_oM (f : OBuf (F := F)) (i : S4096x1024.Idx) : oM.view.read (Elt F) f i = f i := rfl

/-- Before trip `k`: the first `128 k` rows are quantised, the others are not yet. -/
def quantInv (a : F .f32) (y : OBuf (F := F)) (k : ℕ) : sProp 𝕄 :=
  iprop(∃ g : OBuf (F := F), ⌜∀ i : S4096x1024.Idx, g i = if (i 0).val < 128 * k then quant a y i else y i⌝ ∗ oPts c g)

theorem quant_val (a : F .f32) (y g : OBuf (F := F)) (k : Fin k0_t3_loop.trips)
    (hg : ∀ i : S4096x1024.Idx, g i = if (i 0).val < 128 * k.val then quant a y i else y i) (i : S4096x1024.Idx) :
    ((oM.access (blkQ k)).write (Elt F) g (k0_pay1 a (oM.view.readAt (Elt F) (blkQ k).toLoadRect g)) Finset.univ) i
      = if (i 0).val < 128 * (k.val + 1) then quant a y i else y i := by
  have hread : oM.view.readAt (Elt F) (blkQ k).toLoadRect g = oM.view.readAt (Elt F) (blkQ k).toLoadRect y := by
    funext j
    show g ((blkQ k).emb j) = y ((blkQ k).emb j)
    rw [hg, if_neg (by rw [blkQ_emb0]; omega)]
  by_cases h : i ∈ Finset.univ.map (blkQ k).emb
  · obtain ⟨j, -, rfl⟩ := Finset.mem_map.mp h
    refine (read_oM _ _).symm.trans ((View.read_slice_write_emb (v := oM.view) (Val := Elt F) (blkQ k) g _ (Finset.mem_univ j)).trans ?_)
    have hj : (j 0).val < 128 := (j 0).isLt
    rw [if_pos (by rw [blkQ_emb0]; omega)]
    unfold quant
    rw [blkOf_emb, inBlk_emb, hread]
  · refine (read_oM _ _).symm.trans ((View.read_slice_write_of_not_mem (v := oM.view) (Val := Elt F) (blkQ k) g _ Finset.univ h).trans ((read_oM _ _).trans ((hg i).trans ?_)))
    rw [Rect.map_emb_univ, mem_blkQ] at h
    by_cases h1 : (i 0).val < 128 * k.val
    · rw [if_pos h1, if_pos (by omega)]
    · rw [if_neg h1, if_neg (by omega)]

theorem quant_step (a : F .f32) (y : OBuf (F := F)) (k : Fin k0_t3_loop.trips) (acc : Unit) :
    quantInv c a y k.val ⊢ wp frame (wpE (defs₀ (F := F)) 𝒱₀ (c : Thread nD τ) none) Set.univ
      (k0_t3_body xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 a k acc) (fun _ => quantInv c a y (k.val + 1)) := by
  unfold quantInv k0_t3_body
  simp only [Prog.lift, Prog.bind_op, Prog.bind_ret, Prog.pure_eq_ret]
  iintro ⟨%g, %hg, Ho⟩
  iapply (step_load c oM _ fullShare g) $$ Ho
  iintro Ho
  iapply (step_load c oM _ fullShare g) $$ Ho
  iintro Ho
  iapply (step_store c oM _ _ g) $$ Ho
  iintro Ho
  rw [wp_ret]
  imodintro
  iexists _
  isplitr
  rotate_left
  · iexact Ho
  ipureintro
  exact quant_val a y g k hg

/-- The loop: the buffer quantised. -/
theorem quant_loop (a : F .f32) (y : OBuf (F := F))
    {α : Type} {Q : α → sProp 𝕄} {kk : Unit → Prog (TpuEff nD τ sig (Elt F) Λ₀ .tc) α} :
    (oPts c y : sProp 𝕄)
      ⊢ iprop((oPts c (quant a y) -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t3_loop k0_t3_ok ⟨⟩ (k0_t3_body xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 a) >>= kk) Q) := by
  iintro Ho Hk
  iapply (Scf.wp_for_bind frame (wpE (defs₀ (F := F)) 𝒱₀ (c : Thread nD τ) none) Set.univ k0_t3_loop.lb k0_t3_loop.ub k0_t3_loop.st k0_t3_ok () _
      (fun k _ => quantInv c a y k) (quant_step c a y)) $$ [Ho]
  · unfold quantInv
    iexists y
    isplitr; · ipureintro; intro i; rw [if_neg (Nat.not_lt_zero _)]
    iexact Ho
  iintro %_ H
  rw [show Scf.trips k0_t3_loop.lb k0_t3_loop.ub k0_t3_loop.st = 32 from trips3_eq]
  unfold quantInv
  icases H with ⟨%g, %hg, Ho⟩
  obtain rfl : g = quant a y := funext fun i => (hg i).trans (if_pos (show _ < 4096 from (i 0).isLt))
  iapply Hk
  iexact Ho

end Cert.WholeRun

end
-- ==== Proof.WholeTurn.lean ====
/-
# The whole kernel: the steps of the rings and of the exchange
-/
module

public import proofs.«01_k».proof.Proof.WholeLoop

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (K : Dev nD × CK → ℕ) (c : Dev nD)

/-- The tiles that stay with the device at its `i`-th credit: they are where they have to be filled from here. -/
def kept (b : Bool) (i : ℕ) : sProp 𝕄 :=
  bigSep (tset b i \ tset b (i + 1)) fun d => iprop(∃ X, owns (ahead d c : Thread nD τ) (tileM d) fullShare X)

theorem far_back (b : Bool) (i : ℕ) : far b (i + 2) (nb (!b) c) = far b (i + 1) c := by
  rw [← far_nb, nb_not']

omit [FloatOps F] [Named F] in
theorem tset_far : ∀ (b : Bool) (i : Fin 5) (d : Fin 8) (c : Dev nD), d ∈ tset b i.val \ tset b (i.val + 1) → far b (i.val + 1) c = ahead d c := by decide
omit [FloatOps F] [Named F] in
theorem tset_sub : ∀ (b : Bool) (i : Fin 5), tset b (i.val + 1) ⊆ tset b i.val := by decide

theorem tile_pass (b : Bool) (i : Fin 5) :
    (tiles b i.val c (tset b i.val) : sProp 𝕄) ⊢ iprop(kept c b i.val ∗ tiles b (i.val + 1) (nb (!b) c) (tset b (i.val + 1))) := by
  have e : (bigSep (tset b i.val) fun d : Fin 8 => iprop(∃ X, owns (far b (i.val + 1) c : Thread nD τ) (tileM d) fullShare X) : sProp 𝕄)
      = iprop((bigSep (tset b i.val \ tset b (i.val + 1)) fun d : Fin 8 => iprop(∃ X, owns (far b (i.val + 1) c : Thread nD τ) (tileM d) fullShare X))
        ∗ bigSep (tset b (i.val + 1)) fun d : Fin 8 => iprop(∃ X, owns (far b (i.val + 1) c : Thread nD τ) (tileM d) fullShare X)) := by
    refine Eq.trans (congrArg (fun S => bigSep S _) (Finset.sdiff_union_of_subset (tset_sub b i)).symm) ?_
    exact bigSep_union Finset.sdiff_disjoint
  unfold tiles kept
  rw [e, far_back]
  refine BIBase.Entails.trans (sep_mono_left (Entails.of_eq (bigSep_congr fun d hd => ?_))) .rfl
  rw [tset_far b i d c hd]

theorem pay_bar (r : ℕ) (d : Bool) : pay m c .bar r d
    = iprop((∃ X, owns (nb d c : Thread nD τ) (slotM d 0) fullShare X) ∗ (∃ X, owns (nb d c : Thread nD τ) (slotM d 1) fullShare X) ∗ tiles d 0 c (tset d 0)) := rfl
theorem pay_rcv (b : Bool) (s : Fin 2) (r : ℕ) (d : Bool) : pay m c (.rcv b s) r d
    = iprop(owns (c : Thread nD τ) (slotM b s) fullShare (half m b (orig b (2 * r + s.val) c)) ∗ reached ER (cell (nb (!b) c) (.crd b)) (2 * r + s.val - 1)) := rfl
theorem pay_snd (b : Bool) (s : Fin 2) (r : ℕ) (d : Bool) : pay m c (.snd b s) r d = sent m c b (2 * r + s.val) := rfl
theorem pay_crd (b : Bool) (j : ℕ) (d : Bool) : pay m c (.crd b) j d
    = iprop((∃ X, owns (nb b c : Thread nD τ) (slotM b (sl j)) fullShare X) ∗ reached ER (cell (nb b c) (.rcv b (sl j))) (j / 2 + 1)
      ∗ tiles b (j + 1) c (tset b (j + 1))) := rfl
theorem pay_axr (i : Fin 7) (r : ℕ) (d : Bool) : pay m c (.axr i) r d = owns (c : Thread nD τ) (tileM i.succ) fullShare (tileV (amaxL m (behind i.succ c))) := rfl
theorem pay_axs (i : Fin 7) (r : ℕ) (d : Bool) : pay m c (.axs i) r d = owns (c : Thread nD τ) (tileM 0) (giv i.val) (tileV (amaxL m c)) := rfl

/-! ## The barrier -/

theorem sig_bar (b : Bool) (n : Dev nD) (hn : n = nb (!b) c) (l : List Tk) {k' : ℕ} (hk' : k' = 1)
    {α : Type} {Q : α → sProp 𝕄} {kk : PUnit → Prog (TpuEff nD τ sig (Elt F) Λ₀ .tc) α} :
    iprop(records m K ∗ owing c (.bar b :: l) ∗ dutyTok ER (paid c (.bar b)) 0 b ∗ ringAny c b ∗ tiles b 0 (nb (!b) c) (tset b 0))
      ⊢ iprop((owing c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS k') kk) Q) := by
  iintro ⟨#HR, HO, Ht, Hs, HT⟩ Hk
  iapply (step_signal m K c (.bar b) .bar barS rfl rfl rfl (Finset.mem_univ _) Nat.one_pos n hn l hk') $$ [HO Ht Hs HT]
  · isplitr; · iexact HR
    isplitl [HO]; · iexact HO
    isplitl [Ht]; · iexact Ht
    isplitl [Hs HT]
    · rw [pay_bar, show payee (.bar b) c = nb (!b) c from rfl, nb_not']
      ihave Hs := (slots_split c b) $$ Hs
      icases Hs with ⟨H0, H1⟩
      isplitl [H0]; · iexact H0
      isplitl [H1]; · iexact H1
      iexact HT
    iapply (reached_at m K (nb (!b) c) .bar); iexact HR
  iexact Hk

theorem wait_bar (l : List Tk) (hl : ∀ t ∈ l, 1 < lvK t.kind t.rnd) {k' : ℕ} (hk' : k' = 2)
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem .bar) k' Q)
    {α : Type} {Q : α → sProp 𝕄} {kk : PUnit → Prog (TpuEff nD τ sig (Elt F) Λ₀ .tc) α} :
    iprop(records m K ∗ levAts L lv ∗ cred (tallyAt (cell c .bar) 0 2) ∗ owing c l ∗ posn c .bar 0)
      ⊢ iprop(((owing c l ∗ posn c .bar 1
            ∗ (∃ X, owns (nb false c : Thread nD τ) (slotM false 0) fullShare X) ∗ (∃ X, owns (nb false c : Thread nD τ) (slotM false 1) fullShare X) ∗ tiles false 0 c (tset false 0)
            ∗ (∃ X, owns (nb true c : Thread nD τ) (slotM true 0) fullShare X) ∗ (∃ X, owns (nb true c : Thread nD τ) (slotM true 1) fullShare X) ∗ tiles true 0 c (tset true 0))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk'
  iintro ⟨#HR, #Hlev, Hc, HO, Hp⟩ Hk
  iapply (step_wait m K c .bar 0 (by decide) l hl hw (by decide)) $$ [Hc HO Hp]
  · isplitr; · iexact HR
    isplitr; · iexact Hlev
    isplitl [Hc]; · iexact Hc
    isplitl [HO]; · iexact HO
    iexact Hp
  iintro ⟨HO, Hp, H⟩
  ihave H := (show bigSep (dut .bar) (fun d => pay m c .bar 0 d) ⊢ iprop(pay m c .bar 0 false ∗ pay m c .bar 0 true) from
    Entails.of_eq (bigSep_univ_eq_bigSepL [false, true] (by decide) (by decide) _)) $$ H
  rw [pay_bar, pay_bar]
  icases H with ⟨⟨A0, A1, A2⟩, B0, B1, B2⟩
  iapply Hk
  isplitl [HO]; · iexact HO
  isplitl [Hp]; · iexact Hp
  isplitl [A0]; · iexact A0
  isplitl [A1]; · iexact A1
  isplitl [A2]; · iexact A2
  isplitl [B0]; · iexact B0
  isplitl [B1]; · iexact B1
  iexact B2

/-! ## A hop -/

theorem hop_eq (h : ℕ) : 2 * (h / 2) + (sl h).val = h := Nat.div_add_mod h 2

theorem send_hop (b : Bool) (h : Fin 7) (s : Fin 2) (r : ℕ) (hs : sl h.val = s) (hr : h.val / 2 = r) (p : ℕ) (hp : h.val - 1 = p) (n : Dev nD) (hn : n = nb b c) (l : List Tk)
    (src : Memref sig .tc .vmem S256x4096 .bf16) (X : FVec F S256x4096 .bf16)
    (hsnd : sent m c b h.val = owns (c : Thread nD τ) src fullShare.right X) (hX : half m b (orig b h.val (nb b c)) = X)
    {hsc : (slotM b s : Memref sig (Dev.tc n : Thread nD τ).2.kind .vmem S256x4096 .bf16).view.ref.isScScratch = false}
    {hsrc : src.view.WordExact} {hdst : (slotM b s).view.WordExact}
    {hsem : DmaTarget.Typed .vmem (csem (.rcv b s)) (.remote (Dev.tc n : Thread nD τ) (slotM b s) (csem (.snd b s)) hsc)}
    {α : Type} {Q : α → sProp 𝕄} {kk : PUnit → Prog (TpuEff nD τ sig (Elt F) Λ₀ .tc) α} :
    iprop(records m K ∗ owns (c : Thread nD τ) src fullShare.right X ∗ (∃ Y, owns (nb b c : Thread nD τ) (slotM b s) fullShare Y)
        ∗ posn c (.crd b) p ∗ owing c (.rcv b h :: l) ∗ dutyTok ER (cell c (.snd b s)) r false ∗ posn c (.snd b s) r
        ∗ dutyTok ER (cell (nb b c) (.rcv b s)) r false ∗ reached ER (cell (nb b c) (.rcv b s)) r)
      ⊢ iprop(((owing c l ∗ cred (tallyAt (cell c (.snd b s)) r N) ∗ posn c (.crd b) p ∗ posn c (.snd b s) r)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) (slotM b s) (csem (.snd b s)) hsc) (csem (.rcv b s)) hsrc hdst hsem) kk) Q) := by
  subst hs hr hn hp
  unfold posn
  iintro ⟨#HR, Hs, Hd, ⟨Hc, #Hcr⟩, HO, T1, ⟨Hp, #Hpr⟩, T2, #Hr⟩ Hk
  iapply (step_copy m K c (.rcv b h) (.snd b (sl h.val)) (.rcv b (sl h.val)) (h.val / 2) (nb b c) rfl rfl rfl rfl
      (rnd_lt_nr (.snd b h)) (rnd_lt_nr (.rcv b h)) rfl rfl N rfl rfl l src (slotM b (sl h.val)) (amount_slot b _) fullShare.right X
      (reached ER (cell c (.crd b)) (h.val - 1))
      (by rw [pay_snd, hop_eq, hsnd])
      (by
        rw [pay_rcv, hop_eq, show payee (.rcv b h) c = nb b c from rfl, nb_not, hX])) $$ [Hs Hd HO T1 T2]
  · isplitr; · iexact HR
    isplitl [Hs]; · iexact Hs
    isplitl [Hd]
    · isplitl [Hd]; · iexact Hd
      iexact Hcr
    isplitl [HO]; · iexact HO
    isplitl [T1]; · iexact T1
    isplitr; · iexact Hpr
    isplitl [T2]; · iexact T2
    iexact Hr
  iintro ⟨Hcred, HO⟩
  iapply Hk
  isplitl [HO]; · iexact HO
  isplitl [Hcred]; · iexact Hcred
  isplitl [Hc]
  · isplitl [Hc]; · iexact Hc
    iexact Hcr
  isplitl [Hp]; · iexact Hp
  iexact Hpr

theorem wait_rcv (b : Bool) (h : Fin 7) (s : Fin 2) (r : ℕ) (hs : sl h.val = s) (hr : h.val / 2 = r) (r' : ℕ) (hr' : r + 1 = r') (n : ℕ) (hn : h.val = n) (p : ℕ) (hp : h.val - 1 = p) (l : List Tk) (hl : ∀ t ∈ l, 2 * h.val + 2 < lvK t.kind t.rnd)
    {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem (.rcv b s)) k' Q)
    (hk' : k' = N)
    {α : Type} {Q : α → sProp 𝕄} {kk : PUnit → Prog (TpuEff nD τ sig (Elt F) Λ₀ .tc) α} :
    iprop(records m K ∗ levAts L lv ∗ cred (tallyAt (cell c (.rcv b s)) r N) ∗ owing c l ∗ posn c (.rcv b s) r)
      ⊢ iprop(((owing c l ∗ posn c (.rcv b s) r' ∗ owns (c : Thread nD τ) (slotM b s) fullShare (half m b (orig b n c))
              ∗ reached ER (cell (nb (!b) c) (.crd b)) p)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hs hr
  subst hr' hn hp
  have e := step_waitOne m K c (.rcv b (sl h.val)) (h.val / 2) (rnd_lt_nr (.rcv b h)) rfl l (by rw [show lvK (.rcv b (sl h.val)) (h.val / 2) = 2 * h.val + 2 from congrArg (fun n => 2 * n + 2) (hop_eq h.val)]; exact hl) hw hk' (Q := Q) (kk := kk)
  rw [pay_rcv] at e
  rw [hop_eq] at e
  exact e

theorem wait_snd (b : Bool) (h : Fin 7) (s : Fin 2) (r : ℕ) (hs : sl h.val = s) (hr : h.val / 2 = r) (r' : ℕ) (hr' : r + 1 = r') (l : List Tk) (hl : ∀ t ∈ l, 0 < lvK t.kind t.rnd)
    (src : Memref sig .tc .vmem S256x4096 .bf16) (X : FVec F S256x4096 .bf16) (hsnd : sent m c b h.val = owns (c : Thread nD τ) src fullShare.right X)
    {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem (.snd b s)) k' Q)
    (hk' : k' = N)
    {α : Type} {Q : α → sProp 𝕄} {kk : PUnit → Prog (TpuEff nD τ sig (Elt F) Λ₀ .tc) α} :
    iprop(records m K ∗ levAts L lv ∗ cred (tallyAt (cell c (.snd b s)) r N) ∗ owing c l ∗ posn c (.snd b s) r)
      ⊢ iprop(((owing c l ∗ posn c (.snd b s) r' ∗ owns (c : Thread nD τ) src fullShare.right X)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hs hr
  subst hr'
  have e := step_waitOne m K c (.snd b (sl h.val)) (h.val / 2) (rnd_lt_nr (.snd b h)) rfl l hl hw hk' (Q := Q) (kk := kk)
  rw [pay_snd] at e
  rw [hop_eq, hsnd] at e
  exact e

/-! ## A credit -/

theorem sig_crd (b : Bool) (j : Fin 5) (s : Fin 2) (r : ℕ) (hs : sl j.val = s) (hr : j.val / 2 + 1 = r) (p : ℕ) (hp : j.val = p) (sem : Sem sig) (hsem : csem (.crd b) = .reg sem)
    (n : Dev nD) (hn : n = nb (!b) c) (l : List Tk) {k' : ℕ} (hk' : k' = 1) (X : FVec F S256x4096 .bf16)
    {α : Type} {Q : α → sProp 𝕄} {kk : PUnit → Prog (TpuEff nD τ sig (Elt F) Λ₀ .tc) α} :
    iprop(records m K ∗ owing c (.crd b j :: l) ∗ dutyTok ER (cell (nb (!b) c) (.crd b)) p false
        ∗ owns (c : Thread nD τ) (slotM b s) fullShare X ∗ posn c (.rcv b s) r ∗ tiles b p c (tset b p) ∗ reached ER (cell (nb (!b) c) (.crd b)) p)
      ⊢ iprop(((owing c l ∗ posn c (.rcv b s) r ∗ kept c b p) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) sem k') kk) Q) := by
  subst hs hr hp
  unfold posn
  iintro ⟨#HR, HO, Ht, Hs, ⟨Hp, #Hpr⟩, HT, #Hr⟩ Hk
  ihave HT := (tile_pass c b j) $$ HT
  icases HT with ⟨Hk', HT⟩
  iapply (step_signal m K c (.crd b j) (.crd b) sem rfl hsem rfl (Finset.mem_singleton_self _) (rnd_lt_nr (.crd b j)) n hn l hk') $$ [HO Ht Hs HT]
  · isplitr; · iexact HR
    isplitl [HO]; · iexact HO
    isplitl [Ht]; · iexact Ht
    isplitl [Hs HT]
    · rw [show (Tk.crd b j).rnd = j.val from rfl, pay_crd, show payee (.crd b j) c = nb (!b) c from rfl, nb_not']
      isplitl [Hs]; · iexists X; iexact Hs
      isplitr; · iexact Hpr
      iexact HT
    iexact Hr
  iintro HO
  iapply Hk
  isplitl [HO]; · iexact HO
  isplitl [Hp]
  · isplitl [Hp]; · iexact Hp
    iexact Hpr
  iexact Hk'

theorem wait_crd (b : Bool) (j : Fin 5) (s : Fin 2) (r : ℕ) (hs : sl j.val = s) (hr : j.val / 2 + 1 = r) (p : ℕ) (hp : j.val = p) (p' : ℕ) (hp' : p + 1 = p') (l : List Tk) (hl : ∀ t ∈ l, 2 * j.val + 5 < lvK t.kind t.rnd)
    {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem (.crd b)) k' Q)
    (hk' : k' = 1)
    {α : Type} {Q : α → sProp 𝕄} {kk : PUnit → Prog (TpuEff nD τ sig (Elt F) Λ₀ .tc) α} :
    iprop(records m K ∗ levAts L lv ∗ cred (tallyAt (cell c (.crd b)) p 1) ∗ owing c l ∗ posn c (.crd b) p)
      ⊢ iprop(((owing c l ∗ posn c (.crd b) p' ∗ (∃ X, owns (nb b c : Thread nD τ) (slotM b s) fullShare X)
              ∗ reached ER (cell (nb b c) (.rcv b s)) r ∗ tiles b p' c (tset b p'))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hs hr
  subst hp
  subst hp'
  have e := step_waitOne m K c (.crd b) j.val (rnd_lt_nr (.crd b j)) rfl l hl hw hk' (Q := Q) (kk := kk)
  rw [pay_crd] at e
  exact e

/-! ## The exchange of the largest magnitudes -/

theorem amount_tile (i : Fin 7) : (tileM i.succ).view.amount (csem (.axr i)) = NT := by

  rfl

theorem send_tile (i : Fin 7) (d : Fin 8) (hdd : i.succ = d) (p : ℕ) (hp : i.val = p) (p' : ℕ) (hp' : p + 1 = p') (src : Memref sig .tc .vmem S8x128 .f32) (hsrc' : src = tileM 0) (n : Dev nD) (hn : n = ahead d c) (l : List Tk) (dst : Memref sig .tc .vmem S8x128 .f32) (hdst' : dst = tileM d)
    {hsc : (dst : Memref sig (Dev.tc n : Thread nD τ).2.kind .vmem S8x128 .f32).view.ref.isScScratch = false}
    {hsrc : src.view.WordExact} {hdst : dst.view.WordExact}
    {hsem : DmaTarget.Typed .vmem (csem (.axr i)) (.remote (Dev.tc n : Thread nD τ) dst (csem (.axs i)) hsc)}
    {α : Type} {Q : α → sProp 𝕄} {kk : PUnit → Prog (TpuEff nD τ sig (Elt F) Λ₀ .tc) α} :
    iprop(records m K ∗ owns (c : Thread nD τ) (tileM 0) (rem p) (tileV (amaxL m c)) ∗ (∃ Y, owns (ahead d c : Thread nD τ) (tileM d) fullShare Y)
        ∗ owing c (.axr i :: l) ∗ dutyTok ER (cell c (.axs i)) 0 false ∗ dutyTok ER (cell (ahead d c) (.axr i)) 0 false)
      ⊢ iprop(((owing c l ∗ cred (tallyAt (cell c (.axs i)) 0 NT) ∗ owns (c : Thread nD τ) (tileM 0) (rem p') (tileV (amaxL m c)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (csem (.axs i)) hsc) (csem (.axr i)) hsrc hdst hsem) kk) Q) := by
  subst hdd
  subst hp
  subst hp'
  subst hn hdst' hsrc'
  iintro ⟨#HR, Hs, Hd, HO, T1, T2⟩ Hk
  ihave Hs := (owns_halve (c : Thread nD τ) (tileM 0) (tileV (amaxL m c)) (rem i.val)) $$ Hs
  icases Hs with ⟨Hs, Hrem⟩
  iapply (step_copy m K c (.axr i) (.axs i) (.axr i) 0 (ahead i.succ c) rfl rfl rfl rfl Nat.one_pos Nat.one_pos rfl rfl NT rfl rfl l (tileM 0) (tileM i.succ) (amount_tile i)
      (giv i.val) (tileV (amaxL m c)) iprop(emp)
      (by rw [pay_axs])
      (by
        rw [pay_axr, show payee (.axr i) c = ahead i.succ c from rfl, behind_ahead]
        iintro ⟨H, -⟩; iexact H)) $$ [Hs Hd HO T1 T2]
  · isplitr; · iexact HR
    isplitl [Hs]; · iexact Hs
    isplitl [Hd]
    · isplitl [Hd]; · iexact Hd
      iempintro
    isplitl [HO]; · iexact HO
    isplitl [T1]; · iexact T1
    isplitr; · iapply (reached_at m K c (.axs i)); iexact HR
    isplitl [T2]; · iexact T2
    iapply (reached_at m K (ahead i.succ c) (.axr i)); iexact HR
  iintro ⟨Hcred, HO⟩
  iapply Hk
  isplitl [HO]; · iexact HO
  isplitl [Hcred]; · iexact Hcred
  iexact Hrem

theorem wait_axr (i : Fin 7) (d : Fin 8) (hdd : i.succ = d) {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem (.axr i)) k' Q)
    (hk' : k' = NT)
    {α : Type} {Q : α → sProp 𝕄} {kk : PUnit → Prog (TpuEff nD τ sig (Elt F) Λ₀ .tc) α} :
    iprop(records m K ∗ levAts L lv ∗ cred (tallyAt (cell c (.axr i)) 0 NT) ∗ owing c [] ∗ posn c (.axr i) 0)
      ⊢ iprop(((owing c [] ∗ posn c (.axr i) 1 ∗ owns (c : Thread nD τ) (tileM d) fullShare (tileV (amaxL m (behind d c))))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hdd
  have e := step_waitOne m K c (.axr i) 0 Nat.one_pos rfl [] (fun t h => absurd h List.not_mem_nil) hw hk' (Q := Q) (kk := kk)
  exact e

theorem wait_axs (i : Fin 7) (p : ℕ) (hp : i.val = p) {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem (.axs i)) k' Q)
    (hk' : k' = NT)
    {α : Type} {Q : α → sProp 𝕄} {kk : PUnit → Prog (TpuEff nD τ sig (Elt F) Λ₀ .tc) α} :
    iprop(records m K ∗ levAts L lv ∗ cred (tallyAt (cell c (.axs i)) 0 NT) ∗ owing c [] ∗ posn c (.axs i) 0)
      ⊢ iprop(((owing c [] ∗ posn c (.axs i) 1 ∗ owns (c : Thread nD τ) (tileM 0) (giv p) (tileV (amaxL m c)))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hp
  have e := step_waitOne m K c (.axs i) 0 Nat.one_pos rfl [] (fun t h => absurd h List.not_mem_nil) hw hk' (Q := Q) (kk := kk)
  rw [pay_axs] at e
  exact e

theorem kept_one (b : Bool) (j : ℕ) (d : Fin 8) (h : tset b j \ tset b (j + 1) = {d}) :
    (kept c b j : sProp 𝕄) ⊢ iprop(∃ X, owns (ahead d c : Thread nD τ) (tileM d) fullShare X) := by
  unfold kept
  rw [h, bigSep_singleton]

theorem load_el (d : Fin 8) (r : Rect S8x8x128) (hr : elR d = r) (a : F .f32) {hl : aM.view.LoadsAt r.toLoadRect}
    {α : Type} {Q : α → sProp 𝕄} {kk : (r.shape.Idx → Elt F .f32) → Prog (TpuEff nD τ sig (Elt F) Λ₀ .tc) α} :
    owns (c : Thread nD τ) (tileM d) fullShare (tileV a)
      ⊢ iprop((owns (c : Thread nD τ) (tileM d) fullShare (tileV a) -∗ wp frame (wpE (defs₀ (F := F)) 𝒱₀ (c : Thread nD τ) none) Set.univ (kk fun _ => a) Q)
          -∗ wp frame (wpE (defs₀ (F := F)) 𝒱₀ (c : Thread nD τ) none) Set.univ (.op (.load aM r.toLoadRect hl) kk) Q) := by
  subst hr
  exact step_load_el c d fullShare a

theorem load_tile (r : Rect S8x8x128) (hr : tileR 0 = r) (X : FVec F S8x128 .f32) {hl : aM.view.LoadsAt r.toLoadRect}
    {α : Type} {Q : α → sProp 𝕄} {kk : (r.shape.Idx → Elt F .f32) → Prog (TpuEff nD τ sig (Elt F) Λ₀ .tc) α} :
    owns (c : Thread nD τ) (tileM 0) fullShare X
      ⊢ iprop((∀ v, owns (c : Thread nD τ) (tileM 0) fullShare X -∗ wp frame (wpE (defs₀ (F := F)) 𝒱₀ (c : Thread nD τ) none) Set.univ (kk v) Q)
          -∗ wp frame (wpE (defs₀ (F := F)) 𝒱₀ (c : Thread nD τ) none) Set.univ (.op (.load aM r.toLoadRect hl) kk) Q) := by
  subst hr
  exact step_load_tile c fullShare X

end Cert.WholeRun

end
-- ==== Proof.WholeOut.lean ====
/-
# The whole kernel: the bands of the result
-/
module

public import proofs.«01_k».proof.Proof.WholeTurn

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (K : Dev nD × CK → ℕ) (c : Dev nD)

omit [FloatOps F] [Named F] in
/-- A write where two buffers agree outside the written rows leaves them agreeing. -/
theorem write_agree (r : Rect S4096x1024) (w : r.shape.Idx → Elt F .f32) (f f' : OBuf (F := F)) (i : S4096x1024.Idx) (h : i ∉ r.set → f i = f' i) :
    (oM.access r).write (Elt F) f w Finset.univ i = (oM.access r).write (Elt F) f' w Finset.univ i := by
  by_cases hi : i ∈ Finset.univ.map r.emb
  · obtain ⟨j, -, rfl⟩ := Finset.mem_map.mp hi
    exact (read_oM _ _).symm.trans ((View.read_slice_write_emb (v := oM.view) (Val := Elt F) r f w (Finset.mem_univ j)).trans
      ((View.read_slice_write_emb (v := oM.view) (Val := Elt F) r f' w (Finset.mem_univ j)).symm.trans (read_oM _ _)))
  · have hs : f i = f' i := h (by rwa [Rect.map_emb_univ] at hi)
    exact (read_oM _ _).symm.trans ((View.read_slice_write_of_not_mem (v := oM.view) (Val := Elt F) r f w Finset.univ hi).trans ((read_oM _ _).trans (hs.trans
      ((read_oM _ _).symm.trans ((View.read_slice_write_of_not_mem (v := oM.view) (Val := Elt F) r f' w Finset.univ hi).symm.trans (read_oM _ _))))))

theorem put_agree (r r' : Fin 7) (h : ℕ) (f f' : OBuf (F := F)) (i : S4096x1024.Idx) (hf : i ∉ (bandF c r).set → i ∉ (bandT c r').set → f i = f' i) :
    put m c r r' h f i = put m c r r' h f' i :=
  write_agree _ _ _ _ i fun h2 => write_agree _ _ _ _ i fun h1 => hf h1 h2

omit [FloatOps F] [Named F] in
theorem mem_own (i : S4096x1024.Idx) : i ∈ (own c).set ↔ 512 * c.val ≤ (i 0).val ∧ (i 0).val < 512 * c.val + 512 := by
  rw [Rect.mem_set_unit, k0_off2_eq]
  constructor
  · intro h; exact h 0
  · intro h a
    match a with
    | ⟨0, _⟩ => exact h
    | ⟨1, _⟩ => exact ⟨Nat.zero_le _, by have : (i 1).val < 1024 := (i 1).isLt; show (i 1).val < 0 + 1024; omega⟩

omit [FloatOps F] [Named F] in
theorem mem_bandF (r : Fin 7) (i : S4096x1024.Idx) : i ∈ (bandF c r).set ↔ 512 * ((c.val + r.val + 1) % 8) ≤ (i 0).val ∧ (i 0).val < 512 * ((c.val + r.val + 1) % 8) + 256 := by
  rw [Rect.mem_set_unit, k0_off3_eq]
  constructor
  · intro h; exact h 0
  · intro h a
    match a with
    | ⟨0, _⟩ => exact h
    | ⟨1, _⟩ => exact ⟨Nat.zero_le _, by have : (i 1).val < 1024 := (i 1).isLt; show (i 1).val < 0 + 1024; omega⟩

omit [FloatOps F] [Named F] in
theorem mem_bandT (r : Fin 7) (i : S4096x1024.Idx) : i ∈ (bandT c r).set ↔ 512 * ((c.val + r.val + 1) % 8) + 256 ≤ (i 0).val ∧ (i 0).val < 512 * ((c.val + r.val + 1) % 8) + 256 + 256 := by
  rw [Rect.mem_set_unit, k0_off4_eq]
  constructor
  · intro h; exact h 0
  · intro h a
    match a with
    | ⟨0, _⟩ => exact h
    | ⟨1, _⟩ => exact ⟨Nat.zero_le _, by have : (i 1).val < 1024 := (i 1).isLt; show (i 1).val < 0 + 1024; omega⟩

theorem row_of : ∀ (c q : Fin 8), q = c ∨ ∃ r : Fin 7, q.val = (c.val + r.val + 1) % 8 := by decide

omit [FloatOps F] [Named F] in
/-- The fifteen bands are all the rows. -/
theorem bands_cover (i : S4096x1024.Idx) (h0 : i ∉ (own c).set) (hF : ∀ r, i ∉ (bandF c r).set) (hT : ∀ r, i ∉ (bandT c r).set) : False := by
  have hi : (i 0).val < 4096 := (i 0).isLt
  rcases row_of c ⟨(i 0).val / 512, by omega⟩ with h | ⟨r, h⟩
  · refine h0 ((mem_own c i).mpr ?_)
    have : (i 0).val / 512 = c.val := congrArg Fin.val h
    omega
  · have h : (i 0).val / 512 = (c.val + r.val + 1) % 8 := h
    by_cases hl : (i 0).val % 512 < 256
    · exact hF r ((mem_bandF c r i).mpr (by omega))
    · exact hT r ((mem_bandT c r i).mpr (by omega))

/-- After all stores nothing is left of what the buffer held before. -/
theorem putAll_eq (g : OBuf (F := F)) : putAll m c g = yF m c := by
  funext i
  unfold yF putAll
  refine put_agree m c _ _ _ _ _ i fun f0 t6 => put_agree m c _ _ _ _ _ i fun f1 t5 => put_agree m c _ _ _ _ _ i fun f2 t4 => put_agree m c _ _ _ _ _ i fun f3 t3 =>
    put_agree m c _ _ _ _ _ i fun f4 t2 => put_agree m c _ _ _ _ _ i fun f5 t1 => put_agree m c _ _ _ _ _ i fun f6 t0 => write_agree _ _ _ _ i fun h0 => ?_
  exact (bands_cover c i h0 (fun r => match r with | 0 => f0 | 1 => f1 | 2 => f2 | 3 => f3 | 4 => f4 | 5 => f5 | 6 => f6)
    (fun r => match r with | 0 => t0 | 1 => t1 | 2 => t2 | 3 => t3 | 4 => t4 | 5 => t5 | 6 => t6)).elim

/-! ## What the body's loads read, and what its stores write -/

theorem bPts_eq (q : PosShare TreeShare) (f) : (bPts c q f : sProp 𝕄) = bPts' c q f := by
  unfold bPts bPts'; rw [View.set_whole]

theorem read_w : wM.view.readAt (Elt F) (Rect.unit (s := S4096x1024) ![0, 0] S4096x1024.size inb_S4096x1024_S4096x1024_0_0).toLoadRect (ws m c) = ws m c :=
  Memref.readAt_unit_zero (Elt F) cc0_stg1_0 (by decide) _ _
theorem read_b : bM.view.readAt (Elt F) (Rect.unit (s := S512x4096) ![0, 0] S512x4096.size inb_S512x4096_S512x4096_0_0).toLoadRect (xb m c) = xb m c :=
  Memref.readAt_unit_zero (Elt F) cc0_scratch0 (by decide) _ _

section Pay
variable {X : FVec F S256x4096 .bf16} (v : Vec F S1x256x4096 .bf16) (W : Vec F S4096x1024 .f32) (h : shapeCast S256x4096 v shapeCasts_S1x256x4096_S256x4096 = X)
include h
theorem pay4_eq : k0_pay4 v W = mm X W := by subst h; rfl
theorem pay5_eq : k0_pay5 v W = mm X W := by subst h; rfl
theorem pay6_eq : k0_pay6 v W = mm X W := by subst h; rfl
theorem pay7_eq : k0_pay7 v W = mm X W := by subst h; rfl
theorem pay8_eq : k0_pay8 v W = mm X W := by subst h; rfl
theorem pay9_eq : k0_pay9 v W = mm X W := by subst h; rfl
theorem pay10_eq : k0_pay10 v W = mm X W := by subst h; rfl
theorem pay11_eq : k0_pay11 v W = mm X W := by subst h; rfl
theorem pay12_eq : k0_pay12 v W = mm X W := by subst h; rfl
theorem pay13_eq : k0_pay13 v W = mm X W := by subst h; rfl
theorem pay16_eq : k0_pay16 v W = mm X W := by subst h; rfl
theorem pay17_eq : k0_pay17 v W = mm X W := by subst h; rfl
theorem pay18_eq : k0_pay18 v W = mm X W := by subst h; rfl
theorem pay15_eq : k0_pay15 (k0_pay14 v) W = mm X W := by subst h; rfl
end Pay

/-! ## The devices the body names -/

theorem dev1_eq : (⟨k0_dev1 c, k0_dev1_lt c⟩ : Dev nD) = nb true c := Fin.ext (k0_dev1_eq c)
theorem dev2_eq : (⟨k0_dev2 c, k0_dev2_lt c⟩ : Dev nD) = nb false c := Fin.ext (k0_dev2_eq c)
theorem dev3_eq : (⟨k0_dev3 c, k0_dev3_lt c⟩ : Dev nD) = nb false c := Fin.ext (k0_dev3_eq c)
theorem dev4_eq : (⟨k0_dev4 c, k0_dev4_lt c⟩ : Dev nD) = nb true c := Fin.ext (k0_dev4_eq c)
theorem dev5_eq : (⟨k0_dev5 c, k0_dev5_lt c⟩ : Dev nD) = nb false c := Fin.ext (k0_dev5_eq c)
theorem dev6_eq : (⟨k0_dev6 c, k0_dev6_lt c⟩ : Dev nD) = nb true c := Fin.ext (k0_dev6_eq c)
theorem dev7_eq : (⟨k0_dev7 c, k0_dev7_lt c⟩ : Dev nD) = nb true c := Fin.ext (k0_dev7_eq c)
theorem dev8_eq : (⟨k0_dev8 c, k0_dev8_lt c⟩ : Dev nD) = nb false c := Fin.ext (k0_dev8_eq c)
theorem dev9_eq : (⟨k0_dev9 c, k0_dev9_lt c⟩ : Dev nD) = nb false c := Fin.ext (k0_dev9_eq c)
theorem dev10_eq : (⟨k0_dev10 c, k0_dev10_lt c⟩ : Dev nD) = nb true c := Fin.ext (k0_dev10_eq c)
theorem dev11_eq : (⟨k0_dev11 c, k0_dev11_lt c⟩ : Dev nD) = nb true c := Fin.ext (k0_dev11_eq c)
theorem dev12_eq : (⟨k0_dev12 c, k0_dev12_lt c⟩ : Dev nD) = nb false c := Fin.ext (k0_dev12_eq c)
theorem dev13_eq : (⟨k0_dev13 c, k0_dev13_lt c⟩ : Dev nD) = nb false c := Fin.ext (k0_dev13_eq c)
theorem dev14_eq : (⟨k0_dev14 c, k0_dev14_lt c⟩ : Dev nD) = nb true c := Fin.ext (k0_dev14_eq c)
theorem dev15_eq : (⟨k0_dev15 c, k0_dev15_lt c⟩ : Dev nD) = nb true c := Fin.ext (k0_dev15_eq c)
theorem dev16_eq : (⟨k0_dev16 c, k0_dev16_lt c⟩ : Dev nD) = nb false c := Fin.ext (k0_dev16_eq c)
theorem dev17_eq : (⟨k0_dev17 c, k0_dev17_lt c⟩ : Dev nD) = nb false c := Fin.ext (k0_dev17_eq c)
theorem dev18_eq : (⟨k0_dev18 c, k0_dev18_lt c⟩ : Dev nD) = nb true c := Fin.ext (k0_dev18_eq c)
theorem dev19_eq : (⟨k0_dev19 c, k0_dev19_lt c⟩ : Dev nD) = nb true c := Fin.ext (k0_dev19_eq c)
theorem dev20_eq : (⟨k0_dev20 c, k0_dev20_lt c⟩ : Dev nD) = nb false c := Fin.ext (k0_dev20_eq c)
theorem dev21_eq : (⟨k0_dev21 c, k0_dev21_lt c⟩ : Dev nD) = nb false c := Fin.ext (k0_dev21_eq c)
theorem dev22_eq : (⟨k0_dev22 c, k0_dev22_lt c⟩ : Dev nD) = nb true c := Fin.ext (k0_dev22_eq c)
theorem dev23_eq : (⟨k0_dev23 c, k0_dev23_lt c⟩ : Dev nD) = nb true c := Fin.ext (k0_dev23_eq c)
theorem dev24_eq : (⟨k0_dev24 c, k0_dev24_lt c⟩ : Dev nD) = nb false c := Fin.ext (k0_dev24_eq c)
theorem dev25_eq : (⟨k0_dev25 c, k0_dev25_lt c⟩ : Dev nD) = nb false c := Fin.ext (k0_dev25_eq c)
theorem dev26_eq : (⟨k0_dev26 c, k0_dev26_lt c⟩ : Dev nD) = nb true c := Fin.ext (k0_dev26_eq c)
theorem dev27_eq : (⟨k0_dev27 c, k0_dev27_lt c⟩ : Dev nD) = ahead 1 c := Fin.ext (k0_dev27_eq c)
theorem dev28_eq : (⟨k0_dev28 c, k0_dev28_lt c⟩ : Dev nD) = ahead 2 c := Fin.ext (k0_dev28_eq c)
theorem dev29_eq : (⟨k0_dev29 c, k0_dev29_lt c⟩ : Dev nD) = ahead 3 c := Fin.ext (k0_dev29_eq c)
theorem dev30_eq : (⟨k0_dev30 c, k0_dev30_lt c⟩ : Dev nD) = ahead 4 c := Fin.ext (k0_dev30_eq c)
theorem dev31_eq : (⟨k0_dev31 c, k0_dev31_lt c⟩ : Dev nD) = ahead 5 c := Fin.ext (k0_dev31_eq c)
theorem dev32_eq : (⟨k0_dev32 c, k0_dev32_lt c⟩ : Dev nD) = ahead 6 c := Fin.ext (k0_dev32_eq c)
theorem dev33_eq : (⟨k0_dev33 c, k0_dev33_lt c⟩ : Dev nD) = ahead 7 c := Fin.ext (k0_dev33_eq c)

end Cert.WholeRun

end
-- ==== Proof.WholeState.lean ====
/-
# The whole kernel: what a device holds between the parts of the body
-/
module

public import proofs.«01_k».proof.Proof.WholeOut

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (K : Dev nD × CK → ℕ) (c : Dev nD)

/-! The run is taken part by part: `st k` is what the device holds after part `k` of the body, beside the cells' records and levels. -/

def fut28 : sProp 𝕄 :=
  iprop(posn c (.axs 5) 0 ∗ posn c (.axs 6) 0)

def fut27 : sProp 𝕄 :=
  iprop(posn c (.axs 2) 0 ∗ posn c (.axs 3) 0 ∗ posn c (.axs 4) 0 ∗ fut28 c)

def fut26 : sProp 𝕄 :=
  iprop(cred (tallyAt (cell c (.axr 6)) 0 NT) ∗ posn c (.axr 6) 0 ∗ posn c (.axs 0) 0 ∗ posn c (.axs 1) 0 ∗ fut27 c)

def fut25 : sProp 𝕄 :=
  iprop(cred (tallyAt (cell c (.axr 3)) 0 NT) ∗ posn c (.axr 3) 0 ∗ cred (tallyAt (cell c (.axr 4)) 0 NT) ∗ posn c (.axr 4) 0 ∗ cred (tallyAt (cell c (.axr 5)) 0 NT) ∗ posn c (.axr 5) 0 ∗ fut26 c)

def fut24 : sProp 𝕄 :=
  iprop(cred (tallyAt (cell c (.axr 1)) 0 NT) ∗ posn c (.axr 1) 0 ∗ cred (tallyAt (cell c (.axr 2)) 0 NT) ∗ posn c (.axr 2) 0 ∗ fut25 c)

def fut23 : sProp 𝕄 :=
  iprop(dutyTok ER (cell c (.axs 5)) 0 false ∗ dutyTok ER (cell (ahead 6 c) (.axr 5)) 0 false ∗ dutyTok ER (cell c (.axs 6)) 0 false ∗ dutyTok ER (cell (ahead 7 c) (.axr 6)) 0 false ∗ cred (tallyAt (cell c (.axr 0)) 0 NT) ∗ posn c (.axr 0) 0 ∗ fut24 c)

def fut22 : sProp 𝕄 :=
  iprop(dutyTok ER (cell c (.axs 3)) 0 false ∗ dutyTok ER (cell (ahead 4 c) (.axr 3)) 0 false ∗ dutyTok ER (cell c (.axs 4)) 0 false ∗ dutyTok ER (cell (ahead 5 c) (.axr 4)) 0 false ∗ fut23 c)

def fut20 : sProp 𝕄 :=
  iprop(dutyTok ER (cell c (.axs 0)) 0 false ∗ dutyTok ER (cell (ahead 1 c) (.axr 0)) 0 false ∗ dutyTok ER (cell c (.axs 1)) 0 false ∗ dutyTok ER (cell (ahead 2 c) (.axr 1)) 0 false ∗ dutyTok ER (cell c (.axs 2)) 0 false ∗ dutyTok ER (cell (ahead 3 c) (.axr 2)) 0 false ∗ fut22 c)

def fut19 : sProp 𝕄 :=
  iprop(cred (tallyAt (cell c (.rcv true 0)) 3 N) ∗ fut20 c)

def fut18 : sProp 𝕄 :=
  iprop(cred (tallyAt (cell c (.rcv false 0)) 3 N) ∗ fut19 c)

def fut17 : sProp 𝕄 :=
  iprop(cred (tallyAt (cell c (.crd true)) 4 1) ∗ dutyTok ER (cell c (.snd false 0)) 3 false ∗ dutyTok ER (cell (nb false c) (.rcv false 0)) 3 false ∗ dutyTok ER (cell c (.snd true 0)) 3 false ∗ dutyTok ER (cell (nb true c) (.rcv true 0)) 3 false ∗ fut18 c)

def fut16 : sProp 𝕄 :=
  iprop(cred (tallyAt (cell c (.rcv true 1)) 2 N) ∗ dutyTok ER (cell (nb (!false) c) (.crd false)) 4 false ∗ dutyTok ER (cell (nb (!true) c) (.crd true)) 4 false ∗ cred (tallyAt (cell c (.crd false)) 4 1) ∗ fut17 c)

def fut15 : sProp 𝕄 :=
  iprop(cred (tallyAt (cell c (.rcv false 1)) 2 N) ∗ fut16 c)

def fut14 : sProp 𝕄 :=
  iprop(dutyTok ER (cell (nb (!true) c) (.crd true)) 3 false ∗ cred (tallyAt (cell c (.crd false)) 3 1) ∗ cred (tallyAt (cell c (.crd true)) 3 1) ∗ dutyTok ER (cell c (.snd false 1)) 2 false ∗ dutyTok ER (cell (nb false c) (.rcv false 1)) 2 false ∗ dutyTok ER (cell c (.snd true 1)) 2 false ∗ dutyTok ER (cell (nb true c) (.rcv true 1)) 2 false ∗ fut15 c)

def fut13 : sProp 𝕄 :=
  iprop(cred (tallyAt (cell c (.rcv true 0)) 2 N) ∗ dutyTok ER (cell (nb (!false) c) (.crd false)) 3 false ∗ fut14 c)

def fut12 : sProp 𝕄 :=
  iprop(cred (tallyAt (cell c (.rcv false 0)) 2 N) ∗ fut13 c)

def fut11 : sProp 𝕄 :=
  iprop(dutyTok ER (cell (nb (!false) c) (.crd false)) 2 false ∗ dutyTok ER (cell (nb (!true) c) (.crd true)) 2 false ∗ cred (tallyAt (cell c (.crd false)) 2 1) ∗ cred (tallyAt (cell c (.crd true)) 2 1) ∗ dutyTok ER (cell c (.snd false 0)) 2 false ∗ dutyTok ER (cell (nb false c) (.rcv false 0)) 2 false ∗ dutyTok ER (cell c (.snd true 0)) 2 false ∗ dutyTok ER (cell (nb true c) (.rcv true 0)) 2 false ∗ fut12 c)

def fut10 : sProp 𝕄 :=
  iprop(cred (tallyAt (cell c (.rcv false 1)) 1 N) ∗ cred (tallyAt (cell c (.rcv true 1)) 1 N) ∗ fut11 c)

def fut9 : sProp 𝕄 :=
  iprop(dutyTok ER (cell c (.snd true 1)) 1 false ∗ dutyTok ER (cell (nb true c) (.rcv true 1)) 1 false ∗ fut10 c)

def fut8 : sProp 𝕄 :=
  iprop(dutyTok ER (cell (nb (!false) c) (.crd false)) 1 false ∗ dutyTok ER (cell (nb (!true) c) (.crd true)) 1 false ∗ cred (tallyAt (cell c (.crd false)) 1 1) ∗ cred (tallyAt (cell c (.crd true)) 1 1) ∗ dutyTok ER (cell c (.snd false 1)) 1 false ∗ dutyTok ER (cell (nb false c) (.rcv false 1)) 1 false ∗ fut9 c)

def fut7 : sProp 𝕄 :=
  iprop(cred (tallyAt (cell c (.rcv false 0)) 1 N) ∗ cred (tallyAt (cell c (.rcv true 0)) 1 N) ∗ fut8 c)

def fut6 : sProp 𝕄 :=
  iprop(dutyTok ER (cell c (.snd true 0)) 1 false ∗ dutyTok ER (cell (nb true c) (.rcv true 0)) 1 false ∗ fut7 c)

def fut5 : sProp 𝕄 :=
  iprop(dutyTok ER (cell (nb (!false) c) (.crd false)) 0 false ∗ dutyTok ER (cell (nb (!true) c) (.crd true)) 0 false ∗ cred (tallyAt (cell c (.crd false)) 0 1) ∗ cred (tallyAt (cell c (.crd true)) 0 1) ∗ dutyTok ER (cell c (.snd false 0)) 1 false ∗ dutyTok ER (cell (nb false c) (.rcv false 0)) 1 false ∗ fut6 c)

def fut4 : sProp 𝕄 :=
  iprop(cred (tallyAt (cell c (.rcv false 1)) 0 N) ∗ posn c (.rcv false 1) 0 ∗ cred (tallyAt (cell c (.rcv true 1)) 0 N) ∗ posn c (.rcv true 1) 0 ∗ fut5 c)

def fut3 : sProp 𝕄 :=
  iprop(dutyTok ER (cell c (.snd true 1)) 0 false ∗ posn c (.snd true 1) 0 ∗ dutyTok ER (cell (nb true c) (.rcv true 1)) 0 false ∗ fut4 c)

def fut2 : sProp 𝕄 :=
  iprop(cred (tallyAt (cell c (.rcv true 0)) 0 N) ∗ posn c (.rcv true 0) 0 ∗ dutyTok ER (cell c (.snd false 1)) 0 false ∗ posn c (.snd false 1) 0 ∗ dutyTok ER (cell (nb false c) (.rcv false 1)) 0 false ∗ fut3 c)

def fut1 : sProp 𝕄 :=
  iprop(posn c (.crd true) 0 ∗ dutyTok ER (cell c (.snd true 0)) 0 false ∗ posn c (.snd true 0) 0 ∗ dutyTok ER (cell (nb true c) (.rcv true 0)) 0 false ∗ cred (tallyAt (cell c (.rcv false 0)) 0 N) ∗ posn c (.rcv false 0) 0 ∗ fut2 c)

def fut0 : sProp 𝕄 :=
  iprop(dutyTok ER (paid c (.bar false)) 0 false ∗ dutyTok ER (paid c (.bar true)) 0 true ∗ cred (tallyAt (cell c .bar) 0 2) ∗ posn c .bar 0 ∗ posn c (.crd false) 0 ∗ dutyTok ER (cell c (.snd false 0)) 0 false ∗ posn c (.snd false 0) 0 ∗ dutyTok ER (cell (nb false c) (.rcv false 0)) 0 false ∗ fut1 c)

def st0 (g : OBuf (F := F)) : sProp 𝕄 :=
  iprop(owing c [.bar false, .bar true, .rcv false 0, .rcv true 0, .rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ xPts c (xs m c) ∗ wPts c (ws m c) ∗ oPts c g ∗ (∃ f, bPts' c fullShare f) ∗ ringAny c false ∗ ringAny c true ∗ tiles false 0 (nb true c) (tset false 0) ∗ tiles true 0 (nb false c) (tset true 0) ∗ (∃ X, owns (c : Thread nD τ) (tileM 0) fullShare X) ∗ fut0 c)

def st1 (g : OBuf (F := F)) : sProp 𝕄 :=
  iprop(wPts c (ws m c) ∗ oPts c g ∗ (∃ X, owns (c : Thread nD τ) (tileM 0) fullShare X) ∗ posn c .bar 1 ∗ (∃ X, owns (nb false c : Thread nD τ) (slotM false 1) fullShare X) ∗ tiles false 0 c (tset false 0) ∗ (∃ X, owns (nb true c : Thread nD τ) (slotM true 0) fullShare X) ∗ (∃ X, owns (nb true c : Thread nD τ) (slotM true 1) fullShare X) ∗ tiles true 0 c (tset true 0) ∗ reached ER (cell (nb false c) (.rcv false 1)) 0 ∗ reached ER (cell (nb true c) (.rcv true 0)) 0 ∗ reached ER (cell (nb true c) (.rcv true 1)) 0 ∗ xPts c (xs m c) ∗ bPts' c fullShare.left (xb m c) ∗ owns (c : Thread nD τ) (halfM true) fullShare.right (half m true c) ∗ owing c [.rcv true 0, .rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ cred (tallyAt (cell c (.snd false 0)) 0 N) ∗ posn c (.crd false) 0 ∗ posn c (.snd false 0) 0 ∗ fut1 c)

def st2 (g : OBuf (F := F)) : sProp 𝕄 :=
  iprop(wPts c (ws m c) ∗ oPts c (put0 m c g) ∗ (∃ X, owns (c : Thread nD τ) (tileM 0) fullShare X) ∗ posn c .bar 1 ∗ (∃ X, owns (nb false c : Thread nD τ) (slotM false 1) fullShare X) ∗ tiles false 0 c (tset false 0) ∗ (∃ X, owns (nb true c : Thread nD τ) (slotM true 1) fullShare X) ∗ tiles true 0 c (tset true 0) ∗ reached ER (cell (nb false c) (.rcv false 1)) 0 ∗ reached ER (cell (nb true c) (.rcv true 1)) 0 ∗ xPts c (xs m c) ∗ bPts' c fullShare.left (xb m c) ∗ cred (tallyAt (cell c (.snd false 0)) 0 N) ∗ posn c (.crd false) 0 ∗ posn c (.snd false 0) 0 ∗ cred (tallyAt (cell c (.snd true 0)) 0 N) ∗ posn c (.crd true) 0 ∗ posn c (.snd true 0) 0 ∗ owing c [.rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ posn c (.rcv false 0) 1 ∗ owns (c : Thread nD τ) (slotM false 0) fullShare (half m false (orig false 0 c)) ∗ fut2 c)

def st3 (g : OBuf (F := F)) : sProp 𝕄 :=
  iprop(wPts c (ws m c) ∗ oPts c (put0 m c g) ∗ (∃ X, owns (c : Thread nD τ) (tileM 0) fullShare X) ∗ posn c .bar 1 ∗ tiles false 0 c (tset false 0) ∗ (∃ X, owns (nb true c : Thread nD τ) (slotM true 1) fullShare X) ∗ tiles true 0 c (tset true 0) ∗ reached ER (cell (nb true c) (.rcv true 1)) 0 ∗ xPts c (xs m c) ∗ bPts c fullShare (xb m c) ∗ posn c (.crd true) 0 ∗ posn c (.rcv false 0) 1 ∗ owns (c : Thread nD τ) (slotM false 0) fullShare.left (half m false (orig false 0 c)) ∗ posn c (.rcv true 0) 1 ∗ owns (c : Thread nD τ) (slotM true 0) fullShare.left (half m true (orig true 0 c)) ∗ posn c (.snd false 0) 1 ∗ posn c (.snd true 0) 1 ∗ owns (c : Thread nD τ) (slotM true 0) fullShare.right (half m true (orig true 0 c)) ∗ owing c [.rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ cred (tallyAt (cell c (.snd false 1)) 0 N) ∗ posn c (.crd false) 0 ∗ posn c (.snd false 1) 0 ∗ fut3 c)

def st4 (g : OBuf (F := F)) : sProp 𝕄 :=
  iprop(wPts c (ws m c) ∗ oPts c (put m c 6 0 0 (put0 m c g)) ∗ (∃ X, owns (c : Thread nD τ) (tileM 0) fullShare X) ∗ posn c .bar 1 ∗ tiles false 0 c (tset false 0) ∗ tiles true 0 c (tset true 0) ∗ xPts c (xs m c) ∗ bPts c fullShare (xb m c) ∗ posn c (.rcv false 0) 1 ∗ owns (c : Thread nD τ) (slotM false 0) fullShare.left (half m false (orig false 0 c)) ∗ posn c (.rcv true 0) 1 ∗ owns (c : Thread nD τ) (slotM true 0) fullShare.left (half m true (orig true 0 c)) ∗ posn c (.snd false 0) 1 ∗ posn c (.snd true 0) 1 ∗ cred (tallyAt (cell c (.snd false 1)) 0 N) ∗ posn c (.crd false) 0 ∗ posn c (.snd false 1) 0 ∗ owing c [.crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ cred (tallyAt (cell c (.snd true 1)) 0 N) ∗ posn c (.crd true) 0 ∗ posn c (.snd true 1) 0 ∗ fut4 c)

def st5 (g : OBuf (F := F)) : sProp 𝕄 :=
  iprop(wPts c (ws m c) ∗ oPts c (put m c 6 0 0 (put0 m c g)) ∗ (∃ X, owns (c : Thread nD τ) (tileM 0) fullShare X) ∗ posn c .bar 1 ∗ tiles false 0 c (tset false 0) ∗ tiles true 0 c (tset true 0) ∗ xPts c (xs m c) ∗ bPts c fullShare (xb m c) ∗ posn c (.rcv false 0) 1 ∗ owns (c : Thread nD τ) (slotM false 0) fullShare (half m false (orig false 0 c)) ∗ posn c (.rcv true 0) 1 ∗ owns (c : Thread nD τ) (slotM true 0) fullShare.left (half m true (orig true 0 c)) ∗ posn c (.snd false 0) 1 ∗ posn c (.snd true 0) 1 ∗ posn c (.crd false) 0 ∗ cred (tallyAt (cell c (.snd true 1)) 0 N) ∗ posn c (.crd true) 0 ∗ posn c (.snd true 1) 0 ∗ posn c (.rcv false 1) 1 ∗ owns (c : Thread nD τ) (slotM false 1) fullShare (half m false (orig false 1 c)) ∗ reached ER (cell (nb (!false) c) (.crd false)) 0 ∗ posn c (.rcv true 1) 1 ∗ owns (c : Thread nD τ) (slotM true 1) fullShare (half m true (orig true 1 c)) ∗ reached ER (cell (nb (!true) c) (.crd true)) 0 ∗ owing c [.crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ posn c (.snd false 1) 1 ∗ fut5 c)

def st6 (g : OBuf (F := F)) : sProp 𝕄 :=
  iprop(wPts c (ws m c) ∗ oPts c (put m c 6 0 0 (put0 m c g)) ∗ (∃ X, owns (c : Thread nD τ) (tileM 0) fullShare X) ∗ posn c .bar 1 ∗ xPts c (xs m c) ∗ bPts c fullShare (xb m c) ∗ posn c (.snd true 0) 1 ∗ posn c (.rcv false 1) 1 ∗ owns (c : Thread nD τ) (slotM false 1) fullShare.left (half m false (orig false 1 c)) ∗ posn c (.rcv true 1) 1 ∗ owns (c : Thread nD τ) (slotM true 1) fullShare.left (half m true (orig true 1 c)) ∗ posn c (.snd false 1) 1 ∗ posn c (.snd true 1) 1 ∗ posn c (.rcv false 0) 1 ∗ kept c false 0 ∗ posn c (.rcv true 0) 1 ∗ kept c true 0 ∗ tiles false 1 c (tset false 1) ∗ posn c (.crd true) 1 ∗ (∃ X, owns (nb true c : Thread nD τ) (slotM true 0) fullShare X) ∗ reached ER (cell (nb true c) (.rcv true 0)) 1 ∗ tiles true 1 c (tset true 1) ∗ owns (c : Thread nD τ) (slotM true 1) fullShare.right (half m true (orig true 1 c)) ∗ owing c [.rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ cred (tallyAt (cell c (.snd false 0)) 1 N) ∗ posn c (.crd false) 1 ∗ posn c (.snd false 0) 1 ∗ fut6 c)

def st7 (g : OBuf (F := F)) : sProp 𝕄 :=
  iprop(wPts c (ws m c) ∗ oPts c (put m c 5 1 1 (put m c 6 0 0 (put0 m c g))) ∗ (∃ X, owns (c : Thread nD τ) (tileM 0) fullShare X) ∗ posn c .bar 1 ∗ xPts c (xs m c) ∗ bPts c fullShare (xb m c) ∗ posn c (.rcv false 1) 1 ∗ owns (c : Thread nD τ) (slotM false 1) fullShare.left (half m false (orig false 1 c)) ∗ posn c (.rcv true 1) 1 ∗ owns (c : Thread nD τ) (slotM true 1) fullShare.left (half m true (orig true 1 c)) ∗ posn c (.snd false 1) 1 ∗ posn c (.snd true 1) 1 ∗ posn c (.rcv false 0) 1 ∗ kept c false 0 ∗ posn c (.rcv true 0) 1 ∗ kept c true 0 ∗ tiles false 1 c (tset false 1) ∗ tiles true 1 c (tset true 1) ∗ cred (tallyAt (cell c (.snd false 0)) 1 N) ∗ posn c (.crd false) 1 ∗ posn c (.snd false 0) 1 ∗ owing c [.crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ cred (tallyAt (cell c (.snd true 0)) 1 N) ∗ posn c (.crd true) 1 ∗ posn c (.snd true 0) 1 ∗ fut7 c)

def st8 (g : OBuf (F := F)) : sProp 𝕄 :=
  iprop(wPts c (ws m c) ∗ oPts c (put m c 5 1 1 (put m c 6 0 0 (put0 m c g))) ∗ (∃ X, owns (c : Thread nD τ) (tileM 0) fullShare X) ∗ posn c .bar 1 ∗ xPts c (xs m c) ∗ bPts c fullShare (xb m c) ∗ posn c (.rcv false 1) 1 ∗ owns (c : Thread nD τ) (slotM false 1) fullShare (half m false (orig false 1 c)) ∗ posn c (.rcv true 1) 1 ∗ owns (c : Thread nD τ) (slotM true 1) fullShare.left (half m true (orig true 1 c)) ∗ posn c (.snd false 1) 1 ∗ posn c (.snd true 1) 1 ∗ kept c false 0 ∗ kept c true 0 ∗ tiles false 1 c (tset false 1) ∗ tiles true 1 c (tset true 1) ∗ posn c (.crd false) 1 ∗ cred (tallyAt (cell c (.snd true 0)) 1 N) ∗ posn c (.crd true) 1 ∗ posn c (.snd true 0) 1 ∗ posn c (.rcv false 0) 2 ∗ owns (c : Thread nD τ) (slotM false 0) fullShare (half m false (orig false 2 c)) ∗ reached ER (cell (nb (!false) c) (.crd false)) 1 ∗ posn c (.rcv true 0) 2 ∗ owns (c : Thread nD τ) (slotM true 0) fullShare (half m true (orig true 2 c)) ∗ reached ER (cell (nb (!true) c) (.crd true)) 1 ∗ owing c [.crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ posn c (.snd false 0) 2 ∗ fut8 c)

def st9 (g : OBuf (F := F)) : sProp 𝕄 :=
  iprop(wPts c (ws m c) ∗ oPts c (put m c 5 1 1 (put m c 6 0 0 (put0 m c g))) ∗ (∃ X, owns (c : Thread nD τ) (tileM 0) fullShare X) ∗ posn c .bar 1 ∗ xPts c (xs m c) ∗ bPts c fullShare (xb m c) ∗ posn c (.snd true 1) 1 ∗ kept c false 0 ∗ kept c true 0 ∗ posn c (.rcv false 0) 2 ∗ owns (c : Thread nD τ) (slotM false 0) fullShare.left (half m false (orig false 2 c)) ∗ posn c (.rcv true 0) 2 ∗ owns (c : Thread nD τ) (slotM true 0) fullShare.left (half m true (orig true 2 c)) ∗ posn c (.snd false 0) 2 ∗ posn c (.snd true 0) 2 ∗ posn c (.rcv false 1) 1 ∗ kept c false 1 ∗ posn c (.rcv true 1) 1 ∗ kept c true 1 ∗ tiles false 2 c (tset false 2) ∗ posn c (.crd true) 2 ∗ (∃ X, owns (nb true c : Thread nD τ) (slotM true 1) fullShare X) ∗ reached ER (cell (nb true c) (.rcv true 1)) 1 ∗ tiles true 2 c (tset true 2) ∗ owns (c : Thread nD τ) (slotM true 0) fullShare.right (half m true (orig true 2 c)) ∗ owing c [.rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ cred (tallyAt (cell c (.snd false 1)) 1 N) ∗ posn c (.crd false) 2 ∗ posn c (.snd false 1) 1 ∗ fut9 c)

def st10 (g : OBuf (F := F)) : sProp 𝕄 :=
  iprop(wPts c (ws m c) ∗ oPts c (put m c 4 2 2 (put m c 5 1 1 (put m c 6 0 0 (put0 m c g)))) ∗ (∃ X, owns (c : Thread nD τ) (tileM 0) fullShare X) ∗ posn c .bar 1 ∗ xPts c (xs m c) ∗ bPts c fullShare (xb m c) ∗ kept c false 0 ∗ kept c true 0 ∗ posn c (.rcv false 0) 2 ∗ owns (c : Thread nD τ) (slotM false 0) fullShare.left (half m false (orig false 2 c)) ∗ posn c (.rcv true 0) 2 ∗ owns (c : Thread nD τ) (slotM true 0) fullShare.left (half m true (orig true 2 c)) ∗ posn c (.snd false 0) 2 ∗ posn c (.snd true 0) 2 ∗ posn c (.rcv false 1) 1 ∗ kept c false 1 ∗ posn c (.rcv true 1) 1 ∗ kept c true 1 ∗ tiles false 2 c (tset false 2) ∗ tiles true 2 c (tset true 2) ∗ cred (tallyAt (cell c (.snd false 1)) 1 N) ∗ posn c (.crd false) 2 ∗ posn c (.snd false 1) 1 ∗ owing c [.crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ cred (tallyAt (cell c (.snd true 1)) 1 N) ∗ posn c (.crd true) 2 ∗ posn c (.snd true 1) 1 ∗ fut10 c)

def st11 (g : OBuf (F := F)) : sProp 𝕄 :=
  iprop(wPts c (ws m c) ∗ oPts c (put m c 4 2 2 (put m c 5 1 1 (put m c 6 0 0 (put0 m c g)))) ∗ (∃ X, owns (c : Thread nD τ) (tileM 0) fullShare X) ∗ posn c .bar 1 ∗ xPts c (xs m c) ∗ bPts c fullShare (xb m c) ∗ kept c false 0 ∗ kept c true 0 ∗ posn c (.rcv false 0) 2 ∗ owns (c : Thread nD τ) (slotM false 0) fullShare (half m false (orig false 2 c)) ∗ posn c (.rcv true 0) 2 ∗ owns (c : Thread nD τ) (slotM true 0) fullShare (half m true (orig true 2 c)) ∗ posn c (.snd false 0) 2 ∗ posn c (.snd true 0) 2 ∗ kept c false 1 ∗ kept c true 1 ∗ tiles false 2 c (tset false 2) ∗ tiles true 2 c (tset true 2) ∗ posn c (.crd false) 2 ∗ posn c (.crd true) 2 ∗ posn c (.rcv false 1) 2 ∗ owns (c : Thread nD τ) (slotM false 1) fullShare (half m false (orig false 3 c)) ∗ reached ER (cell (nb (!false) c) (.crd false)) 2 ∗ posn c (.rcv true 1) 2 ∗ owns (c : Thread nD τ) (slotM true 1) fullShare (half m true (orig true 3 c)) ∗ reached ER (cell (nb (!true) c) (.crd true)) 2 ∗ posn c (.snd false 1) 2 ∗ owing c [.crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] ∗ posn c (.snd true 1) 2 ∗ fut11 c)

def st12 (g : OBuf (F := F)) : sProp 𝕄 :=
  iprop(wPts c (ws m c) ∗ oPts c (put m c 4 2 2 (put m c 5 1 1 (put m c 6 0 0 (put0 m c g)))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ posn c (.rcv false 1) 2 ∗ owns (c : Thread nD τ) (slotM false 1) fullShare.left (half m false (orig false 3 c)) ∗ posn c (.rcv true 1) 2 ∗ owns (c : Thread nD τ) (slotM true 1) fullShare.left (half m true (orig true 3 c)) ∗ posn c (.snd false 1) 2 ∗ posn c (.snd true 1) 2 ∗ posn c (.rcv false 0) 2 ∗ kept c false 2 ∗ posn c (.rcv true 0) 2 ∗ kept c true 2 ∗ tiles false 3 c (tset false 3) ∗ tiles true 3 c (tset true 3) ∗ cred (tallyAt (cell c (.snd false 0)) 2 N) ∗ posn c (.crd false) 3 ∗ posn c (.snd false 0) 2 ∗ owing c [.crd false 3, .crd true 3, .rcv false 5, .rcv true 5, .crd false 4, .crd true 4, .rcv false 6, .rcv true 6, .axr 0, .axr 1, .axr 2, .axr 3, .axr 4, .axr 5, .axr 6] ∗ cred (tallyAt (cell c (.snd true 0)) 2 N) ∗ posn c (.crd true) 3 ∗ posn c (.snd true 0) 2 ∗ fut12 c)

def st13 (g : OBuf (F := F)) : sProp 𝕄 :=
  iprop(wPts c (ws m c) ∗ oPts c (put m c 3 3 3 (put m c 4 2 2 (put m c 5 1 1 (put m c 6 0 0 (put0 m c g))))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ posn c (.rcv false 1) 2 ∗ owns (c : Thread nD τ) (slotM false 1) fullShare.left (half m false (orig false 3 c)) ∗ posn c (.rcv true 1) 2 ∗ owns (c : Thread nD τ) (slotM true 1) fullShare.left (half m true (orig true 3 c)) ∗ posn c (.snd false 1) 2 ∗ posn c (.snd true 1) 2 ∗ kept c false 2 ∗ posn c (.rcv true 0) 2 ∗ kept c true 2 ∗ tiles false 3 c (tset false 3) ∗ tiles true 3 c (tset true 3) ∗ cred (tallyAt (cell c (.snd false 0)) 2 N) ∗ posn c (.crd false) 3 ∗ posn c (.snd false 0) 2 ∗ cred (tallyAt (cell c (.snd true 0)) 2 N) ∗ posn c (.crd true) 3 ∗ posn c (.snd true 0) 2 ∗ owing c [.crd false 3, .crd true 3, .rcv false 5, .rcv true 5, .crd false 4, .crd true 4, .rcv false 6, .rcv true 6, .axr 0, .axr 1, .axr 2, .axr 3, .axr 4, .axr 5, .axr 6] ∗ posn c (.rcv false 0) 3 ∗ owns (c : Thread nD τ) (slotM false 0) fullShare (half m false (orig false 4 c)) ∗ reached ER (cell (nb (!false) c) (.crd false)) 3 ∗ fut13 c)

def st14 (g : OBuf (F := F)) : sProp 𝕄 :=
  iprop(wPts c (ws m c) ∗ oPts c (put m c 3 3 3 (put m c 4 2 2 (put m c 5 1 1 (put m c 6 0 0 (put0 m c g))))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ posn c (.rcv true 1) 2 ∗ owns (c : Thread nD τ) (slotM true 1) fullShare (half m true (orig true 3 c)) ∗ posn c (.snd false 1) 2 ∗ posn c (.snd true 1) 2 ∗ kept c false 2 ∗ kept c true 2 ∗ tiles true 3 c (tset true 3) ∗ posn c (.crd false) 3 ∗ posn c (.crd true) 3 ∗ posn c (.rcv false 0) 3 ∗ owns (c : Thread nD τ) (slotM false 0) fullShare (half m false (orig false 4 c)) ∗ posn c (.rcv true 0) 3 ∗ owns (c : Thread nD τ) (slotM true 0) fullShare (half m true (orig true 4 c)) ∗ reached ER (cell (nb (!true) c) (.crd true)) 3 ∗ posn c (.snd false 0) 3 ∗ posn c (.snd true 0) 3 ∗ owing c [.crd true 3, .rcv false 5, .rcv true 5, .crd false 4, .crd true 4, .rcv false 6, .rcv true 6, .axr 0, .axr 1, .axr 2, .axr 3, .axr 4, .axr 5, .axr 6] ∗ posn c (.rcv false 1) 2 ∗ kept c false 3 ∗ fut14 c)

def st15 (g : OBuf (F := F)) : sProp 𝕄 :=
  iprop(wPts c (ws m c) ∗ oPts c (put m c 3 3 3 (put m c 4 2 2 (put m c 5 1 1 (put m c 6 0 0 (put0 m c g))))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ kept c false 2 ∗ kept c true 2 ∗ posn c (.rcv false 0) 3 ∗ owns (c : Thread nD τ) (slotM false 0) fullShare.left (half m false (orig false 4 c)) ∗ posn c (.rcv true 0) 3 ∗ owns (c : Thread nD τ) (slotM true 0) fullShare.left (half m true (orig true 4 c)) ∗ posn c (.snd false 0) 3 ∗ posn c (.snd true 0) 3 ∗ posn c (.rcv false 1) 2 ∗ kept c false 3 ∗ posn c (.rcv true 1) 2 ∗ kept c true 3 ∗ tiles false 4 c (tset false 4) ∗ tiles true 4 c (tset true 4) ∗ cred (tallyAt (cell c (.snd false 1)) 2 N) ∗ posn c (.crd false) 4 ∗ posn c (.snd false 1) 2 ∗ owing c [.crd false 4, .crd true 4, .rcv false 6, .rcv true 6, .axr 0, .axr 1, .axr 2, .axr 3, .axr 4, .axr 5, .axr 6] ∗ cred (tallyAt (cell c (.snd true 1)) 2 N) ∗ posn c (.crd true) 4 ∗ posn c (.snd true 1) 2 ∗ fut15 c)

def st16 (g : OBuf (F := F)) : sProp 𝕄 :=
  iprop(wPts c (ws m c) ∗ oPts c (put m c 2 4 4 (put m c 3 3 3 (put m c 4 2 2 (put m c 5 1 1 (put m c 6 0 0 (put0 m c g)))))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ kept c false 2 ∗ kept c true 2 ∗ posn c (.rcv false 0) 3 ∗ owns (c : Thread nD τ) (slotM false 0) fullShare.left (half m false (orig false 4 c)) ∗ posn c (.rcv true 0) 3 ∗ owns (c : Thread nD τ) (slotM true 0) fullShare.left (half m true (orig true 4 c)) ∗ posn c (.snd false 0) 3 ∗ posn c (.snd true 0) 3 ∗ kept c false 3 ∗ posn c (.rcv true 1) 2 ∗ kept c true 3 ∗ tiles false 4 c (tset false 4) ∗ tiles true 4 c (tset true 4) ∗ cred (tallyAt (cell c (.snd false 1)) 2 N) ∗ posn c (.crd false) 4 ∗ posn c (.snd false 1) 2 ∗ cred (tallyAt (cell c (.snd true 1)) 2 N) ∗ posn c (.crd true) 4 ∗ posn c (.snd true 1) 2 ∗ owing c [.crd false 4, .crd true 4, .rcv false 6, .rcv true 6, .axr 0, .axr 1, .axr 2, .axr 3, .axr 4, .axr 5, .axr 6] ∗ posn c (.rcv false 1) 3 ∗ owns (c : Thread nD τ) (slotM false 1) fullShare (half m false (orig false 5 c)) ∗ reached ER (cell (nb (!false) c) (.crd false)) 4 ∗ fut16 c)

def st17 (g : OBuf (F := F)) : sProp 𝕄 :=
  iprop(wPts c (ws m c) ∗ oPts c (put m c 2 4 4 (put m c 3 3 3 (put m c 4 2 2 (put m c 5 1 1 (put m c 6 0 0 (put0 m c g)))))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ kept c false 2 ∗ kept c true 2 ∗ posn c (.snd false 0) 3 ∗ posn c (.snd true 0) 3 ∗ kept c false 3 ∗ kept c true 3 ∗ posn c (.crd true) 4 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ posn c (.rcv false 0) 3 ∗ kept c false 4 ∗ posn c (.rcv true 0) 3 ∗ kept c true 4 ∗ owing c [.rcv false 6, .rcv true 6, .axr 0, .axr 1, .axr 2, .axr 3, .axr 4, .axr 5, .axr 6] ∗ posn c (.crd false) 5 ∗ (∃ X, owns (nb false c : Thread nD τ) (slotM false 0) fullShare X) ∗ reached ER (cell (nb false c) (.rcv false 0)) 3 ∗ tiles false 5 c (tset false 5) ∗ fut17 c)

def st18 (g : OBuf (F := F)) : sProp 𝕄 :=
  iprop(wPts c (ws m c) ∗ oPts c (put m c 2 4 4 (put m c 3 3 3 (put m c 4 2 2 (put m c 5 1 1 (put m c 6 0 0 (put0 m c g)))))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ kept c false 2 ∗ kept c true 2 ∗ kept c false 3 ∗ kept c true 3 ∗ posn c (.rcv false 1) 3 ∗ owns (c : Thread nD τ) (slotM false 1) fullShare.left (half m false (orig false 5 c)) ∗ posn c (.rcv true 1) 3 ∗ owns (c : Thread nD τ) (slotM true 1) fullShare.left (half m true (orig true 5 c)) ∗ posn c (.snd false 1) 3 ∗ posn c (.snd true 1) 3 ∗ posn c (.rcv false 0) 3 ∗ kept c false 4 ∗ posn c (.rcv true 0) 3 ∗ kept c true 4 ∗ tiles false 5 c (tset false 5) ∗ tiles true 5 c (tset true 5) ∗ cred (tallyAt (cell c (.snd false 0)) 3 N) ∗ posn c (.crd false) 5 ∗ posn c (.snd false 0) 3 ∗ owing c [.axr 0, .axr 1, .axr 2, .axr 3, .axr 4, .axr 5, .axr 6] ∗ cred (tallyAt (cell c (.snd true 0)) 3 N) ∗ posn c (.crd true) 5 ∗ posn c (.snd true 0) 3 ∗ fut18 c)

def st19 (g : OBuf (F := F)) : sProp 𝕄 :=
  iprop(wPts c (ws m c) ∗ oPts c (put m c 1 5 5 (put m c 2 4 4 (put m c 3 3 3 (put m c 4 2 2 (put m c 5 1 1 (put m c 6 0 0 (put0 m c g))))))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ kept c false 2 ∗ kept c true 2 ∗ kept c false 3 ∗ kept c true 3 ∗ posn c (.rcv false 1) 3 ∗ owns (c : Thread nD τ) (slotM false 1) fullShare.left (half m false (orig false 5 c)) ∗ posn c (.rcv true 1) 3 ∗ owns (c : Thread nD τ) (slotM true 1) fullShare.left (half m true (orig true 5 c)) ∗ posn c (.snd false 1) 3 ∗ posn c (.snd true 1) 3 ∗ kept c false 4 ∗ posn c (.rcv true 0) 3 ∗ kept c true 4 ∗ tiles false 5 c (tset false 5) ∗ tiles true 5 c (tset true 5) ∗ cred (tallyAt (cell c (.snd false 0)) 3 N) ∗ posn c (.crd false) 5 ∗ posn c (.snd false 0) 3 ∗ cred (tallyAt (cell c (.snd true 0)) 3 N) ∗ posn c (.crd true) 5 ∗ posn c (.snd true 0) 3 ∗ owing c [.axr 0, .axr 1, .axr 2, .axr 3, .axr 4, .axr 5, .axr 6] ∗ posn c (.rcv false 0) 4 ∗ owns (c : Thread nD τ) (slotM false 0) fullShare (half m false (orig false 6 c)) ∗ reached ER (cell (nb (!false) c) (.crd false)) 5 ∗ fut19 c)

def st20 (g : OBuf (F := F)) : sProp 𝕄 :=
  iprop(wPts c (ws m c) ∗ oPts c (put m c 1 5 5 (put m c 2 4 4 (put m c 3 3 3 (put m c 4 2 2 (put m c 5 1 1 (put m c 6 0 0 (put0 m c g))))))) ∗ (∃ X, owns (c : Thread nD τ) (tileM 0) fullShare X) ∗ posn c .bar 1 ∗ xPts c (xs m c) ∗ bPts c fullShare (xb m c) ∗ kept c false 0 ∗ kept c true 0 ∗ kept c false 1 ∗ kept c true 1 ∗ kept c false 2 ∗ kept c true 2 ∗ kept c false 3 ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ owing c [.axr 0, .axr 1, .axr 2, .axr 3, .axr 4, .axr 5, .axr 6] ∗ posn c (.snd true 0) 4 ∗ fut20 c)

def st21 (g : OBuf (F := F)) : sProp 𝕄 :=
  iprop(wPts c (ws m c) ∗ oPts c (yF m c) ∗ owns (c : Thread nD τ) (tileM 0) (rem 0) (tileV (amaxL m c)) ∗ posn c .bar 1 ∗ xPts c (xs m c) ∗ bPts c fullShare (xb m c) ∗ kept c false 0 ∗ kept c true 0 ∗ kept c false 1 ∗ kept c true 1 ∗ kept c false 2 ∗ kept c true 2 ∗ kept c false 3 ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ owing c [.axr 0, .axr 1, .axr 2, .axr 3, .axr 4, .axr 5, .axr 6] ∗ posn c (.snd true 0) 4 ∗ fut20 c)

def st22 (g : OBuf (F := F)) : sProp 𝕄 :=
  iprop(wPts c (ws m c) ∗ oPts c (yF m c) ∗ posn c .bar 1 ∗ xPts c (xs m c) ∗ bPts c fullShare (xb m c) ∗ kept c true 0 ∗ kept c true 1 ∗ kept c true 2 ∗ kept c false 3 ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ posn c (.snd true 0) 4 ∗ cred (tallyAt (cell c (.axs 0)) 0 NT) ∗ cred (tallyAt (cell c (.axs 1)) 0 NT) ∗ owing c [.axr 3, .axr 4, .axr 5, .axr 6] ∗ cred (tallyAt (cell c (.axs 2)) 0 NT) ∗ owns (c : Thread nD τ) (tileM 0) (rem 3) (tileV (amaxL m c)) ∗ fut22 c)

def st23 (g : OBuf (F := F)) : sProp 𝕄 :=
  iprop(wPts c (ws m c) ∗ oPts c (yF m c) ∗ posn c .bar 1 ∗ xPts c (xs m c) ∗ bPts c fullShare (xb m c) ∗ kept c true 0 ∗ kept c true 1 ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ posn c (.snd true 0) 4 ∗ cred (tallyAt (cell c (.axs 0)) 0 NT) ∗ cred (tallyAt (cell c (.axs 1)) 0 NT) ∗ cred (tallyAt (cell c (.axs 2)) 0 NT) ∗ cred (tallyAt (cell c (.axs 3)) 0 NT) ∗ owing c [.axr 5, .axr 6] ∗ cred (tallyAt (cell c (.axs 4)) 0 NT) ∗ owns (c : Thread nD τ) (tileM 0) (rem 5) (tileV (amaxL m c)) ∗ fut23 c)

def st24 (g : OBuf (F := F)) : sProp 𝕄 :=
  iprop(wPts c (ws m c) ∗ oPts c (yF m c) ∗ posn c .bar 1 ∗ xPts c (xs m c) ∗ bPts c fullShare (xb m c) ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ posn c (.snd true 0) 4 ∗ cred (tallyAt (cell c (.axs 0)) 0 NT) ∗ cred (tallyAt (cell c (.axs 1)) 0 NT) ∗ cred (tallyAt (cell c (.axs 2)) 0 NT) ∗ cred (tallyAt (cell c (.axs 3)) 0 NT) ∗ cred (tallyAt (cell c (.axs 4)) 0 NT) ∗ cred (tallyAt (cell c (.axs 5)) 0 NT) ∗ cred (tallyAt (cell c (.axs 6)) 0 NT) ∗ owns (c : Thread nD τ) (tileM 0) (rem 7) (tileV (amaxL m c)) ∗ owing c [] ∗ posn c (.axr 0) 1 ∗ owns (c : Thread nD τ) (tileM 1) fullShare (tileV (amaxL m (behind 1 c))) ∗ fut24 c)

def st25 (g : OBuf (F := F)) : sProp 𝕄 :=
  iprop(wPts c (ws m c) ∗ oPts c (yF m c) ∗ posn c .bar 1 ∗ xPts c (xs m c) ∗ bPts c fullShare (xb m c) ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ posn c (.snd true 0) 4 ∗ cred (tallyAt (cell c (.axs 0)) 0 NT) ∗ cred (tallyAt (cell c (.axs 1)) 0 NT) ∗ cred (tallyAt (cell c (.axs 2)) 0 NT) ∗ cred (tallyAt (cell c (.axs 3)) 0 NT) ∗ cred (tallyAt (cell c (.axs 4)) 0 NT) ∗ cred (tallyAt (cell c (.axs 5)) 0 NT) ∗ cred (tallyAt (cell c (.axs 6)) 0 NT) ∗ owns (c : Thread nD τ) (tileM 0) (rem 7) (tileV (amaxL m c)) ∗ posn c (.axr 0) 1 ∗ owns (c : Thread nD τ) (tileM 1) fullShare (tileV (amaxL m (behind 1 c))) ∗ posn c (.axr 1) 1 ∗ owns (c : Thread nD τ) (tileM 2) fullShare (tileV (amaxL m (behind 2 c))) ∗ owing c [] ∗ posn c (.axr 2) 1 ∗ owns (c : Thread nD τ) (tileM 3) fullShare (tileV (amaxL m (behind 3 c))) ∗ fut25 c)

def st26 (g : OBuf (F := F)) : sProp 𝕄 :=
  iprop(wPts c (ws m c) ∗ oPts c (yF m c) ∗ posn c .bar 1 ∗ xPts c (xs m c) ∗ bPts c fullShare (xb m c) ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ posn c (.snd true 0) 4 ∗ cred (tallyAt (cell c (.axs 0)) 0 NT) ∗ cred (tallyAt (cell c (.axs 1)) 0 NT) ∗ cred (tallyAt (cell c (.axs 2)) 0 NT) ∗ cred (tallyAt (cell c (.axs 3)) 0 NT) ∗ cred (tallyAt (cell c (.axs 4)) 0 NT) ∗ cred (tallyAt (cell c (.axs 5)) 0 NT) ∗ cred (tallyAt (cell c (.axs 6)) 0 NT) ∗ owns (c : Thread nD τ) (tileM 0) (rem 7) (tileV (amaxL m c)) ∗ posn c (.axr 0) 1 ∗ owns (c : Thread nD τ) (tileM 1) fullShare (tileV (amaxL m (behind 1 c))) ∗ posn c (.axr 1) 1 ∗ owns (c : Thread nD τ) (tileM 2) fullShare (tileV (amaxL m (behind 2 c))) ∗ posn c (.axr 2) 1 ∗ owns (c : Thread nD τ) (tileM 3) fullShare (tileV (amaxL m (behind 3 c))) ∗ posn c (.axr 3) 1 ∗ owns (c : Thread nD τ) (tileM 4) fullShare (tileV (amaxL m (behind 4 c))) ∗ posn c (.axr 4) 1 ∗ owns (c : Thread nD τ) (tileM 5) fullShare (tileV (amaxL m (behind 5 c))) ∗ owing c [] ∗ posn c (.axr 5) 1 ∗ owns (c : Thread nD τ) (tileM 6) fullShare (tileV (amaxL m (behind 6 c))) ∗ fut26 c)

def st27 (g : OBuf (F := F)) : sProp 𝕄 :=
  iprop(wPts c (ws m c) ∗ oPts c (yF m c) ∗ posn c .bar 1 ∗ xPts c (xs m c) ∗ bPts c fullShare (xb m c) ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ posn c (.snd true 0) 4 ∗ cred (tallyAt (cell c (.axs 2)) 0 NT) ∗ cred (tallyAt (cell c (.axs 3)) 0 NT) ∗ cred (tallyAt (cell c (.axs 4)) 0 NT) ∗ cred (tallyAt (cell c (.axs 5)) 0 NT) ∗ cred (tallyAt (cell c (.axs 6)) 0 NT) ∗ owns (c : Thread nD τ) (tileM 0) (rem 7) (tileV (amaxL m c)) ∗ posn c (.axr 0) 1 ∗ owns (c : Thread nD τ) (tileM 1) fullShare (tileV (amaxL m (behind 1 c))) ∗ posn c (.axr 1) 1 ∗ owns (c : Thread nD τ) (tileM 2) fullShare (tileV (amaxL m (behind 2 c))) ∗ posn c (.axr 2) 1 ∗ owns (c : Thread nD τ) (tileM 3) fullShare (tileV (amaxL m (behind 3 c))) ∗ posn c (.axr 3) 1 ∗ owns (c : Thread nD τ) (tileM 4) fullShare (tileV (amaxL m (behind 4 c))) ∗ posn c (.axr 4) 1 ∗ owns (c : Thread nD τ) (tileM 5) fullShare (tileV (amaxL m (behind 5 c))) ∗ posn c (.axr 5) 1 ∗ owns (c : Thread nD τ) (tileM 6) fullShare (tileV (amaxL m (behind 6 c))) ∗ posn c (.axr 6) 1 ∗ owns (c : Thread nD τ) (tileM 7) fullShare (tileV (amaxL m (behind 7 c))) ∗ posn c (.axs 0) 1 ∗ owns (c : Thread nD τ) (tileM 0) (giv 0) (tileV (amaxL m c)) ∗ owing c [] ∗ posn c (.axs 1) 1 ∗ owns (c : Thread nD τ) (tileM 0) (giv 1) (tileV (amaxL m c)) ∗ fut27 c)

def st28 (g : OBuf (F := F)) : sProp 𝕄 :=
  iprop(wPts c (ws m c) ∗ oPts c (yF m c) ∗ posn c .bar 1 ∗ xPts c (xs m c) ∗ bPts c fullShare (xb m c) ∗ kept c true 3 ∗ posn c (.rcv false 1) 3 ∗ owns (c : Thread nD τ) (slotM false 1) fullShare (half m false (orig false 5 c)) ∗ posn c (.rcv true 1) 3 ∗ owns (c : Thread nD τ) (slotM true 1) fullShare (half m true (orig true 5 c)) ∗ posn c (.snd false 1) 3 ∗ posn c (.snd true 1) 3 ∗ kept c false 4 ∗ kept c true 4 ∗ tiles false 5 c (tset false 5) ∗ tiles true 5 c (tset true 5) ∗ posn c (.crd false) 5 ∗ posn c (.crd true) 5 ∗ posn c (.rcv false 0) 4 ∗ owns (c : Thread nD τ) (slotM false 0) fullShare (half m false (orig false 6 c)) ∗ reached ER (cell (nb (!false) c) (.crd false)) 5 ∗ posn c (.rcv true 0) 4 ∗ owns (c : Thread nD τ) (slotM true 0) fullShare (half m true (orig true 6 c)) ∗ reached ER (cell (nb (!true) c) (.crd true)) 5 ∗ posn c (.snd false 0) 4 ∗ posn c (.snd true 0) 4 ∗ cred (tallyAt (cell c (.axs 5)) 0 NT) ∗ cred (tallyAt (cell c (.axs 6)) 0 NT) ∗ owns (c : Thread nD τ) (tileM 0) (rem 7) (tileV (amaxL m c)) ∗ posn c (.axr 0) 1 ∗ owns (c : Thread nD τ) (tileM 1) fullShare (tileV (amaxL m (behind 1 c))) ∗ posn c (.axr 1) 1 ∗ owns (c : Thread nD τ) (tileM 2) fullShare (tileV (amaxL m (behind 2 c))) ∗ posn c (.axr 2) 1 ∗ owns (c : Thread nD τ) (tileM 3) fullShare (tileV (amaxL m (behind 3 c))) ∗ posn c (.axr 3) 1 ∗ owns (c : Thread nD τ) (tileM 4) fullShare (tileV (amaxL m (behind 4 c))) ∗ posn c (.axr 4) 1 ∗ owns (c : Thread nD τ) (tileM 5) fullShare (tileV (amaxL m (behind 5 c))) ∗ posn c (.axr 5) 1 ∗ owns (c : Thread nD τ) (tileM 6) fullShare (tileV (amaxL m (behind 6 c))) ∗ posn c (.axr 6) 1 ∗ owns (c : Thread nD τ) (tileM 7) fullShare (tileV (amaxL m (behind 7 c))) ∗ posn c (.axs 0) 1 ∗ owns (c : Thread nD τ) (tileM 0) (giv 0) (tileV (amaxL m c)) ∗ posn c (.axs 1) 1 ∗ owns (c : Thread nD τ) (tileM 0) (giv 1) (tileV (amaxL m c)) ∗ posn c (.axs 2) 1 ∗ owns (c : Thread nD τ) (tileM 0) (giv 2) (tileV (amaxL m c)) ∗ posn c (.axs 3) 1 ∗ owns (c : Thread nD τ) (tileM 0) (giv 3) (tileV (amaxL m c)) ∗ owing c [] ∗ posn c (.axs 4) 1 ∗ owns (c : Thread nD τ) (tileM 0) (giv 4) (tileV (amaxL m c)) ∗ fut28 c)

end Cert.WholeRun

end
-- ==== Proof.WholePartA.lean ====
/-
# The whole kernel: the body's parts 1 to 7
-/
module

public import proofs.«01_k».proof.Proof.WholeState

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (K : Dev nD × CK → ℕ) (c : Dev nD)

set_option maxRecDepth 8000 in
set_option maxHeartbeats 4000000 in
theorem part1 (g : OBuf (F := F))
    {α : Type} {Q : α → sProp 𝕄} {kk : (Σ' (d0 : Dev nD) (v2 : BitVec 32) (v4 : BitVec 32) (v6 : BitVec 32), BitVec 32) → Prog (TpuEff nD τ sig (Elt F) Λ₀ .tc) α} :
    iprop(records m K ∗ levAts L lv ∗ st0 m c g) ⊢ iprop((∀ x, ⌜x.1 = c⌝ -∗ st1 m c g -∗ wp frame (wpE (defs₀ (F := F)) 𝒱₀ (c : Thread nD τ) none) Set.univ (kk x) Q)
      -∗ wp frame (wpE (defs₀ (F := F)) 𝒱₀ (c : Thread nD τ) none) Set.univ (k0_part1 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11  >>= kk) Q) := by
  simp only [k0_part1_eq_skeleton]; unfold k0_part1_skel
  simp only [semSignalWord, semWaitWord, Prog.lift, Prog.bind_op, Prog.bind_ret, Prog.pure_eq_ret, wp_deviceId]
  unfold st0 st1 fut0
  iintro ⟨#HR, #Hlev, HO, Hx, Hw, Ho, Hb, Rf, Rt, Lf, Lt, T0, TBf, TBt, CB, PB, PCf, TSf0, PSf0, TRf0, Rest⟩ Hk
  iapply (sig_bar m K c false _ (dev1_eq c) [.bar true, .rcv false 0, .rcv true 0, .rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide)) $$ [HO TBf Rf Lf]
  · isplitr; · iexact HR
    isplitl [HO]; · iexact HO
    isplitl [TBf]; · iexact TBf
    isplitl [Rf]; · iexact Rf
    iexact Lf
  iintro HO
  iapply (sig_bar m K c true _ (dev2_eq c) [.rcv false 0, .rcv true 0, .rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide)) $$ [HO TBt Rt Lt]
  · isplitr; · iexact HR
    isplitl [HO]; · iexact HO
    isplitl [TBt]; · iexact TBt
    isplitl [Rt]; · iexact Rt
    iexact Lt
  iintro HO
  iapply (wait_bar m K c [.rcv false 0, .rcv true 0, .rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (by decide) (wpE_semWait_eq 𝒱₀ (c : Thread nD τ) none Set.univ)) $$ [CB HO PB]
  · isplitr; · iexact HR
    isplitr; · iexact Hlev
    isplitl [CB]; · iexact CB
    isplitl [HO]; · iexact HO
    iexact PB
  iintro ⟨HO, PB, Df0, Df1, Lf, Dt0, Dt1, Lt⟩
  ihave Vf0 := (reached_at m K (nb false c) (.rcv false 0)) $$ HR
  ihave Vf1 := (reached_at m K (nb false c) (.rcv false 1)) $$ HR
  ihave Vt0 := (reached_at m K (nb true c) (.rcv true 0)) $$ HR
  ihave Vt1 := (reached_at m K (nb true c) (.rcv true 1)) $$ HR
  simp only [Prog.bind_assoc]
  iapply (conv_loop m c _ _ _ _ _ _ _ _ _ _ _ _ _ _) $$ [Hx Hb]
  · isplitl [Hx]; · iexact Hx
    iexact Hb
  iintro ⟨Hx, Hb⟩
  simp only [semSignalWord, semWaitWord, Prog.lift, Prog.bind_op, Prog.bind_ret, Prog.pure_eq_ret, wp_deviceId]
  ihave Hb := (block_split m c) $$ Hb
  icases Hb with ⟨Hb, Hhf, Hht⟩
  ihave Hb := (Entails.of_eq (bPts_eq c fullShare.left (xb m c))) $$ Hb
  iapply (send_hop m K c false 0 0 0 rfl rfl 0 rfl _ (dev3_eq c) [.rcv true 0, .rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (halfM false) (half m false c) rfl (congrArg (half m false) (orig_zero false c))) $$ [Hhf Df0 PCf HO TSf0 PSf0 TRf0 Vf0]
  · isplitr; · iexact HR
    isplitl [Hhf]; · iexact Hhf
    isplitl [Df0]; · iexact Df0
    isplitl [PCf]; · iexact PCf
    isplitl [HO]; · iexact HO
    isplitl [TSf0]; · iexact TSf0
    isplitl [PSf0]; · iexact PSf0
    isplitl [TRf0]; · iexact TRf0
    iexact Vf0
  iintro ⟨HO, CSf0, PCf, PSf0⟩
  iapply Hk $$ %_ %(rfl)
  isplitl [Hw]; · iexact Hw
  isplitl [Ho]; · iexact Ho
  isplitl [T0]; · iexact T0
  isplitl [PB]; · iexact PB
  isplitl [Df1]; · iexact Df1
  isplitl [Lf]; · iexact Lf
  isplitl [Dt0]; · iexact Dt0
  isplitl [Dt1]; · iexact Dt1
  isplitl [Lt]; · iexact Lt
  isplitl [Vf1]; · iexact Vf1
  isplitl [Vt0]; · iexact Vt0
  isplitl [Vt1]; · iexact Vt1
  isplitl [Hx]; · iexact Hx
  isplitl [Hb]; · iexact Hb
  isplitl [Hht]; · iexact Hht
  isplitl [HO]; · iexact HO
  isplitl [CSf0]; · iexact CSf0
  isplitl [PCf]; · iexact PCf
  isplitl [PSf0]; · iexact PSf0
  iexact Rest

set_option maxRecDepth 8000 in
set_option maxHeartbeats 4000000 in
theorem part2 (g : OBuf (F := F)) (v2 : BitVec 32) (v4 : BitVec 32) (v6 : BitVec 32) (v22 : BitVec 32)
    {α : Type} {Q : α → sProp 𝕄} {kk : PUnit → Prog (TpuEff nD τ sig (Elt F) Λ₀ .tc) α} :
    iprop(records m K ∗ levAts L lv ∗ st1 m c g) ⊢ iprop((st2 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part2 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v4 v6 v22 >>= kk) Q) := by
  simp only [k0_part2_eq_skeleton]; unfold k0_part2_skel
  simp only [semSignalWord, semWaitWord, Prog.lift, Prog.bind_op, Prog.bind_ret, Prog.pure_eq_ret, wp_deviceId]
  unfold st1 st2 fut1
  iintro ⟨#HR, #Hlev, Hw, Ho, T0, PB, Df1, Lf, Dt0, Dt1, Lt, Vf1, Vt0, Vt1, Hx, Hb, Hht, HO, CSf0, PCf, PSf0, PCt, TSt0, PSt0, TRt0, CRf0, PRf0, Rest⟩ Hk
  iapply (send_hop m K c true 0 0 0 rfl rfl 0 rfl _ (dev4_eq c) [.rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (halfM true) (half m true c) rfl (congrArg (half m true) (orig_zero true c))) $$ [Hht Dt0 PCt HO TSt0 PSt0 TRt0 Vt0]
  · isplitr; · iexact HR
    isplitl [Hht]; · iexact Hht
    isplitl [Dt0]; · iexact Dt0
    isplitl [PCt]; · iexact PCt
    isplitl [HO]; · iexact HO
    isplitl [TSt0]; · iexact TSt0
    isplitl [PSt0]; · iexact PSt0
    isplitl [TRt0]; · iexact TRt0
    iexact Vt0
  iintro ⟨HO, CSt0, PCt, PSt0⟩
  iapply (step_load c bM _ fullShare.left (xb m c)) $$ Hb
  iintro Hb
  rw [read_b]
  iapply (step_load c wM _ fullShare (ws m c)) $$ Hw
  iintro Hw
  rw [read_w]
  iapply (step_load c oM _ fullShare (_)) $$ Ho
  iintro Ho
  iapply (step_store c oM _ _ _) $$ Ho
  iintro Ho
  iapply (wait_rcv m K c false 0 0 0 rfl rfl 1 rfl 0 rfl 0 rfl [.rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot false 0)) $$ [CRf0 HO PRf0]
  · isplitr; · iexact HR
    isplitr; · iexact Hlev
    isplitl [CRf0]; · iexact CRf0
    isplitl [HO]; · iexact HO
    iexact PRf0
  iintro ⟨HO, PRf0, Sf0, Ef⟩
  iclear Ef
  iapply Hk
  isplitl [Hw]; · iexact Hw
  isplitl [Ho]; · iexact Ho
  isplitl [T0]; · iexact T0
  isplitl [PB]; · iexact PB
  isplitl [Df1]; · iexact Df1
  isplitl [Lf]; · iexact Lf
  isplitl [Dt1]; · iexact Dt1
  isplitl [Lt]; · iexact Lt
  isplitl [Vf1]; · iexact Vf1
  isplitl [Vt1]; · iexact Vt1
  isplitl [Hx]; · iexact Hx
  isplitl [Hb]; · iexact Hb
  isplitl [CSf0]; · iexact CSf0
  isplitl [PCf]; · iexact PCf
  isplitl [PSf0]; · iexact PSf0
  isplitl [CSt0]; · iexact CSt0
  isplitl [PCt]; · iexact PCt
  isplitl [PSt0]; · iexact PSt0
  isplitl [HO]; · iexact HO
  isplitl [PRf0]; · iexact PRf0
  isplitl [Sf0]; · iexact Sf0
  iexact Rest

set_option maxRecDepth 8000 in
set_option maxHeartbeats 4000000 in
theorem part3 (g : OBuf (F := F)) (v4 : BitVec 32) (v6 : BitVec 32)
    {α : Type} {Q : α → sProp 𝕄} {kk : PUnit → Prog (TpuEff nD τ sig (Elt F) Λ₀ .tc) α} :
    iprop(records m K ∗ levAts L lv ∗ st2 m c g) ⊢ iprop((st3 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part3 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v4 v6 >>= kk) Q) := by
  simp only [k0_part3_eq_skeleton]; unfold k0_part3_skel
  simp only [semSignalWord, semWaitWord, Prog.lift, Prog.bind_op, Prog.bind_ret, Prog.pure_eq_ret, wp_deviceId]
  unfold st2 st3 fut2
  iintro ⟨#HR, #Hlev, Hw, Ho, T0, PB, Df1, Lf, Dt1, Lt, Vf1, Vt1, Hx, Hb, CSf0, PCf, PSf0, CSt0, PCt, PSt0, HO, PRf0, Sf0, CRt0, PRt0, TSf1, PSf1, TRf1, Rest⟩ Hk
  iapply (wait_rcv m K c true 0 0 0 rfl rfl 1 rfl 0 rfl 0 rfl [.rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot true 0)) $$ [CRt0 HO PRt0]
  · isplitr; · iexact HR
    isplitr; · iexact Hlev
    isplitl [CRt0]; · iexact CRt0
    isplitl [HO]; · iexact HO
    iexact PRt0
  iintro ⟨HO, PRt0, St0, Et⟩
  iclear Et
  iapply (wait_snd m K c false 0 0 0 rfl rfl 1 rfl [.rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (halfM false) (half m false c) rfl (wpE_waitDma2_eq 𝒱₀ (c : Thread nD τ) none Set.univ) (credit_half false)) $$ [CSf0 HO PSf0]
  · isplitr; · iexact HR
    isplitr; · iexact Hlev
    isplitl [CSf0]; · iexact CSf0
    isplitl [HO]; · iexact HO
    iexact PSf0
  iintro ⟨HO, PSf0, Hhf⟩
  iapply (wait_snd m K c true 0 0 0 rfl rfl 1 rfl [.rcv false 1, .rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (halfM true) (half m true c) rfl (wpE_waitDma2_eq 𝒱₀ (c : Thread nD τ) none Set.univ) (credit_half true)) $$ [CSt0 HO PSt0]
  · isplitr; · iexact HR
    isplitr; · iexact Hlev
    isplitl [CSt0]; · iexact CSt0
    isplitl [HO]; · iexact HO
    iexact PSt0
  iintro ⟨HO, PSt0, Hht⟩
  ihave Hb := (Entails.of_eq (bPts_eq c fullShare.left (xb m c)).symm) $$ Hb
  ihave Hb := (block_join m c) $$ [Hb Hhf Hht]
  · isplitl [Hb]; · iexact Hb
    isplitl [Hhf]; · iexact Hhf
    iexact Hht
  ihave Sf0 := (owns_halve (c : Thread nD τ) (slotM false 0) (half m false (orig false 0 c)) fullShare) $$ Sf0
  icases Sf0 with ⟨Sf0, Sf0q⟩
  ihave St0 := (owns_halve (c : Thread nD τ) (slotM true 0) (half m true (orig true 0 c)) fullShare) $$ St0
  icases St0 with ⟨St0, St0q⟩
  iapply (send_hop m K c false 1 1 0 rfl rfl 0 rfl _ (dev5_eq c) [.rcv true 1, .crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (slotM false 0) (half m false (orig false 0 c)) rfl (congrArg (half m false) (orig_succ false 0 c))) $$ [Sf0q Df1 PCf HO TSf1 PSf1 TRf1 Vf1]
  · isplitr; · iexact HR
    isplitl [Sf0q]; · iexact Sf0q
    isplitl [Df1]; · iexact Df1
    isplitl [PCf]; · iexact PCf
    isplitl [HO]; · iexact HO
    isplitl [TSf1]; · iexact TSf1
    isplitl [PSf1]; · iexact PSf1
    isplitl [TRf1]; · iexact TRf1
    iexact Vf1
  iintro ⟨HO, CSf1, PCf, PSf1⟩
  iapply Hk
  isplitl [Hw]; · iexact Hw
  isplitl [Ho]; · iexact Ho
  isplitl [T0]; · iexact T0
  isplitl [PB]; · iexact PB
  isplitl [Lf]; · iexact Lf
  isplitl [Dt1]; · iexact Dt1
  isplitl [Lt]; · iexact Lt
  isplitl [Vt1]; · iexact Vt1
  isplitl [Hx]; · iexact Hx
  isplitl [Hb]; · iexact Hb
  isplitl [PCt]; · iexact PCt
  isplitl [PRf0]; · iexact PRf0
  isplitl [Sf0]; · iexact Sf0
  isplitl [PRt0]; · iexact PRt0
  isplitl [St0]; · iexact St0
  isplitl [PSf0]; · iexact PSf0
  isplitl [PSt0]; · iexact PSt0
  isplitl [St0q]; · iexact St0q
  isplitl [HO]; · iexact HO
  isplitl [CSf1]; · iexact CSf1
  isplitl [PCf]; · iexact PCf
  isplitl [PSf1]; · iexact PSf1
  iexact Rest

set_option maxRecDepth 8000 in
set_option maxHeartbeats 4000000 in
theorem part4 (g : OBuf (F := F)) (v2 : BitVec 32)
    {α : Type} {Q : α → sProp 𝕄} {kk : PUnit → Prog (TpuEff nD τ sig (Elt F) Λ₀ .tc) α} :
    iprop(records m K ∗ levAts L lv ∗ st3 m c g) ⊢ iprop((st4 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part4 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 >>= kk) Q) := by
  simp only [k0_part4_eq_skeleton]; unfold k0_part4_skel
  simp only [semSignalWord, semWaitWord, Prog.lift, Prog.bind_op, Prog.bind_ret, Prog.pure_eq_ret, wp_deviceId]
  unfold st3 st4 fut3
  iintro ⟨#HR, #Hlev, Hw, Ho, T0, PB, Lf, Dt1, Lt, Vt1, Hx, Hb, PCt, PRf0, Sf0, PRt0, St0, PSf0, PSt0, St0q, HO, CSf1, PCf, PSf1, TSt1, PSt1, TRt1, Rest⟩ Hk
  iapply (send_hop m K c true 1 1 0 rfl rfl 0 rfl _ (dev6_eq c) [.crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (slotM true 0) (half m true (orig true 0 c)) rfl (congrArg (half m true) (orig_succ true 0 c))) $$ [St0q Dt1 PCt HO TSt1 PSt1 TRt1 Vt1]
  · isplitr; · iexact HR
    isplitl [St0q]; · iexact St0q
    isplitl [Dt1]; · iexact Dt1
    isplitl [PCt]; · iexact PCt
    isplitl [HO]; · iexact HO
    isplitl [TSt1]; · iexact TSt1
    isplitl [PSt1]; · iexact PSt1
    isplitl [TRt1]; · iexact TRt1
    iexact Vt1
  iintro ⟨HO, CSt1, PCt, PSt1⟩
  iapply (step_load_slot c false 0 fullShare.left (half m false (orig false 0 c))) $$ Sf0
  iintro %v %hv Sf0
  iapply (step_load c wM _ fullShare (ws m c)) $$ Hw
  iintro Hw
  rw [read_w]
  iapply (step_load c oM _ fullShare (_)) $$ Ho
  iintro Ho
  rw [pay4_eq v _ (hv _ HEq.rfl)]
  iapply (step_store c oM _ _ _) $$ Ho
  iintro Ho
  iapply (step_load_slot c true 0 fullShare.left (half m true (orig true 0 c))) $$ St0
  iintro %v %hv St0
  iapply (step_load c wM _ fullShare (ws m c)) $$ Hw
  iintro Hw
  rw [read_w]
  iapply (step_load c oM _ fullShare (_)) $$ Ho
  iintro Ho
  rw [pay5_eq v _ (hv _ HEq.rfl)]
  iapply (step_store c oM _ _ _) $$ Ho
  iintro Ho
  iapply Hk
  isplitl [Hw]; · iexact Hw
  isplitl [Ho]; · iexact Ho
  isplitl [T0]; · iexact T0
  isplitl [PB]; · iexact PB
  isplitl [Lf]; · iexact Lf
  isplitl [Lt]; · iexact Lt
  isplitl [Hx]; · iexact Hx
  isplitl [Hb]; · iexact Hb
  isplitl [PRf0]; · iexact PRf0
  isplitl [Sf0]; · iexact Sf0
  isplitl [PRt0]; · iexact PRt0
  isplitl [St0]; · iexact St0
  isplitl [PSf0]; · iexact PSf0
  isplitl [PSt0]; · iexact PSt0
  isplitl [CSf1]; · iexact CSf1
  isplitl [PCf]; · iexact PCf
  isplitl [PSf1]; · iexact PSf1
  isplitl [HO]; · iexact HO
  isplitl [CSt1]; · iexact CSt1
  isplitl [PCt]; · iexact PCt
  isplitl [PSt1]; · iexact PSt1
  iexact Rest

set_option maxRecDepth 8000 in
set_option maxHeartbeats 4000000 in
theorem part5 (g : OBuf (F := F)) (v4 : BitVec 32) (v6 : BitVec 32)
    {α : Type} {Q : α → sProp 𝕄} {kk : PUnit → Prog (TpuEff nD τ sig (Elt F) Λ₀ .tc) α} :
    iprop(records m K ∗ levAts L lv ∗ st4 m c g) ⊢ iprop((st5 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part5 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 v4 v6 >>= kk) Q) := by
  simp only [k0_part5_eq_skeleton]; unfold k0_part5_skel
  simp only [semSignalWord, semWaitWord, Prog.lift, Prog.bind_op, Prog.bind_ret, Prog.pure_eq_ret, wp_deviceId]
  unfold st4 st5 fut4
  iintro ⟨#HR, #Hlev, Hw, Ho, T0, PB, Lf, Lt, Hx, Hb, PRf0, Sf0, PRt0, St0, PSf0, PSt0, CSf1, PCf, PSf1, HO, CSt1, PCt, PSt1, CRf1, PRf1, CRt1, PRt1, Rest⟩ Hk
  iapply (wait_rcv m K c false 1 1 0 rfl rfl 1 rfl 1 rfl 0 rfl [.crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot false 1)) $$ [CRf1 HO PRf1]
  · isplitr; · iexact HR
    isplitr; · iexact Hlev
    isplitl [CRf1]; · iexact CRf1
    isplitl [HO]; · iexact HO
    iexact PRf1
  iintro ⟨HO, PRf1, Sf1, Ef⟩
  iapply (wait_rcv m K c true 1 1 0 rfl rfl 1 rfl 1 rfl 0 rfl [.crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot true 1)) $$ [CRt1 HO PRt1]
  · isplitr; · iexact HR
    isplitr; · iexact Hlev
    isplitl [CRt1]; · iexact CRt1
    isplitl [HO]; · iexact HO
    iexact PRt1
  iintro ⟨HO, PRt1, St1, Et⟩
  iapply (wait_snd m K c false 1 1 0 rfl rfl 1 rfl [.crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (slotM false 0) (half m false (orig false 0 c)) rfl (wpE_waitDma2_eq 𝒱₀ (c : Thread nD τ) none Set.univ) (credit_slot false 0)) $$ [CSf1 HO PSf1]
  · isplitr; · iexact HR
    isplitr; · iexact Hlev
    isplitl [CSf1]; · iexact CSf1
    isplitl [HO]; · iexact HO
    iexact PSf1
  iintro ⟨HO, PSf1, Sf0q⟩
  ihave Sf0 := (owns_rejoin (c : Thread nD τ) (slotM false 0) (half m false (orig false 0 c)) fullShare) $$ [Sf0 Sf0q]
  · isplitl [Sf0]; · iexact Sf0
    iexact Sf0q
  iapply Hk
  isplitl [Hw]; · iexact Hw
  isplitl [Ho]; · iexact Ho
  isplitl [T0]; · iexact T0
  isplitl [PB]; · iexact PB
  isplitl [Lf]; · iexact Lf
  isplitl [Lt]; · iexact Lt
  isplitl [Hx]; · iexact Hx
  isplitl [Hb]; · iexact Hb
  isplitl [PRf0]; · iexact PRf0
  isplitl [Sf0]; · iexact Sf0
  isplitl [PRt0]; · iexact PRt0
  isplitl [St0]; · iexact St0
  isplitl [PSf0]; · iexact PSf0
  isplitl [PSt0]; · iexact PSt0
  isplitl [PCf]; · iexact PCf
  isplitl [CSt1]; · iexact CSt1
  isplitl [PCt]; · iexact PCt
  isplitl [PSt1]; · iexact PSt1
  isplitl [PRf1]; · iexact PRf1
  isplitl [Sf1]; · iexact Sf1
  isplitl [Ef]; · iexact Ef
  isplitl [PRt1]; · iexact PRt1
  isplitl [St1]; · iexact St1
  isplitl [Et]; · iexact Et
  isplitl [HO]; · iexact HO
  isplitl [PSf1]; · iexact PSf1
  iexact Rest

set_option maxRecDepth 8000 in
set_option maxHeartbeats 4000000 in
theorem part6 (g : OBuf (F := F)) (v4 : BitVec 32) (v6 : BitVec 32)
    {α : Type} {Q : α → sProp 𝕄} {kk : PUnit → Prog (TpuEff nD τ sig (Elt F) Λ₀ .tc) α} :
    iprop(records m K ∗ levAts L lv ∗ st5 m c g) ⊢ iprop((st6 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part6 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v4 v6 >>= kk) Q) := by
  simp only [k0_part6_eq_skeleton]; unfold k0_part6_skel
  simp only [semSignalWord, semWaitWord, Prog.lift, Prog.bind_op, Prog.bind_ret, Prog.pure_eq_ret, wp_deviceId]
  unfold st5 st6 fut5
  iintro ⟨#HR, #Hlev, Hw, Ho, T0, PB, Lf, Lt, Hx, Hb, PRf0, Sf0, PRt0, St0, PSf0, PSt0, PCf, CSt1, PCt, PSt1, PRf1, Sf1, Ef, PRt1, St1, Et, HO, PSf1, TCf0, TCt0, CCf0, CCt0, TSf2, TRf2, Rest⟩ Hk
  iapply (wait_snd m K c true 1 1 0 rfl rfl 1 rfl [.crd false 0, .crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (slotM true 0) (half m true (orig true 0 c)) rfl (wpE_waitDma2_eq 𝒱₀ (c : Thread nD τ) none Set.univ) (credit_slot true 0)) $$ [CSt1 HO PSt1]
  · isplitr; · iexact HR
    isplitr; · iexact Hlev
    isplitl [CSt1]; · iexact CSt1
    isplitl [HO]; · iexact HO
    iexact PSt1
  iintro ⟨HO, PSt1, St0q⟩
  ihave St0 := (owns_rejoin (c : Thread nD τ) (slotM true 0) (half m true (orig true 0 c)) fullShare) $$ [St0 St0q]
  · isplitl [St0]; · iexact St0
    iexact St0q
  iapply (sig_crd m K c false 0 0 1 rfl rfl 0 rfl _ rfl _ (dev7_eq c) [.crd true 0, .rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (half m false (orig false 0 c))) $$ [HO TCf0 Sf0 PRf0 Lf Ef]
  · isplitr; · iexact HR
    isplitl [HO]; · iexact HO
    isplitl [TCf0]; · iexact TCf0
    isplitl [Sf0]; · iexact Sf0
    isplitl [PRf0]; · iexact PRf0
    isplitl [Lf]; · iexact Lf
    iexact Ef
  iintro ⟨HO, PRf0, Kf0⟩
  iapply (sig_crd m K c true 0 0 1 rfl rfl 0 rfl _ rfl _ (dev8_eq c) [.rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (half m true (orig true 0 c))) $$ [HO TCt0 St0 PRt0 Lt Et]
  · isplitr; · iexact HR
    isplitl [HO]; · iexact HO
    isplitl [TCt0]; · iexact TCt0
    isplitl [St0]; · iexact St0
    isplitl [PRt0]; · iexact PRt0
    isplitl [Lt]; · iexact Lt
    iexact Et
  iintro ⟨HO, PRt0, Kt0⟩
  iapply (wait_crd m K c false 0 0 1 rfl rfl 0 rfl 1 rfl [.rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_semWait_eq 𝒱₀ (c : Thread nD τ) none Set.univ) (by decide)) $$ [CCf0 HO PCf]
  · isplitr; · iexact HR
    isplitr; · iexact Hlev
    isplitl [CCf0]; · iexact CCf0
    isplitl [HO]; · iexact HO
    iexact PCf
  iintro ⟨HO, PCf, Df0, Vf0, Lf⟩
  iapply (wait_crd m K c true 0 0 1 rfl rfl 0 rfl 1 rfl [.rcv false 2, .rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_semWait_eq 𝒱₀ (c : Thread nD τ) none Set.univ) (by decide)) $$ [CCt0 HO PCt]
  · isplitr; · iexact HR
    isplitr; · iexact Hlev
    isplitl [CCt0]; · iexact CCt0
    isplitl [HO]; · iexact HO
    iexact PCt
  iintro ⟨HO, PCt, Dt0, Vt0, Lt⟩
  ihave Sf1 := (owns_halve (c : Thread nD τ) (slotM false 1) (half m false (orig false 1 c)) fullShare) $$ Sf1
  icases Sf1 with ⟨Sf1, Sf1q⟩
  ihave St1 := (owns_halve (c : Thread nD τ) (slotM true 1) (half m true (orig true 1 c)) fullShare) $$ St1
  icases St1 with ⟨St1, St1q⟩
  iapply (send_hop m K c false 2 0 1 rfl rfl 1 rfl _ (dev9_eq c) [.rcv true 2, .crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (slotM false 1) (half m false (orig false 1 c)) rfl (congrArg (half m false) (orig_succ false 1 c))) $$ [Sf1q Df0 PCf HO TSf2 PSf0 TRf2 Vf0]
  · isplitr; · iexact HR
    isplitl [Sf1q]; · iexact Sf1q
    isplitl [Df0]; · iexact Df0
    isplitl [PCf]; · iexact PCf
    isplitl [HO]; · iexact HO
    isplitl [TSf2]; · iexact TSf2
    isplitl [PSf0]; · iexact PSf0
    isplitl [TRf2]; · iexact TRf2
    iexact Vf0
  iintro ⟨HO, CSf2, PCf, PSf0⟩
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [PSt0]; · iexact PSt0
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [PRf0]; · iexact PRf0
  isplitl [Kf0]; · iexact Kf0
  isplitl [PRt0]; · iexact PRt0
  isplitl [Kt0]; · iexact Kt0
  isplitl [Lf]; · iexact Lf
  isplitl [PCt]; · iexact PCt
  isplitl [Dt0]; · iexact Dt0
  isplitl [Vt0]; · iexact Vt0
  isplitl [Lt]; · iexact Lt
  isplitl [St1q]; · iexact St1q
  isplitl [HO]; · iexact HO
  isplitl [CSf2]; · iexact CSf2
  isplitl [PCf]; · iexact PCf
  isplitl [PSf0]; · iexact PSf0
  iexact Rest

set_option maxRecDepth 8000 in
set_option maxHeartbeats 4000000 in
theorem part7 (g : OBuf (F := F)) (v2 : BitVec 32) (v6 : BitVec 32)
    {α : Type} {Q : α → sProp 𝕄} {kk : PUnit → Prog (TpuEff nD τ sig (Elt F) Λ₀ .tc) α} :
    iprop(records m K ∗ levAts L lv ∗ st6 m c g) ⊢ iprop((st7 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part7 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v6 >>= kk) Q) := by
  simp only [k0_part7_eq_skeleton]; unfold k0_part7_skel
  simp only [semSignalWord, semWaitWord, Prog.lift, Prog.bind_op, Prog.bind_ret, Prog.pure_eq_ret, wp_deviceId]
  unfold st6 st7 fut6
  iintro ⟨#HR, #Hlev, Hw, Ho, T0, PB, Hx, Hb, PSt0, PRf1, Sf1, PRt1, St1, PSf1, PSt1, PRf0, Kf0, PRt0, Kt0, Lf, PCt, Dt0, Vt0, Lt, St1q, HO, CSf2, PCf, PSf0, TSt2, TRt2, Rest⟩ Hk
  iapply (send_hop m K c true 2 0 1 rfl rfl 1 rfl _ (dev10_eq c) [.crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (slotM true 1) (half m true (orig true 1 c)) rfl (congrArg (half m true) (orig_succ true 1 c))) $$ [St1q Dt0 PCt HO TSt2 PSt0 TRt2 Vt0]
  · isplitr; · iexact HR
    isplitl [St1q]; · iexact St1q
    isplitl [Dt0]; · iexact Dt0
    isplitl [PCt]; · iexact PCt
    isplitl [HO]; · iexact HO
    isplitl [TSt2]; · iexact TSt2
    isplitl [PSt0]; · iexact PSt0
    isplitl [TRt2]; · iexact TRt2
    iexact Vt0
  iintro ⟨HO, CSt2, PCt, PSt0⟩
  iapply (step_load_slot c false 1 fullShare.left (half m false (orig false 1 c))) $$ Sf1
  iintro %v %hv Sf1
  iapply (step_load c wM _ fullShare (ws m c)) $$ Hw
  iintro Hw
  rw [read_w]
  iapply (step_load c oM _ fullShare (_)) $$ Ho
  iintro Ho
  rw [pay6_eq v _ (hv _ HEq.rfl)]
  iapply (step_store c oM _ _ _) $$ Ho
  iintro Ho
  iapply (step_load_slot c true 1 fullShare.left (half m true (orig true 1 c))) $$ St1
  iintro %v %hv St1
  iapply (step_load c wM _ fullShare (ws m c)) $$ Hw
  iintro Hw
  rw [read_w]
  iapply (step_load c oM _ fullShare (_)) $$ Ho
  iintro Ho
  rw [pay7_eq v _ (hv _ HEq.rfl)]
  iapply (step_store c oM _ _ _) $$ Ho
  iintro Ho
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [PRf0]; · iexact PRf0
  isplitl [Kf0]; · iexact Kf0
  isplitl [PRt0]; · iexact PRt0
  isplitl [Kt0]; · iexact Kt0
  isplitl [Lf]; · iexact Lf
  isplitl [Lt]; · iexact Lt
  isplitl [CSf2]; · iexact CSf2
  isplitl [PCf]; · iexact PCf
  isplitl [PSf0]; · iexact PSf0
  isplitl [HO]; · iexact HO
  isplitl [CSt2]; · iexact CSt2
  isplitl [PCt]; · iexact PCt
  isplitl [PSt0]; · iexact PSt0
  iexact Rest

end Cert.WholeRun

end
-- ==== Proof.WholePartB.lean ====
/-
# The whole kernel: the body's parts 8 to 14
-/
module

public import proofs.«01_k».proof.Proof.WholeState

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (K : Dev nD × CK → ℕ) (c : Dev nD)

set_option maxRecDepth 8000 in
set_option maxHeartbeats 4000000 in
theorem part8 (g : OBuf (F := F)) (v4 : BitVec 32)
    {α : Type} {Q : α → sProp 𝕄} {kk : PUnit → Prog (TpuEff nD τ sig (Elt F) Λ₀ .tc) α} :
    iprop(records m K ∗ levAts L lv ∗ st7 m c g) ⊢ iprop((st8 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part8 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 v4 >>= kk) Q) := by
  simp only [k0_part8_eq_skeleton]; unfold k0_part8_skel
  simp only [semSignalWord, semWaitWord, Prog.lift, Prog.bind_op, Prog.bind_ret, Prog.pure_eq_ret, wp_deviceId]
  unfold st7 st8 fut7
  iintro ⟨#HR, #Hlev, Hw, Ho, T0, PB, Hx, Hb, PRf1, Sf1, PRt1, St1, PSf1, PSt1, PRf0, Kf0, PRt0, Kt0, Lf, Lt, CSf2, PCf, PSf0, HO, CSt2, PCt, PSt0, CRf2, CRt2, Rest⟩ Hk
  iapply (wait_rcv m K c false 2 0 1 rfl rfl 2 rfl 2 rfl 1 rfl [.crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot false 0)) $$ [CRf2 HO PRf0]
  · isplitr; · iexact HR
    isplitr; · iexact Hlev
    isplitl [CRf2]; · iexact CRf2
    isplitl [HO]; · iexact HO
    iexact PRf0
  iintro ⟨HO, PRf0, Sf0, Ef⟩
  iapply (wait_rcv m K c true 2 0 1 rfl rfl 2 rfl 2 rfl 1 rfl [.crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot true 0)) $$ [CRt2 HO PRt0]
  · isplitr; · iexact HR
    isplitr; · iexact Hlev
    isplitl [CRt2]; · iexact CRt2
    isplitl [HO]; · iexact HO
    iexact PRt0
  iintro ⟨HO, PRt0, St0, Et⟩
  iapply (wait_snd m K c false 2 0 1 rfl rfl 2 rfl [.crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (slotM false 1) (half m false (orig false 1 c)) rfl (wpE_waitDma2_eq 𝒱₀ (c : Thread nD τ) none Set.univ) (credit_slot false 1)) $$ [CSf2 HO PSf0]
  · isplitr; · iexact HR
    isplitr; · iexact Hlev
    isplitl [CSf2]; · iexact CSf2
    isplitl [HO]; · iexact HO
    iexact PSf0
  iintro ⟨HO, PSf0, Sf1q⟩
  ihave Sf1 := (owns_rejoin (c : Thread nD τ) (slotM false 1) (half m false (orig false 1 c)) fullShare) $$ [Sf1 Sf1q]
  · isplitl [Sf1]; · iexact Sf1
    iexact Sf1q
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf0]; · iexact Kf0
  isplitl [Kt0]; · iexact Kt0
  isplitl [Lf]; · iexact Lf
  isplitl [Lt]; · iexact Lt
  isplitl [PCf]; · iexact PCf
  isplitl [CSt2]; · iexact CSt2
  isplitl [PCt]; · iexact PCt
  isplitl [PSt0]; · iexact PSt0
  isplitl [PRf0]; · iexact PRf0
  isplitl [Sf0]; · iexact Sf0
  isplitl [Ef]; · iexact Ef
  isplitl [PRt0]; · iexact PRt0
  isplitl [St0]; · iexact St0
  isplitl [Et]; · iexact Et
  isplitl [HO]; · iexact HO
  isplitl [PSf0]; · iexact PSf0
  iexact Rest

set_option maxRecDepth 8000 in
set_option maxHeartbeats 4000000 in
theorem part9 (g : OBuf (F := F)) (v4 : BitVec 32) (v6 : BitVec 32)
    {α : Type} {Q : α → sProp 𝕄} {kk : PUnit → Prog (TpuEff nD τ sig (Elt F) Λ₀ .tc) α} :
    iprop(records m K ∗ levAts L lv ∗ st8 m c g) ⊢ iprop((st9 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part9 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v4 v6 >>= kk) Q) := by
  simp only [k0_part9_eq_skeleton]; unfold k0_part9_skel
  simp only [semSignalWord, semWaitWord, Prog.lift, Prog.bind_op, Prog.bind_ret, Prog.pure_eq_ret, wp_deviceId]
  unfold st8 st9 fut8
  iintro ⟨#HR, #Hlev, Hw, Ho, T0, PB, Hx, Hb, PRf1, Sf1, PRt1, St1, PSf1, PSt1, Kf0, Kt0, Lf, Lt, PCf, CSt2, PCt, PSt0, PRf0, Sf0, Ef, PRt0, St0, Et, HO, PSf0, TCf1, TCt1, CCf1, CCt1, TSf3, TRf3, Rest⟩ Hk
  iapply (wait_snd m K c true 2 0 1 rfl rfl 2 rfl [.crd false 1, .crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (slotM true 1) (half m true (orig true 1 c)) rfl (wpE_waitDma2_eq 𝒱₀ (c : Thread nD τ) none Set.univ) (credit_slot true 1)) $$ [CSt2 HO PSt0]
  · isplitr; · iexact HR
    isplitr; · iexact Hlev
    isplitl [CSt2]; · iexact CSt2
    isplitl [HO]; · iexact HO
    iexact PSt0
  iintro ⟨HO, PSt0, St1q⟩
  ihave St1 := (owns_rejoin (c : Thread nD τ) (slotM true 1) (half m true (orig true 1 c)) fullShare) $$ [St1 St1q]
  · isplitl [St1]; · iexact St1
    iexact St1q
  iapply (sig_crd m K c false 1 1 1 rfl rfl 1 rfl _ rfl _ (dev11_eq c) [.crd true 1, .rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (half m false (orig false 1 c))) $$ [HO TCf1 Sf1 PRf1 Lf Ef]
  · isplitr; · iexact HR
    isplitl [HO]; · iexact HO
    isplitl [TCf1]; · iexact TCf1
    isplitl [Sf1]; · iexact Sf1
    isplitl [PRf1]; · iexact PRf1
    isplitl [Lf]; · iexact Lf
    iexact Ef
  iintro ⟨HO, PRf1, Kf1⟩
  iapply (sig_crd m K c true 1 1 1 rfl rfl 1 rfl _ rfl _ (dev12_eq c) [.rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (half m true (orig true 1 c))) $$ [HO TCt1 St1 PRt1 Lt Et]
  · isplitr; · iexact HR
    isplitl [HO]; · iexact HO
    isplitl [TCt1]; · iexact TCt1
    isplitl [St1]; · iexact St1
    isplitl [PRt1]; · iexact PRt1
    isplitl [Lt]; · iexact Lt
    iexact Et
  iintro ⟨HO, PRt1, Kt1⟩
  iapply (wait_crd m K c false 1 1 1 rfl rfl 1 rfl 2 rfl [.rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_semWait_eq 𝒱₀ (c : Thread nD τ) none Set.univ) (by decide)) $$ [CCf1 HO PCf]
  · isplitr; · iexact HR
    isplitr; · iexact Hlev
    isplitl [CCf1]; · iexact CCf1
    isplitl [HO]; · iexact HO
    iexact PCf
  iintro ⟨HO, PCf, Df1, Vf1, Lf⟩
  iapply (wait_crd m K c true 1 1 1 rfl rfl 1 rfl 2 rfl [.rcv false 3, .rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_semWait_eq 𝒱₀ (c : Thread nD τ) none Set.univ) (by decide)) $$ [CCt1 HO PCt]
  · isplitr; · iexact HR
    isplitr; · iexact Hlev
    isplitl [CCt1]; · iexact CCt1
    isplitl [HO]; · iexact HO
    iexact PCt
  iintro ⟨HO, PCt, Dt1, Vt1, Lt⟩
  ihave Sf0 := (owns_halve (c : Thread nD τ) (slotM false 0) (half m false (orig false 2 c)) fullShare) $$ Sf0
  icases Sf0 with ⟨Sf0, Sf0q⟩
  ihave St0 := (owns_halve (c : Thread nD τ) (slotM true 0) (half m true (orig true 2 c)) fullShare) $$ St0
  icases St0 with ⟨St0, St0q⟩
  iapply (send_hop m K c false 3 1 1 rfl rfl 2 rfl _ (dev13_eq c) [.rcv true 3, .crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (slotM false 0) (half m false (orig false 2 c)) rfl (congrArg (half m false) (orig_succ false 2 c))) $$ [Sf0q Df1 PCf HO TSf3 PSf1 TRf3 Vf1]
  · isplitr; · iexact HR
    isplitl [Sf0q]; · iexact Sf0q
    isplitl [Df1]; · iexact Df1
    isplitl [PCf]; · iexact PCf
    isplitl [HO]; · iexact HO
    isplitl [TSf3]; · iexact TSf3
    isplitl [PSf1]; · iexact PSf1
    isplitl [TRf3]; · iexact TRf3
    iexact Vf1
  iintro ⟨HO, CSf3, PCf, PSf1⟩
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [PSt1]; · iexact PSt1
  isplitl [Kf0]; · iexact Kf0
  isplitl [Kt0]; · iexact Kt0
  isplitl [PRf0]; · iexact PRf0
  isplitl [Sf0]; · iexact Sf0
  isplitl [PRt0]; · iexact PRt0
  isplitl [St0]; · iexact St0
  isplitl [PSf0]; · iexact PSf0
  isplitl [PSt0]; · iexact PSt0
  isplitl [PRf1]; · iexact PRf1
  isplitl [Kf1]; · iexact Kf1
  isplitl [PRt1]; · iexact PRt1
  isplitl [Kt1]; · iexact Kt1
  isplitl [Lf]; · iexact Lf
  isplitl [PCt]; · iexact PCt
  isplitl [Dt1]; · iexact Dt1
  isplitl [Vt1]; · iexact Vt1
  isplitl [Lt]; · iexact Lt
  isplitl [St0q]; · iexact St0q
  isplitl [HO]; · iexact HO
  isplitl [CSf3]; · iexact CSf3
  isplitl [PCf]; · iexact PCf
  isplitl [PSf1]; · iexact PSf1
  iexact Rest

set_option maxRecDepth 8000 in
set_option maxHeartbeats 4000000 in
theorem part10 (g : OBuf (F := F)) (v2 : BitVec 32) (v6 : BitVec 32)
    {α : Type} {Q : α → sProp 𝕄} {kk : PUnit → Prog (TpuEff nD τ sig (Elt F) Λ₀ .tc) α} :
    iprop(records m K ∗ levAts L lv ∗ st9 m c g) ⊢ iprop((st10 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part10 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v6 >>= kk) Q) := by
  simp only [k0_part10_eq_skeleton]; unfold k0_part10_skel
  simp only [semSignalWord, semWaitWord, Prog.lift, Prog.bind_op, Prog.bind_ret, Prog.pure_eq_ret, wp_deviceId]
  unfold st9 st10 fut9
  iintro ⟨#HR, #Hlev, Hw, Ho, T0, PB, Hx, Hb, PSt1, Kf0, Kt0, PRf0, Sf0, PRt0, St0, PSf0, PSt0, PRf1, Kf1, PRt1, Kt1, Lf, PCt, Dt1, Vt1, Lt, St0q, HO, CSf3, PCf, PSf1, TSt3, TRt3, Rest⟩ Hk
  iapply (send_hop m K c true 3 1 1 rfl rfl 2 rfl _ (dev14_eq c) [.crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (slotM true 0) (half m true (orig true 2 c)) rfl (congrArg (half m true) (orig_succ true 2 c))) $$ [St0q Dt1 PCt HO TSt3 PSt1 TRt3 Vt1]
  · isplitr; · iexact HR
    isplitl [St0q]; · iexact St0q
    isplitl [Dt1]; · iexact Dt1
    isplitl [PCt]; · iexact PCt
    isplitl [HO]; · iexact HO
    isplitl [TSt3]; · iexact TSt3
    isplitl [PSt1]; · iexact PSt1
    isplitl [TRt3]; · iexact TRt3
    iexact Vt1
  iintro ⟨HO, CSt3, PCt, PSt1⟩
  iapply (step_load_slot c false 0 fullShare.left (half m false (orig false 2 c))) $$ Sf0
  iintro %v %hv Sf0
  iapply (step_load c wM _ fullShare (ws m c)) $$ Hw
  iintro Hw
  rw [read_w]
  iapply (step_load c oM _ fullShare (_)) $$ Ho
  iintro Ho
  rw [pay8_eq v _ (hv _ HEq.rfl)]
  iapply (step_store c oM _ _ _) $$ Ho
  iintro Ho
  iapply (step_load_slot c true 0 fullShare.left (half m true (orig true 2 c))) $$ St0
  iintro %v %hv St0
  iapply (step_load c wM _ fullShare (ws m c)) $$ Hw
  iintro Hw
  rw [read_w]
  iapply (step_load c oM _ fullShare (_)) $$ Ho
  iintro Ho
  rw [pay9_eq v _ (hv _ HEq.rfl)]
  iapply (step_store c oM _ _ _) $$ Ho
  iintro Ho
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [PRf0]; · iexact PRf0
  isplitl [Sf0]; · iexact Sf0
  isplitl [PRt0]; · iexact PRt0
  isplitl [St0]; · iexact St0
  isplitl [PSf0]; · iexact PSf0
  isplitl [PSt0]; · iexact PSt0
  isplitl [PRf1]; · iexact PRf1
  isplitl [Kf1]; · iexact Kf1
  isplitl [PRt1]; · iexact PRt1
  isplitl [Kt1]; · iexact Kt1
  isplitl [Lf]; · iexact Lf
  isplitl [Lt]; · iexact Lt
  isplitl [CSf3]; · iexact CSf3
  isplitl [PCf]; · iexact PCf
  isplitl [PSf1]; · iexact PSf1
  isplitl [HO]; · iexact HO
  isplitl [CSt3]; · iexact CSt3
  isplitl [PCt]; · iexact PCt
  isplitl [PSt1]; · iexact PSt1
  iexact Rest

set_option maxRecDepth 8000 in
set_option maxHeartbeats 4000000 in
theorem part11 (g : OBuf (F := F)) (v4 : BitVec 32)
    {α : Type} {Q : α → sProp 𝕄} {kk : PUnit → Prog (TpuEff nD τ sig (Elt F) Λ₀ .tc) α} :
    iprop(records m K ∗ levAts L lv ∗ st10 m c g) ⊢ iprop((st11 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part11 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 v4 >>= kk) Q) := by
  simp only [k0_part11_eq_skeleton]; unfold k0_part11_skel
  simp only [semSignalWord, semWaitWord, Prog.lift, Prog.bind_op, Prog.bind_ret, Prog.pure_eq_ret, wp_deviceId]
  unfold st10 st11 fut10
  iintro ⟨#HR, #Hlev, Hw, Ho, T0, PB, Hx, Hb, Kf0, Kt0, PRf0, Sf0, PRt0, St0, PSf0, PSt0, PRf1, Kf1, PRt1, Kt1, Lf, Lt, CSf3, PCf, PSf1, HO, CSt3, PCt, PSt1, CRf3, CRt3, Rest⟩ Hk
  iapply (wait_rcv m K c false 3 1 1 rfl rfl 2 rfl 3 rfl 2 rfl [.crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot false 1)) $$ [CRf3 HO PRf1]
  · isplitr; · iexact HR
    isplitr; · iexact Hlev
    isplitl [CRf3]; · iexact CRf3
    isplitl [HO]; · iexact HO
    iexact PRf1
  iintro ⟨HO, PRf1, Sf1, Ef⟩
  iapply (wait_rcv m K c true 3 1 1 rfl rfl 2 rfl 3 rfl 2 rfl [.crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot true 1)) $$ [CRt3 HO PRt1]
  · isplitr; · iexact HR
    isplitr; · iexact Hlev
    isplitl [CRt3]; · iexact CRt3
    isplitl [HO]; · iexact HO
    iexact PRt1
  iintro ⟨HO, PRt1, St1, Et⟩
  iapply (wait_snd m K c false 3 1 1 rfl rfl 2 rfl [.crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (slotM false 0) (half m false (orig false 2 c)) rfl (wpE_waitDma2_eq 𝒱₀ (c : Thread nD τ) none Set.univ) (credit_slot false 0)) $$ [CSf3 HO PSf1]
  · isplitr; · iexact HR
    isplitr; · iexact Hlev
    isplitl [CSf3]; · iexact CSf3
    isplitl [HO]; · iexact HO
    iexact PSf1
  iintro ⟨HO, PSf1, Sf0q⟩
  ihave Sf0 := (owns_rejoin (c : Thread nD τ) (slotM false 0) (half m false (orig false 2 c)) fullShare) $$ [Sf0 Sf0q]
  · isplitl [Sf0]; · iexact Sf0
    iexact Sf0q
  iapply (wait_snd m K c true 3 1 1 rfl rfl 2 rfl [.crd false 2, .crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (slotM true 0) (half m true (orig true 2 c)) rfl (wpE_waitDma2_eq 𝒱₀ (c : Thread nD τ) none Set.univ) (credit_slot true 0)) $$ [CSt3 HO PSt1]
  · isplitr; · iexact HR
    isplitr; · iexact Hlev
    isplitl [CSt3]; · iexact CSt3
    isplitl [HO]; · iexact HO
    iexact PSt1
  iintro ⟨HO, PSt1, St0q⟩
  ihave St0 := (owns_rejoin (c : Thread nD τ) (slotM true 0) (half m true (orig true 2 c)) fullShare) $$ [St0 St0q]
  · isplitl [St0]; · iexact St0
    iexact St0q
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [PRf0]; · iexact PRf0
  isplitl [Sf0]; · iexact Sf0
  isplitl [PRt0]; · iexact PRt0
  isplitl [St0]; · iexact St0
  isplitl [PSf0]; · iexact PSf0
  isplitl [PSt0]; · iexact PSt0
  isplitl [Kf1]; · iexact Kf1
  isplitl [Kt1]; · iexact Kt1
  isplitl [Lf]; · iexact Lf
  isplitl [Lt]; · iexact Lt
  isplitl [PCf]; · iexact PCf
  isplitl [PCt]; · iexact PCt
  isplitl [PRf1]; · iexact PRf1
  isplitl [Sf1]; · iexact Sf1
  isplitl [Ef]; · iexact Ef
  isplitl [PRt1]; · iexact PRt1
  isplitl [St1]; · iexact St1
  isplitl [Et]; · iexact Et
  isplitl [PSf1]; · iexact PSf1
  isplitl [HO]; · iexact HO
  isplitl [PSt1]; · iexact PSt1
  iexact Rest

set_option maxRecDepth 8000 in
set_option maxHeartbeats 4000000 in
theorem part12 (g : OBuf (F := F)) (v2 : BitVec 32) (v4 : BitVec 32) (v6 : BitVec 32)
    {α : Type} {Q : α → sProp 𝕄} {kk : (Σ' (v302 : BitVec 32), BitVec 32) → Prog (TpuEff nD τ sig (Elt F) Λ₀ .tc) α} :
    iprop(records m K ∗ levAts L lv ∗ st11 m c g) ⊢ iprop((∀ x, ⌜True⌝ -∗ st12 m c g -∗ wp frame (wpE (defs₀ (F := F)) 𝒱₀ (c : Thread nD τ) none) Set.univ (kk x) Q)
      -∗ wp frame (wpE (defs₀ (F := F)) 𝒱₀ (c : Thread nD τ) none) Set.univ (k0_part12 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v4 v6 >>= kk) Q) := by
  simp only [k0_part12_eq_skeleton]; unfold k0_part12_skel
  simp only [semSignalWord, semWaitWord, Prog.lift, Prog.bind_op, Prog.bind_ret, Prog.pure_eq_ret, wp_deviceId]
  unfold st11 st12 fut11
  iintro ⟨#HR, #Hlev, Hw, Ho, T0, PB, Hx, Hb, Kf0, Kt0, PRf0, Sf0, PRt0, St0, PSf0, PSt0, Kf1, Kt1, Lf, Lt, PCf, PCt, PRf1, Sf1, Ef, PRt1, St1, Et, PSf1, HO, PSt1, TCf2, TCt2, CCf2, CCt2, TSf4, TRf4, TSt4, TRt4, Rest⟩ Hk
  iapply (sig_crd m K c false 2 0 2 rfl rfl 2 rfl _ rfl _ (dev15_eq c) [.crd true 2, .rcv false 4, .rcv true 4, .crd false 3, .crd true 3, .rcv false 5, .rcv true 5, .crd false 4, .crd true 4, .rcv false 6, .rcv true 6, .axr 0, .axr 1, .axr 2, .axr 3, .axr 4, .axr 5, .axr 6] (by decide) (half m false (orig false 2 c))) $$ [HO TCf2 Sf0 PRf0 Lf Ef]
  · isplitr; · iexact HR
    isplitl [HO]; · iexact HO
    isplitl [TCf2]; · iexact TCf2
    isplitl [Sf0]; · iexact Sf0
    isplitl [PRf0]; · iexact PRf0
    isplitl [Lf]; · iexact Lf
    iexact Ef
  iintro ⟨HO, PRf0, Kf2⟩
  iapply (sig_crd m K c true 2 0 2 rfl rfl 2 rfl _ rfl _ (dev16_eq c) [.rcv false 4, .rcv true 4, .crd false 3, .crd true 3, .rcv false 5, .rcv true 5, .crd false 4, .crd true 4, .rcv false 6, .rcv true 6, .axr 0, .axr 1, .axr 2, .axr 3, .axr 4, .axr 5, .axr 6] (by decide) (half m true (orig true 2 c))) $$ [HO TCt2 St0 PRt0 Lt Et]
  · isplitr; · iexact HR
    isplitl [HO]; · iexact HO
    isplitl [TCt2]; · iexact TCt2
    isplitl [St0]; · iexact St0
    isplitl [PRt0]; · iexact PRt0
    isplitl [Lt]; · iexact Lt
    iexact Et
  iintro ⟨HO, PRt0, Kt2⟩
  iapply (wait_crd m K c false 2 0 2 rfl rfl 2 rfl 3 rfl [.rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_semWait_eq 𝒱₀ (c : Thread nD τ) none Set.univ) (by decide)) $$ [CCf2 HO PCf]
  · isplitr; · iexact HR
    isplitr; · iexact Hlev
    isplitl [CCf2]; · iexact CCf2
    isplitl [HO]; · iexact HO
    iexact PCf
  iintro ⟨HO, PCf, Df0, Vf0, Lf⟩
  iapply (wait_crd m K c true 2 0 2 rfl rfl 2 rfl 3 rfl [.rcv false 4, .rcv true 4, .crd false 3, .crd true 3, .rcv false 5, .rcv true 5, .crd false 4, .crd true 4, .rcv false 6, .rcv true 6, .axr 0, .axr 1, .axr 2, .axr 3, .axr 4, .axr 5, .axr 6] (by decide) (wpE_semWait_eq 𝒱₀ (c : Thread nD τ) none Set.univ) (by decide)) $$ [CCt2 HO PCt]
  · isplitr; · iexact HR
    isplitr; · iexact Hlev
    isplitl [CCt2]; · iexact CCt2
    isplitl [HO]; · iexact HO
    iexact PCt
  iintro ⟨HO, PCt, Dt0, Vt0, Lt⟩
  ihave Sf1 := (owns_halve (c : Thread nD τ) (slotM false 1) (half m false (orig false 3 c)) fullShare) $$ Sf1
  icases Sf1 with ⟨Sf1, Sf1q⟩
  ihave St1 := (owns_halve (c : Thread nD τ) (slotM true 1) (half m true (orig true 3 c)) fullShare) $$ St1
  icases St1 with ⟨St1, St1q⟩
  iapply (send_hop m K c false 4 0 2 rfl rfl 3 rfl _ (dev17_eq c) [.rcv true 4, .crd false 3, .crd true 3, .rcv false 5, .rcv true 5, .crd false 4, .crd true 4, .rcv false 6, .rcv true 6, .axr 0, .axr 1, .axr 2, .axr 3, .axr 4, .axr 5, .axr 6] (slotM false 1) (half m false (orig false 3 c)) rfl (congrArg (half m false) (orig_succ false 3 c))) $$ [Sf1q Df0 PCf HO TSf4 PSf0 TRf4 Vf0]
  · isplitr; · iexact HR
    isplitl [Sf1q]; · iexact Sf1q
    isplitl [Df0]; · iexact Df0
    isplitl [PCf]; · iexact PCf
    isplitl [HO]; · iexact HO
    isplitl [TSf4]; · iexact TSf4
    isplitl [PSf0]; · iexact PSf0
    isplitl [TRf4]; · iexact TRf4
    iexact Vf0
  iintro ⟨HO, CSf4, PCf, PSf0⟩
  iapply (send_hop m K c true 4 0 2 rfl rfl 3 rfl _ (dev18_eq c) [.crd false 3, .crd true 3, .rcv false 5, .rcv true 5, .crd false 4, .crd true 4, .rcv false 6, .rcv true 6, .axr 0, .axr 1, .axr 2, .axr 3, .axr 4, .axr 5, .axr 6] (slotM true 1) (half m true (orig true 3 c)) rfl (congrArg (half m true) (orig_succ true 3 c))) $$ [St1q Dt0 PCt HO TSt4 PSt0 TRt4 Vt0]
  · isplitr; · iexact HR
    isplitl [St1q]; · iexact St1q
    isplitl [Dt0]; · iexact Dt0
    isplitl [PCt]; · iexact PCt
    isplitl [HO]; · iexact HO
    isplitl [TSt4]; · iexact TSt4
    isplitl [PSt0]; · iexact PSt0
    isplitl [TRt4]; · iexact TRt4
    iexact Vt0
  iintro ⟨HO, CSt4, PCt, PSt0⟩
  iapply Hk $$ %_ %(trivial)
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [PRf0]; · iexact PRf0
  isplitl [Kf2]; · iexact Kf2
  isplitl [PRt0]; · iexact PRt0
  isplitl [Kt2]; · iexact Kt2
  isplitl [Lf]; · iexact Lf
  isplitl [Lt]; · iexact Lt
  isplitl [CSf4]; · iexact CSf4
  isplitl [PCf]; · iexact PCf
  isplitl [PSf0]; · iexact PSf0
  isplitl [HO]; · iexact HO
  isplitl [CSt4]; · iexact CSt4
  isplitl [PCt]; · iexact PCt
  isplitl [PSt0]; · iexact PSt0
  iexact Rest

set_option maxRecDepth 8000 in
set_option maxHeartbeats 4000000 in
theorem part13 (g : OBuf (F := F)) (v2 : BitVec 32) (v6 : BitVec 32) (v302 : BitVec 32) (v303 : BitVec 32)
    {α : Type} {Q : α → sProp 𝕄} {kk : PUnit → Prog (TpuEff nD τ sig (Elt F) Λ₀ .tc) α} :
    iprop(records m K ∗ levAts L lv ∗ st12 m c g) ⊢ iprop((st13 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part13 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v6 v302 v303 >>= kk) Q) := by
  simp only [k0_part13_eq_skeleton]; unfold k0_part13_skel
  simp only [semSignalWord, semWaitWord, Prog.lift, Prog.bind_op, Prog.bind_ret, Prog.pure_eq_ret, wp_deviceId]
  unfold st12 st13 fut12
  iintro ⟨#HR, #Hlev, Hw, Ho, T0, PB, Hx, Hb, Kf0, Kt0, Kf1, Kt1, PRf1, Sf1, PRt1, St1, PSf1, PSt1, PRf0, Kf2, PRt0, Kt2, Lf, Lt, CSf4, PCf, PSf0, HO, CSt4, PCt, PSt0, CRf4, Rest⟩ Hk
  iapply (step_load_slot c false 1 fullShare.left (half m false (orig false 3 c))) $$ Sf1
  iintro %v %hv Sf1
  iapply (step_load c wM _ fullShare (ws m c)) $$ Hw
  iintro Hw
  rw [read_w]
  iapply (step_load c oM _ fullShare (_)) $$ Ho
  iintro Ho
  rw [pay10_eq v _ (hv _ HEq.rfl)]
  iapply (step_store c oM _ _ _) $$ Ho
  iintro Ho
  iapply (step_load_slot c true 1 fullShare.left (half m true (orig true 3 c))) $$ St1
  iintro %v %hv St1
  iapply (step_load c wM _ fullShare (ws m c)) $$ Hw
  iintro Hw
  rw [read_w]
  iapply (step_load c oM _ fullShare (_)) $$ Ho
  iintro Ho
  rw [pay11_eq v _ (hv _ HEq.rfl)]
  iapply (step_store c oM _ _ _) $$ Ho
  iintro Ho
  iapply (wait_rcv m K c false 4 0 2 rfl rfl 3 rfl 4 rfl 3 rfl [.crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot false 0)) $$ [CRf4 HO PRf0]
  · isplitr; · iexact HR
    isplitr; · iexact Hlev
    isplitl [CRf4]; · iexact CRf4
    isplitl [HO]; · iexact HO
    iexact PRf0
  iintro ⟨HO, PRf0, Sf0, Ef⟩
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf2]; · iexact Kf2
  isplitl [PRt0]; · iexact PRt0
  isplitl [Kt2]; · iexact Kt2
  isplitl [Lf]; · iexact Lf
  isplitl [Lt]; · iexact Lt
  isplitl [CSf4]; · iexact CSf4
  isplitl [PCf]; · iexact PCf
  isplitl [PSf0]; · iexact PSf0
  isplitl [CSt4]; · iexact CSt4
  isplitl [PCt]; · iexact PCt
  isplitl [PSt0]; · iexact PSt0
  isplitl [HO]; · iexact HO
  isplitl [PRf0]; · iexact PRf0
  isplitl [Sf0]; · iexact Sf0
  isplitl [Ef]; · iexact Ef
  iexact Rest

set_option maxRecDepth 8000 in
set_option maxHeartbeats 4000000 in
theorem part14 (g : OBuf (F := F)) (v4 : BitVec 32) (v6 : BitVec 32)
    {α : Type} {Q : α → sProp 𝕄} {kk : PUnit → Prog (TpuEff nD τ sig (Elt F) Λ₀ .tc) α} :
    iprop(records m K ∗ levAts L lv ∗ st13 m c g) ⊢ iprop((st14 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part14 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v4 v6 >>= kk) Q) := by
  simp only [k0_part14_eq_skeleton]; unfold k0_part14_skel
  simp only [semSignalWord, semWaitWord, Prog.lift, Prog.bind_op, Prog.bind_ret, Prog.pure_eq_ret, wp_deviceId]
  unfold st13 st14 fut13
  iintro ⟨#HR, #Hlev, Hw, Ho, T0, PB, Hx, Hb, Kf0, Kt0, Kf1, Kt1, PRf1, Sf1, PRt1, St1, PSf1, PSt1, Kf2, PRt0, Kt2, Lf, Lt, CSf4, PCf, PSf0, CSt4, PCt, PSt0, HO, PRf0, Sf0, Ef, CRt4, TCf3, Rest⟩ Hk
  iapply (wait_rcv m K c true 4 0 2 rfl rfl 3 rfl 4 rfl 3 rfl [.crd false 3, .crd true 3, .rcv false 5, .rcv true 5, .crd false 4, .crd true 4, .rcv false 6, .rcv true 6, .axr 0, .axr 1, .axr 2, .axr 3, .axr 4, .axr 5, .axr 6] (by decide) (wpE_waitDma2_eq 𝒱₀ (c : Thread nD τ) none Set.univ) (credit_slot true 0)) $$ [CRt4 HO PRt0]
  · isplitr; · iexact HR
    isplitr; · iexact Hlev
    isplitl [CRt4]; · iexact CRt4
    isplitl [HO]; · iexact HO
    iexact PRt0
  iintro ⟨HO, PRt0, St0, Et⟩
  iapply (wait_snd m K c false 4 0 2 rfl rfl 3 rfl [.crd false 3, .crd true 3, .rcv false 5, .rcv true 5, .crd false 4, .crd true 4, .rcv false 6, .rcv true 6, .axr 0, .axr 1, .axr 2, .axr 3, .axr 4, .axr 5, .axr 6] (by decide) (slotM false 1) (half m false (orig false 3 c)) rfl (wpE_waitDma2_eq 𝒱₀ (c : Thread nD τ) none Set.univ) (credit_slot false 1)) $$ [CSf4 HO PSf0]
  · isplitr; · iexact HR
    isplitr; · iexact Hlev
    isplitl [CSf4]; · iexact CSf4
    isplitl [HO]; · iexact HO
    iexact PSf0
  iintro ⟨HO, PSf0, Sf1q⟩
  ihave Sf1 := (owns_rejoin (c : Thread nD τ) (slotM false 1) (half m false (orig false 3 c)) fullShare) $$ [Sf1 Sf1q]
  · isplitl [Sf1]; · iexact Sf1
    iexact Sf1q
  iapply (wait_snd m K c true 4 0 2 rfl rfl 3 rfl [.crd false 3, .crd true 3, .rcv false 5, .rcv true 5, .crd false 4, .crd true 4, .rcv false 6, .rcv true 6, .axr 0, .axr 1, .axr 2, .axr 3, .axr 4, .axr 5, .axr 6] (by decide) (slotM true 1) (half m true (orig true 3 c)) rfl (wpE_waitDma2_eq 𝒱₀ (c : Thread nD τ) none Set.univ) (credit_slot true 1)) $$ [CSt4 HO PSt0]
  · isplitr; · iexact HR
    isplitr; · iexact Hlev
    isplitl [CSt4]; · iexact CSt4
    isplitl [HO]; · iexact HO
    iexact PSt0
  iintro ⟨HO, PSt0, St1q⟩
  ihave St1 := (owns_rejoin (c : Thread nD τ) (slotM true 1) (half m true (orig true 3 c)) fullShare) $$ [St1 St1q]
  · isplitl [St1]; · iexact St1
    iexact St1q
  iapply (sig_crd m K c false 3 1 2 rfl rfl 3 rfl _ rfl _ (dev19_eq c) [.crd true 3, .rcv false 5, .rcv true 5, .crd false 4, .crd true 4, .rcv false 6, .rcv true 6, .axr 0, .axr 1, .axr 2, .axr 3, .axr 4, .axr 5, .axr 6] (by decide) (half m false (orig false 3 c))) $$ [HO TCf3 Sf1 PRf1 Lf Ef]
  · isplitr; · iexact HR
    isplitl [HO]; · iexact HO
    isplitl [TCf3]; · iexact TCf3
    isplitl [Sf1]; · iexact Sf1
    isplitl [PRf1]; · iexact PRf1
    isplitl [Lf]; · iexact Lf
    iexact Ef
  iintro ⟨HO, PRf1, Kf3⟩
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [PRt1]; · iexact PRt1
  isplitl [St1]; · iexact St1
  isplitl [PSf1]; · iexact PSf1
  isplitl [PSt1]; · iexact PSt1
  isplitl [Kf2]; · iexact Kf2
  isplitl [Kt2]; · iexact Kt2
  isplitl [Lt]; · iexact Lt
  isplitl [PCf]; · iexact PCf
  isplitl [PCt]; · iexact PCt
  isplitl [PRf0]; · iexact PRf0
  isplitl [Sf0]; · iexact Sf0
  isplitl [PRt0]; · iexact PRt0
  isplitl [St0]; · iexact St0
  isplitl [Et]; · iexact Et
  isplitl [PSf0]; · iexact PSf0
  isplitl [PSt0]; · iexact PSt0
  isplitl [HO]; · iexact HO
  isplitl [PRf1]; · iexact PRf1
  isplitl [Kf3]; · iexact Kf3
  iexact Rest

end Cert.WholeRun

end
-- ==== Proof.WholePartC.lean ====
/-
# The whole kernel: the body's parts 15 to 21
-/
module

public import proofs.«01_k».proof.Proof.WholeState

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (K : Dev nD × CK → ℕ) (c : Dev nD)

set_option maxRecDepth 8000 in
set_option maxRecDepth 8000 in
set_option maxHeartbeats 4000000 in
theorem part15 (g : OBuf (F := F)) (v2 : BitVec 32) (v4 : BitVec 32) (v6 : BitVec 32)
    {α : Type} {Q : α → sProp 𝕄} {kk : (Σ' (v377 : BitVec 32), BitVec 32) → Prog (TpuEff nD τ sig (Elt F) Λ₀ .tc) α} :
    iprop(records m K ∗ levAts L lv ∗ st14 m c g) ⊢ iprop((∀ x, ⌜True⌝ -∗ st15 m c g -∗ wp frame (wpE (defs₀ (F := F)) 𝒱₀ (c : Thread nD τ) none) Set.univ (kk x) Q)
      -∗ wp frame (wpE (defs₀ (F := F)) 𝒱₀ (c : Thread nD τ) none) Set.univ (k0_part15 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v4 v6 >>= kk) Q) := by
  simp only [k0_part15_eq_skeleton]; unfold k0_part15_skel
  simp only [semSignalWord, semWaitWord, Prog.lift, Prog.bind_op, Prog.bind_ret, Prog.pure_eq_ret, wp_deviceId]
  unfold st14 st15 fut14
  iintro ⟨#HR, #Hlev, Hw, Ho, T0, PB, Hx, Hb, Kf0, Kt0, Kf1, Kt1, PRt1, St1, PSf1, PSt1, Kf2, Kt2, Lt, PCf, PCt, PRf0, Sf0, PRt0, St0, Et, PSf0, PSt0, HO, PRf1, Kf3, TCt3, CCf3, CCt3, TSf5, TRf5, TSt5, TRt5, Rest⟩ Hk
  iapply (sig_crd m K c true 3 1 2 rfl rfl 3 rfl _ rfl _ (dev20_eq c) [.rcv false 5, .rcv true 5, .crd false 4, .crd true 4, .rcv false 6, .rcv true 6, .axr 0, .axr 1, .axr 2, .axr 3, .axr 4, .axr 5, .axr 6] (by decide) (half m true (orig true 3 c))) $$ [HO TCt3 St1 PRt1 Lt Et]
  · isplitr; · iexact HR
    isplitl [HO]; · iexact HO
    isplitl [TCt3]; · iexact TCt3
    isplitl [St1]; · iexact St1
    isplitl [PRt1]; · iexact PRt1
    isplitl [Lt]; · iexact Lt
    iexact Et
  iintro ⟨HO, PRt1, Kt3⟩
  iapply (wait_crd m K c false 3 1 2 rfl rfl 3 rfl 4 rfl [.rcv false 5, .rcv true 5, .crd false 4, .crd true 4, .rcv false 6, .rcv true 6, .axr 0, .axr 1, .axr 2, .axr 3, .axr 4, .axr 5, .axr 6] (by decide) (wpE_semWait_eq 𝒱₀ (c : Thread nD τ) none Set.univ) (by decide)) $$ [CCf3 HO PCf]
  · isplitr; · iexact HR
    isplitr; · iexact Hlev
    isplitl [CCf3]; · iexact CCf3
    isplitl [HO]; · iexact HO
    iexact PCf
  iintro ⟨HO, PCf, Df1, Vf1, Lf⟩
  iapply (wait_crd m K c true 3 1 2 rfl rfl 3 rfl 4 rfl [.rcv false 5, .rcv true 5, .crd false 4, .crd true 4, .rcv false 6, .rcv true 6, .axr 0, .axr 1, .axr 2, .axr 3, .axr 4, .axr 5, .axr 6] (by decide) (wpE_semWait_eq 𝒱₀ (c : Thread nD τ) none Set.univ) (by decide)) $$ [CCt3 HO PCt]
  · isplitr; · iexact HR
    isplitr; · iexact Hlev
    isplitl [CCt3]; · iexact CCt3
    isplitl [HO]; · iexact HO
    iexact PCt
  iintro ⟨HO, PCt, Dt1, Vt1, Lt⟩
  ihave Sf0 := (owns_halve (c : Thread nD τ) (slotM false 0) (half m false (orig false 4 c)) fullShare) $$ Sf0
  icases Sf0 with ⟨Sf0, Sf0q⟩
  ihave St0 := (owns_halve (c : Thread nD τ) (slotM true 0) (half m true (orig true 4 c)) fullShare) $$ St0
  icases St0 with ⟨St0, St0q⟩
  iapply (send_hop m K c false 5 1 2 rfl rfl 4 rfl _ (dev21_eq c) [.rcv true 5, .crd false 4, .crd true 4, .rcv false 6, .rcv true 6, .axr 0, .axr 1, .axr 2, .axr 3, .axr 4, .axr 5, .axr 6] (slotM false 0) (half m false (orig false 4 c)) rfl (congrArg (half m false) (orig_succ false 4 c))) $$ [Sf0q Df1 PCf HO TSf5 PSf1 TRf5 Vf1]
  · isplitr; · iexact HR
    isplitl [Sf0q]; · iexact Sf0q
    isplitl [Df1]; · iexact Df1
    isplitl [PCf]; · iexact PCf
    isplitl [HO]; · iexact HO
    isplitl [TSf5]; · iexact TSf5
    isplitl [PSf1]; · iexact PSf1
    isplitl [TRf5]; · iexact TRf5
    iexact Vf1
  iintro ⟨HO, CSf5, PCf, PSf1⟩
  iapply (send_hop m K c true 5 1 2 rfl rfl 4 rfl _ (dev22_eq c) [.crd false 4, .crd true 4, .rcv false 6, .rcv true 6, .axr 0, .axr 1, .axr 2, .axr 3, .axr 4, .axr 5, .axr 6] (slotM true 0) (half m true (orig true 4 c)) rfl (congrArg (half m true) (orig_succ true 4 c))) $$ [St0q Dt1 PCt HO TSt5 PSt1 TRt5 Vt1]
  · isplitr; · iexact HR
    isplitl [St0q]; · iexact St0q
    isplitl [Dt1]; · iexact Dt1
    isplitl [PCt]; · iexact PCt
    isplitl [HO]; · iexact HO
    isplitl [TSt5]; · iexact TSt5
    isplitl [PSt1]; · iexact PSt1
    isplitl [TRt5]; · iexact TRt5
    iexact Vt1
  iintro ⟨HO, CSt5, PCt, PSt1⟩
  iapply Hk $$ %_ %(trivial)
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [Kf2]; · iexact Kf2
  isplitl [Kt2]; · iexact Kt2
  isplitl [PRf0]; · iexact PRf0
  isplitl [Sf0]; · iexact Sf0
  isplitl [PRt0]; · iexact PRt0
  isplitl [St0]; · iexact St0
  isplitl [PSf0]; · iexact PSf0
  isplitl [PSt0]; · iexact PSt0
  isplitl [PRf1]; · iexact PRf1
  isplitl [Kf3]; · iexact Kf3
  isplitl [PRt1]; · iexact PRt1
  isplitl [Kt3]; · iexact Kt3
  isplitl [Lf]; · iexact Lf
  isplitl [Lt]; · iexact Lt
  isplitl [CSf5]; · iexact CSf5
  isplitl [PCf]; · iexact PCf
  isplitl [PSf1]; · iexact PSf1
  isplitl [HO]; · iexact HO
  isplitl [CSt5]; · iexact CSt5
  isplitl [PCt]; · iexact PCt
  isplitl [PSt1]; · iexact PSt1
  iexact Rest

set_option maxRecDepth 8000 in
set_option maxHeartbeats 4000000 in
theorem part16 (g : OBuf (F := F)) (v4 : BitVec 32) (v6 : BitVec 32) (v377 : BitVec 32) (v378 : BitVec 32)
    {α : Type} {Q : α → sProp 𝕄} {kk : PUnit → Prog (TpuEff nD τ sig (Elt F) Λ₀ .tc) α} :
    iprop(records m K ∗ levAts L lv ∗ st15 m c g) ⊢ iprop((st16 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part16 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v4 v6 v377 v378 >>= kk) Q) := by
  simp only [k0_part16_eq_skeleton]; unfold k0_part16_skel
  simp only [semSignalWord, semWaitWord, Prog.lift, Prog.bind_op, Prog.bind_ret, Prog.pure_eq_ret, wp_deviceId]
  unfold st15 st16 fut15
  iintro ⟨#HR, #Hlev, Hw, Ho, T0, PB, Hx, Hb, Kf0, Kt0, Kf1, Kt1, Kf2, Kt2, PRf0, Sf0, PRt0, St0, PSf0, PSt0, PRf1, Kf3, PRt1, Kt3, Lf, Lt, CSf5, PCf, PSf1, HO, CSt5, PCt, PSt1, CRf5, Rest⟩ Hk
  iapply (step_load_slot c false 0 fullShare.left (half m false (orig false 4 c))) $$ Sf0
  iintro %v %hv Sf0
  iapply (step_load c wM _ fullShare (ws m c)) $$ Hw
  iintro Hw
  rw [read_w]
  iapply (step_load c oM _ fullShare (_)) $$ Ho
  iintro Ho
  rw [pay12_eq v _ (hv _ HEq.rfl)]
  iapply (step_store c oM _ _ _) $$ Ho
  iintro Ho
  iapply (step_load_slot c true 0 fullShare.left (half m true (orig true 4 c))) $$ St0
  iintro %v %hv St0
  iapply (step_load c wM _ fullShare (ws m c)) $$ Hw
  iintro Hw
  rw [read_w]
  iapply (step_load c oM _ fullShare (_)) $$ Ho
  iintro Ho
  rw [pay13_eq v _ (hv _ HEq.rfl)]
  iapply (step_store c oM _ _ _) $$ Ho
  iintro Ho
  iapply (wait_rcv m K c false 5 1 2 rfl rfl 3 rfl 5 rfl 4 rfl [.crd false 4, .crd true 4, .rcv false 6, .rcv true 6, .axr 0, .axr 1, .axr 2, .axr 3, .axr 4, .axr 5, .axr 6] (by decide) (wpE_waitDma2_eq 𝒱₀ (c : Thread nD τ) none Set.univ) (credit_slot false 1)) $$ [CRf5 HO PRf1]
  · isplitr; · iexact HR
    isplitr; · iexact Hlev
    isplitl [CRf5]; · iexact CRf5
    isplitl [HO]; · iexact HO
    iexact PRf1
  iintro ⟨HO, PRf1, Sf1, Ef⟩
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [Kf2]; · iexact Kf2
  isplitl [Kt2]; · iexact Kt2
  isplitl [PRf0]; · iexact PRf0
  isplitl [Sf0]; · iexact Sf0
  isplitl [PRt0]; · iexact PRt0
  isplitl [St0]; · iexact St0
  isplitl [PSf0]; · iexact PSf0
  isplitl [PSt0]; · iexact PSt0
  isplitl [Kf3]; · iexact Kf3
  isplitl [PRt1]; · iexact PRt1
  isplitl [Kt3]; · iexact Kt3
  isplitl [Lf]; · iexact Lf
  isplitl [Lt]; · iexact Lt
  isplitl [CSf5]; · iexact CSf5
  isplitl [PCf]; · iexact PCf
  isplitl [PSf1]; · iexact PSf1
  isplitl [CSt5]; · iexact CSt5
  isplitl [PCt]; · iexact PCt
  isplitl [PSt1]; · iexact PSt1
  isplitl [HO]; · iexact HO
  isplitl [PRf1]; · iexact PRf1
  isplitl [Sf1]; · iexact Sf1
  isplitl [Ef]; · iexact Ef
  iexact Rest

set_option maxRecDepth 8000 in
set_option maxHeartbeats 4000000 in
theorem part17 (g : OBuf (F := F)) (v4 : BitVec 32) (v6 : BitVec 32)
    {α : Type} {Q : α → sProp 𝕄} {kk : PUnit → Prog (TpuEff nD τ sig (Elt F) Λ₀ .tc) α} :
    iprop(records m K ∗ levAts L lv ∗ st16 m c g) ⊢ iprop((st17 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part17 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v4 v6 >>= kk) Q) := by
  simp only [k0_part17_eq_skeleton]; unfold k0_part17_skel
  simp only [semSignalWord, semWaitWord, Prog.lift, Prog.bind_op, Prog.bind_ret, Prog.pure_eq_ret, wp_deviceId]
  unfold st16 st17 fut16
  iintro ⟨#HR, #Hlev, Hw, Ho, T0, PB, Hx, Hb, Kf0, Kt0, Kf1, Kt1, Kf2, Kt2, PRf0, Sf0, PRt0, St0, PSf0, PSt0, Kf3, PRt1, Kt3, Lf, Lt, CSf5, PCf, PSf1, CSt5, PCt, PSt1, HO, PRf1, Sf1, Ef, CRt5, TCf4, TCt4, CCf4, Rest⟩ Hk
  iapply (wait_rcv m K c true 5 1 2 rfl rfl 3 rfl 5 rfl 4 rfl [.crd false 4, .crd true 4, .rcv false 6, .rcv true 6, .axr 0, .axr 1, .axr 2, .axr 3, .axr 4, .axr 5, .axr 6] (by decide) (wpE_waitDma2_eq 𝒱₀ (c : Thread nD τ) none Set.univ) (credit_slot true 1)) $$ [CRt5 HO PRt1]
  · isplitr; · iexact HR
    isplitr; · iexact Hlev
    isplitl [CRt5]; · iexact CRt5
    isplitl [HO]; · iexact HO
    iexact PRt1
  iintro ⟨HO, PRt1, St1, Et⟩
  iapply (wait_snd m K c false 5 1 2 rfl rfl 3 rfl [.crd false 4, .crd true 4, .rcv false 6, .rcv true 6, .axr 0, .axr 1, .axr 2, .axr 3, .axr 4, .axr 5, .axr 6] (by decide) (slotM false 0) (half m false (orig false 4 c)) rfl (wpE_waitDma2_eq 𝒱₀ (c : Thread nD τ) none Set.univ) (credit_slot false 0)) $$ [CSf5 HO PSf1]
  · isplitr; · iexact HR
    isplitr; · iexact Hlev
    isplitl [CSf5]; · iexact CSf5
    isplitl [HO]; · iexact HO
    iexact PSf1
  iintro ⟨HO, PSf1, Sf0q⟩
  ihave Sf0 := (owns_rejoin (c : Thread nD τ) (slotM false 0) (half m false (orig false 4 c)) fullShare) $$ [Sf0 Sf0q]
  · isplitl [Sf0]; · iexact Sf0
    iexact Sf0q
  iapply (wait_snd m K c true 5 1 2 rfl rfl 3 rfl [.crd false 4, .crd true 4, .rcv false 6, .rcv true 6, .axr 0, .axr 1, .axr 2, .axr 3, .axr 4, .axr 5, .axr 6] (by decide) (slotM true 0) (half m true (orig true 4 c)) rfl (wpE_waitDma2_eq 𝒱₀ (c : Thread nD τ) none Set.univ) (credit_slot true 0)) $$ [CSt5 HO PSt1]
  · isplitr; · iexact HR
    isplitr; · iexact Hlev
    isplitl [CSt5]; · iexact CSt5
    isplitl [HO]; · iexact HO
    iexact PSt1
  iintro ⟨HO, PSt1, St0q⟩
  ihave St0 := (owns_rejoin (c : Thread nD τ) (slotM true 0) (half m true (orig true 4 c)) fullShare) $$ [St0 St0q]
  · isplitl [St0]; · iexact St0
    iexact St0q
  iapply (sig_crd m K c false 4 0 3 rfl rfl 4 rfl _ rfl _ (dev23_eq c) [.crd true 4, .rcv false 6, .rcv true 6, .axr 0, .axr 1, .axr 2, .axr 3, .axr 4, .axr 5, .axr 6] (by decide) (half m false (orig false 4 c))) $$ [HO TCf4 Sf0 PRf0 Lf Ef]
  · isplitr; · iexact HR
    isplitl [HO]; · iexact HO
    isplitl [TCf4]; · iexact TCf4
    isplitl [Sf0]; · iexact Sf0
    isplitl [PRf0]; · iexact PRf0
    isplitl [Lf]; · iexact Lf
    iexact Ef
  iintro ⟨HO, PRf0, Kf4⟩
  iapply (sig_crd m K c true 4 0 3 rfl rfl 4 rfl _ rfl _ (dev24_eq c) [.rcv false 6, .rcv true 6, .axr 0, .axr 1, .axr 2, .axr 3, .axr 4, .axr 5, .axr 6] (by decide) (half m true (orig true 4 c))) $$ [HO TCt4 St0 PRt0 Lt Et]
  · isplitr; · iexact HR
    isplitl [HO]; · iexact HO
    isplitl [TCt4]; · iexact TCt4
    isplitl [St0]; · iexact St0
    isplitl [PRt0]; · iexact PRt0
    isplitl [Lt]; · iexact Lt
    iexact Et
  iintro ⟨HO, PRt0, Kt4⟩
  iapply (wait_crd m K c false 4 0 3 rfl rfl 4 rfl 5 rfl [.rcv false 6, .rcv true 6, .axr 0, .axr 1, .axr 2, .axr 3, .axr 4, .axr 5, .axr 6] (by decide) (wpE_semWait_eq 𝒱₀ (c : Thread nD τ) none Set.univ) (by decide)) $$ [CCf4 HO PCf]
  · isplitr; · iexact HR
    isplitr; · iexact Hlev
    isplitl [CCf4]; · iexact CCf4
    isplitl [HO]; · iexact HO
    iexact PCf
  iintro ⟨HO, PCf, Df0, Vf0, Lf⟩
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [Kf2]; · iexact Kf2
  isplitl [Kt2]; · iexact Kt2
  isplitl [PSf0]; · iexact PSf0
  isplitl [PSt0]; · iexact PSt0
  isplitl [Kf3]; · iexact Kf3
  isplitl [Kt3]; · iexact Kt3
  isplitl [PCt]; · iexact PCt
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [PRf0]; · iexact PRf0
  isplitl [Kf4]; · iexact Kf4
  isplitl [PRt0]; · iexact PRt0
  isplitl [Kt4]; · iexact Kt4
  isplitl [HO]; · iexact HO
  isplitl [PCf]; · iexact PCf
  isplitl [Df0]; · iexact Df0
  isplitl [Vf0]; · iexact Vf0
  isplitl [Lf]; · iexact Lf
  iexact Rest

set_option maxRecDepth 8000 in
set_option maxHeartbeats 4000000 in
theorem part18 (g : OBuf (F := F)) (v2 : BitVec 32) (v4 : BitVec 32) (v6 : BitVec 32)
    {α : Type} {Q : α → sProp 𝕄} {kk : (Σ' (v450 : BitVec 32) (v451 : BitVec 32), FVec F S256x4096 .bf16) → Prog (TpuEff nD τ sig (Elt F) Λ₀ .tc) α} :
    iprop(records m K ∗ levAts L lv ∗ st17 m c g) ⊢ iprop((∀ x, ⌜∀ W, k0_pay15 x.2.2 W = mm (half m false (orig false 5 c)) W⌝ -∗ st18 m c g -∗ wp frame (wpE (defs₀ (F := F)) 𝒱₀ (c : Thread nD τ) none) Set.univ (kk x) Q)
      -∗ wp frame (wpE (defs₀ (F := F)) 𝒱₀ (c : Thread nD τ) none) Set.univ (k0_part18 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v4 v6 >>= kk) Q) := by
  simp only [k0_part18_eq_skeleton]; unfold k0_part18_skel
  simp only [semSignalWord, semWaitWord, Prog.lift, Prog.bind_op, Prog.bind_ret, Prog.pure_eq_ret, wp_deviceId]
  unfold st17 st18 fut17
  iintro ⟨#HR, #Hlev, Hw, Ho, T0, PB, Hx, Hb, Kf0, Kt0, Kf1, Kt1, Kf2, Kt2, PSf0, PSt0, Kf3, Kt3, PCt, PRf1, Sf1, PRt1, St1, PSf1, PSt1, PRf0, Kf4, PRt0, Kt4, HO, PCf, Df0, Vf0, Lf, CCt4, TSf6, TRf6, TSt6, TRt6, Rest⟩ Hk
  iapply (wait_crd m K c true 4 0 3 rfl rfl 4 rfl 5 rfl [.rcv false 6, .rcv true 6, .axr 0, .axr 1, .axr 2, .axr 3, .axr 4, .axr 5, .axr 6] (by decide) (wpE_semWait_eq 𝒱₀ (c : Thread nD τ) none Set.univ) (by decide)) $$ [CCt4 HO PCt]
  · isplitr; · iexact HR
    isplitr; · iexact Hlev
    isplitl [CCt4]; · iexact CCt4
    isplitl [HO]; · iexact HO
    iexact PCt
  iintro ⟨HO, PCt, Dt0, Vt0, Lt⟩
  ihave Sf1 := (owns_halve (c : Thread nD τ) (slotM false 1) (half m false (orig false 5 c)) fullShare) $$ Sf1
  icases Sf1 with ⟨Sf1, Sf1q⟩
  ihave St1 := (owns_halve (c : Thread nD τ) (slotM true 1) (half m true (orig true 5 c)) fullShare) $$ St1
  icases St1 with ⟨St1, St1q⟩
  iapply (send_hop m K c false 6 0 3 rfl rfl 5 rfl _ (dev25_eq c) [.rcv true 6, .axr 0, .axr 1, .axr 2, .axr 3, .axr 4, .axr 5, .axr 6] (slotM false 1) (half m false (orig false 5 c)) rfl (congrArg (half m false) (orig_succ false 5 c))) $$ [Sf1q Df0 PCf HO TSf6 PSf0 TRf6 Vf0]
  · isplitr; · iexact HR
    isplitl [Sf1q]; · iexact Sf1q
    isplitl [Df0]; · iexact Df0
    isplitl [PCf]; · iexact PCf
    isplitl [HO]; · iexact HO
    isplitl [TSf6]; · iexact TSf6
    isplitl [PSf0]; · iexact PSf0
    isplitl [TRf6]; · iexact TRf6
    iexact Vf0
  iintro ⟨HO, CSf6, PCf, PSf0⟩
  iapply (send_hop m K c true 6 0 3 rfl rfl 5 rfl _ (dev26_eq c) [.axr 0, .axr 1, .axr 2, .axr 3, .axr 4, .axr 5, .axr 6] (slotM true 1) (half m true (orig true 5 c)) rfl (congrArg (half m true) (orig_succ true 5 c))) $$ [St1q Dt0 PCt HO TSt6 PSt0 TRt6 Vt0]
  · isplitr; · iexact HR
    isplitl [St1q]; · iexact St1q
    isplitl [Dt0]; · iexact Dt0
    isplitl [PCt]; · iexact PCt
    isplitl [HO]; · iexact HO
    isplitl [TSt6]; · iexact TSt6
    isplitl [PSt0]; · iexact PSt0
    isplitl [TRt6]; · iexact TRt6
    iexact Vt0
  iintro ⟨HO, CSt6, PCt, PSt0⟩
  iapply (step_load_slot c false 1 fullShare.left (half m false (orig false 5 c))) $$ Sf1
  iintro %v %hv Sf1
  iapply Hk $$ %_ %(fun W => pay15_eq v W (hv _ HEq.rfl))
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [Kf2]; · iexact Kf2
  isplitl [Kt2]; · iexact Kt2
  isplitl [Kf3]; · iexact Kf3
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [PRf0]; · iexact PRf0
  isplitl [Kf4]; · iexact Kf4
  isplitl [PRt0]; · iexact PRt0
  isplitl [Kt4]; · iexact Kt4
  isplitl [Lf]; · iexact Lf
  isplitl [Lt]; · iexact Lt
  isplitl [CSf6]; · iexact CSf6
  isplitl [PCf]; · iexact PCf
  isplitl [PSf0]; · iexact PSf0
  isplitl [HO]; · iexact HO
  isplitl [CSt6]; · iexact CSt6
  isplitl [PCt]; · iexact PCt
  isplitl [PSt0]; · iexact PSt0
  iexact Rest

set_option maxRecDepth 8000 in
set_option maxHeartbeats 4000000 in
theorem part19 (g : OBuf (F := F)) (v4 : BitVec 32) (v6 : BitVec 32) (v450 : BitVec 32) (v451 : BitVec 32) (v453 : FVec F S256x4096 .bf16) (h453 : ∀ W, k0_pay15 v453 W = mm (half m false (orig false 5 c)) W)
    {α : Type} {Q : α → sProp 𝕄} {kk : PUnit → Prog (TpuEff nD τ sig (Elt F) Λ₀ .tc) α} :
    iprop(records m K ∗ levAts L lv ∗ st18 m c g) ⊢ iprop((st19 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part19 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v4 v6 v450 v451 v453 >>= kk) Q) := by
  simp only [k0_part19_eq_skeleton]; unfold k0_part19_skel
  simp only [semSignalWord, semWaitWord, Prog.lift, Prog.bind_op, Prog.bind_ret, Prog.pure_eq_ret, wp_deviceId]
  unfold st18 st19 fut18
  iintro ⟨#HR, #Hlev, Hw, Ho, T0, PB, Hx, Hb, Kf0, Kt0, Kf1, Kt1, Kf2, Kt2, Kf3, Kt3, PRf1, Sf1, PRt1, St1, PSf1, PSt1, PRf0, Kf4, PRt0, Kt4, Lf, Lt, CSf6, PCf, PSf0, HO, CSt6, PCt, PSt0, CRf6, Rest⟩ Hk
  iapply (step_load c wM _ fullShare (ws m c)) $$ Hw
  iintro Hw
  rw [read_w]
  iapply (step_load c oM _ fullShare (_)) $$ Ho
  iintro Ho
  rw [h453]
  iapply (step_store c oM _ _ _) $$ Ho
  iintro Ho
  iapply (step_load_slot c true 1 fullShare.left (half m true (orig true 5 c))) $$ St1
  iintro %v %hv St1
  iapply (step_load c wM _ fullShare (ws m c)) $$ Hw
  iintro Hw
  rw [read_w]
  iapply (step_load c oM _ fullShare (_)) $$ Ho
  iintro Ho
  rw [pay16_eq v _ (hv _ HEq.rfl)]
  iapply (step_store c oM _ _ _) $$ Ho
  iintro Ho
  iapply (wait_rcv m K c false 6 0 3 rfl rfl 4 rfl 6 rfl 5 rfl [.axr 0, .axr 1, .axr 2, .axr 3, .axr 4, .axr 5, .axr 6] (by decide) (wpE_waitDma2_eq 𝒱₀ (c : Thread nD τ) none Set.univ) (credit_slot false 0)) $$ [CRf6 HO PRf0]
  · isplitr; · iexact HR
    isplitr; · iexact Hlev
    isplitl [CRf6]; · iexact CRf6
    isplitl [HO]; · iexact HO
    iexact PRf0
  iintro ⟨HO, PRf0, Sf0, Ef⟩
  iapply Hk
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [Kf2]; · iexact Kf2
  isplitl [Kt2]; · iexact Kt2
  isplitl [Kf3]; · iexact Kf3
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [PRt0]; · iexact PRt0
  isplitl [Kt4]; · iexact Kt4
  isplitl [Lf]; · iexact Lf
  isplitl [Lt]; · iexact Lt
  isplitl [CSf6]; · iexact CSf6
  isplitl [PCf]; · iexact PCf
  isplitl [PSf0]; · iexact PSf0
  isplitl [CSt6]; · iexact CSt6
  isplitl [PCt]; · iexact PCt
  isplitl [PSt0]; · iexact PSt0
  isplitl [HO]; · iexact HO
  isplitl [PRf0]; · iexact PRf0
  isplitl [Sf0]; · iexact Sf0
  isplitl [Ef]; · iexact Ef
  iexact Rest

set_option maxRecDepth 8000 in
set_option maxHeartbeats 4000000 in
theorem part20 (g : OBuf (F := F)) (v2 : BitVec 32)
    {α : Type} {Q : α → sProp 𝕄} {kk : (Σ' (v499 : BitVec 32), FVec F S256x1024 .f32) → Prog (TpuEff nD τ sig (Elt F) Λ₀ .tc) α} :
    iprop(records m K ∗ levAts L lv ∗ st19 m c g) ⊢ iprop((∀ x, ⌜x.2 = mm (half m false (orig false 6 c)) (ws m c)⌝ -∗ st20 m c g -∗ wp frame (wpE (defs₀ (F := F)) 𝒱₀ (c : Thread nD τ) none) Set.univ (kk x) Q)
      -∗ wp frame (wpE (defs₀ (F := F)) 𝒱₀ (c : Thread nD τ) none) Set.univ (k0_part20 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 v2 >>= kk) Q) := by
  simp only [k0_part20_eq_skeleton]; unfold k0_part20_skel
  simp only [semSignalWord, semWaitWord, Prog.lift, Prog.bind_op, Prog.bind_ret, Prog.pure_eq_ret, wp_deviceId]
  unfold st19 st20 fut19
  iintro ⟨#HR, #Hlev, Hw, Ho, T0, PB, Hx, Hb, Kf0, Kt0, Kf1, Kt1, Kf2, Kt2, Kf3, Kt3, PRf1, Sf1, PRt1, St1, PSf1, PSt1, Kf4, PRt0, Kt4, Lf, Lt, CSf6, PCf, PSf0, CSt6, PCt, PSt0, HO, PRf0, Sf0, Ef, CRt6, Rest⟩ Hk
  iapply (wait_rcv m K c true 6 0 3 rfl rfl 4 rfl 6 rfl 5 rfl [.axr 0, .axr 1, .axr 2, .axr 3, .axr 4, .axr 5, .axr 6] (by decide) (wpE_waitDma2_eq 𝒱₀ (c : Thread nD τ) none Set.univ) (credit_slot true 0)) $$ [CRt6 HO PRt0]
  · isplitr; · iexact HR
    isplitr; · iexact Hlev
    isplitl [CRt6]; · iexact CRt6
    isplitl [HO]; · iexact HO
    iexact PRt0
  iintro ⟨HO, PRt0, St0, Et⟩
  iapply (wait_snd m K c false 6 0 3 rfl rfl 4 rfl [.axr 0, .axr 1, .axr 2, .axr 3, .axr 4, .axr 5, .axr 6] (by decide) (slotM false 1) (half m false (orig false 5 c)) rfl (wpE_waitDma2_eq 𝒱₀ (c : Thread nD τ) none Set.univ) (credit_slot false 1)) $$ [CSf6 HO PSf0]
  · isplitr; · iexact HR
    isplitr; · iexact Hlev
    isplitl [CSf6]; · iexact CSf6
    isplitl [HO]; · iexact HO
    iexact PSf0
  iintro ⟨HO, PSf0, Sf1q⟩
  ihave Sf1 := (owns_rejoin (c : Thread nD τ) (slotM false 1) (half m false (orig false 5 c)) fullShare) $$ [Sf1 Sf1q]
  · isplitl [Sf1]; · iexact Sf1
    iexact Sf1q
  iapply (wait_snd m K c true 6 0 3 rfl rfl 4 rfl [.axr 0, .axr 1, .axr 2, .axr 3, .axr 4, .axr 5, .axr 6] (by decide) (slotM true 1) (half m true (orig true 5 c)) rfl (wpE_waitDma2_eq 𝒱₀ (c : Thread nD τ) none Set.univ) (credit_slot true 1)) $$ [CSt6 HO PSt0]
  · isplitr; · iexact HR
    isplitr; · iexact Hlev
    isplitl [CSt6]; · iexact CSt6
    isplitl [HO]; · iexact HO
    iexact PSt0
  iintro ⟨HO, PSt0, St1q⟩
  ihave St1 := (owns_rejoin (c : Thread nD τ) (slotM true 1) (half m true (orig true 5 c)) fullShare) $$ [St1 St1q]
  · isplitl [St1]; · iexact St1
    iexact St1q
  iapply (step_load_slot c false 0 fullShare (half m false (orig false 6 c))) $$ Sf0
  iintro %v %hv Sf0
  iapply (step_load c wM _ fullShare (ws m c)) $$ Hw
  iintro Hw
  rw [read_w]
  iapply Hk $$ %_ %(pay17_eq v _ (hv _ HEq.rfl))
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [Kf2]; · iexact Kf2
  isplitl [Kt2]; · iexact Kt2
  isplitl [Kf3]; · iexact Kf3
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [HO]; · iexact HO
  isplitl [PSt0]; · iexact PSt0
  iexact Rest

set_option maxRecDepth 8000 in
set_option maxHeartbeats 4000000 in
theorem part21 (g : OBuf (F := F)) (v2 : BitVec 32) (v499 : BitVec 32) (v505 : FVec F S256x1024 .f32) (h505 : v505 = mm (half m false (orig false 6 c)) (ws m c))
    {α : Type} {Q : α → sProp 𝕄} {kk : (Σ' (v518 : F .f32), BitVec 32) → Prog (TpuEff nD τ sig (Elt F) Λ₀ .tc) α} :
    iprop(records m K ∗ levAts L lv ∗ st20 m c g) ⊢ iprop((∀ x, ⌜x.1 = amaxL m c⌝ -∗ st21 m c g -∗ wp frame (wpE (defs₀ (F := F)) 𝒱₀ (c : Thread nD τ) none) Set.univ (kk x) Q)
      -∗ wp frame (wpE (defs₀ (F := F)) 𝒱₀ (c : Thread nD τ) none) Set.univ (k0_part21 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v499 v505 >>= kk) Q) := by
  subst h505
  simp only [k0_part21_eq_skeleton]; unfold k0_part21_skel
  simp only [semSignalWord, semWaitWord, Prog.lift, Prog.bind_op, Prog.bind_ret, Prog.pure_eq_ret, wp_deviceId]
  unfold st20 st21
  iintro ⟨#HR, #Hlev, Hw, Ho, T0, PB, Hx, Hb, Kf0, Kt0, Kf1, Kt1, Kf2, Kt2, Kf3, Kt3, PRf1, Sf1, PRt1, St1, PSf1, PSt1, Kf4, Kt4, Lf, Lt, PCf, PCt, PRf0, Sf0, Ef, PRt0, St0, Et, PSf0, HO, PSt0, Rest⟩ Hk
  iapply (step_load c oM _ fullShare (_)) $$ Ho
  iintro Ho
  iapply (step_store c oM _ _ _) $$ Ho
  iintro Ho
  iapply (step_load_slot c true 0 fullShare (half m true (orig true 6 c))) $$ St0
  iintro %v %hv St0
  iapply (step_load c wM _ fullShare (ws m c)) $$ Hw
  iintro Hw
  rw [read_w]
  iapply (step_load c oM _ fullShare (_)) $$ Ho
  iintro Ho
  rw [pay18_eq v _ (hv _ HEq.rfl)]
  iapply (step_store c oM _ _ _) $$ Ho
  iintro Ho
  ihave Ho := (show (oPts c ((oM.access (Rect.unit (s := S4096x1024) (k0_off4 c 7#32) S256x1024.size (k0_off4_inb c 6))).write (Elt F) ((oM.access (Rect.unit (s := S4096x1024) (k0_off3 c 1#32) S256x1024.size (k0_off3_inb c 0))).write (Elt F) (put m c 1 5 5 (put m c 2 4 4 (put m c 3 3 3 (put m c 4 2 2 (put m c 5 1 1 (put m c 6 0 0 (put0 m c g))))))) (mm (half m false (orig false 6 c)) (ws m c)) Finset.univ) (mm (half m true (orig true 6 c)) (ws m c)) Finset.univ) : sProp 𝕄) ⊢ oPts c (yF m c)
      from Entails.of_eq (congrArg (oPts c) (putAll_eq m c g))) $$ Ho
  simp only [Prog.bind_assoc]
  iapply (amax_loop c (yF m c) _ _ _ _) $$ Ho
  iintro Ho
  simp only [semSignalWord, semWaitWord, Prog.lift, Prog.bind_op, Prog.bind_ret, Prog.pure_eq_ret, wp_deviceId]
  icases T0 with ⟨%X0, T0⟩
  iapply (load_tile c _ rfl X0) $$ T0
  iintro %v0 T0
  iapply (step_store_tile c X0 (amaxL m c)) $$ T0
  iintro T0
  iapply Hk $$ %_ %(rfl)
  isplitl [Hw]; · iexact Hw
  isplitl [Ho]; · iexact Ho
  isplitl [T0]; · iexact T0
  isplitl [PB]; · iexact PB
  isplitl [Hx]; · iexact Hx
  isplitl [Hb]; · iexact Hb
  isplitl [Kf0]; · iexact Kf0
  isplitl [Kt0]; · iexact Kt0
  isplitl [Kf1]; · iexact Kf1
  isplitl [Kt1]; · iexact Kt1
  isplitl [Kf2]; · iexact Kf2
  isplitl [Kt2]; · iexact Kt2
  isplitl [Kf3]; · iexact Kf3
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [HO]; · iexact HO
  isplitl [PSt0]; · iexact PSt0
  iexact Rest

end Cert.WholeRun

end
-- ==== Proof.WholePartD.lean ====
/-
# The whole kernel: the body's parts 22 to 28
-/
module

public import proofs.«01_k».proof.Proof.WholeState

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (K : Dev nD × CK → ℕ) (c : Dev nD)

set_option maxRecDepth 8000 in
set_option maxHeartbeats 4000000 in
theorem part22 (g : OBuf (F := F)) (v2 : BitVec 32)
    {α : Type} {Q : α → sProp 𝕄} {kk : (Σ' (v536 : BitVec 32) (v548 : BitVec 32) (v560 : BitVec 32), BitVec 32) → Prog (TpuEff nD τ sig (Elt F) Λ₀ .tc) α} :
    iprop(records m K ∗ levAts L lv ∗ st21 m c g) ⊢ iprop((∀ x, ⌜True⌝ -∗ st22 m c g -∗ wp frame (wpE (defs₀ (F := F)) 𝒱₀ (c : Thread nD τ) none) Set.univ (kk x) Q)
      -∗ wp frame (wpE (defs₀ (F := F)) 𝒱₀ (c : Thread nD τ) none) Set.univ (k0_part22 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 >>= kk) Q) := by
  simp only [k0_part22_eq_skeleton]; unfold k0_part22_skel
  simp only [semSignalWord, semWaitWord, Prog.lift, Prog.bind_op, Prog.bind_ret, Prog.pure_eq_ret, wp_deviceId]
  unfold st21 st22 fut20
  iintro ⟨#HR, #Hlev, Hw, Ho, T0, PB, Hx, Hb, Kf0, Kt0, Kf1, Kt1, Kf2, Kt2, Kf3, Kt3, PRf1, Sf1, PRt1, St1, PSf1, PSt1, Kf4, Kt4, Lf, Lt, PCf, PCt, PRf0, Sf0, Ef, PRt0, St0, Et, PSf0, HO, PSt0, TA0, TX0, TA1, TX1, TA2, TX2, Rest⟩ Hk
  ihave Kf0 := (kept_one c false 0 1 (by decide)) $$ Kf0
  iapply (send_tile m K c 0 1 rfl 0 rfl 1 rfl _ rfl _ (dev27_eq c) [.axr 1, .axr 2, .axr 3, .axr 4, .axr 5, .axr 6] _ rfl) $$ [T0 Kf0 HO TA0 TX0]
  · isplitr; · iexact HR
    isplitl [T0]; · iexact T0
    isplitl [Kf0]; · iexact Kf0
    isplitl [HO]; · iexact HO
    isplitl [TA0]; · iexact TA0
    iexact TX0
  iintro ⟨HO, CA0, T0⟩
  ihave Kf1 := (kept_one c false 1 2 (by decide)) $$ Kf1
  iapply (send_tile m K c 1 2 rfl 1 rfl 2 rfl _ rfl _ (dev28_eq c) [.axr 2, .axr 3, .axr 4, .axr 5, .axr 6] _ rfl) $$ [T0 Kf1 HO TA1 TX1]
  · isplitr; · iexact HR
    isplitl [T0]; · iexact T0
    isplitl [Kf1]; · iexact Kf1
    isplitl [HO]; · iexact HO
    isplitl [TA1]; · iexact TA1
    iexact TX1
  iintro ⟨HO, CA1, T0⟩
  ihave Kf2 := (kept_one c false 2 3 (by decide)) $$ Kf2
  iapply (send_tile m K c 2 3 rfl 2 rfl 3 rfl _ rfl _ (dev29_eq c) [.axr 3, .axr 4, .axr 5, .axr 6] _ rfl) $$ [T0 Kf2 HO TA2 TX2]
  · isplitr; · iexact HR
    isplitl [T0]; · iexact T0
    isplitl [Kf2]; · iexact Kf2
    isplitl [HO]; · iexact HO
    isplitl [TA2]; · iexact TA2
    iexact TX2
  iintro ⟨HO, CA2, T0⟩
  iapply Hk $$ %_ %(trivial)
  isplitl [Hw]; · iexact Hw
  isplitl [Ho]; · iexact Ho
  isplitl [PB]; · iexact PB
  isplitl [Hx]; · iexact Hx
  isplitl [Hb]; · iexact Hb
  isplitl [Kt0]; · iexact Kt0
  isplitl [Kt1]; · iexact Kt1
  isplitl [Kt2]; · iexact Kt2
  isplitl [Kf3]; · iexact Kf3
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [PSt0]; · iexact PSt0
  isplitl [CA0]; · iexact CA0
  isplitl [CA1]; · iexact CA1
  isplitl [HO]; · iexact HO
  isplitl [CA2]; · iexact CA2
  isplitl [T0]; · iexact T0
  iexact Rest

set_option maxRecDepth 8000 in
set_option maxHeartbeats 4000000 in
theorem part23 (g : OBuf (F := F)) (v2 : BitVec 32) (v560 : BitVec 32) (c1 : BitVec 32)
    {α : Type} {Q : α → sProp 𝕄} {kk : (Σ' (v572 : BitVec 32), BitVec 32) → Prog (TpuEff nD τ sig (Elt F) Λ₀ .tc) α} :
    iprop(records m K ∗ levAts L lv ∗ st22 m c g) ⊢ iprop((∀ x, ⌜True⌝ -∗ st23 m c g -∗ wp frame (wpE (defs₀ (F := F)) 𝒱₀ (c : Thread nD τ) none) Set.univ (kk x) Q)
      -∗ wp frame (wpE (defs₀ (F := F)) 𝒱₀ (c : Thread nD τ) none) Set.univ (k0_part23 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v560 c1 >>= kk) Q) := by
  simp only [k0_part23_eq_skeleton]; unfold k0_part23_skel
  simp only [semSignalWord, semWaitWord, Prog.lift, Prog.bind_op, Prog.bind_ret, Prog.pure_eq_ret, wp_deviceId]
  unfold st22 st23 fut22
  iintro ⟨#HR, #Hlev, Hw, Ho, PB, Hx, Hb, Kt0, Kt1, Kt2, Kf3, Kt3, PRf1, Sf1, PRt1, St1, PSf1, PSt1, Kf4, Kt4, Lf, Lt, PCf, PCt, PRf0, Sf0, Ef, PRt0, St0, Et, PSf0, PSt0, CA0, CA1, HO, CA2, T0, TA3, TX3, TA4, TX4, Rest⟩ Hk
  ihave Kf3 := (kept_one c false 3 4 (by decide)) $$ Kf3
  iapply (send_tile m K c 3 4 rfl 3 rfl 4 rfl _ rfl _ (dev30_eq c) [.axr 4, .axr 5, .axr 6] _ rfl) $$ [T0 Kf3 HO TA3 TX3]
  · isplitr; · iexact HR
    isplitl [T0]; · iexact T0
    isplitl [Kf3]; · iexact Kf3
    isplitl [HO]; · iexact HO
    isplitl [TA3]; · iexact TA3
    iexact TX3
  iintro ⟨HO, CA3, T0⟩
  ihave Kt2 := (kept_one c true 2 5 (by decide)) $$ Kt2
  iapply (send_tile m K c 4 5 rfl 4 rfl 5 rfl _ rfl _ (dev31_eq c) [.axr 5, .axr 6] _ rfl) $$ [T0 Kt2 HO TA4 TX4]
  · isplitr; · iexact HR
    isplitl [T0]; · iexact T0
    isplitl [Kt2]; · iexact Kt2
    isplitl [HO]; · iexact HO
    isplitl [TA4]; · iexact TA4
    iexact TX4
  iintro ⟨HO, CA4, T0⟩
  iapply Hk $$ %_ %(trivial)
  isplitl [Hw]; · iexact Hw
  isplitl [Ho]; · iexact Ho
  isplitl [PB]; · iexact PB
  isplitl [Hx]; · iexact Hx
  isplitl [Hb]; · iexact Hb
  isplitl [Kt0]; · iexact Kt0
  isplitl [Kt1]; · iexact Kt1
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [PSt0]; · iexact PSt0
  isplitl [CA0]; · iexact CA0
  isplitl [CA1]; · iexact CA1
  isplitl [CA2]; · iexact CA2
  isplitl [CA3]; · iexact CA3
  isplitl [HO]; · iexact HO
  isplitl [CA4]; · iexact CA4
  isplitl [T0]; · iexact T0
  iexact Rest

set_option maxRecDepth 8000 in
set_option maxHeartbeats 4000000 in
theorem part24 (g : OBuf (F := F)) (v2 : BitVec 32) (v518 : F .f32) (v524 : BitVec 32) (h518 : v518 = amaxL m c)
    {α : Type} {Q : α → sProp 𝕄} {kk : (Σ' (v596 : BitVec 32), F .f32) → Prog (TpuEff nD τ sig (Elt F) Λ₀ .tc) α} :
    iprop(records m K ∗ levAts L lv ∗ st23 m c g) ⊢ iprop((∀ x, ⌜x.2 = (Scalar.maximumf (amaxL m c) (amaxL m (behind 1 c)))⌝ -∗ st24 m c g -∗ wp frame (wpE (defs₀ (F := F)) 𝒱₀ (c : Thread nD τ) none) Set.univ (kk x) Q)
      -∗ wp frame (wpE (defs₀ (F := F)) 𝒱₀ (c : Thread nD τ) none) Set.univ (k0_part24 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 c v2 v518 v524 >>= kk) Q) := by
  subst h518
  simp only [k0_part24_eq_skeleton]; unfold k0_part24_skel
  simp only [semSignalWord, semWaitWord, Prog.lift, Prog.bind_op, Prog.bind_ret, Prog.pure_eq_ret, wp_deviceId]
  unfold st23 st24 fut23
  iintro ⟨#HR, #Hlev, Hw, Ho, PB, Hx, Hb, Kt0, Kt1, Kt3, PRf1, Sf1, PRt1, St1, PSf1, PSt1, Kf4, Kt4, Lf, Lt, PCf, PCt, PRf0, Sf0, Ef, PRt0, St0, Et, PSf0, PSt0, CA0, CA1, CA2, CA3, HO, CA4, T0, TA5, TX5, TA6, TX6, CX0, PX0, Rest⟩ Hk
  ihave Kt1 := (kept_one c true 1 6 (by decide)) $$ Kt1
  iapply (send_tile m K c 5 6 rfl 5 rfl 6 rfl _ rfl _ (dev32_eq c) [.axr 6] _ rfl) $$ [T0 Kt1 HO TA5 TX5]
  · isplitr; · iexact HR
    isplitl [T0]; · iexact T0
    isplitl [Kt1]; · iexact Kt1
    isplitl [HO]; · iexact HO
    isplitl [TA5]; · iexact TA5
    iexact TX5
  iintro ⟨HO, CA5, T0⟩
  ihave Kt0 := (kept_one c true 0 7 (by decide)) $$ Kt0
  iapply (send_tile m K c 6 7 rfl 6 rfl 7 rfl _ rfl _ (dev33_eq c) [] _ rfl) $$ [T0 Kt0 HO TA6 TX6]
  · isplitr; · iexact HR
    isplitl [T0]; · iexact T0
    isplitl [Kt0]; · iexact Kt0
    isplitl [HO]; · iexact HO
    isplitl [TA6]; · iexact TA6
    iexact TX6
  iintro ⟨HO, CA6, T0⟩
  iapply (wait_axr m K c 0 1 rfl (wpE_waitDma2_eq 𝒱₀ (c : Thread nD τ) none Set.univ) (credit_tile 1)) $$ [CX0 HO PX0]
  · isplitr; · iexact HR
    isplitr; · iexact Hlev
    isplitl [CX0]; · iexact CX0
    isplitl [HO]; · iexact HO
    iexact PX0
  iintro ⟨HO, PX0, T1⟩
  iapply (load_el c 1 _ rfl (amaxL m (behind 1 c))) $$ T1
  iintro T1
  iapply Hk $$ %_ %(rfl)
  isplitl [Hw]; · iexact Hw
  isplitl [Ho]; · iexact Ho
  isplitl [PB]; · iexact PB
  isplitl [Hx]; · iexact Hx
  isplitl [Hb]; · iexact Hb
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [PSt0]; · iexact PSt0
  isplitl [CA0]; · iexact CA0
  isplitl [CA1]; · iexact CA1
  isplitl [CA2]; · iexact CA2
  isplitl [CA3]; · iexact CA3
  isplitl [CA4]; · iexact CA4
  isplitl [CA5]; · iexact CA5
  isplitl [CA6]; · iexact CA6
  isplitl [T0]; · iexact T0
  isplitl [HO]; · iexact HO
  isplitl [PX0]; · iexact PX0
  isplitl [T1]; · iexact T1
  iexact Rest

set_option maxRecDepth 8000 in
set_option maxHeartbeats 4000000 in
theorem part25 (g : OBuf (F := F)) (v536 : BitVec 32) (v548 : BitVec 32) (v560 : BitVec 32) (v617 : F .f32) (h617 : v617 = (Scalar.maximumf (amaxL m c) (amaxL m (behind 1 c))))
    {α : Type} {Q : α → sProp 𝕄} {kk : (F .f32) → Prog (TpuEff nD τ sig (Elt F) Λ₀ .tc) α} :
    iprop(records m K ∗ levAts L lv ∗ st24 m c g) ⊢ iprop((∀ x, ⌜x = (Scalar.maximumf (Scalar.maximumf (Scalar.maximumf (amaxL m c) (amaxL m (behind 1 c))) (amaxL m (behind 2 c))) (amaxL m (behind 3 c)))⌝ -∗ st25 m c g -∗ wp frame (wpE (defs₀ (F := F)) 𝒱₀ (c : Thread nD τ) none) Set.univ (kk x) Q)
      -∗ wp frame (wpE (defs₀ (F := F)) 𝒱₀ (c : Thread nD τ) none) Set.univ (k0_part25 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 v536 v548 v560 v617 >>= kk) Q) := by
  subst h617
  simp only [k0_part25_eq_skeleton]; unfold k0_part25_skel
  simp only [semSignalWord, semWaitWord, Prog.lift, Prog.bind_op, Prog.bind_ret, Prog.pure_eq_ret, wp_deviceId]
  unfold st24 st25 fut24
  iintro ⟨#HR, #Hlev, Hw, Ho, PB, Hx, Hb, Kt3, PRf1, Sf1, PRt1, St1, PSf1, PSt1, Kf4, Kt4, Lf, Lt, PCf, PCt, PRf0, Sf0, Ef, PRt0, St0, Et, PSf0, PSt0, CA0, CA1, CA2, CA3, CA4, CA5, CA6, T0, HO, PX0, T1, CX1, PX1, CX2, PX2, Rest⟩ Hk
  iapply (wait_axr m K c 1 2 rfl (wpE_waitDma2_eq 𝒱₀ (c : Thread nD τ) none Set.univ) (credit_tile 2)) $$ [CX1 HO PX1]
  · isplitr; · iexact HR
    isplitr; · iexact Hlev
    isplitl [CX1]; · iexact CX1
    isplitl [HO]; · iexact HO
    iexact PX1
  iintro ⟨HO, PX1, T2⟩
  iapply (load_el c 2 _ rfl (amaxL m (behind 2 c))) $$ T2
  iintro T2
  iapply (wait_axr m K c 2 3 rfl (wpE_waitDma2_eq 𝒱₀ (c : Thread nD τ) none Set.univ) (credit_tile 3)) $$ [CX2 HO PX2]
  · isplitr; · iexact HR
    isplitr; · iexact Hlev
    isplitl [CX2]; · iexact CX2
    isplitl [HO]; · iexact HO
    iexact PX2
  iintro ⟨HO, PX2, T3⟩
  iapply (load_el c 3 _ rfl (amaxL m (behind 3 c))) $$ T3
  iintro T3
  iapply Hk $$ %_ %(rfl)
  isplitl [Hw]; · iexact Hw
  isplitl [Ho]; · iexact Ho
  isplitl [PB]; · iexact PB
  isplitl [Hx]; · iexact Hx
  isplitl [Hb]; · iexact Hb
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [PSt0]; · iexact PSt0
  isplitl [CA0]; · iexact CA0
  isplitl [CA1]; · iexact CA1
  isplitl [CA2]; · iexact CA2
  isplitl [CA3]; · iexact CA3
  isplitl [CA4]; · iexact CA4
  isplitl [CA5]; · iexact CA5
  isplitl [CA6]; · iexact CA6
  isplitl [T0]; · iexact T0
  isplitl [PX0]; · iexact PX0
  isplitl [T1]; · iexact T1
  isplitl [PX1]; · iexact PX1
  isplitl [T2]; · iexact T2
  isplitl [HO]; · iexact HO
  isplitl [PX2]; · iexact PX2
  isplitl [T3]; · iexact T3
  iexact Rest

set_option maxRecDepth 8000 in
set_option maxHeartbeats 4000000 in
theorem part26 (g : OBuf (F := F)) (v572 : BitVec 32) (v584 : BitVec 32) (v639 : F .f32) (h639 : v639 = (Scalar.maximumf (Scalar.maximumf (Scalar.maximumf (amaxL m c) (amaxL m (behind 1 c))) (amaxL m (behind 2 c))) (amaxL m (behind 3 c))))
    {α : Type} {Q : α → sProp 𝕄} {kk : (Σ' (v661 : F .f32), F .f32) → Prog (TpuEff nD τ sig (Elt F) Λ₀ .tc) α} :
    iprop(records m K ∗ levAts L lv ∗ st25 m c g) ⊢ iprop((∀ x, ⌜x.1 = (Scalar.maximumf (Scalar.maximumf (Scalar.maximumf (Scalar.maximumf (Scalar.maximumf (amaxL m c) (amaxL m (behind 1 c))) (amaxL m (behind 2 c))) (amaxL m (behind 3 c))) (amaxL m (behind 4 c))) (amaxL m (behind 5 c))) ∧ x.2 = amaxL m (behind 6 c)⌝ -∗ st26 m c g -∗ wp frame (wpE (defs₀ (F := F)) 𝒱₀ (c : Thread nD τ) none) Set.univ (kk x) Q)
      -∗ wp frame (wpE (defs₀ (F := F)) 𝒱₀ (c : Thread nD τ) none) Set.univ (k0_part26 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 v572 v584 v639 >>= kk) Q) := by
  subst h639
  simp only [k0_part26_eq_skeleton]; unfold k0_part26_skel
  simp only [semSignalWord, semWaitWord, Prog.lift, Prog.bind_op, Prog.bind_ret, Prog.pure_eq_ret, wp_deviceId]
  unfold st25 st26 fut25
  iintro ⟨#HR, #Hlev, Hw, Ho, PB, Hx, Hb, Kt3, PRf1, Sf1, PRt1, St1, PSf1, PSt1, Kf4, Kt4, Lf, Lt, PCf, PCt, PRf0, Sf0, Ef, PRt0, St0, Et, PSf0, PSt0, CA0, CA1, CA2, CA3, CA4, CA5, CA6, T0, PX0, T1, PX1, T2, HO, PX2, T3, CX3, PX3, CX4, PX4, CX5, PX5, Rest⟩ Hk
  iapply (wait_axr m K c 3 4 rfl (wpE_waitDma2_eq 𝒱₀ (c : Thread nD τ) none Set.univ) (credit_tile 4)) $$ [CX3 HO PX3]
  · isplitr; · iexact HR
    isplitr; · iexact Hlev
    isplitl [CX3]; · iexact CX3
    isplitl [HO]; · iexact HO
    iexact PX3
  iintro ⟨HO, PX3, T4⟩
  iapply (load_el c 4 _ rfl (amaxL m (behind 4 c))) $$ T4
  iintro T4
  iapply (wait_axr m K c 4 5 rfl (wpE_waitDma2_eq 𝒱₀ (c : Thread nD τ) none Set.univ) (credit_tile 5)) $$ [CX4 HO PX4]
  · isplitr; · iexact HR
    isplitr; · iexact Hlev
    isplitl [CX4]; · iexact CX4
    isplitl [HO]; · iexact HO
    iexact PX4
  iintro ⟨HO, PX4, T5⟩
  iapply (load_el c 5 _ rfl (amaxL m (behind 5 c))) $$ T5
  iintro T5
  iapply (wait_axr m K c 5 6 rfl (wpE_waitDma2_eq 𝒱₀ (c : Thread nD τ) none Set.univ) (credit_tile 6)) $$ [CX5 HO PX5]
  · isplitr; · iexact HR
    isplitr; · iexact Hlev
    isplitl [CX5]; · iexact CX5
    isplitl [HO]; · iexact HO
    iexact PX5
  iintro ⟨HO, PX5, T6⟩
  iapply (load_el c 6 _ rfl (amaxL m (behind 6 c))) $$ T6
  iintro T6
  iapply Hk $$ %_ %(⟨rfl, rfl⟩)
  isplitl [Hw]; · iexact Hw
  isplitl [Ho]; · iexact Ho
  isplitl [PB]; · iexact PB
  isplitl [Hx]; · iexact Hx
  isplitl [Hb]; · iexact Hb
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [PSt0]; · iexact PSt0
  isplitl [CA0]; · iexact CA0
  isplitl [CA1]; · iexact CA1
  isplitl [CA2]; · iexact CA2
  isplitl [CA3]; · iexact CA3
  isplitl [CA4]; · iexact CA4
  isplitl [CA5]; · iexact CA5
  isplitl [CA6]; · iexact CA6
  isplitl [T0]; · iexact T0
  isplitl [PX0]; · iexact PX0
  isplitl [T1]; · iexact T1
  isplitl [PX1]; · iexact PX1
  isplitl [T2]; · iexact T2
  isplitl [PX2]; · iexact PX2
  isplitl [T3]; · iexact T3
  isplitl [PX3]; · iexact PX3
  isplitl [T4]; · iexact T4
  isplitl [PX4]; · iexact PX4
  isplitl [T5]; · iexact T5
  isplitl [HO]; · iexact HO
  isplitl [PX5]; · iexact PX5
  isplitl [T6]; · iexact T6
  iexact Rest

set_option maxRecDepth 8000 in
set_option maxHeartbeats 4000000 in
theorem part27 (g : OBuf (F := F)) (v596 : BitVec 32) (v661 v671 : F .f32) (h661 : v661 = (Scalar.maximumf (Scalar.maximumf (Scalar.maximumf (Scalar.maximumf (Scalar.maximumf (amaxL m c) (amaxL m (behind 1 c))) (amaxL m (behind 2 c))) (amaxL m (behind 3 c))) (amaxL m (behind 4 c))) (amaxL m (behind 5 c)))) (h671 : v671 = amaxL m (behind 6 c))
    {α : Type} {Q : α → sProp 𝕄} {kk : (F .f32) → Prog (TpuEff nD τ sig (Elt F) Λ₀ .tc) α} :
    iprop(records m K ∗ levAts L lv ∗ st26 m c g) ⊢ iprop((∀ x, ⌜x = amaxG m c⌝ -∗ st27 m c g -∗ wp frame (wpE (defs₀ (F := F)) 𝒱₀ (c : Thread nD τ) none) Set.univ (kk x) Q)
      -∗ wp frame (wpE (defs₀ (F := F)) 𝒱₀ (c : Thread nD τ) none) Set.univ (k0_part27 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 v596 v661 v671 >>= kk) Q) := by
  subst h661 h671
  simp only [k0_part27_eq_skeleton]; unfold k0_part27_skel
  simp only [semSignalWord, semWaitWord, Prog.lift, Prog.bind_op, Prog.bind_ret, Prog.pure_eq_ret, wp_deviceId]
  unfold st26 st27 fut26
  iintro ⟨#HR, #Hlev, Hw, Ho, PB, Hx, Hb, Kt3, PRf1, Sf1, PRt1, St1, PSf1, PSt1, Kf4, Kt4, Lf, Lt, PCf, PCt, PRf0, Sf0, Ef, PRt0, St0, Et, PSf0, PSt0, CA0, CA1, CA2, CA3, CA4, CA5, CA6, T0, PX0, T1, PX1, T2, PX2, T3, PX3, T4, PX4, T5, HO, PX5, T6, CX6, PX6, PA0, PA1, Rest⟩ Hk
  iapply (wait_axr m K c 6 7 rfl (wpE_waitDma2_eq 𝒱₀ (c : Thread nD τ) none Set.univ) (credit_tile 7)) $$ [CX6 HO PX6]
  · isplitr; · iexact HR
    isplitr; · iexact Hlev
    isplitl [CX6]; · iexact CX6
    isplitl [HO]; · iexact HO
    iexact PX6
  iintro ⟨HO, PX6, T7⟩
  iapply (load_el c 7 _ rfl (amaxL m (behind 7 c))) $$ T7
  iintro T7
  iapply (wait_axs m K c 0 0 rfl (wpE_waitDma2_eq 𝒱₀ (c : Thread nD τ) none Set.univ) (credit_tile 0)) $$ [CA0 HO PA0]
  · isplitr; · iexact HR
    isplitr; · iexact Hlev
    isplitl [CA0]; · iexact CA0
    isplitl [HO]; · iexact HO
    iexact PA0
  iintro ⟨HO, PA0, G0⟩
  iapply (wait_axs m K c 1 1 rfl (wpE_waitDma2_eq 𝒱₀ (c : Thread nD τ) none Set.univ) (credit_tile 0)) $$ [CA1 HO PA1]
  · isplitr; · iexact HR
    isplitr; · iexact Hlev
    isplitl [CA1]; · iexact CA1
    isplitl [HO]; · iexact HO
    iexact PA1
  iintro ⟨HO, PA1, G1⟩
  iapply Hk $$ %_ %(rfl)
  isplitl [Hw]; · iexact Hw
  isplitl [Ho]; · iexact Ho
  isplitl [PB]; · iexact PB
  isplitl [Hx]; · iexact Hx
  isplitl [Hb]; · iexact Hb
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [PSt0]; · iexact PSt0
  isplitl [CA2]; · iexact CA2
  isplitl [CA3]; · iexact CA3
  isplitl [CA4]; · iexact CA4
  isplitl [CA5]; · iexact CA5
  isplitl [CA6]; · iexact CA6
  isplitl [T0]; · iexact T0
  isplitl [PX0]; · iexact PX0
  isplitl [T1]; · iexact T1
  isplitl [PX1]; · iexact PX1
  isplitl [T2]; · iexact T2
  isplitl [PX2]; · iexact PX2
  isplitl [T3]; · iexact T3
  isplitl [PX3]; · iexact PX3
  isplitl [T4]; · iexact T4
  isplitl [PX4]; · iexact PX4
  isplitl [T5]; · iexact T5
  isplitl [PX5]; · iexact PX5
  isplitl [T6]; · iexact T6
  isplitl [PX6]; · iexact PX6
  isplitl [T7]; · iexact T7
  isplitl [PA0]; · iexact PA0
  isplitl [G0]; · iexact G0
  isplitl [HO]; · iexact HO
  isplitl [PA1]; · iexact PA1
  isplitl [G1]; · iexact G1
  iexact Rest

set_option maxRecDepth 8000 in
set_option maxHeartbeats 4000000 in
theorem part28 (g : OBuf (F := F))
    {α : Type} {Q : α → sProp 𝕄} {kk : PUnit → Prog (TpuEff nD τ sig (Elt F) Λ₀ .tc) α} :
    iprop(records m K ∗ levAts L lv ∗ st27 m c g) ⊢ iprop((st28 m c g -∗ wp frame (wpE (defs₀ (F := F)) 𝒱₀ (c : Thread nD τ) none) Set.univ (kk ⟨⟩) Q)
      -∗ wp frame (wpE (defs₀ (F := F)) 𝒱₀ (c : Thread nD τ) none) Set.univ (k0_part28 xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11  >>= kk) Q) := by
  simp only [k0_part28_eq_skeleton]; unfold k0_part28_skel
  simp only [semSignalWord, semWaitWord, Prog.lift, Prog.bind_op, Prog.bind_ret, Prog.pure_eq_ret, wp_deviceId]
  unfold st27 st28 fut27
  iintro ⟨#HR, #Hlev, Hw, Ho, PB, Hx, Hb, Kt3, PRf1, Sf1, PRt1, St1, PSf1, PSt1, Kf4, Kt4, Lf, Lt, PCf, PCt, PRf0, Sf0, Ef, PRt0, St0, Et, PSf0, PSt0, CA2, CA3, CA4, CA5, CA6, T0, PX0, T1, PX1, T2, PX2, T3, PX3, T4, PX4, T5, PX5, T6, PX6, T7, PA0, G0, HO, PA1, G1, PA2, PA3, PA4, Rest⟩ Hk
  iapply (wait_axs m K c 2 2 rfl (wpE_waitDma2_eq 𝒱₀ (c : Thread nD τ) none Set.univ) (credit_tile 0)) $$ [CA2 HO PA2]
  · isplitr; · iexact HR
    isplitr; · iexact Hlev
    isplitl [CA2]; · iexact CA2
    isplitl [HO]; · iexact HO
    iexact PA2
  iintro ⟨HO, PA2, G2⟩
  iapply (wait_axs m K c 3 3 rfl (wpE_waitDma2_eq 𝒱₀ (c : Thread nD τ) none Set.univ) (credit_tile 0)) $$ [CA3 HO PA3]
  · isplitr; · iexact HR
    isplitr; · iexact Hlev
    isplitl [CA3]; · iexact CA3
    isplitl [HO]; · iexact HO
    iexact PA3
  iintro ⟨HO, PA3, G3⟩
  iapply (wait_axs m K c 4 4 rfl (wpE_waitDma2_eq 𝒱₀ (c : Thread nD τ) none Set.univ) (credit_tile 0)) $$ [CA4 HO PA4]
  · isplitr; · iexact HR
    isplitr; · iexact Hlev
    isplitl [CA4]; · iexact CA4
    isplitl [HO]; · iexact HO
    iexact PA4
  iintro ⟨HO, PA4, G4⟩
  iapply Hk
  isplitl [Hw]; · iexact Hw
  isplitl [Ho]; · iexact Ho
  isplitl [PB]; · iexact PB
  isplitl [Hx]; · iexact Hx
  isplitl [Hb]; · iexact Hb
  isplitl [Kt3]; · iexact Kt3
  isplitl [PRf1]; · iexact PRf1
  isplitl [Sf1]; · iexact Sf1
  isplitl [PRt1]; · iexact PRt1
  isplitl [St1]; · iexact St1
  isplitl [PSf1]; · iexact PSf1
  isplitl [PSt1]; · iexact PSt1
  isplitl [Kf4]; · iexact Kf4
  isplitl [Kt4]; · iexact Kt4
  isplitl [Lf]; · iexact Lf
  isplitl [Lt]; · iexact Lt
  isplitl [PCf]; · iexact PCf
  isplitl [PCt]; · iexact PCt
  isplitl [PRf0]; · iexact PRf0
  isplitl [Sf0]; · iexact Sf0
  isplitl [Ef]; · iexact Ef
  isplitl [PRt0]; · iexact PRt0
  isplitl [St0]; · iexact St0
  isplitl [Et]; · iexact Et
  isplitl [PSf0]; · iexact PSf0
  isplitl [PSt0]; · iexact PSt0
  isplitl [CA5]; · iexact CA5
  isplitl [CA6]; · iexact CA6
  isplitl [T0]; · iexact T0
  isplitl [PX0]; · iexact PX0
  isplitl [T1]; · iexact T1
  isplitl [PX1]; · iexact PX1
  isplitl [T2]; · iexact T2
  isplitl [PX2]; · iexact PX2
  isplitl [T3]; · iexact T3
  isplitl [PX3]; · iexact PX3
  isplitl [T4]; · iexact T4
  isplitl [PX4]; · iexact PX4
  isplitl [T5]; · iexact T5
  isplitl [PX5]; · iexact PX5
  isplitl [T6]; · iexact T6
  isplitl [PX6]; · iexact PX6
  isplitl [T7]; · iexact T7
  isplitl [PA0]; · iexact PA0
  isplitl [G0]; · iexact G0
  isplitl [PA1]; · iexact PA1
  isplitl [G1]; · iexact G1
  isplitl [PA2]; · iexact PA2
  isplitl [G2]; · iexact G2
  isplitl [PA3]; · iexact PA3
  isplitl [G3]; · iexact G3
  isplitl [HO]; · iexact HO
  isplitl [PA4]; · iexact PA4
  isplitl [G4]; · iexact G4
  iexact Rest

end Cert.WholeRun

end
-- ==== Proof.WholeBody.lean ====
/-
# The whole kernel: one device's run of the body
-/
module

public import proofs.«01_k».proof.Proof.WholePartA
public import proofs.«01_k».proof.Proof.WholePartB
public import proofs.«01_k».proof.Proof.WholePartC
public import proofs.«01_k».proof.Proof.WholePartD

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (K : Dev nD × CK → ℕ) (c : Dev nD)

/-- The positions of the device's cells, each at its start, -/
def posns : sProp 𝕄 := bigSep Finset.univ fun k : CK => posn c k 0
/-- the tokens of the payments it makes, -/
def payToks : sProp 𝕄 := bigSep Finset.univ fun t : Tk => dutyTok ER (paid c t) t.rnd t.duty
abbrev dueSet : Finset Tk := dues.toFinset
/-- and the credits that others pay it. -/
def creds : sProp 𝕄 := bigSep dueSet fun t => cred (tallyAt (cell c t.kind) t.rnd (amt t.kind))

theorem bigSep_CK (Φ : CK → sProp 𝕄) : bigSep Finset.univ Φ = iprop(Φ .bar ∗ Φ (.snd false 0) ∗ Φ (.snd true 0) ∗ Φ (.snd false 1) ∗ Φ (.snd true 1) ∗ Φ (.rcv false 0) ∗ Φ (.rcv true 0) ∗ Φ (.rcv false 1) ∗ Φ (.rcv true 1) ∗ Φ (.crd false) ∗ Φ (.crd true) ∗ Φ (.axs 0) ∗ Φ (.axs 1) ∗ Φ (.axs 2) ∗ Φ (.axs 3) ∗ Φ (.axs 4) ∗ Φ (.axs 5) ∗ Φ (.axs 6) ∗ Φ (.axr 0) ∗ Φ (.axr 1) ∗ Φ (.axr 2) ∗ Φ (.axr 3) ∗ Φ (.axr 4) ∗ Φ (.axr 5) ∗ Φ (.axr 6)) :=
  bigSep_univ_eq_bigSepL CK.all (by decide) (by decide) Φ
set_option maxRecDepth 20000 in
theorem bigSep_Tk (Φ : Tk → sProp 𝕄) : bigSep Finset.univ Φ = iprop(Φ (.bar false) ∗ Φ (.bar true) ∗ Φ (.snd false 0) ∗ Φ (.rcv false 0) ∗ Φ (.snd true 0) ∗ Φ (.rcv true 0) ∗ Φ (.snd false 1) ∗ Φ (.rcv false 1) ∗ Φ (.snd true 1) ∗ Φ (.rcv true 1) ∗ Φ (.snd false 2) ∗ Φ (.rcv false 2) ∗ Φ (.snd true 2) ∗ Φ (.rcv true 2) ∗ Φ (.snd false 3) ∗ Φ (.rcv false 3) ∗ Φ (.snd true 3) ∗ Φ (.rcv true 3) ∗ Φ (.snd false 4) ∗ Φ (.rcv false 4) ∗ Φ (.snd true 4) ∗ Φ (.rcv true 4) ∗ Φ (.snd false 5) ∗ Φ (.rcv false 5) ∗ Φ (.snd true 5) ∗ Φ (.rcv true 5) ∗ Φ (.snd false 6) ∗ Φ (.rcv false 6) ∗ Φ (.snd true 6) ∗ Φ (.rcv true 6) ∗ Φ (.crd false 0) ∗ Φ (.crd true 0) ∗ Φ (.crd false 1) ∗ Φ (.crd true 1) ∗ Φ (.crd false 2) ∗ Φ (.crd true 2) ∗ Φ (.crd false 3) ∗ Φ (.crd true 3) ∗ Φ (.crd false 4) ∗ Φ (.crd true 4) ∗ Φ (.axs 0) ∗ Φ (.axr 0) ∗ Φ (.axs 1) ∗ Φ (.axr 1) ∗ Φ (.axs 2) ∗ Φ (.axr 2) ∗ Φ (.axs 3) ∗ Φ (.axr 3) ∗ Φ (.axs 4) ∗ Φ (.axr 4) ∗ Φ (.axs 5) ∗ Φ (.axr 5) ∗ Φ (.axs 6) ∗ Φ (.axr 6)) :=
  bigSep_univ_eq_bigSepL Tk.all (by decide) (by decide) Φ
set_option maxRecDepth 20000 in
theorem bigSep_dues (Φ : Tk → sProp 𝕄) : bigSep dueSet Φ = iprop(Φ (.bar false) ∗ Φ (.bar true) ∗ Φ (.rcv false 0) ∗ Φ (.rcv true 0) ∗ Φ (.rcv false 1) ∗ Φ (.rcv true 1) ∗ Φ (.crd false 0) ∗ Φ (.crd true 0) ∗ Φ (.rcv false 2) ∗ Φ (.rcv true 2) ∗ Φ (.crd false 1) ∗ Φ (.crd true 1) ∗ Φ (.rcv false 3) ∗ Φ (.rcv true 3) ∗ Φ (.crd false 2) ∗ Φ (.crd true 2) ∗ Φ (.rcv false 4) ∗ Φ (.rcv true 4) ∗ Φ (.crd false 3) ∗ Φ (.crd true 3) ∗ Φ (.rcv false 5) ∗ Φ (.rcv true 5) ∗ Φ (.crd false 4) ∗ Φ (.crd true 4) ∗ Φ (.rcv false 6) ∗ Φ (.rcv true 6) ∗ Φ (.axr 0) ∗ Φ (.axr 1) ∗ Φ (.axr 2) ∗ Φ (.axr 3) ∗ Φ (.axr 4) ∗ Φ (.axr 5) ∗ Φ (.axr 6)) :=
  bigSep_eq_bigSepL_of_eq dues rfl (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_low (Φ : Fin 8 → sProp 𝕄) : bigSep (tset false 0) Φ = iprop(Φ 1 ∗ Φ 2 ∗ Φ 3 ∗ Φ 4) := bigSep_eq_bigSepL_of_eq [1, 2, 3, 4] (by decide) (by decide) Φ
theorem bigSep_high (Φ : Fin 8 → sProp 𝕄) : bigSep (tset true 0) Φ = iprop(Φ 5 ∗ Φ 6 ∗ Φ 7) := bigSep_eq_bigSepL_of_eq [5, 6, 7] (by decide) (by decide) Φ

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The device's cells, each past its last round, close: their counters are at zero. -/
theorem close_cells : iprop(records m K ∗ bigSep Finset.univ fun k : CK => posn c k (nr k)) ⊢ |={Set.univ}=> bigSep Finset.univ fun k : CK => semVal (cell c k) 0 := by
  refine (with_persistent (R := records m K) (Ψ := fun k : CK => iprop(|={Set.univ}=> semVal (cell c k) 0)) fun k _ => ?_).trans (bigSep_fupd _ _)
  unfold posn
  iintro ⟨#HR, Hat, -⟩
  iapply (Rounds.cell_close ER (ringRd m) (Set.mem_univ (K (c, k))) (fun h => h) (R := nr k) (fun r h => duties_done m c k r h))
  isplitr; · iapply (inv_at m K c k); iexact HR
  iexact Hat

/-! ## The tiles -/

theorem tiles_home (b : Bool) (S : Finset (Fin 8)) : (tiles b 0 (nb (!b) c) S : sProp 𝕄) = bigSep S fun d => iprop(∃ X, owns (c : Thread nD τ) (tileM d) fullShare X) := by
  unfold tiles
  show (bigSep S fun d => iprop(∃ X, owns (nb b (nb (!b) c) : Thread nD τ) (tileM d) fullShare X)) = _
  rw [nb_not']

/-- At entry tile 0 stays and the other seven are dealt to the two neighbours. -/
theorem tiles_deal : (axAny c : sProp 𝕄) ⊢ iprop((∃ X, owns (c : Thread nD τ) (tileM 0) fullShare X) ∗ tiles false 0 (nb true c) (tset false 0) ∗ tiles true 0 (nb false c) (tset true 0)) := by
  iintro H
  ihave H := (tiles_split c) $$ H
  ihave H := (Entails.of_eq (bigSep_eight (F := F) _)) $$ H
  icases H with ⟨H0, H1, H2, H3, H4, H5, H6, H7⟩
  isplitl [H0]; · iexact H0
  isplitl [H1 H2 H3 H4]
  · iapply (Entails.of_eq ((tiles_home c false (tset false 0)).trans (bigSep_low (F := F) fun d => iprop(∃ X, owns (c : Thread nD τ) (tileM d) fullShare X))).symm)
    isplitl [H1]; · iexact H1
    isplitl [H2]; · iexact H2
    isplitl [H3]; · iexact H3
    iexact H4
  iapply (Entails.of_eq ((tiles_home c true (tset true 0)).trans (bigSep_high (F := F) fun d => iprop(∃ X, owns (c : Thread nD τ) (tileM d) fullShare X))).symm)
  isplitl [H5]; · iexact H5
  isplitl [H6]; · iexact H6
  iexact H7

theorem rejoin (n : ℕ) (X : FVec F S8x128 .f32) :
    iprop(owns (c : Thread nD τ) (tileM 0) (giv n) X ∗ owns (c : Thread nD τ) (tileM 0) (rem (n + 1)) X) ⊢ (owns (c : Thread nD τ) (tileM 0) (rem n) X : sProp 𝕄) :=
  owns_rejoin (c : Thread nD τ) (tileM 0) X (rem n)

/-! ## The body -/

def bodyPre (g : OBuf (F := F)) : sProp 𝕄 :=
  iprop(records m K ∗ levAts L lv ∗ posns c ∗ payToks c ∗ creds c ∗ owing c dues
    ∗ xPts c (xs m c) ∗ wPts c (ws m c) ∗ oPts c g ∗ (∃ f, bPts' c fullShare f) ∗ ringAny c false ∗ ringAny c true ∗ axAny c)

def bodyPost : sProp 𝕄 :=
  iprop((bigSep Finset.univ fun k : CK => semVal (cell c k) 0) ∗ owing c [] ∗ xPts c (xs m c) ∗ wPts c (ws m c) ∗ oPts c (qF m c)
    ∗ bPts c fullShare (xb m c) ∗ ringAny c false ∗ ringAny c true ∗ axAny c)

set_option maxRecDepth 8000 in
set_option maxHeartbeats 4000000 in
/-- What the body is handed is what its first part starts from. -/
theorem start_state (g : OBuf (F := F)) : bodyPre m K c g ⊢ iprop(records m K ∗ levAts L lv ∗ st0 m c g) := by
  unfold bodyPre posns payToks creds
  rw [bigSep_CK, bigSep_Tk, bigSep_dues]
  iintro ⟨#HR, #Hlev, ⟨PB, PSf0, PSt0, PSf1, PSt1, PRf0, PRt0, PRf1, PRt1, PCf, PCt, PA0, PA1, PA2, PA3, PA4, PA5, PA6, PX0, PX1, PX2, PX3, PX4, PX5, PX6⟩, ⟨TBf, TBt, TSf0, TRf0, TSt0, TRt0, TSf1, TRf1, TSt1, TRt1, TSf2, TRf2, TSt2, TRt2, TSf3, TRf3, TSt3, TRt3, TSf4, TRf4, TSt4, TRt4, TSf5, TRf5, TSt5, TRt5, TSf6, TRf6, TSt6, TRt6, TCf0, TCt0, TCf1, TCt1, TCf2, TCt2, TCf3, TCt3, TCf4, TCt4, TA0, TX0, TA1, TX1, TA2, TX2, TA3, TX3, TA4, TX4, TA5, TX5, TA6, TX6⟩, ⟨CBf, CBt, CRf0, CRt0, CRf1, CRt1, CCf0, CCt0, CRf2, CRt2, CCf1, CCt1, CRf3, CRt3, CCf2, CCt2, CRf4, CRt4, CCf3, CCt3, CRf5, CRt5, CCf4, CCt4, CRf6, CRt6, CX0, CX1, CX2, CX3, CX4, CX5, CX6⟩, HO, Hx, Hw, Ho, Hb, Rf, Rt, Ha⟩
  ihave Ha := (tiles_deal c) $$ Ha
  icases Ha with ⟨T0, Lf, Lt⟩
  ihave CB := (show iprop(cred (tallyAt (cell c .bar) 0 1) ∗ cred (tallyAt (cell c .bar) 0 1)) ⊢ (cred (tallyAt (cell c .bar) 0 2) : sProp 𝕄) from
      (cred_add _ _).2.trans (Entails.of_eq (congrArg cred (tallyAt_add (cell c .bar) 0 1 1)))) $$ [CBf CBt]
  · isplitl [CBf]; · iexact CBf
    iexact CBt
  isplitr; · iexact HR
  isplitr; · iexact Hlev
  unfold st0 fut0 fut1 fut2 fut3 fut4 fut5 fut6 fut7 fut8 fut9 fut10 fut11 fut12 fut13 fut14 fut15 fut16 fut17 fut18 fut19 fut20 fut22 fut23 fut24 fut25 fut26 fut27 fut28
  isplitl [HO]; · iexact HO
  isplitl [Hx]; · iexact Hx
  isplitl [Hw]; · iexact Hw
  isplitl [Ho]; · iexact Ho
  isplitl [Hb]; · iexact Hb
  isplitl [Rf]; · iexact Rf
  isplitl [Rt]; · iexact Rt
  isplitl [Lf]; · iexact Lf
  isplitl [Lt]; · iexact Lt
  isplitl [T0]; · iexact T0
  isplitl [TBf]; · iexact TBf
  isplitl [TBt]; · iexact TBt
  isplitl [CB]; · iexact CB
  isplitl [PB]; · iexact PB
  isplitl [PCf]; · iexact PCf
  isplitl [TSf0]; · iexact TSf0
  isplitl [PSf0]; · iexact PSf0
  isplitl [TRf0]; · iexact TRf0
  isplitl [PCt]; · iexact PCt
  isplitl [TSt0]; · iexact TSt0
  isplitl [PSt0]; · iexact PSt0
  isplitl [TRt0]; · iexact TRt0
  isplitl [CRf0]; · iexact CRf0
  isplitl [PRf0]; · iexact PRf0
  isplitl [CRt0]; · iexact CRt0
  isplitl [PRt0]; · iexact PRt0
  isplitl [TSf1]; · iexact TSf1
  isplitl [PSf1]; · iexact PSf1
  isplitl [TRf1]; · iexact TRf1
  isplitl [TSt1]; · iexact TSt1
  isplitl [PSt1]; · iexact PSt1
  isplitl [TRt1]; · iexact TRt1
  isplitl [CRf1]; · iexact CRf1
  isplitl [PRf1]; · iexact PRf1
  isplitl [CRt1]; · iexact CRt1
  isplitl [PRt1]; · iexact PRt1
  isplitl [TCf0]; · iexact TCf0
  isplitl [TCt0]; · iexact TCt0
  isplitl [CCf0]; · iexact CCf0
  isplitl [CCt0]; · iexact CCt0
  isplitl [TSf2]; · iexact TSf2
  isplitl [TRf2]; · iexact TRf2
  isplitl [TSt2]; · iexact TSt2
  isplitl [TRt2]; · iexact TRt2
  isplitl [CRf2]; · iexact CRf2
  isplitl [CRt2]; · iexact CRt2
  isplitl [TCf1]; · iexact TCf1
  isplitl [TCt1]; · iexact TCt1
  isplitl [CCf1]; · iexact CCf1
  isplitl [CCt1]; · iexact CCt1
  isplitl [TSf3]; · iexact TSf3
  isplitl [TRf3]; · iexact TRf3
  isplitl [TSt3]; · iexact TSt3
  isplitl [TRt3]; · iexact TRt3
  isplitl [CRf3]; · iexact CRf3
  isplitl [CRt3]; · iexact CRt3
  isplitl [TCf2]; · iexact TCf2
  isplitl [TCt2]; · iexact TCt2
  isplitl [CCf2]; · iexact CCf2
  isplitl [CCt2]; · iexact CCt2
  isplitl [TSf4]; · iexact TSf4
  isplitl [TRf4]; · iexact TRf4
  isplitl [TSt4]; · iexact TSt4
  isplitl [TRt4]; · iexact TRt4
  isplitl [CRf4]; · iexact CRf4
  isplitl [CRt4]; · iexact CRt4
  isplitl [TCf3]; · iexact TCf3
  isplitl [TCt3]; · iexact TCt3
  isplitl [CCf3]; · iexact CCf3
  isplitl [CCt3]; · iexact CCt3
  isplitl [TSf5]; · iexact TSf5
  isplitl [TRf5]; · iexact TRf5
  isplitl [TSt5]; · iexact TSt5
  isplitl [TRt5]; · iexact TRt5
  isplitl [CRf5]; · iexact CRf5
  isplitl [CRt5]; · iexact CRt5
  isplitl [TCf4]; · iexact TCf4
  isplitl [TCt4]; · iexact TCt4
  isplitl [CCf4]; · iexact CCf4
  isplitl [CCt4]; · iexact CCt4
  isplitl [TSf6]; · iexact TSf6
  isplitl [TRf6]; · iexact TRf6
  isplitl [TSt6]; · iexact TSt6
  isplitl [TRt6]; · iexact TRt6
  isplitl [CRf6]; · iexact CRf6
  isplitl [CRt6]; · iexact CRt6
  isplitl [TA0]; · iexact TA0
  isplitl [TX0]; · iexact TX0
  isplitl [TA1]; · iexact TA1
  isplitl [TX1]; · iexact TX1
  isplitl [TA2]; · iexact TA2
  isplitl [TX2]; · iexact TX2
  isplitl [TA3]; · iexact TA3
  isplitl [TX3]; · iexact TX3
  isplitl [TA4]; · iexact TA4
  isplitl [TX4]; · iexact TX4
  isplitl [TA5]; · iexact TA5
  isplitl [TX5]; · iexact TX5
  isplitl [TA6]; · iexact TA6
  isplitl [TX6]; · iexact TX6
  isplitl [CX0]; · iexact CX0
  isplitl [PX0]; · iexact PX0
  isplitl [CX1]; · iexact CX1
  isplitl [PX1]; · iexact PX1
  isplitl [CX2]; · iexact CX2
  isplitl [PX2]; · iexact PX2
  isplitl [CX3]; · iexact CX3
  isplitl [PX3]; · iexact PX3
  isplitl [CX4]; · iexact CX4
  isplitl [PX4]; · iexact PX4
  isplitl [CX5]; · iexact CX5
  isplitl [PX5]; · iexact PX5
  isplitl [CX6]; · iexact CX6
  isplitl [PX6]; · iexact PX6
  isplitl [PA0]; · iexact PA0
  isplitl [PA1]; · iexact PA1
  isplitl [PA2]; · iexact PA2
  isplitl [PA3]; · iexact PA3
  isplitl [PA4]; · iexact PA4
  isplitl [PA5]; · iexact PA5
  iexact PA6

set_option maxRecDepth 8000 in
set_option maxHeartbeats 4000000 in
/-- From what the last part leaves: the last two waits and the quantising loop. -/
theorem body_end (g : OBuf (F := F)) (Kt : PUnit → sProp 𝕄) {a : F .f32} (ha : a = amaxG m c) (p : Prog (TpuEff nD τ sig (Elt F) Λ₀ .tc) PUnit)
    (hp : p = Scf.Loop.for k0_t3_loop k0_t3_ok ⟨⟩ (k0_t3_body xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11 a) >>= fun _ => pure ⟨⟩)
    {u₁ v₁ u₂ v₂ : Memref sig .tc .vmem S8x128 .f32} {h₁ : u₁.view.WordExact} {h₂ : v₁.view.WordExact} {h₃ : u₂.view.WordExact} {h₄ : v₂.view.WordExact}
    (e₁ : v₁.view.dmaCredit = NT) (e₂ : v₂.view.dmaCredit = NT) :
    iprop(records m K ∗ levAts L lv ∗ st28 m c g ∗ (bodyPost m c -∗ Kt ⟨⟩))
      ⊢ wp frame (wpE (defs₀ (F := F)) 𝒱₀ (c : Thread nD τ) none) Set.univ
          (.op (.waitDma2 (ax cc0_scratch8 5) u₁ v₁ h₁ h₂) fun _ => .op (.waitDma2 (ax cc0_scratch8 6) u₂ v₂ h₃ h₄) fun _ => p) Kt := by
  subst hp ha
  unfold st28 fut28
  iintro ⟨#HR, #Hlev, ⟨Hw, Ho, PB, Hx, Hb, Kt3, PRf1, Sf1, PRt1, St1, PSf1, PSt1, Kf4, Kt4, Lf, Lt, PCf, PCt, PRf0, Sf0, Ef, PRt0, St0, Et, PSf0, PSt0, CA5, CA6, T0, PX0, T1, PX1, T2, PX2, T3, PX3, T4, PX4, T5, PX5, T6, PX6, T7, PA0, G0, PA1, G1, PA2, G2, PA3, G3, HO, PA4, G4, PA5, PA6⟩, Hk⟩
  iapply (wait_axs m K c 5 5 rfl (wpE_waitDma2_eq 𝒱₀ (c : Thread nD τ) none Set.univ) e₁) $$ [CA5 HO PA5]
  · isplitr; · iexact HR
    isplitr; · iexact Hlev
    isplitl [CA5]; · iexact CA5
    isplitl [HO]; · iexact HO
    iexact PA5
  iintro ⟨HO, PA5, G5⟩
  iapply (wait_axs m K c 6 6 rfl (wpE_waitDma2_eq 𝒱₀ (c : Thread nD τ) none Set.univ) e₂) $$ [CA6 HO PA6]
  · isplitr; · iexact HR
    isplitr; · iexact Hlev
    isplitl [CA6]; · iexact CA6
    isplitl [HO]; · iexact HO
    iexact PA6
  iintro ⟨HO, PA6, G6⟩
  iapply (quant_loop c (amaxG m c) (yF m c)) $$ Ho
  iintro Ho
  ihave T0 := (rejoin c 6 (tileV (amaxL m c))) $$ [G6 T0]
  · isplitl [G6]; · iexact G6
    iexact T0
  ihave T0 := (rejoin c 5 (tileV (amaxL m c))) $$ [G5 T0]
  · isplitl [G5]; · iexact G5
    iexact T0
  ihave T0 := (rejoin c 4 (tileV (amaxL m c))) $$ [G4 T0]
  · isplitl [G4]; · iexact G4
    iexact T0
  ihave T0 := (rejoin c 3 (tileV (amaxL m c))) $$ [G3 T0]
  · isplitl [G3]; · iexact G3
    iexact T0
  ihave T0 := (rejoin c 2 (tileV (amaxL m c))) $$ [G2 T0]
  · isplitl [G2]; · iexact G2
    iexact T0
  ihave T0 := (rejoin c 1 (tileV (amaxL m c))) $$ [G1 T0]
  · isplitl [G1]; · iexact G1
    iexact T0
  ihave T0 := (rejoin c 0 (tileV (amaxL m c))) $$ [G0 T0]
  · isplitl [G0]; · iexact G0
    iexact T0
  imod (close_cells m K c) $$ [PB PSf0 PSt0 PSf1 PSt1 PRf0 PRt0 PRf1 PRt1 PCf PCt PA0 PA1 PA2 PA3 PA4 PA5 PA6 PX0 PX1 PX2 PX3 PX4 PX5 PX6] with Hz
  · isplitr; · iexact HR
    rw [bigSep_CK]
    isplitl [PB]; · iexact PB
    isplitl [PSf0]; · iexact PSf0
    isplitl [PSt0]; · iexact PSt0
    isplitl [PSf1]; · iexact PSf1
    isplitl [PSt1]; · iexact PSt1
    isplitl [PRf0]; · iexact PRf0
    isplitl [PRt0]; · iexact PRt0
    isplitl [PRf1]; · iexact PRf1
    isplitl [PRt1]; · iexact PRt1
    isplitl [PCf]; · iexact PCf
    isplitl [PCt]; · iexact PCt
    isplitl [PA0]; · iexact PA0
    isplitl [PA1]; · iexact PA1
    isplitl [PA2]; · iexact PA2
    isplitl [PA3]; · iexact PA3
    isplitl [PA4]; · iexact PA4
    isplitl [PA5]; · iexact PA5
    isplitl [PA6]; · iexact PA6
    isplitl [PX0]; · iexact PX0
    isplitl [PX1]; · iexact PX1
    isplitl [PX2]; · iexact PX2
    isplitl [PX3]; · iexact PX3
    isplitl [PX4]; · iexact PX4
    isplitl [PX5]; · iexact PX5
    iexact PX6
  rw [Prog.pure_eq_ret, wp_ret]; imodintro
  iapply Hk
  unfold bodyPost
  isplitl [Hz]; · iexact Hz
  isplitl [HO]; · iexact HO
  isplitl [Hx]; · iexact Hx
  isplitl [Hw]; · iexact Hw
  isplitl [Ho]; · iexact Ho
  isplitl [Hb]; · iexact Hb
  isplitl [Sf0 Sf1]
  · iapply (slots_join c false (half m false (orig false 6 c)) (half m false (orig false 5 c)))
    isplitl [Sf0]; · iexact Sf0
    iexact Sf1
  isplitl [St0 St1]
  · iapply (slots_join c true (half m true (orig true 6 c)) (half m true (orig true 5 c)))
    isplitl [St0]; · iexact St0
    iexact St1
  iapply (tiles_join c ![tileV (amaxL m c), tileV (amaxL m (behind 1 c)), tileV (amaxL m (behind 2 c)), tileV (amaxL m (behind 3 c)), tileV (amaxL m (behind 4 c)),
    tileV (amaxL m (behind 5 c)), tileV (amaxL m (behind 6 c)), tileV (amaxL m (behind 7 c))])
  rw [bigSep_eight]
  isplitl [T0]; · iexact T0
  isplitl [T1]; · iexact T1
  isplitl [T2]; · iexact T2
  isplitl [T3]; · iexact T3
  isplitl [T4]; · iexact T4
  isplitl [T5]; · iexact T5
  isplitl [T6]; · iexact T6
  iexact T7

set_option maxRecDepth 8000 in
set_option maxHeartbeats 4000000 in
theorem sound_body (g : OBuf (F := F)) (Kt : PUnit → sProp 𝕄) :
    iprop(bodyPre m K c g ∗ (bodyPost m c -∗ Kt ⟨⟩))
      ⊢ wp frame (wpE (defs₀ (F := F)) 𝒱₀ (c : Thread nD τ) none) Set.univ
          (cc0_body xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11) Kt := by
  simp only [cc0_body_eq_skeleton]; unfold cc0_body_skel
  iintro ⟨H, Hk⟩
  ihave H := (start_state m K c g) $$ H
  icases H with ⟨#HR, #Hlev, HS⟩
  iapply (part1 m K c g) $$ [HS]
  · isplitr; · iexact HR
    isplitr; · iexact Hlev
    iexact HS
  iintro %x1 %h1 HS
  obtain ⟨d0, v2, v4, v6, v22⟩ := x1
  have h1 : d0 = c := h1
  subst d0
  iapply (part2 m K c g _ _ _ _) $$ [HS]
  · isplitr; · iexact HR
    isplitr; · iexact Hlev
    iexact HS
  iintro HS
  iapply (part3 m K c g _ _) $$ [HS]
  · isplitr; · iexact HR
    isplitr; · iexact Hlev
    iexact HS
  iintro HS
  iapply (part4 m K c g _) $$ [HS]
  · isplitr; · iexact HR
    isplitr; · iexact Hlev
    iexact HS
  iintro HS
  iapply (part5 m K c g _ _) $$ [HS]
  · isplitr; · iexact HR
    isplitr; · iexact Hlev
    iexact HS
  iintro HS
  iapply (part6 m K c g _ _) $$ [HS]
  · isplitr; · iexact HR
    isplitr; · iexact Hlev
    iexact HS
  iintro HS
  iapply (part7 m K c g _ _) $$ [HS]
  · isplitr; · iexact HR
    isplitr; · iexact Hlev
    iexact HS
  iintro HS
  iapply (part8 m K c g _) $$ [HS]
  · isplitr; · iexact HR
    isplitr; · iexact Hlev
    iexact HS
  iintro HS
  iapply (part9 m K c g _ _) $$ [HS]
  · isplitr; · iexact HR
    isplitr; · iexact Hlev
    iexact HS
  iintro HS
  iapply (part10 m K c g _ _) $$ [HS]
  · isplitr; · iexact HR
    isplitr; · iexact Hlev
    iexact HS
  iintro HS
  iapply (part11 m K c g _) $$ [HS]
  · isplitr; · iexact HR
    isplitr; · iexact Hlev
    iexact HS
  iintro HS
  iapply (part12 m K c g _ _ _) $$ [HS]
  · isplitr; · iexact HR
    isplitr; · iexact Hlev
    iexact HS
  iintro %x12 %h12 HS
  obtain ⟨v302, c4⟩ := x12
  iapply (part13 m K c g _ _ _ _) $$ [HS]
  · isplitr; · iexact HR
    isplitr; · iexact Hlev
    iexact HS
  iintro HS
  iapply (part14 m K c g _ _) $$ [HS]
  · isplitr; · iexact HR
    isplitr; · iexact Hlev
    iexact HS
  iintro HS
  iapply (part15 m K c g _ _ _) $$ [HS]
  · isplitr; · iexact HR
    isplitr; · iexact Hlev
    iexact HS
  iintro %x15 %h15 HS
  obtain ⟨v377, v378⟩ := x15
  iapply (part16 m K c g _ _ _ _) $$ [HS]
  · isplitr; · iexact HR
    isplitr; · iexact Hlev
    iexact HS
  iintro HS
  iapply (part17 m K c g _ _) $$ [HS]
  · isplitr; · iexact HR
    isplitr; · iexact Hlev
    iexact HS
  iintro HS
  iapply (part18 m K c g _ _ _) $$ [HS]
  · isplitr; · iexact HR
    isplitr; · iexact Hlev
    iexact HS
  iintro %x18 %h18 HS
  obtain ⟨v450, v451, v453⟩ := x18
  have h453 : ∀ W, k0_pay15 v453 W = mm (half m false (orig false 5 c)) W := h18
  iapply (part19 m K c g _ _ _ _ _ h453) $$ [HS]
  · isplitr; · iexact HR
    isplitr; · iexact Hlev
    iexact HS
  iintro HS
  iapply (part20 m K c g _) $$ [HS]
  · isplitr; · iexact HR
    isplitr; · iexact Hlev
    iexact HS
  iintro %x20 %h20 HS
  obtain ⟨v499, v505⟩ := x20
  have h505 : v505 = mm (half m false (orig false 6 c)) (ws m c) := h20
  iapply (part21 m K c g _ _ _ h505) $$ [HS]
  · isplitr; · iexact HR
    isplitr; · iexact Hlev
    iexact HS
  iintro %x21 %h21 HS
  obtain ⟨v518, v524⟩ := x21
  have h518 : v518 = amaxL m c := h21
  iapply (part22 m K c g _) $$ [HS]
  · isplitr; · iexact HR
    isplitr; · iexact Hlev
    iexact HS
  iintro %x22 %h22 HS
  obtain ⟨v536, v548, v560, c1⟩ := x22
  iapply (part23 m K c g _ _ _) $$ [HS]
  · isplitr; · iexact HR
    isplitr; · iexact Hlev
    iexact HS
  iintro %x23 %h23 HS
  obtain ⟨v572, v584⟩ := x23
  iapply (part24 m K c g _ _ _ h518) $$ [HS]
  · isplitr; · iexact HR
    isplitr; · iexact Hlev
    iexact HS
  iintro %x24 %h24 HS
  obtain ⟨v596, v617⟩ := x24
  have h617 : v617 = (Scalar.maximumf (amaxL m c) (amaxL m (behind 1 c))) := h24
  iapply (part25 m K c g _ _ _ _ h617) $$ [HS]
  · isplitr; · iexact HR
    isplitr; · iexact Hlev
    iexact HS
  iintro %x25 %h25 HS
  have h639 : x25 = (Scalar.maximumf (Scalar.maximumf (Scalar.maximumf (amaxL m c) (amaxL m (behind 1 c))) (amaxL m (behind 2 c))) (amaxL m (behind 3 c))) := h25
  iapply (part26 m K c g _ _ _ h639) $$ [HS]
  · isplitr; · iexact HR
    isplitr; · iexact Hlev
    iexact HS
  iintro %x26 %h26 HS
  obtain ⟨v661, v671⟩ := x26
  have h6 : v661 = (Scalar.maximumf (Scalar.maximumf (Scalar.maximumf (Scalar.maximumf (Scalar.maximumf (amaxL m c) (amaxL m (behind 1 c))) (amaxL m (behind 2 c))) (amaxL m (behind 3 c))) (amaxL m (behind 4 c))) (amaxL m (behind 5 c))) ∧ v671 = amaxL m (behind 6 c) := h26
  iapply (part27 m K c g _ _ _ h6.1 h6.2) $$ [HS]
  · isplitr; · iexact HR
    isplitr; · iexact Hlev
    iexact HS
  iintro %x27 %h27 HS
  have h683 : x27 = amaxG m c := h27
  iapply (part28 m K c g) $$ [HS]
  · isplitr; · iexact HR
    isplitr; · iexact Hlev
    iexact HS
  iintro HS
  simp only [Prog.lift, Prog.bind_op, Prog.bind_ret]
  iapply (body_end m K c g Kt h683 _ rfl (credit_tile 0) (credit_tile 0))
  isplitr; · iexact HR
  isplitr; · iexact Hlev
  isplitl [HS]; · iexact HS
  iexact Hk

end Cert.WholeRun

end
-- ==== Proof.WholeGhost.lean ====
/-
# The whole kernel: what the launch deals each device
-/
module

public import proofs.«01_k».proof.Proof.WholeBody

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (c : Dev nD)

/-! ## The kernel's own semaphores -/

abbrev ownK : Fin 24 → CK :=
  ![.snd false 0, .snd true 0, .snd false 1, .snd true 1, .rcv false 0, .rcv true 0, .rcv false 1, .rcv true 1, .crd false, .crd true,
    .axs 0, .axs 1, .axs 2, .axs 3, .axs 4, .axs 5, .axs 6,
    .axr 0, .axr 1, .axr 2, .axr 3, .axr 4, .axr 5, .axr 6]

abbrev osem (i : Fin 24) : SemLoc sig := csem (ownK i)

set_option maxRecDepth 20000 in
theorem ownSemFacts : Pipeline.OwnSemFacts cfg0.spec osem := by decide

/-- At zero, the barrier's counter and the other twenty-four are all the rings' cells. -/
theorem sems_eq : iprop(unscopedSems0 c ∗ Pipeline.ownSems0 (Ix := ℕ) (Name := ℕ) (U := UU) (Lvl := ℕ) (Val := Elt F) (τ := τ) osem c)
    = (bigSep Finset.univ fun k : CK => semVal (cell c k) 0 : sProp 𝕄) := by
  rw [Pipeline.ownSems0_eq_of_list c osem [0, 1, 2, 3, 4, 5, 6, 7, 8, 9, 10, 11, 12, 13, 14, 15, 16, 17, 18, 19, 20, 21, 22, 23] (by decide) (by decide), bigSep_CK]
  unfold unscopedSems0; rw [bigSep_eq_bigSepL_of_eq [SemLoc.reg barS] (by decide) (by decide)]; rfl

/-! ## Cells and tokens at launch -/

theorem kcell_injective : Function.Injective (kcell : Dev nD × CK → GSem nD τ sig) := by
  rintro ⟨c, k⟩ ⟨c', k'⟩ h
  have h1 : c = c' := congrArg (fun g : GSem nD τ sig => g.1.1) h
  subst h1
  exact congrArg (Prod.mk c) (csem_injective (congrArg Prod.snd h : csem k = csem k'))

def ringCells : Finset (GSem nD τ sig) := Finset.univ.map ⟨kcell, kcell_injective⟩

/-- The token of the payment `t` at the device it is paid to. -/
abbrev tokOf (ct : Dev nD × Tk) : GSem nD τ sig × ℕ × Bool := (cell ct.1 ct.2.kind, ct.2.rnd, ct.2.duty)

theorem sl_eq (h h' : Fin 7) (hs : sl h.val = sl h'.val) (hr : h.val / 2 = h'.val / 2) : h = h' := by
  have : h.val % 2 = h'.val % 2 := congrArg Fin.val hs
  exact Fin.ext (by omega)

theorem tk_injective (t t' : Tk) (hk : t.kind = t'.kind) (hr : t.rnd = t'.rnd) (hd : t.duty = t'.duty) : t = t' := by
  rcases t with b | ⟨b, h⟩ | ⟨b, h⟩ | ⟨b, h⟩ | h | h <;> rcases t' with b' | ⟨b', h'⟩ | ⟨b', h'⟩ | ⟨b', h'⟩ | h' | h' <;>
    simp only [Tk.kind, Tk.rnd, Tk.duty] at hk hr hd <;>
    first
    | (injection hk; done)
    | exact congrArg _ hd
    | (injection hk with e1 e2; subst e1; exact congrArg _ (sl_eq _ _ e2 hr))
    | (injection hk with e1; subst e1; exact congrArg _ (Fin.ext hr))
    | (injection hk with e1; exact congrArg _ e1)

theorem tokOf_injective : Function.Injective (tokOf : Dev nD × Tk → GSem nD τ sig × ℕ × Bool) := by
  rintro ⟨c, t⟩ ⟨c', t'⟩ h
  have hk := kcell_injective (a₁ := (c, t.kind)) (a₂ := (c', t'.kind)) (congrArg (fun x : GSem nD τ sig × ℕ × Bool => x.1) h)
  have hd : t.duty = t'.duty := congrArg (fun x : GSem nD τ sig × ℕ × Bool => x.2.2) h
  have hr : t.rnd = t'.rnd := congrArg (fun x : GSem nD τ sig × ℕ × Bool => x.2.1) h
  exact Prod.ext (congrArg (Prod.fst : Dev nD × CK → Dev nD) hk) (tk_injective t t' (congrArg (Prod.snd : Dev nD × CK → CK) hk) hr hd)

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of the payments into device `c`'s own cells. -/
def toks : sProp 𝕄 := bigSep Finset.univ fun t : Tk => dutyTok ER (cell c t.kind) t.rnd t.duty

/-- Its cells at their start. -/
def ats : sProp 𝕄 := bigSep Finset.univ fun k : CK => atPos ER (cell c k) 0 ∅ 0

/-- What the launch element deals device `c`. -/
def G : sProp 𝕄 :=
  iprop((bigSep Finset.univ fun k : CK => roundState ER (ringRd m) (cell c k) 0)
    ∗ (bigSep Finset.univ fun k : CK => reached ER (cell c k) 0) ∗ ats c ∗ toks c)

/-- What the global step makes of it. -/
def G' : sProp 𝕄 := iprop(∃ K, records m K ∗ ats c ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hr']; · iexact Hr'
  isplitl [Hat']; · iexact Hat'
  iexact Htok'

theorem core_alloc :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (cell c k)))
          ∗ (bigSep Finset.univ fun k : CK => reached ER (cell c k) 0) ∗ ats c ∗ toks c) := by
  unfold G
  iintro ⟨Hos, Hus, Hst, Hr, Hat, Htok⟩
  ihave Hv := (Entails.of_eq (sems_eq (F := F) c)) $$ [Hos Hus]
  · isplitl [Hus] <;> iassumption
  imod (show iprop((bigSep Finset.univ fun k : CK => semVal (cell c k) 0) ∗ bigSep Finset.univ fun k : CK => roundState ER (ringRd m) (cell c k) 0)
      ⊢ (|={Set.univ}=> bigSep Finset.univ fun k : CK => iprop(∃ κ : ℕ, cellInv ER (ringRd m) κ (cell c k)) : sProp 𝕄) from by
        rw [← bigSep_sep']
        exact (bigSep_mono fun k _ => (Rounds.body_intro ER (ringRd m) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The tokens go to the devices that make the payments. -/
theorem toks_around : (bigSep Finset.univ fun c : Dev nD => (toks c : sProp 𝕄)) ⊢ bigSep Finset.univ fun c : Dev nD => payToks c := by
  have h (Φ : Dev nD → Tk → sProp 𝕄) : (bigSep Finset.univ fun c : Dev nD => bigSep Finset.univ fun t : Tk => Φ c t)
      = bigSep Finset.univ fun t : Tk => bigSep Finset.univ fun c : Dev nD => Φ c t := by
    rw [← bigSep_univ_prod (fun ct : Dev nD × Tk => Φ ct.1 ct.2), ← bigSep_univ_prod (fun tc : Tk × Dev nD => Φ tc.2 tc.1),
      bigSep_univ_equiv (Equiv.prodComm Tk (Dev nD)) (fun ct : Dev nD × Tk => Φ ct.1 ct.2)]; rfl
  unfold toks payToks
  rw [h, h]
  refine Entails.of_eq (bigSep_congr fun t _ => ?_)
  exact bigSep_univ_equiv (payEquiv t) (fun c : Dev nD => (dutyTok ER (cell c t.kind) t.rnd t.duty : sProp 𝕄))

theorem regroup :
    (bigSep Finset.univ fun c : Dev nD => iprop((bigSep Finset.univ fun k : CK => iprop(∃ κ : ℕ, cellInv ER (ringRd m) κ (cell c k)))
          ∗ (bigSep Finset.univ fun k : CK => reached ER (cell c k) 0) ∗ ats c ∗ toks c) : sProp 𝕄)
      ⊢ bigSep Finset.univ (G' m) := by
  rw [bigSep_sep', bigSep_sep', bigSep_sep', ← bigSep_univ_prod (fun ck : Dev nD × CK => iprop(∃ κ : ℕ, cellInv ER (ringRd m) κ (kcell ck))),
    ← bigSep_univ_prod (fun ck : Dev nD × CK => (reached ER (kcell ck) 0 : sProp 𝕄))]
  iintro ⟨HI, #HR, Hat, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (with_persistent (R := records m K) (Φ := fun c => iprop(ats c ∗ payToks c)) fun c _ => show iprop(records m K ∗ ats c ∗ payToks c) ⊢ G' m c from by
    unfold G'; iintro H; iexists K; iexact H)
  isplitr
  · unfold records; isplitl; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

omit [FloatOps F] [Named F] in
theorem debt_sum (l : List Tk) (h : l.Nodup) : (debt c l : CellTallies nD τ sig ℕ) = ∑ t ∈ l.toFinset, tallyAt (paid c t) t.rnd (amt t.kind) := by
  induction l with
  | nil => rfl
  | cons t l ih =>
    rw [List.toFinset_cons, Finset.sum_insert (by rw [List.mem_toFinset]; exact (List.nodup_cons.mp h).1), ← ih (List.nodup_cons.mp h).2, add_comm]
    rfl

set_option maxRecDepth 20000 in
theorem dues_nodup : dues.Nodup := by decide

/-- What a device's own cells are owed. -/
def owed (d : Dev nD) : CellTallies nD τ sig ℕ := ∑ t ∈ dueSet, tallyAt (cell d t.kind) t.rnd (amt t.kind)

omit [FloatOps F] [Named F] in
theorem sum_owed : (∑ d : Dev nD, debt d dues : CellTallies nD τ sig ℕ) = ∑ d : Dev nD, owed d := by
  rw [Finset.sum_congr rfl fun d _ => debt_sum d dues dues_nodup]
  unfold owed
  rw [Finset.sum_comm, Finset.sum_comm (s := (Finset.univ : Finset (Dev nD))) (t := dueSet)]
  exact Finset.sum_congr rfl fun t _ => Equiv.sum_comp (payEquiv t) fun d => (tallyAt (cell d t.kind) t.rnd (amt t.kind) : CellTallies nD τ sig ℕ)

omit [FloatOps F] [Named F] in
theorem owed_own (d : Dev nD) (g : GSem nD τ sig) (h : owed d g ≠ 0) : g.1 = (d.tc : Thread nD τ) := by
  by_contra hg
  refine h ?_
  unfold owed
  rw [Finset.sum_apply]
  exact Finset.sum_eq_zero fun t _ => tallyOn_ne (fun e => hg (congrArg Prod.fst e)) _

theorem creds_intro : (Pipeline.launchCred (fun d => debt d dues) c : sProp 𝕄) ⊢ creds c :=
  Entails.of_eq ((Pipeline.launchCred_of_sum _ owed sum_owed owed_own c).trans (Pipeline.cred_finsetSum dueSet _))

end Cert.WholeRun

end
-- ==== Proof.WholeLaunch.lean ====
/-
# The whole kernel: the launch, and what the arrays hold at the end
-/
module

public import proofs.«01_k».proof.Proof.WholeGhost
public import Idealize.ShloMosaic.Lib.Quiescent
public import Idealize.ShloMosaic.Lib.Pipeline.CollectiveSegs

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ) (ρ : Dev nD → PrngReg) (c : Dev nD)

/-! ## The proof data -/

def start : sProp 𝕄 := iprop(G' m c ∗ creds c ∗ levAts L lv)

abbrev scratch : sProp 𝕄 := iprop((∃ f, bPts c fullShare f) ∗ ringAny c false ∗ ringAny c true ∗ axAny c)

def Φ₀ : sProp 𝕄 := iprop(start m c ∗ scratch c)
def Φ₁ : sProp 𝕄 := iprop((bigSep Finset.univ fun k : CK => semVal (cell c k) 0) ∗ scratch c)

def dats (_ : Fin 1) (c : Dev nD) : Pipeline.RDat τ (Elt F) ℕ ℕ UU ℕ cfg0 c where
  A w := m ((cfg0.win w).arr.view.loc (c : Thread nD τ))
  after w _ := match w with
    | ⟨0, _⟩ => fun Y X => X = Y
    | ⟨1, _⟩ => fun Y X => X = Y
    | ⟨2, _⟩ => fun _ X => X = qF m c
  Φ t := match t with
    | ⟨0, _⟩ => Φ₀ m c
    | ⟨_ + 1, _⟩ => Φ₁ c
  q _ := fullShare
  owed t := match t with
    | ⟨0, _⟩ => debt c dues
    | ⟨_ + 1, _⟩ => 0

theorem fetch_0 : (cfg0.win (0 : Fin 3)).fetch t0_0 = true := rfl
theorem fetch_1 : (cfg0.win (1 : Fin 3)).fetch t0_0 = true := rfl

theorem finds_x {X} (h : (dats m 0 c).Finds (0 : Fin 3) t0_0 X) : X = xs m c := by
  obtain ⟨d, rfl⟩ := ((dats m 0 c).finds_of_fetch fetch_0 X).mp h; rfl
theorem finds_w {X} (h : (dats m 0 c).Finds (1 : Fin 3) t0_0 X) : X = ws m c := by
  obtain ⟨d, rfl⟩ := ((dats m 0 c).finds_of_fetch fetch_1 X).mp h; rfl

/-- A buffer held whole, at contents `X`. -/
theorem owns_stg (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((Memref.whole b).view.loc (c : Thread nD τ) ↦[(Memref.whole b).view.set]{fullShare} f)) := by
  unfold owns; simp only [Memref.view_whole, View.read_whole]

def stgX (X : (cc0_stg0_0 : Ref sig .tc).ty.Contents (Elt F)) : sProp 𝕄 := iprop(∃ f, ⌜f = X⌝ ∗ xPts c f)
def stgW (X : (cc0_stg1_0 : Ref sig .tc).ty.Contents (Elt F)) : sProp 𝕄 := iprop(∃ f, ⌜f = X⌝ ∗ wPts c f)
def stgO (X : (cc0_stg2_0 : Ref sig .tc).ty.Contents (Elt F)) : sProp 𝕄 := iprop(∃ f, ⌜f = X⌝ ∗ oPts c f)

/-- What the body is handed, -/
def obPre (X : (cc0_stg0_0 : Ref sig .tc).ty.Contents (Elt F)) (W : (cc0_stg1_0 : Ref sig .tc).ty.Contents (Elt F)) (g : (cc0_stg2_0 : Ref sig .tc).ty.Contents (Elt F)) : sProp 𝕄 :=
  iprop(Φ₀ m c ∗ (dats m 0 c).owesAt 0 t0_0.castSucc ∗ stgX c X ∗ stgW c W ∗ stgO c g)
/-- and what it hands back. -/
def obPost (X : (cc0_stg0_0 : Ref sig .tc).ty.Contents (Elt F)) (W : (cc0_stg1_0 : Ref sig .tc).ty.Contents (Elt F)) : sProp 𝕄 :=
  iprop(Φ₁ c ∗ (dats m 0 c).owesAt 0 t0_0.succ ∗ (∃ Z, ⌜Z = X⌝ ∗ stgX c Z) ∗ (∃ Z, ⌜Z = W⌝ ∗ stgW c Z) ∗ (∃ Z, ⌜Z = qF m c⌝ ∗ stgO c Z))

theorem posns_intro (K : Dev nD × CK → ℕ) : iprop(records m K ∗ ats c) ⊢ posns c :=
  (sep_mono_right (Entails.of_eq (by unfold ats; rfl))).trans ((with_persistent (R := records m K) (Ψ := fun k : CK => posn c k 0) fun k _ => by
    iintro ⟨#HR, H⟩
    unfold posn
    isplitl [H]; · iexact H
    iapply (reached_at m K c k); iexact HR).trans (Entails.of_eq (by unfold posns; rfl)))

theorem obligation (g : (cc0_stg2_0 : Ref sig .tc).ty.Contents (Elt F)) :
    obPre m c (xs m c) (ws m c) g
      ⊢ wp frame (wpE (defs₀ (F := F)) 𝒱₀ (c : Thread nD τ) none) Set.univ
          (cc0_body xM (Memref.isWhole_whole _) wM (Memref.isWhole_whole _) oM (Memref.isWhole_whole _) bM (Memref.isWhole_whole _) (Memref.whole cc0_scratch1) (Memref.isWhole_whole _) (Memref.whole cc0_scratch2) (Memref.isWhole_whole _) aM (Memref.isWhole_whole _) cc0_scratch4 cc0_scratch5 cc0_scratch6 cc0_scratch7 cc0_scratch8 cc0_scratch9 cc0_scratch10 cc0_scratch11)
          (fun _ => obPost m c (xs m c) (ws m c)) := by
  unfold obPre Φ₀ start G' stgX stgW stgO
  iintro ⟨⟨⟨⟨%K, #HR, Hat, Htk⟩, Hcr, #Hlev⟩, ⟨%f, Hb⟩, Hf, Ht, Hsp⟩, Ho, ⟨%fx, %hx, Hx⟩, ⟨%fw, %hw, Hw⟩, ⟨%fo, %ho, Hout⟩⟩
  subst hx hw ho
  unfold Pipeline.RDat.owesAt Pipeline.owesWithin
  icases Ho with ⟨%W, -, HO⟩
  ihave Hp := (posns_intro m c K) $$ [Hat]
  · isplitr; · iexact HR
    iexact Hat
  iapply (sound_body m K c fo fun _ => obPost m c (xs m c) (ws m c))
  isplitl
  · unfold bodyPre
    isplitr; · iexact HR
    isplitr; · iexact Hlev
    isplitl [Hp]; · iexact Hp
    isplitl [Htk]; · iexact Htk
    isplitl [Hcr]; · iexact Hcr
    isplitl [HO]; · unfold owing; iexists W; iexact HO
    isplitl [Hx]; · iexact Hx
    isplitl [Hw]; · iexact Hw
    isplitl [Hout]; · iexact Hout
    isplitl [Hb]; · iexists f; iapply (Entails.of_eq (bPts_eq c fullShare f)); iexact Hb
    isplitl [Hf]; · iexact Hf
    isplitl [Ht]; · iexact Ht
    iexact Hsp
  · unfold bodyPost obPost Φ₁ owing
    iintro ⟨Hz, ⟨%W', HO⟩, Hx, Hw, Hout, Hb, Hf, Ht, Hsp⟩
    isplitl [Hz Hb Hf Ht Hsp]
    · isplitl [Hz]; · iexact Hz
      isplitl [Hb]; · iexists (xb m c); iexact Hb
      isplitl [Hf]; · iexact Hf
      isplitl [Ht]; · iexact Ht
      iexact Hsp
    isplitl [HO]
    · unfold Pipeline.RDat.owesAt Pipeline.owesWithin
      iexists W'
      isplitr; · ipureintro; exact fun _ _ => Or.inl trivial
      iexact HO
    unfold stgX stgW stgO
    isplitl [Hx]
    · iexists (xs m c); isplitr; · (ipureintro; rfl)
      iexists (xs m c); isplitr; · (ipureintro; rfl)
      iexact Hx
    isplitl [Hw]
    · iexists (ws m c); isplitr; · (ipureintro; rfl)
      iexists (ws m c); isplitr; · (ipureintro; rfl)
      iexact Hw
    iexists (qF m c); isplitr; · (ipureintro; rfl)
    iexists (qF m c); isplitr; · (ipureintro; rfl)
    iexact Hout

set_option maxRecDepth 8000 in
set_option maxHeartbeats 1000000 in
theorem body_obligation : (dats m 0 c).BodyObligation (defs₀ (F := F)) 𝒱₀ 0 Set.univ := fun t Y hY => by
  obtain rfl := fin_N0 t
  have h0 := finds_x m c (hY (0 : Fin 3))
  have h1 := finds_w m c (hY (1 : Fin 3))
  rw [bigSep_W0, bigSep_W0]
  simp only [owns_stg]
  have h := obligation m c (Y (2 : Fin 3))
  rw [← h0, ← h1] at h
  exact h

/-! ## The launch theorem's side conditions -/

theorem share_eq (w : Fin cfg0.W) : (dats m 0 c).share w = fullShare := by unfold Pipeline.RDat.share; split <;> rfl

theorem start_intro :
    iprop(Pipeline.unscopedRestP Pipeline.Prefetch.none cfg0.spec c (fun b => m ((c : Thread nD τ).loc b)) ∗ levAts L lv
        ∗ Pipeline.launchCred (fun d => debt d dues) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem axAny_eq : (axAny c : sProp 𝕄) = iprop(∃ f : Buf (Elt F) ((c : Thread nD τ).loc cc0_scratch3), ((c : Thread nD τ).loc cc0_scratch3) ↦{fullShare} f) := by
  unfold axAny; rw [View.set_whole]

theorem scratch_eq : (Pipeline.scopedRest cfg0.spec c : sProp 𝕄) = scratch c := by
  rw [scopedRest0_eq, ← ringAny_false, ← ringAny_true, ← axAny_eq]

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  unfold Φ₁
  rw [← sems_eq]
  iintro ⟨⟨Hu, Hz⟩, Hr⟩
  isplitl [Hu]; · iexact Hu
  isplitl [Hz]; · iexact Hz
  iexact Hr

theorem mayWait_stage (q : DmaSem sig) (hq : ∀ k, csem k ≠ .dma q) : (levAts L lv : sProp 𝕄) ⊢ MayWait (c : Thread nD τ) (.dma q) 0 (debt c dues) :=
  mayWait c (.dma q) 0 (by decide) dues fun t ht => by
    have h : kof (.dma q) = none := by unfold kof; rw [dif_neg (fun ⟨k, hk⟩ => hq k hk)]
    rw [h]; revert t; decide

theorem waits : (levAts L lv : sProp 𝕄) ⊢ Pipeline.RDat.cellsWaits cfgs (dats m) 0 0 c :=
  Pipeline.RDat.cellsWaits_intro cfgs (dats m) 0 0 c fun w s t => by
    rcases t with ⟨_ | _, ht⟩
    · exact mayWait_stage c _ (by fin_cases w <;> fin_cases s <;> decide)
    · rw [show (dats m 0 c).owed ⟨_ + 1, ht⟩ = 0 from rfl, MayWait_zero]; iintro -; iempintro

/-! ## The run -/

/-- The final memory: the arguments as they were, the result's array holding the quantised product's columns. -/
def Final (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ (win0_2.blk (0 : Fin 1)).view.read (Elt F) (r.2.mem ((c : Thread nD τ).loc main_v1)) = qF m c

theorem final_of (s : MemSt nD τ sig (Elt F))
    (h : ∀ c : Dev nD, ∀ w, (dats m 0 c).ArrAt w cfg0.N (s.mem ((cfg0.win w).arr.view.loc (c : Thread nD τ)))) : Final m (⟨⟩, s) := fun c => by
  refine ⟨?_, ?_, ?_⟩
  · have h0 := h c (0 : Fin 3); rw [(dats m 0 c).ArrAt_in (0 : Fin 3) rfl] at h0; exact h0
  · have h0 := h c (1 : Fin 3); rw [(dats m 0 c).ArrAt_in (1 : Fin 3) rfl] at h0; exact h0
  · have h0 := h c (2 : Fin 3)
    rw [show cfg0.N = (t0_0 : Fin cfg0.N).val + 1 from N_0, (dats m 0 c).ArrAt_succ (2 : Fin 3) t0_0, if_pos (by rfl)] at h0
    obtain ⟨G₀, X, -, ⟨Y, -, hX⟩, hG⟩ := h0
    have e : (win0_2.blk (0 : Fin 1)).view.read (Elt F) (s.mem ((c : Thread nD τ).loc main_v1)) = X :=
      (congrArg _ hG).trans (View.read_write_univ _ _)
    rw [e]; exact hX

set_option maxRecDepth 8000 in
set_option maxHeartbeats 800000 in
/-- From any memory with zero counters every fair execution terminates, with that in the result's array, the
    arguments unchanged and every counter at zero. -/
theorem run_main : θ_run defs (onTc (τ := τ) (main (F := F))) ⟨m, fun _ => 0, ρ⟩ (fun r => Final m r ∧ r.2.sem = fun _ => 0) :=
  Pipeline.RDat.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => debt d dues) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨final_of m s fun c w => (h c).1 w, sem_eq_zero hs fun c => (h c).2.2⟩)

end Cert.WholeRun

end
-- ==== Proof.WholeMath.lean ====
/-
# The whole kernel: quantising with the largest magnitude, in extended reals
-/
module

public import Idealize.ShloMosaic.PureOps.Ideal
public import Idealize.ShloMosaic.PureOps.Ideal.Laws
public import Idealize.ShloMosaic.PureOps.Reduce
public import Idealize.ShloMosaic.Lib.Pipeline.Value

@[expose] public section

noncomputable section

namespace Cert.WholeMath

open Idealize.ShloMosaic

/-! ## Constants -/

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul, -EReal.coe_neg]; norm_num

theorem ofBits_bot : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

/-! ## Magnitudes -/

/-- The magnitude of an extended real. -/
def mag (x : EReal) : EReal := max x (-x)

theorem mag_nonneg (x : EReal) : 0 ≤ mag x := by
  rcases le_total 0 x with h | h
  · exact h.trans (le_max_left _ _)
  · exact (EReal.neg_nonneg.mpr h).trans (le_max_right _ _)

/-- The largest of a matrix's elements, as the bound it is. -/
theorem reduce_le {p q : ℕ} (f : FVec Ideal ⟨2, ![p, q]⟩ .f32) (hc : (⟨2, ![p, q]⟩ : Shape).ShapeCasts ⟨3, ![1, p, q]⟩)
    (hr : (⟨3, ![1, p, q]⟩ : Shape).Reduces [1, 2] ⟨1, ![1]⟩) (hφ : FKind.Formats .f32) (hacc : (0xFF800000#32 : BitVec 32) = FKind.maximumf.neutral .f32 hφ)
    (j : (⟨1, ![1]⟩ : Shape).Idx) (u : EReal) :
    (multiReduction .maximumf [1, 2] ⟨1, ![1]⟩ (shapeCast ⟨3, ![1, p, q]⟩ f hc) 0xFF800000#32 hr hφ hacc j : EReal) ≤ u ↔ ∀ i, (f i : EReal) ≤ u := by
  rw [multiReduction_maximumf_eq_fold]
  refine (Finset.fold_max_le (β := EReal) (b := Ideal.ofBits .f32 0xFF800000#32) (f := fun i => (shapeCast ⟨3, ![1, p, q]⟩ f hc i : EReal)) u).trans ?_
  rw [ofBits_bot]
  have hs : ∀ a b : (⟨1, ![1]⟩ : Shape).Idx, a = b := fun a b => funext fun x => by
    match x with
    | ⟨0, _⟩ => exact Subsingleton.elim (α := Fin 1) _ _
  constructor
  · rintro ⟨-, h⟩ i
    have h1 := h ((Shape.reshapeEquiv hc).symm i) (Finset.mem_filter.mpr ⟨Finset.mem_univ _, hs _ _⟩)
    unfold shapeCast at h1
    rwa [Equiv.apply_symm_apply] at h1
  · intro h
    exact ⟨bot_le, fun i _ => h _⟩

/-- The same, of magnitudes. -/
theorem top_le {p q : ℕ} (f : FVec Ideal ⟨2, ![p, q]⟩ .f32) (hc : (⟨2, ![p, q]⟩ : Shape).ShapeCasts ⟨3, ![1, p, q]⟩)
    (hr : (⟨3, ![1, p, q]⟩ : Shape).Reduces [1, 2] ⟨1, ![1]⟩) (hφ : FKind.Formats .f32) (hacc : (0xFF800000#32 : BitVec 32) = FKind.maximumf.neutral .f32 hφ)
    (h1 : (⟨1, ![1]⟩ : Shape).ShapeCasts ⟨3, ![1, 1, 1]⟩) (h2 : ∀ a, (![0, 0, 0] : Fin 3 → ℕ) a < (⟨3, ![1, 1, 1]⟩ : Shape).size a) (u : EReal) :
    (extractAt ![0, 0, 0] (shapeCast ⟨3, ![1, 1, 1]⟩ (multiReduction .maximumf [1, 2] ⟨1, ![1]⟩ (shapeCast ⟨3, ![1, p, q]⟩ (absf f) hc) 0xFF800000#32 hr hφ hacc) h1) h2 : EReal) ≤ u
      ↔ ∀ i, mag (f i) ≤ u :=
  reduce_le (absf f) hc hr hφ hacc _ u

theorem maximumf_le (a b : Ideal .f32) (u : EReal) : (Scalar.maximumf a b : EReal) ≤ u ↔ (a : EReal) ≤ u ∧ (b : EReal) ≤ u := max_le_iff

/-! ## Quantising and back -/

/-- Scaling by `448 / a` and back by `a · (1/448)` is dividing by `a / 448`, clipping to `±448` and multiplying by
    `a / 448`, where no magnitude is over `a`. -/
theorem dequant (y a : EReal) (h : mag y ≤ a) :
    y * Ideal.div ((448 : ℝ) : EReal) a * (a * ((448⁻¹ : ℝ) : EReal))
      = min ((448 : ℝ) : EReal) (max ((-448 : ℝ) : EReal) (Ideal.div y (Ideal.div a ((448 : ℝ) : EReal)))) * Ideal.div a ((448 : ℝ) : EReal) := by
  have ha : 0 ≤ a := (mag_nonneg y).trans h
  rw [Ideal.div_coe (show (448 : ℝ) ≠ 0 by norm_num) a, one_div]
  induction a with
  | bot => exact absurd ha (by simp)
  | top =>
    have t : (⊤ : EReal) * ((448⁻¹ : ℝ) : EReal) = ⊤ := EReal.top_mul_coe_of_pos (by norm_num)
    rw [t, Ideal.div, if_neg (by simp), Ideal.div, if_neg (by simp), EReal.inv_top, mul_zero, mul_zero, zero_mul,
      max_eq_right (by exact_mod_cast (by norm_num : (-448 : ℝ) ≤ 0)), min_eq_right (by exact_mod_cast (by norm_num : (0 : ℝ) ≤ 448)), zero_mul]
  | coe r =>
    have hr : 0 ≤ r := by exact_mod_cast ha
    have h1 : y ≤ (r : EReal) := (le_max_left _ _).trans h
    have h2 : -y ≤ (r : EReal) := (le_max_right _ _).trans h
    induction y with
    | bot => exact absurd h2 (by simp)
    | top => exact absurd h1 (by simp)
    | coe s =>
      have h1 : s ≤ r := by exact_mod_cast h1
      have h2 : -s ≤ r := by exact_mod_cast h2
      rcases hr.eq_or_lt with rfl | hr
      · have hs : s = 0 := le_antisymm h1 (by linarith)
        subst hs
        simp
      · have e : ((r : EReal) * ((448⁻¹ : ℝ) : EReal)) = ((r * 448⁻¹ : ℝ) : EReal) := (EReal.coe_mul _ _).symm
        have hne : r * 448⁻¹ ≠ 0 := by positivity
        rw [e, Ideal.div_coe hr.ne', Ideal.div_coe hne]
        have b1 : -448 ≤ s * (1 / (r * 448⁻¹)) := by
          rw [mul_one_div, le_div_iff₀ (by positivity)]; nlinarith
        have b2 : s * (1 / (r * 448⁻¹)) ≤ 448 := by
          rw [mul_one_div, div_le_iff₀ (by positivity)]; nlinarith
        have c1 : (s : EReal) * ((1 / (r * 448⁻¹) : ℝ) : EReal) = ((s * (1 / (r * 448⁻¹)) : ℝ) : EReal) := (EReal.coe_mul _ _).symm
        rw [c1, max_eq_right (by exact_mod_cast b1), min_eq_right (by exact_mod_cast b2)]
        simp only [← EReal.coe_mul]
        congr 1
        field_simp

end Cert.WholeMath

end
-- ==== Proof.WholeAmax.lean ====
/-
# The whole kernel: the largest magnitude, as the bound it is
-/
module

public import proofs.«01_k».proof.Proof.WholeOut
public import proofs.«01_k».proof.Proof.WholeMath
public import Idealize.ShloMosaic.Lib.Pointwise

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Cert.WholeMath

/-- One block's largest magnitude, taken into the largest so far. -/
theorem pay19_le (a : Ideal .f32) (v : Vec Ideal S256x1024 .f32) (u : EReal) :
    (k0_pay19 a v : EReal) ≤ u ↔ (a : EReal) ≤ u ∧ ∀ j, mag (v j) ≤ u := by
  unfold k0_pay19
  simp only [shapeCast_self]
  rw [maximumf_le]
  exact and_congr_right fun _ => top_le v _ _ _ _ _ _ u

theorem blkA_emb (k : Fin k0_t2_loop.trips) (j : S256x1024.Idx) :
    ((blkA k).emb j 0).val = 256 * k.val + (j 0).val ∧ ((blkA k).emb j 1).val = (j 1).val := by
  have h0 : (k0_off5 k) 0 = 256 * k.val := by rw [k0_off5_eq]; rfl
  have h1 : (k0_off5 k) 1 = 0 := by rw [k0_off5_eq]; rfl
  rw [Rect.emb_apply, Rect.emb_apply]
  constructor
  · show (k0_off5 k) 0 + 1 * (j 0).val = _
    omega
  · show (k0_off5 k) 1 + 1 * (j 1).val = _
    omega

/-- The largest magnitude of the first `k` blocks of rows, -/
theorem amaxTo_le (f : OBuf (F := Ideal)) (u : EReal) (k : ℕ) (hk : k ≤ 16) :
    (amaxTo f k : EReal) ≤ u ↔ 0 ≤ u ∧ ∀ i : S4096x1024.Idx, (i 0).val < 256 * k → mag (f i) ≤ u := by
  induction k with
  | zero =>
    unfold amaxTo
    rw [show (Scalar.ofBits .f32 0x00000000#32 : Ideal .f32) = (0 : EReal) from ofBits_zero]
    exact ⟨fun h => ⟨h, fun i hi => absurd hi (Nat.not_lt_zero _)⟩, fun h => h.1⟩
  | succ k ih =>
    unfold amaxTo
    have hk' : k < k0_t2_loop.trips := by rw [trips2_eq]; omega
    rw [dif_pos hk', pay19_le, ih (by omega)]
    constructor
    · rintro ⟨⟨h0, h1⟩, h2⟩
      refine ⟨h0, fun i hi => ?_⟩
      by_cases hlt : (i 0).val < 256 * k
      · exact h1 i hlt
      · have he := blkA_emb ⟨k, hk'⟩ (ix2 ⟨(i 0).val - 256 * k, by omega⟩ (i 1))
        have e : (blkA ⟨k, hk'⟩).emb (ix2 ⟨(i 0).val - 256 * k, by omega⟩ (i 1)) = i := by
          funext a
          match a with
          | ⟨0, _⟩ => exact Fin.ext (he.1.trans (show 256 * k + ((i 0).val - 256 * k) = (i 0).val by omega))
          | ⟨1, _⟩ => exact Fin.ext he.2
        have h3 := h2 (ix2 ⟨(i 0).val - 256 * k, by omega⟩ (i 1))
        have h4 : mag (f ((blkA ⟨k, hk'⟩).emb (ix2 ⟨(i 0).val - 256 * k, by omega⟩ (i 1)))) ≤ u := h3
        rwa [e] at h4
    · rintro ⟨h0, h1⟩
      refine ⟨⟨h0, fun i hi => h1 i (by omega)⟩, fun j => ?_⟩
      have hj : (j 0).val < 256 := (j 0).isLt
      have he := (blkA_emb ⟨k, hk'⟩ j).1
      exact h1 ((blkA ⟨k, hk'⟩).emb j) (he.trans_lt (show 256 * k + (j 0).val < _ by omega))

variable (m : (ℓ : Loc nD τ sig) → Buf (Elt Ideal) ℓ)

/-- of a device's columns, -/
theorem amaxL_le (c : Dev nD) (u : EReal) : (amaxL m c : EReal) ≤ u ↔ 0 ≤ u ∧ ∀ i, mag (yF m c i) ≤ u := by
  unfold amaxL
  rw [trips2_eq, amaxTo_le _ _ _ le_rfl]
  exact and_congr_right fun _ => ⟨fun h i => h i (show (i 0).val < 4096 from (i 0).isLt), fun h i _ => h i⟩

theorem all_behind : ∀ (c d : Dev nD), d = c ∨ d = behind 1 c ∨ d = behind 2 c ∨ d = behind 3 c ∨ d = behind 4 c ∨ d = behind 5 c ∨ d = behind 6 c ∨ d = behind 7 c := by
  decide

/-- and of all devices' columns. -/
theorem amaxG_le (c : Dev nD) (u : EReal) : (amaxG m c : EReal) ≤ u ↔ 0 ≤ u ∧ ∀ d i, mag (yF m d i) ≤ u := by
  have h : (amaxG m c : EReal) ≤ u ↔ ∀ d, (amaxL m d : EReal) ≤ u := by
    unfold amaxG
    simp only [maximumf_le]
    constructor
    · rintro ⟨⟨⟨⟨⟨⟨⟨h0, h1⟩, h2⟩, h3⟩, h4⟩, h5⟩, h6⟩, h7⟩ d
      rcases all_behind c d with e | e | e | e | e | e | e | e
      · rw [e]; exact h0
      · rw [e]; exact h1
      · rw [e]; exact h2
      · rw [e]; exact h3
      · rw [e]; exact h4
      · rw [e]; exact h5
      · rw [e]; exact h6
      · rw [e]; exact h7
    · intro h
      exact ⟨⟨⟨⟨⟨⟨⟨h _, h _⟩, h _⟩, h _⟩, h _⟩, h _⟩, h _⟩, h _⟩
  rw [h]
  constructor
  · intro h
    exact ⟨((amaxL_le m c u).mp (h c)).1, fun d => ((amaxL_le m d u).mp (h d)).2⟩
  · intro h d
    exact (amaxL_le m d u).mpr ⟨h.1, h.2 d⟩

/-! ## Quantising at an index -/

theorem pay1_apply (a : Ideal .f32) (v : Vec Ideal S128x1024 .f32) (j : S128x1024.Idx) :
    (k0_pay1 a v j : EReal) = (v j : EReal) * Ideal.div ((448 : ℝ) : EReal) a * ((a : EReal) * ((448⁻¹ : ℝ) : EReal)) := by
  unfold k0_pay1
  show (shapeCast S128x1024 v shapeCasts_S128x1024_S128x1024 j : EReal) * Ideal.div (Ideal.ofBits .f32 0x43E00000#32) a
    * ((a : EReal) * (Named.named (F := Ideal) κ "inv448" (φ := .f32) 0x3B124925#32 : EReal)) = _
  rw [shapeCast_self, ofBits_448, show (Named.named (F := Ideal) κ "inv448" (φ := .f32) 0x3B124925#32 : EReal) = ((448⁻¹ : ℝ) : EReal) from
    IdealRules.named_const.ideal_named_scalar _ _ _ _ rfl]

theorem quant_apply (a : Ideal .f32) (f : OBuf (F := Ideal)) (i : S4096x1024.Idx) (y : EReal) (hy : y = f i) :
    (quant a f i : EReal) = y * Ideal.div ((448 : ℝ) : EReal) a * ((a : EReal) * ((448⁻¹ : ℝ) : EReal)) := by
  unfold quant
  rw [pay1_apply]
  have e : (blkQ (blkOf i)).emb (inBlk i) = i := by
    funext x
    match x with
    | ⟨0, _⟩ => exact Fin.ext ((blkQ_emb0 _ _).trans (show 128 * ((i 0).val / 128) + (i 0).val % 128 = (i 0).val by omega))
    | ⟨1, _⟩ => exact Fin.ext (blkQ_emb1 _ _)
  have h : oM.view.readAt (Elt Ideal) (blkQ (blkOf i)).toLoadRect f (inBlk i) = y := (congrArg f e).trans hy.symm
  rw [h]

end Cert.WholeRun

end
-- ==== Proof.QuantisedRun.lean ====
/-
# The whole reference's run: the product, quantised with its largest magnitude
-/
module

public import proofs.«01_k».proof.Proof.Gen.QuantisedIdeal.Value
public import proofs.«01_k».proof.Proof.WholeMath
public import Idealize.ShloMosaic.PureOps.Ideal
public import Idealize.ShloMosaic.Lib.Claim
public import Idealize.ShloMosaic.Lib.Pointwise
public import Idealize.ShloMosaic.Lib.Pipeline.ValueKit.Geometry

@[expose] public section

noncomputable section

namespace Cert.QuantisedRun

open Cert.QuantisedIdeal Cert.QuantisedIdeal.Gen Cert.WholeMath

open Idealize.ShloMosaic
open Idealize.ShloMosaic.TcCoe
open Idealize.SL.Sem

variable (m : (ℓ : Loc nD τ sig) → Buf (Elt Ideal) ℓ) (ρ : Dev nD → PrngReg)

/-- The two argument matrices, -/
def left : FVec Ideal S4096x4096 .f32 := m (((0 : Dev nD).tc : Thread nD τ).loc main_arg0)
def right : FVec Ideal S4096x8192 .f32 := m (((0 : Dev nD).tc : Thread nD τ).loc main_arg1)

/-- their product, -/
def product : FVec Ideal S4096x8192 .f32 :=
  Host.dotGeneral dot_S4096x4096_S4096x8192_S4096x8192_1_0_0_1_n_n none (left m) (right m)

theorem product_apply (r : Fin 4096) (j : Fin 8192) : product m (ix2 r j) = ∑ k : Fin 4096, left m (ix2 r k) * right m (ix2 k j) := by
  unfold product
  pointwise

/-- the product's largest magnitude, -/
def top (f : FVec Ideal S4096x8192 .f32) : EReal :=
  extractAt ![0, 0, 0] (shapeCast S1x1x1 (multiReduction .maximumf [1, 2] S1 (shapeCast S1x4096x8192 (absf f) shapeCasts_S4096x8192_S1x4096x8192)
    0xFF800000#32 reduces_S1x4096x8192_S1 (.inl rfl) rfl) shapeCasts_S1_S1x1x1) inpos_S1x1x1_p0_0_0

theorem top_le (f : FVec Ideal S4096x8192 .f32) (u : EReal) : top f ≤ u ↔ ∀ i, mag (f i) ≤ u :=
  WholeMath.top_le f _ _ _ _ _ _ u

/-- and the product quantised with it. -/
def result : FVec Ideal S4096x8192 .f32 := k0_pay1 (product m)

theorem result_apply (i : S4096x8192.Idx) :
    (result m i : EReal) = min ((448 : ℝ) : EReal) (max ((-448 : ℝ) : EReal) (Ideal.div (product m i) (Ideal.div (top (product m)) ((448 : ℝ) : EReal))))
      * Ideal.div (top (product m)) ((448 : ℝ) : EReal) := by
  rw [← ofBits_448, ← ofBits_neg448]
  unfold result k0_pay1
  simp only [shapeCast_self]
  rfl

theorem entry : V m 0 main_v0 = product m := by
  show StableHlo.after hostOps0 (fun b => m (0, b)) _ = _
  unfold hostOps0
  after_results
  rfl

theorem blk_in : iblk m 0 0 (0 : Fin 1) = product m := by
  funext i
  show V m 0 main_v0 _ = _
  rw [entry]
  refine congrArg (product m) (funext fun a => ?_)
  match a with
  | ⟨0, _⟩ => exact Fin.ext (win0_0.rect_emb_val_of_index_zero (0 : Fin 1) 0 rfl i)
  | ⟨1, _⟩ => exact Fin.ext (win0_0.rect_emb_val_of_index_zero (0 : Fin 1) 1 rfl i)

theorem r0_emb (i : S4096x8192.Idx) : (r0_0.emb i : S4096x8192.Idx) = i := by
  funext a
  match a with
  | ⟨0, _⟩ => exact Fin.ext ((ValueKit.rect_emb_unit_val _ _ _ _ 0).trans (Nat.zero_add _))
  | ⟨1, _⟩ => exact Fin.ext ((ValueKit.rect_emb_unit_val _ _ _ _ 1).trans (Nat.zero_add _))

theorem out_eq (x : Vec Ideal S4096x8192 .f32) : out0_1 x = k0_pay1 x := by
  have hl : View.ld x r0_0 = x := funext fun i => congrArg x (r0_emb i)
  unfold out0_1
  rw [hl]
  funext i
  conv_lhs => rw [← r0_emb i]
  exact View.canon_cons_emb ..

/-- The one block is the whole array. -/
theorem whole_out (f g : FVec Ideal S4096x8192 .f32)
    (h : ((cfg0.win 1).blk (0 : Fin 1)).view.read (Elt Ideal) f = (cfg0.win 1).cut (grid0.coords (0 : Fin 1)) g) : f = g := by
  funext i
  have e : (((cfg0.win 1).blk (0 : Fin 1)).view.emb i : S4096x8192.Idx) = i := by
    funext a
    match a with
    | ⟨0, _⟩ => exact Fin.ext (win0_1.rect_emb_val_of_index_zero (0 : Fin 1) 0 rfl i)
    | ⟨1, _⟩ => exact Fin.ext (win0_1.rect_emb_val_of_index_zero (0 : Fin 1) 1 rfl i)
  exact (congrArg f e.symm).trans (congrFun h i)

theorem final : (dats m 0 0).arrAt 1 cfg0.N = result m := by
  have h := (Value.blocks1 m 0 (0 : Fin 1) (by decide +kernel)).trans (Value.flushed1 m 0 (0 : Fin 1))
  rw [blk_in, out_eq] at h
  exact whole_out _ _ h

/-- Every run ends with the quantised product in the result and both arguments as they were. -/
theorem run : θ_run (defs (F := Ideal)) (onTc (τ := τ) (main (F := Ideal))) ⟨m, fun _ => 0, ρ⟩ (fun r =>
    r.2.mem (((0 : Dev nD).tc : Thread nD τ).loc main_v1) = result m
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)) :=
  θ_run_mono (Value.run_blocks m ρ) fun r hr => ⟨(hr 0).1.trans (final m), (hr 0).2.1, (hr 0).2.2⟩

end Cert.QuantisedRun

end
-- ==== Proof.WholeValue.lean ====
/-
# The whole kernel: its result as columns of the quantised product
-/
module

public import proofs.«01_k».proof.Proof.WholeAmax
public import proofs.«01_k».proof.Proof.QuantisedRun
public import Idealize.ShloMosaic.Lib.Pointwise
public import Idealize.ShloMosaic.Lib.Layout
public import Idealize.ShloMosaic.Lib.Pipeline.ValueKit.Geometry

@[expose] public section

noncomputable section

namespace Cert.WholeRun

open Cert.CreditsIdeal Cert.CreditsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Cert.WholeMath

/-! ## Reads of whole arrays and of halves -/

theorem pt_ext {p q : ℕ} {x y : (⟨2, ![p, q]⟩ : Shape).Idx} (h0 : (x 0).val = (y 0).val) (h1 : (x 1).val = (y 1).val) : x = y :=
  funext fun a => by
    match a with
    | ⟨0, _⟩ => exact Fin.ext h0
    | ⟨1, _⟩ => exact Fin.ext h1

variable (m : (ℓ : Loc nD τ sig) → Buf (Elt Ideal) ℓ) (c : Dev nD)

theorem xb_eq : xb m c = m ((c : Thread nD τ).loc main_arg0) :=
  (show xb m c = xs m c from rfl).trans (funext fun i =>
    congrArg (m ((c : Thread nD τ).loc main_arg0)) (pt_ext (p := 512) (q := 4096)
      (win0_0.rect_emb_val_of_index_zero (0 : Fin 1) 0 rfl i) (win0_0.rect_emb_val_of_index_zero (0 : Fin 1) 1 rfl i)))

theorem ws_eq : ws m c = m ((c : Thread nD τ).loc main_arg1) := by
  funext i
  exact congrArg (m ((c : Thread nD τ).loc main_arg1)) (pt_ext (p := 4096) (q := 1024)
    (win0_1.rect_emb_val_of_index_zero (0 : Fin 1) 0 rfl i) (win0_1.rect_emb_val_of_index_zero (0 : Fin 1) 1 rfl i))

theorem out_eq (f : Buf (Elt Ideal) ((c : Thread nD τ).loc main_v1)) : (win0_2.blk (0 : Fin 1)).view.read (Elt Ideal) f = f := by
  funext i
  exact congrArg f (pt_ext (p := 4096) (q := 1024)
    (win0_2.rect_emb_val_of_index_zero (0 : Fin 1) 0 rfl i) (win0_2.rect_emb_val_of_index_zero (0 : Fin 1) 1 rfl i))

theorem half_apply (b : Bool) (r : Fin 256) (k : Fin 4096) (i : S512x4096.Idx) (h0 : (i 0).val = (if b then 256 else 0) + r.val) (h1 : (i 1).val = k.val) :
    half m b c (ix2 r k) = m ((c : Thread nD τ).loc main_arg0) i := by
  rw [← xb_eq m c]
  cases b
  · exact congrArg (xb m c) (pt_ext (p := 512) (q := 4096) ((ValueKit.rect_emb_unit_val _ _ _ _ 0).trans h0.symm)
      ((ValueKit.rect_emb_unit_val _ _ _ _ 1).trans ((Nat.zero_add _).trans h1.symm)))
  · exact congrArg (xb m c) (pt_ext (p := 512) (q := 4096) ((ValueKit.rect_emb_unit_val _ _ _ _ 0).trans h0.symm)
      ((ValueKit.rect_emb_unit_val _ _ _ _ 1).trans ((Nat.zero_add _).trans h1.symm)))

/-! ## Products at an index -/

theorem pay3_apply (X : Vec Ideal S512x4096 .bf16) (W : Vec Ideal S4096x1024 .f32) (r : Fin 512) (j : Fin 1024) :
    k0_pay3 X W (ix2 r j) = ∑ k : Fin 4096, X (ix2 r k) * W (ix2 k j) := by
  unfold k0_pay3
  pointwise

theorem mm_apply (X : FVec Ideal S256x4096 .bf16) (W : Vec Ideal S4096x1024 .f32) (r : Fin 256) (j : Fin 1024) :
    mm X W (ix2 r j) = ∑ k : Fin 4096, X (ix2 r k) * W (ix2 k j) := by
  unfold mm
  pointwise

/-! ## The bands -/

variable (m' : (ℓ : Loc Cert.QuantisedIdeal.nD Cert.QuantisedIdeal.τ Cert.QuantisedIdeal.sig) → Buf (Elt Ideal) ℓ)

/-- Every device's arguments are its blocks of the reference's. -/
def Blocks : Prop := ∀ c : Dev nD,
  m ((c : Thread nD τ).loc main_arg0) = Layout.block ⟨2, ![512, 4096]⟩ ⟨2, ![4096, 4096]⟩ 0 8 c (QuantisedRun.left m')
    ∧ m ((c : Thread nD τ).loc main_arg1) = Layout.block ⟨2, ![4096, 1024]⟩ ⟨2, ![4096, 8192]⟩ 1 8 c (QuantisedRun.right m')

/-- Device `c`'s columns of a whole matrix. -/
def cols (f : FVec Ideal ⟨2, ![4096, 8192]⟩ .f32) : FVec Ideal S4096x1024 .f32 :=
  (Layout.block ⟨2, ![4096, 1024]⟩ ⟨2, ![4096, 8192]⟩ 1 8 c f : (⟨2, ![4096, 1024]⟩ : Shape).Idx → Ideal .f32)

theorem tiles_cols : Layout.Tiles ⟨2, ![4096, 1024]⟩ ⟨2, ![4096, 8192]⟩ 1 8 := by decide

theorem cols_apply (f : FVec Ideal ⟨2, ![4096, 8192]⟩ .f32) (i : S4096x1024.Idx) : cols c f i = f (tiles_cols.idx c i) :=
  Layout.block_apply ..

/-- Every column of the whole is some device's. -/
theorem cols_cover (j : (⟨2, ![4096, 8192]⟩ : Shape).Idx) : ∃ (d : Dev nD) (i : S4096x1024.Idx), tiles_cols.idx d i = j := by
  have hj : (j 1).val < 8192 := (j 1).isLt
  refine ⟨⟨(j 1).val / 1024, by show _ < 8; omega⟩, ix2 (j 0) ⟨(j 1).val % 1024, by omega⟩, ?_⟩
  refine pt_ext (p := 4096) (q := 8192) (Layout.idx_cols_val tiles_cols _ _).1 ((Layout.idx_cols_val tiles_cols _ _).2.trans ?_)
  show (j 1).val / 1024 * 1024 + (j 1).val % 1024 = (j 1).val
  omega

variable {m m'} (hm : Blocks m m')
include hm

theorem arg0_apply (i : S512x4096.Idx) (j : Cert.QuantisedIdeal.S4096x4096.Idx) (h0 : (j 0).val = c.val * 512 + (i 0).val) (h1 : (j 1).val = (i 1).val) :
    m ((c : Thread nD τ).loc main_arg0) i = QuantisedRun.left m' j := by
  rw [(hm c).1]
  have t : Layout.Tiles ⟨2, ![512, 4096]⟩ ⟨2, ![4096, 4096]⟩ 0 8 := by decide
  exact congrArg (QuantisedRun.left m') (pt_ext (p := 4096) (q := 4096) ((Layout.idx_rows_val t c i).1.trans h0.symm) ((Layout.idx_rows_val t c i).2.trans h1.symm))

theorem arg1_apply (i : S4096x1024.Idx) (j : Cert.QuantisedIdeal.S4096x8192.Idx) (h0 : (j 0).val = (i 0).val) (h1 : (j 1).val = c.val * 1024 + (i 1).val) :
    m ((c : Thread nD τ).loc main_arg1) i = QuantisedRun.right m' j := by
  rw [(hm c).2]
  exact congrArg (QuantisedRun.right m') (pt_ext (p := 4096) (q := 8192) ((Layout.idx_cols_val tiles_cols c i).1.trans h0.symm) ((Layout.idx_cols_val tiles_cols c i).2.trans h1.symm))

/-- A row of sums over rows of the whole `x` is a row of the device's columns of the product. -/
theorem block_product (i : S4096x1024.Idx) (A : Fin 4096 → Ideal .f32) (hA : ∀ k, A k = QuantisedRun.left m' (ix2 (i 0) k)) :
    ∑ k : Fin 4096, A k * ws m c (ix2 k (i 1)) = cols c (QuantisedRun.product m') i := by
  have e : tiles_cols.idx c i = ix2 (i 0) (tiles_cols.idx c i 1) := pt_ext (p := 4096) (q := 8192) rfl rfl
  rw [cols_apply, e]
  refine (Finset.sum_congr rfl fun k _ => ?_).trans (QuantisedRun.product_apply m' (i 0) (tiles_cols.idx c i 1)).symm
  rw [hA k, ws_eq, arg1_apply c hm (ix2 k (i 1)) (ix2 k (tiles_cols.idx c i 1)) rfl rfl]

omit hm in
/-- A write of rows of `G` where the buffer is `G` outside them leaves it `G`. -/
theorem write_is (r : Rect S4096x1024) (w : r.shape.Idx → Elt Ideal .f32) (f G : OBuf (F := Ideal)) (hw : ∀ j, w j = G (r.emb j)) (i : S4096x1024.Idx) (h : i ∉ r.set → f i = G i) :
    (oM.access r).write (Elt Ideal) f w Finset.univ i = G i := by
  by_cases hi : i ∈ Finset.univ.map r.emb
  · obtain ⟨j, -, rfl⟩ := Finset.mem_map.mp hi
    exact (read_oM _ _).symm.trans ((View.read_slice_write_emb (v := oM.view) (Val := Elt Ideal) r f w (Finset.mem_univ j)).trans (hw j))
  · exact (read_oM _ _).symm.trans ((View.read_slice_write_of_not_mem (v := oM.view) (Val := Elt Ideal) r f w Finset.univ hi).trans ((read_oM _ _).trans (h (by rwa [Rect.map_emb_univ] at hi))))

theorem own_is (j : (own c).shape.Idx) : k0_pay3 (xb m c) (ws m c) j = cols c (QuantisedRun.product m') ((own c).emb j) := by
  have z0 : k0_off2 c 0 = 512 * c.val := by rw [k0_off2_eq]; rfl
  have z1 : k0_off2 c 1 = 0 := by rw [k0_off2_eq]; rfl
  have e0 : ((own c).emb j 0).val = 512 * c.val + (j 0).val := (ValueKit.rect_emb_unit_val _ _ _ _ 0).trans (congrArg (fun t => t + (j 0).val) z0)
  have e1 : ((own c).emb j 1).val = (j 1).val := (ValueKit.rect_emb_unit_val _ _ _ _ 1).trans ((congrArg (fun t => t + (j 1).val) z1).trans (Nat.zero_add _))
  have ej : j = ix2 (n0 := 512) (n1 := 1024) (j 0) ((own c).emb j 1) := pt_ext (p := 512) (q := 1024) rfl e1.symm
  refine ((congrArg (k0_pay3 (xb m c) (ws m c)) ej).trans (pay3_apply _ _ _ _)).trans (block_product c hm ((own c).emb j) _ fun k => ?_)
  rw [xb_eq]
  exact arg0_apply c hm _ _ (e0.trans (show 512 * c.val + (j 0).val = c.val * 512 + (j 0).val by omega)) rfl

theorem band_is (b : Bool) (d : Dev nD) {off : Fin S4096x1024.rank → ℕ} {inb} (h0 : off 0 = 512 * d.val + (if b then 256 else 0)) (h1 : off 1 = 0)
    (j : (Rect.unit (s := S4096x1024) off S256x1024.size inb).shape.Idx) :
    mm (half m b d) (ws m c) j = cols c (QuantisedRun.product m') ((Rect.unit (s := S4096x1024) off S256x1024.size inb).emb j) := by
  generalize hi : (Rect.unit (s := S4096x1024) off S256x1024.size inb).emb j = i
  have e0 : (i 0).val = off 0 + (j 0).val := by rw [← hi]; exact ValueKit.rect_emb_unit_val _ _ _ _ 0
  have e1 : (i 1).val = off 1 + (j 1).val := by rw [← hi]; exact ValueKit.rect_emb_unit_val _ _ _ _ 1
  rw [h0] at e0
  rw [h1, Nat.zero_add] at e1
  have ej : j = ix2 (n0 := 256) (n1 := 1024) (j 0) (i 1) := pt_ext (p := 256) (q := 1024) rfl e1.symm
  refine ((congrArg (mm (half m b d) (ws m c)) ej).trans (mm_apply _ _ _ _)).trans (block_product c hm i _ fun k => ?_)
  have l : (j 0).val < 256 := (j 0).isLt
  rw [half_apply m d b _ k (ix2 ⟨(if b then 256 else 0) + (j 0).val, by cases b <;> simp <;> omega⟩ k) rfl rfl]
  exact arg0_apply d hm _ (ix2 (i 0) k) (e0.trans (by show _ = d.val * 512 + (_ + _); omega)) rfl

omit hm in
theorem orig_false_val : ∀ (c : Dev nD) (r : Fin 7), (orig false (6 - r.val) c).val = (c.val + r.val + 1) % 8 := by decide
omit hm in
theorem orig_true_val : ∀ (c : Dev nD) (r : Fin 7), (orig true r.val c).val = (c.val + r.val + 1) % 8 := by decide

theorem put_is (r r' : Fin 7) (h : ℕ) (hr : h = 6 - r.val) (hr' : h = r'.val) (f : OBuf (F := Ideal)) (i : S4096x1024.Idx)
    (hf : i ∉ (bandF c r).set → i ∉ (bandT c r').set → f i = cols c (QuantisedRun.product m') i) :
    put m c r r' h f i = cols c (QuantisedRun.product m') i := by
  refine write_is _ _ _ _ (fun j => band_is c hm true (orig true h c) ?_ ?_ j) i fun h2 =>
    write_is _ _ _ _ (fun j => band_is c hm false (orig false h c) ?_ ?_ j) i fun h1 => hf h1 h2
  · rw [hr', orig_true_val, k0_off4_eq]; rfl
  · rw [k0_off4_eq]; rfl
  · rw [hr, orig_false_val, k0_off3_eq]; rfl
  · rw [k0_off3_eq]; rfl

/-- Each device computes its columns of the product. -/
theorem yF_eq : yF m c = cols c (QuantisedRun.product m') := by
  funext i
  unfold yF putAll
  refine put_is c hm 0 6 6 rfl rfl _ i fun f0 t6 => put_is c hm 1 5 5 rfl rfl _ i fun f1 t5 => put_is c hm 2 4 4 rfl rfl _ i fun f2 t4 => put_is c hm 3 3 3 rfl rfl _ i fun f3 t3 =>
    put_is c hm 4 2 2 rfl rfl _ i fun f4 t2 => put_is c hm 5 1 1 rfl rfl _ i fun f5 t1 => put_is c hm 6 0 0 rfl rfl _ i fun f6 t0 => write_is _ _ _ _ (own_is c hm) i fun h0 => ?_
  exact (bands_cover c i h0 (fun r => match r with | 0 => f0 | 1 => f1 | 2 => f2 | 3 => f3 | 4 => f4 | 5 => f5 | 6 => f6)
    (fun r => match r with | 0 => t0 | 1 => t1 | 2 => t2 | 3 => t3 | 4 => t4 | 5 => t5 | 6 => t6)).elim

/-! ## The quantised result -/

/-- The largest magnitude that a device collects is that of the whole product. -/
theorem amaxG_eq : (amaxG m c : EReal) = QuantisedRun.top (QuantisedRun.product m') := by
  refine eq_of_forall_ge_iff fun u => ?_
  rw [amaxG_le, QuantisedRun.top_le]
  constructor
  · rintro ⟨-, h⟩ j
    obtain ⟨d, i, rfl⟩ := cols_cover j
    have h1 := h d i
    rwa [yF_eq d hm, cols_apply] at h1
  · intro h
    refine ⟨(mag_nonneg _).trans (h (ix2 0 0)), fun d i => ?_⟩
    rw [yF_eq d hm, cols_apply]
    exact h _

/-- What a device's result holds is its columns of the quantised product. -/
theorem qF_eq : qF m c = cols c (QuantisedRun.result m') := by
  funext i
  have hy : QuantisedRun.product m' (tiles_cols.idx c i) = yF m c i := by rw [yF_eq c hm, cols_apply]
  unfold qF
  refine (quant_apply _ _ i (QuantisedRun.product m' (tiles_cols.idx c i)) hy).trans ?_
  rw [cols_apply, amaxG_eq c hm]
  exact (dequant _ _ ((QuantisedRun.top_le _ _).mp le_rfl _)).trans (QuantisedRun.result_apply m' _).symm

end Cert.WholeRun

end
-- ==== Proof.lean ====
/-
# The claims

Each kernel's run (`Cert.HopsRun.run_main` for the slice, `Cert.WholeRun.run_main` for the whole) is proved once, over any
floats. The slice and its idealization are the same text; the whole and its idealization differ in one constant, which the
run reads by its name. The value claims read what a device's result holds at the extended reals.
-/
module

public import proofs.«01_k».proof.Defs
public import proofs.«01_k».proof.Proof.Gen.Hops
public import proofs.«01_k».proof.Proof.Launch
public import proofs.«01_k».proof.Proof.Values
public import proofs.«01_k».proof.Proof.Mask
public import proofs.«01_k».proof.Proof.Gen.Credits
public import proofs.«01_k».proof.Proof.WholeLaunch
public import proofs.«01_k».proof.Proof.WholeValue

@[expose] public section

noncomputable section

namespace Cert.Proof

open Idealize.ShloMosaic Idealize.SL.Sem

/-! ## The slice -/

theorem body_eq : Cert.Hops.cc0_body (F := Bits) = Cert.HopsIdeal.cc0_body (F := Bits) := rfl

theorem defs₀_eq : Cert.Hops.defs₀ (F := Bits) = Cert.HopsIdeal.defs₀ (F := Bits) := by
  refine congrArg Defs.onTc (funext fun l => funext fun a => ?_)
  match l, a with | 0, (t, s) => rfl

theorem defs_eq : Cert.Hops.defs (F := Bits) = Cert.HopsIdeal.defs (F := Bits) :=
  congrArg (Pipeline.defs Cert.HopsIdeal.pcfgs) defs₀_eq

theorem frame_hops : Cert.quiescent_Hops := fun m g _ =>
  defs_eq ▸ θ_run_mono (Cert.HopsRun.run_main (F := Bits) m g) fun r hr => ⟨fun c => ⟨(hr.1 c).1, (hr.1 c).2.1⟩, hr.2⟩

theorem frame_hopsIdeal : Cert.quiescent_HopsIdeal := fun m g _ =>
  θ_run_mono (Cert.HopsRun.run_main (F := Ideal) m g) fun r hr => ⟨fun c => ⟨(hr.1 c).1, (hr.1 c).2.1⟩, hr.2⟩

theorem frame_product : Cert.quiescent_ProductIdeal := fun m g _ =>
  θ_run_mono (Cert.ProductRun.run m g) fun r hr =>
    ⟨fun c => by obtain rfl : c = 0 := Subsingleton.elim _ _; exact hr.1.2, hr.2⟩

theorem algebraic : Cert.algebraic_HopsIdeal_ProductIdeal_on_rows_written := fun m g m' g' _ hm =>
  ⟨Cert.ProductRun.product m',
    θ_run_mono (Cert.HopsRun.run_main (F := Ideal) m g) fun r hr c =>
      ⟨fun i hi => Cert.HopsRun.value c (m := m) (m' := m') hm (by have h := (hr.1 c).2.2; rw [Cert.HopsRun.out_eq] at h; exact h) i
        (Cert.Mask.rows c _ _ i hi), (hr.1 c).1, (hr.1 c).2.1⟩,
    θ_run_mono (Cert.ProductRun.run m' g') fun r hr => ⟨fun i _ => congrFun hr.1.1 i, hr.1.2⟩⟩

/-! ## The whole -/

/-- A name means the bits it names. -/
local instance named : Named Bits := ⟨fun _ _ φ b => FloatOps.ofBits φ b⟩

theorem whole_body_eq : Cert.Credits.cc0_body (F := Bits) = Cert.CreditsIdeal.cc0_body (F := Bits) := rfl

theorem whole_defs₀_eq : Cert.Credits.defs₀ (F := Bits) = Cert.CreditsIdeal.defs₀ (F := Bits) := by
  refine congrArg Defs.onTc (funext fun l => funext fun a => ?_)
  match l, a with | 0, (t, s) => rfl

theorem whole_defs_eq : Cert.Credits.defs (F := Bits) = Cert.CreditsIdeal.defs (F := Bits) :=
  congrArg (Pipeline.defs Cert.CreditsIdeal.pcfgs) whole_defs₀_eq

theorem frame_credits : Cert.quiescent_Credits := fun m g _ =>
  whole_defs_eq ▸ θ_run_mono (Cert.WholeRun.run_main (F := Bits) m g) fun r hr => ⟨fun c => ⟨(hr.1 c).1, (hr.1 c).2.1⟩, hr.2⟩

theorem frame_creditsIdeal : Cert.quiescent_CreditsIdeal := fun m g _ =>
  θ_run_mono (Cert.WholeRun.run_main (F := Ideal) m g) fun r hr => ⟨fun c => ⟨(hr.1 c).1, (hr.1 c).2.1⟩, hr.2⟩

theorem frame_quantised : Cert.quiescent_QuantisedIdeal := fun m g _ => Cert.QuantisedIdeal.Gen.frame m g

theorem preserves_whole : Cert.preserves_Credits_CreditsIdeal :=
  IdealRules.named_const.statement Cert.CreditsIdeal.κ "inv448" .f32 0x3B124925#32 ((448⁻¹ : ℝ) : EReal) rfl

theorem algebraic_whole : Cert.algebraic_CreditsIdeal_QuantisedIdeal := fun m g m' g' _ hm =>
  ⟨Cert.QuantisedRun.result m',
    θ_run_mono (Cert.WholeRun.run_main (F := Ideal) m g) fun r hr c =>
      ⟨(Cert.WholeRun.out_eq c _).symm.trans ((hr.1 c).2.2.trans (Cert.WholeRun.qF_eq c (m := m) (m' := m') hm)), (hr.1 c).1, (hr.1 c).2.1⟩,
    Cert.QuantisedRun.run m' g'⟩

theorem claim : Cert.Claim :=
  ⟨Cert.Hops.Gen.facts, Cert.HopsIdeal.Gen.facts, Cert.ProductIdeal.Gen.facts, Cert.Credits.Gen.facts, Cert.CreditsIdeal.Gen.facts,
    Cert.QuantisedIdeal.Gen.facts, Cert.On_rows_written.Gen.facts,
    frame_hops, frame_hopsIdeal, frame_product, frame_credits, frame_creditsIdeal, frame_quantised, trivial, algebraic,
    preserves_whole, algebraic_whole⟩

end Cert.Proof

end
